-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite_post [hPre_finite_post : Cert.Pre_finite_post.Facts] (m : (ℓ : Loc Cert.PostIdeal.nD Cert.PostIdeal.τ Cert.PostIdeal.sig) → Buf (Elt Ideal) ℓ) : Prop :=
  ∀ c : Dev Cert.PostIdeal.nD,
    (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9))) = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_finite_post [hPre_finite_post : Cert.Pre_finite_post.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Idx (m : (ℓ : Loc Cert.Idx.nD Cert.Idx.τ Cert.Idx.sig) → Buf (Elt Bits) ℓ) : Prop :=
  True

def Pre_IdxIdeal (m : (ℓ : Loc Cert.IdxIdeal.nD Cert.IdxIdeal.τ Cert.IdxIdeal.sig) → Buf (Elt Ideal) ℓ) : Prop :=
  True

def Pre_IdxRefIdeal (m : (ℓ : Loc Cert.IdxRefIdeal.nD Cert.IdxRefIdeal.τ Cert.IdxRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_KeyValue (m : (ℓ : Loc Cert.KeyValue.nD Cert.KeyValue.τ Cert.KeyValue.sig) → Buf (Elt Bits) ℓ) : Prop :=
  True

def Pre_KeyValueIdeal (m : (ℓ : Loc Cert.KeyValueIdeal.nD Cert.KeyValueIdeal.τ Cert.KeyValueIdeal.sig) → Buf (Elt Ideal) ℓ) : Prop :=
  True

def Pre_KeyValueRefIdeal (m : (ℓ : Loc Cert.KeyValueRefIdeal.nD Cert.KeyValueRefIdeal.τ Cert.KeyValueRefIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ r.2.sem = fun _ => 0)

def quiescent_PostIdeal_pre_finite_post [hPostIdeal : Cert.PostIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite_post m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9))
      ∧ r.2.sem = fun _ => 0)

def quiescent_PostRefIdeal_pre_finite_post [hPostRefIdeal : Cert.PostRefIdeal.Facts] [hPre_finite_post : Cert.Pre_finite_post.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_finite_post m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Idx [hIdx : Cert.Idx.Facts] : Prop :=
  ∀ (m : (ℓ : Loc Cert.Idx.nD Cert.Idx.τ Cert.Idx.sig) → Buf (Elt Bits) ℓ) (g : Dev Cert.Idx.nD → PrngReg), Pre_Idx m →
    θ_run (Cert.Idx.defs (F := Bits)) (onTc (τ := Cert.Idx.τ) (Cert.Idx.main (F := Bits))) ⟨m, fun _ => 0, g⟩ (fun r => (∀ c : Dev Cert.Idx.nD,
      r.2.mem ((c.tc : Thread Cert.Idx.nD Cert.Idx.τ).loc Cert.Idx.main_arg0) = m ((c.tc : Thread Cert.Idx.nD Cert.Idx.τ).loc Cert.Idx.main_arg0)
      ∧ r.2.mem ((c.tc : Thread Cert.Idx.nD Cert.Idx.τ).loc Cert.Idx.main_arg1) = m ((c.tc : Thread Cert.Idx.nD Cert.Idx.τ).loc Cert.Idx.main_arg1)
      ∧ r.2.mem ((c.tc : Thread Cert.Idx.nD Cert.Idx.τ).loc Cert.Idx.main_arg2) = m ((c.tc : Thread Cert.Idx.nD Cert.Idx.τ).loc Cert.Idx.main_arg2)
      ∧ r.2.mem ((c.tc : Thread Cert.Idx.nD Cert.Idx.τ).loc Cert.Idx.main_arg3) = m ((c.tc : Thread Cert.Idx.nD Cert.Idx.τ).loc Cert.Idx.main_arg3))
      ∧ r.2.sem = fun _ => 0)

def quiescent_IdxIdeal [hIdxIdeal : Cert.IdxIdeal.Facts] : Prop :=
  ∀ (m : (ℓ : Loc Cert.IdxIdeal.nD Cert.IdxIdeal.τ Cert.IdxIdeal.sig) → Buf (Elt Ideal) ℓ) (g : Dev Cert.IdxIdeal.nD → PrngReg), Pre_IdxIdeal m →
    θ_run (Cert.IdxIdeal.defs (F := Ideal)) (onTc (τ := Cert.IdxIdeal.τ) (Cert.IdxIdeal.main (F := Ideal))) ⟨m, fun _ => 0, g⟩ (fun r => (∀ c : Dev Cert.IdxIdeal.nD,
      r.2.mem ((c.tc : Thread Cert.IdxIdeal.nD Cert.IdxIdeal.τ).loc Cert.IdxIdeal.main_arg0) = m ((c.tc : Thread Cert.IdxIdeal.nD Cert.IdxIdeal.τ).loc Cert.IdxIdeal.main_arg0)
      ∧ r.2.mem ((c.tc : Thread Cert.IdxIdeal.nD Cert.IdxIdeal.τ).loc Cert.IdxIdeal.main_arg1) = m ((c.tc : Thread Cert.IdxIdeal.nD Cert.IdxIdeal.τ).loc Cert.IdxIdeal.main_arg1)
      ∧ r.2.mem ((c.tc : Thread Cert.IdxIdeal.nD Cert.IdxIdeal.τ).loc Cert.IdxIdeal.main_arg2) = m ((c.tc : Thread Cert.IdxIdeal.nD Cert.IdxIdeal.τ).loc Cert.IdxIdeal.main_arg2)
      ∧ r.2.mem ((c.tc : Thread Cert.IdxIdeal.nD Cert.IdxIdeal.τ).loc Cert.IdxIdeal.main_arg3) = m ((c.tc : Thread Cert.IdxIdeal.nD Cert.IdxIdeal.τ).loc Cert.IdxIdeal.main_arg3))
      ∧ r.2.sem = fun _ => 0)

def quiescent_IdxRefIdeal [hIdxRefIdeal : Cert.IdxRefIdeal.Facts] : Prop :=
  ∀ (m : (ℓ : Loc Cert.IdxRefIdeal.nD Cert.IdxRefIdeal.τ Cert.IdxRefIdeal.sig) → Buf (Elt Ideal) ℓ) (g : Dev Cert.IdxRefIdeal.nD → PrngReg), Pre_IdxRefIdeal m →
    θ_run (Cert.IdxRefIdeal.defs (F := Ideal)) (onTc (τ := Cert.IdxRefIdeal.τ) (Cert.IdxRefIdeal.main (F := Ideal))) ⟨m, fun _ => 0, g⟩ (fun r => (∀ c : Dev Cert.IdxRefIdeal.nD,
      r.2.mem ((c.tc : Thread Cert.IdxRefIdeal.nD Cert.IdxRefIdeal.τ).loc Cert.IdxRefIdeal.main_arg0) = m ((c.tc : Thread Cert.IdxRefIdeal.nD Cert.IdxRefIdeal.τ).loc Cert.IdxRefIdeal.main_arg0)
      ∧ r.2.mem ((c.tc : Thread Cert.IdxRefIdeal.nD Cert.IdxRefIdeal.τ).loc Cert.IdxRefIdeal.main_arg1) = m ((c.tc : Thread Cert.IdxRefIdeal.nD Cert.IdxRefIdeal.τ).loc Cert.IdxRefIdeal.main_arg1)
      ∧ r.2.mem ((c.tc : Thread Cert.IdxRefIdeal.nD Cert.IdxRefIdeal.τ).loc Cert.IdxRefIdeal.main_arg2) = m ((c.tc : Thread Cert.IdxRefIdeal.nD Cert.IdxRefIdeal.τ).loc Cert.IdxRefIdeal.main_arg2)
      ∧ r.2.mem ((c.tc : Thread Cert.IdxRefIdeal.nD Cert.IdxRefIdeal.τ).loc Cert.IdxRefIdeal.main_arg3) = m ((c.tc : Thread Cert.IdxRefIdeal.nD Cert.IdxRefIdeal.τ).loc Cert.IdxRefIdeal.main_arg3))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3)
      ∧ r.2.mem ((c.tc : Thread Cert.Query.nD Cert.Query.τ).loc Cert.Query.main_arg4) = m ((c.tc : Thread Cert.Query.nD Cert.Query.τ).loc Cert.Query.main_arg4)
      ∧ r.2.mem ((c.tc : Thread Cert.Query.nD Cert.Query.τ).loc Cert.Query.main_arg5) = m ((c.tc : Thread Cert.Query.nD Cert.Query.τ).loc Cert.Query.main_arg5))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
      ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4)
      ∧ r.2.mem ((c.tc : Thread Cert.QueryIdeal.nD Cert.QueryIdeal.τ).loc Cert.QueryIdeal.main_arg5) = m ((c.tc : Thread Cert.QueryIdeal.nD Cert.QueryIdeal.τ).loc Cert.QueryIdeal.main_arg5))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2)
      ∧ r.2.mem ((c.tc : Thread Cert.QueryRefIdeal.nD Cert.QueryRefIdeal.τ).loc Cert.QueryRefIdeal.main_arg3) = m ((c.tc : Thread Cert.QueryRefIdeal.nD Cert.QueryRefIdeal.τ).loc Cert.QueryRefIdeal.main_arg3)
      ∧ r.2.mem ((c.tc : Thread Cert.QueryRefIdeal.nD Cert.QueryRefIdeal.τ).loc Cert.QueryRefIdeal.main_arg4) = m ((c.tc : Thread Cert.QueryRefIdeal.nD Cert.QueryRefIdeal.τ).loc Cert.QueryRefIdeal.main_arg4)
      ∧ r.2.mem ((c.tc : Thread Cert.QueryRefIdeal.nD Cert.QueryRefIdeal.τ).loc Cert.QueryRefIdeal.main_arg5) = m ((c.tc : Thread Cert.QueryRefIdeal.nD Cert.QueryRefIdeal.τ).loc Cert.QueryRefIdeal.main_arg5))
      ∧ r.2.sem = fun _ => 0)

def quiescent_KeyValue [hKeyValue : Cert.KeyValue.Facts] : Prop :=
  ∀ (m : (ℓ : Loc Cert.KeyValue.nD Cert.KeyValue.τ Cert.KeyValue.sig) → Buf (Elt Bits) ℓ) (g : Dev Cert.KeyValue.nD → PrngReg), Pre_KeyValue m →
    θ_run (Cert.KeyValue.defs (F := Bits)) (onTc (τ := Cert.KeyValue.τ) (Cert.KeyValue.main (F := Bits))) ⟨m, fun _ => 0, g⟩ (fun r => (∀ c : Dev Cert.KeyValue.nD,
      r.2.mem ((c.tc : Thread Cert.KeyValue.nD Cert.KeyValue.τ).loc Cert.KeyValue.main_arg0) = m ((c.tc : Thread Cert.KeyValue.nD Cert.KeyValue.τ).loc Cert.KeyValue.main_arg0)
      ∧ r.2.mem ((c.tc : Thread Cert.KeyValue.nD Cert.KeyValue.τ).loc Cert.KeyValue.main_arg1) = m ((c.tc : Thread Cert.KeyValue.nD Cert.KeyValue.τ).loc Cert.KeyValue.main_arg1)
      ∧ r.2.mem ((c.tc : Thread Cert.KeyValue.nD Cert.KeyValue.τ).loc Cert.KeyValue.main_arg2) = m ((c.tc : Thread Cert.KeyValue.nD Cert.KeyValue.τ).loc Cert.KeyValue.main_arg2)
      ∧ r.2.mem ((c.tc : Thread Cert.KeyValue.nD Cert.KeyValue.τ).loc Cert.KeyValue.main_arg3) = m ((c.tc : Thread Cert.KeyValue.nD Cert.KeyValue.τ).loc Cert.KeyValue.main_arg3)
      ∧ r.2.mem ((c.tc : Thread Cert.KeyValue.nD Cert.KeyValue.τ).loc Cert.KeyValue.main_arg4) = m ((c.tc : Thread Cert.KeyValue.nD Cert.KeyValue.τ).loc Cert.KeyValue.main_arg4)
      ∧ r.2.mem ((c.tc : Thread Cert.KeyValue.nD Cert.KeyValue.τ).loc Cert.KeyValue.main_arg5) = m ((c.tc : Thread Cert.KeyValue.nD Cert.KeyValue.τ).loc Cert.KeyValue.main_arg5))
      ∧ r.2.sem = fun _ => 0)

def quiescent_KeyValueIdeal [hKeyValueIdeal : Cert.KeyValueIdeal.Facts] : Prop :=
  ∀ (m : (ℓ : Loc Cert.KeyValueIdeal.nD Cert.KeyValueIdeal.τ Cert.KeyValueIdeal.sig) → Buf (Elt Ideal) ℓ) (g : Dev Cert.KeyValueIdeal.nD → PrngReg), Pre_KeyValueIdeal m →
    θ_run (Cert.KeyValueIdeal.defs (F := Ideal)) (onTc (τ := Cert.KeyValueIdeal.τ) (Cert.KeyValueIdeal.main (F := Ideal))) ⟨m, fun _ => 0, g⟩ (fun r => (∀ c : Dev Cert.KeyValueIdeal.nD,
      r.2.mem ((c.tc : Thread Cert.KeyValueIdeal.nD Cert.KeyValueIdeal.τ).loc Cert.KeyValueIdeal.main_arg0) = m ((c.tc : Thread Cert.KeyValueIdeal.nD Cert.KeyValueIdeal.τ).loc Cert.KeyValueIdeal.main_arg0)
      ∧ r.2.mem ((c.tc : Thread Cert.KeyValueIdeal.nD Cert.KeyValueIdeal.τ).loc Cert.KeyValueIdeal.main_arg1) = m ((c.tc : Thread Cert.KeyValueIdeal.nD Cert.KeyValueIdeal.τ).loc Cert.KeyValueIdeal.main_arg1)
      ∧ r.2.mem ((c.tc : Thread Cert.KeyValueIdeal.nD Cert.KeyValueIdeal.τ).loc Cert.KeyValueIdeal.main_arg2) = m ((c.tc : Thread Cert.KeyValueIdeal.nD Cert.KeyValueIdeal.τ).loc Cert.KeyValueIdeal.main_arg2)
      ∧ r.2.mem ((c.tc : Thread Cert.KeyValueIdeal.nD Cert.KeyValueIdeal.τ).loc Cert.KeyValueIdeal.main_arg3) = m ((c.tc : Thread Cert.KeyValueIdeal.nD Cert.KeyValueIdeal.τ).loc Cert.KeyValueIdeal.main_arg3)
      ∧ r.2.mem ((c.tc : Thread Cert.KeyValueIdeal.nD Cert.KeyValueIdeal.τ).loc Cert.KeyValueIdeal.main_arg4) = m ((c.tc : Thread Cert.KeyValueIdeal.nD Cert.KeyValueIdeal.τ).loc Cert.KeyValueIdeal.main_arg4)
      ∧ r.2.mem ((c.tc : Thread Cert.KeyValueIdeal.nD Cert.KeyValueIdeal.τ).loc Cert.KeyValueIdeal.main_arg5) = m ((c.tc : Thread Cert.KeyValueIdeal.nD Cert.KeyValueIdeal.τ).loc Cert.KeyValueIdeal.main_arg5))
      ∧ r.2.sem = fun _ => 0)

def quiescent_KeyValueRefIdeal [hKeyValueRefIdeal : Cert.KeyValueRefIdeal.Facts] : Prop :=
  ∀ (m : (ℓ : Loc Cert.KeyValueRefIdeal.nD Cert.KeyValueRefIdeal.τ Cert.KeyValueRefIdeal.sig) → Buf (Elt Ideal) ℓ) (g : Dev Cert.KeyValueRefIdeal.nD → PrngReg), Pre_KeyValueRefIdeal m →
    θ_run (Cert.KeyValueRefIdeal.defs (F := Ideal)) (onTc (τ := Cert.KeyValueRefIdeal.τ) (Cert.KeyValueRefIdeal.main (F := Ideal))) ⟨m, fun _ => 0, g⟩ (fun r => (∀ c : Dev Cert.KeyValueRefIdeal.nD,
      r.2.mem ((c.tc : Thread Cert.KeyValueRefIdeal.nD Cert.KeyValueRefIdeal.τ).loc Cert.KeyValueRefIdeal.main_arg0) = m ((c.tc : Thread Cert.KeyValueRefIdeal.nD Cert.KeyValueRefIdeal.τ).loc Cert.KeyValueRefIdeal.main_arg0)
      ∧ r.2.mem ((c.tc : Thread Cert.KeyValueRefIdeal.nD Cert.KeyValueRefIdeal.τ).loc Cert.KeyValueRefIdeal.main_arg1) = m ((c.tc : Thread Cert.KeyValueRefIdeal.nD Cert.KeyValueRefIdeal.τ).loc Cert.KeyValueRefIdeal.main_arg1)
      ∧ r.2.mem ((c.tc : Thread Cert.KeyValueRefIdeal.nD Cert.KeyValueRefIdeal.τ).loc Cert.KeyValueRefIdeal.main_arg2) = m ((c.tc : Thread Cert.KeyValueRefIdeal.nD Cert.KeyValueRefIdeal.τ).loc Cert.KeyValueRefIdeal.main_arg2)
      ∧ r.2.mem ((c.tc : Thread Cert.KeyValueRefIdeal.nD Cert.KeyValueRefIdeal.τ).loc Cert.KeyValueRefIdeal.main_arg3) = m ((c.tc : Thread Cert.KeyValueRefIdeal.nD Cert.KeyValueRefIdeal.τ).loc Cert.KeyValueRefIdeal.main_arg3)
      ∧ r.2.mem ((c.tc : Thread Cert.KeyValueRefIdeal.nD Cert.KeyValueRefIdeal.τ).loc Cert.KeyValueRefIdeal.main_arg4) = m ((c.tc : Thread Cert.KeyValueRefIdeal.nD Cert.KeyValueRefIdeal.τ).loc Cert.KeyValueRefIdeal.main_arg4)
      ∧ r.2.mem ((c.tc : Thread Cert.KeyValueRefIdeal.nD Cert.KeyValueRefIdeal.τ).loc Cert.KeyValueRefIdeal.main_arg5) = m ((c.tc : Thread Cert.KeyValueRefIdeal.nD Cert.KeyValueRefIdeal.τ).loc Cert.KeyValueRefIdeal.main_arg5))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2)
      ∧ r.2.mem ((c.tc : Thread Cert.MemoryRefIdeal.nD Cert.MemoryRefIdeal.τ).loc Cert.MemoryRefIdeal.main_arg3) = m ((c.tc : Thread Cert.MemoryRefIdeal.nD Cert.MemoryRefIdeal.τ).loc Cert.MemoryRefIdeal.main_arg3))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v3) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v30) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v20) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Post_PostIdeal : Prop :=
  True

def algebraic_PostIdeal_PostRefIdeal_pre_finite_post [hPostIdeal : Cert.PostIdeal.Facts] [hPostRefIdeal : Cert.PostRefIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_finite_post m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)) →
    ∃ (v0 : (c : Dev Cert.PostIdeal.nD) → Buf (Elt Ideal) ((c.tc : Thread Cert.PostIdeal.nD Cert.PostIdeal.τ).loc Cert.PostIdeal.main_v10_0)) (v1 : (c : Dev Cert.PostIdeal.nD) → Buf (Elt Ideal) ((c.tc : Thread Cert.PostIdeal.nD Cert.PostIdeal.τ).loc Cert.PostIdeal.main_v10_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v10_0) = v0 c
          ∧ r.2.mem ((c.tc : Thread Cert.PostIdeal.nD Cert.PostIdeal.τ).loc Cert.PostIdeal.main_v10_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v46) = v0 c
          ∧ r.2.mem ((c.tc : Thread Cert.PostRefIdeal.nD Cert.PostRefIdeal.τ).loc Cert.PostRefIdeal.main_v61) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v22)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v22) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v89) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Idx_IdxIdeal : Prop :=
  True

def algebraic_IdxIdeal_IdxRefIdeal [hIdxIdeal : Cert.IdxIdeal.Facts] [hIdxRefIdeal : Cert.IdxRefIdeal.Facts] : Prop :=
  ∀ (m : (ℓ : Loc Cert.IdxIdeal.nD Cert.IdxIdeal.τ Cert.IdxIdeal.sig) → Buf (Elt Ideal) ℓ) (g : Dev Cert.IdxIdeal.nD → PrngReg)
    (m' : (ℓ : Loc Cert.IdxRefIdeal.nD Cert.IdxRefIdeal.τ Cert.IdxRefIdeal.sig) → Buf (Elt Ideal) ℓ) (g' : Dev Cert.IdxRefIdeal.nD → PrngReg), Pre_IdxIdeal m →
    (∀ c : Dev Cert.IdxIdeal.nD,
      m' ((c.tc : Thread Cert.IdxRefIdeal.nD Cert.IdxRefIdeal.τ).loc Cert.IdxRefIdeal.main_arg0) = m ((c.tc : Thread Cert.IdxIdeal.nD Cert.IdxIdeal.τ).loc Cert.IdxIdeal.main_arg0)
      ∧ m' ((c.tc : Thread Cert.IdxRefIdeal.nD Cert.IdxRefIdeal.τ).loc Cert.IdxRefIdeal.main_arg1) = m ((c.tc : Thread Cert.IdxIdeal.nD Cert.IdxIdeal.τ).loc Cert.IdxIdeal.main_arg1)
      ∧ m' ((c.tc : Thread Cert.IdxRefIdeal.nD Cert.IdxRefIdeal.τ).loc Cert.IdxRefIdeal.main_arg2) = m ((c.tc : Thread Cert.IdxIdeal.nD Cert.IdxIdeal.τ).loc Cert.IdxIdeal.main_arg2)
      ∧ m' ((c.tc : Thread Cert.IdxRefIdeal.nD Cert.IdxRefIdeal.τ).loc Cert.IdxRefIdeal.main_arg3) = m ((c.tc : Thread Cert.IdxIdeal.nD Cert.IdxIdeal.τ).loc Cert.IdxIdeal.main_arg3)) →
    ∃ (v0 : (c : Dev Cert.IdxIdeal.nD) → Buf (Elt Ideal) ((c.tc : Thread Cert.IdxIdeal.nD Cert.IdxIdeal.τ).loc Cert.IdxIdeal.main_v27_0)) (v1 : (c : Dev Cert.IdxIdeal.nD) → Buf (Elt Ideal) ((c.tc : Thread Cert.IdxIdeal.nD Cert.IdxIdeal.τ).loc Cert.IdxIdeal.main_v27_1)) (v2 : (c : Dev Cert.IdxIdeal.nD) → Buf (Elt Ideal) ((c.tc : Thread Cert.IdxIdeal.nD Cert.IdxIdeal.τ).loc Cert.IdxIdeal.main_v27_2)),
      θ_run (Cert.IdxIdeal.defs (F := Ideal)) (onTc (τ := Cert.IdxIdeal.τ) (Cert.IdxIdeal.main (F := Ideal))) ⟨m, fun _ => 0, g⟩ (fun r => ∀ c : Dev Cert.IdxIdeal.nD,
          r.2.mem ((c.tc : Thread Cert.IdxIdeal.nD Cert.IdxIdeal.τ).loc Cert.IdxIdeal.main_v27_0) = v0 c
          ∧ r.2.mem ((c.tc : Thread Cert.IdxIdeal.nD Cert.IdxIdeal.τ).loc Cert.IdxIdeal.main_v27_1) = v1 c
          ∧ r.2.mem ((c.tc : Thread Cert.IdxIdeal.nD Cert.IdxIdeal.τ).loc Cert.IdxIdeal.main_v27_2) = v2 c
          ∧ r.2.mem ((c.tc : Thread Cert.IdxIdeal.nD Cert.IdxIdeal.τ).loc Cert.IdxIdeal.main_arg0) = m ((c.tc : Thread Cert.IdxIdeal.nD Cert.IdxIdeal.τ).loc Cert.IdxIdeal.main_arg0)
          ∧ r.2.mem ((c.tc : Thread Cert.IdxIdeal.nD Cert.IdxIdeal.τ).loc Cert.IdxIdeal.main_arg1) = m ((c.tc : Thread Cert.IdxIdeal.nD Cert.IdxIdeal.τ).loc Cert.IdxIdeal.main_arg1)
          ∧ r.2.mem ((c.tc : Thread Cert.IdxIdeal.nD Cert.IdxIdeal.τ).loc Cert.IdxIdeal.main_arg2) = m ((c.tc : Thread Cert.IdxIdeal.nD Cert.IdxIdeal.τ).loc Cert.IdxIdeal.main_arg2)
          ∧ r.2.mem ((c.tc : Thread Cert.IdxIdeal.nD Cert.IdxIdeal.τ).loc Cert.IdxIdeal.main_arg3) = m ((c.tc : Thread Cert.IdxIdeal.nD Cert.IdxIdeal.τ).loc Cert.IdxIdeal.main_arg3))
      ∧ θ_run (Cert.IdxRefIdeal.defs (F := Ideal)) (onTc (τ := Cert.IdxRefIdeal.τ) (Cert.IdxRefIdeal.main (F := Ideal))) ⟨m', fun _ => 0, g'⟩ (fun r => ∀ c : Dev Cert.IdxRefIdeal.nD,
          r.2.mem ((c.tc : Thread Cert.IdxRefIdeal.nD Cert.IdxRefIdeal.τ).loc Cert.IdxRefIdeal.main_v98) = v0 c
          ∧ r.2.mem ((c.tc : Thread Cert.IdxRefIdeal.nD Cert.IdxRefIdeal.τ).loc Cert.IdxRefIdeal.main_v99) = v1 c
          ∧ r.2.mem ((c.tc : Thread Cert.IdxRefIdeal.nD Cert.IdxRefIdeal.τ).loc Cert.IdxRefIdeal.main_v97) = v2 c
          ∧ r.2.mem ((c.tc : Thread Cert.IdxRefIdeal.nD Cert.IdxRefIdeal.τ).loc Cert.IdxRefIdeal.main_arg0) = m' ((c.tc : Thread Cert.IdxRefIdeal.nD Cert.IdxRefIdeal.τ).loc Cert.IdxRefIdeal.main_arg0)
          ∧ r.2.mem ((c.tc : Thread Cert.IdxRefIdeal.nD Cert.IdxRefIdeal.τ).loc Cert.IdxRefIdeal.main_arg1) = m' ((c.tc : Thread Cert.IdxRefIdeal.nD Cert.IdxRefIdeal.τ).loc Cert.IdxRefIdeal.main_arg1)
          ∧ r.2.mem ((c.tc : Thread Cert.IdxRefIdeal.nD Cert.IdxRefIdeal.τ).loc Cert.IdxRefIdeal.main_arg2) = m' ((c.tc : Thread Cert.IdxRefIdeal.nD Cert.IdxRefIdeal.τ).loc Cert.IdxRefIdeal.main_arg2)
          ∧ r.2.mem ((c.tc : Thread Cert.IdxRefIdeal.nD Cert.IdxRefIdeal.τ).loc Cert.IdxRefIdeal.main_arg3) = m' ((c.tc : Thread Cert.IdxRefIdeal.nD Cert.IdxRefIdeal.τ).loc Cert.IdxRefIdeal.main_arg3))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)
      ∧ m' ((c.tc : Thread Cert.QueryRefIdeal.nD Cert.QueryRefIdeal.τ).loc Cert.QueryRefIdeal.main_arg3) = m ((c.tc : Thread Cert.QueryIdeal.nD Cert.QueryIdeal.τ).loc Cert.QueryIdeal.main_arg3)
      ∧ m' ((c.tc : Thread Cert.QueryRefIdeal.nD Cert.QueryRefIdeal.τ).loc Cert.QueryRefIdeal.main_arg4) = m ((c.tc : Thread Cert.QueryIdeal.nD Cert.QueryIdeal.τ).loc Cert.QueryIdeal.main_arg4)
      ∧ m' ((c.tc : Thread Cert.QueryRefIdeal.nD Cert.QueryRefIdeal.τ).loc Cert.QueryRefIdeal.main_arg5) = m ((c.tc : Thread Cert.QueryIdeal.nD Cert.QueryIdeal.τ).loc Cert.QueryIdeal.main_arg5)) →
    ∃ (v0 : (c : Dev Cert.QueryIdeal.nD) → Buf (Elt Ideal) ((c.tc : Thread Cert.QueryIdeal.nD Cert.QueryIdeal.τ).loc Cert.QueryIdeal.main_v27)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v27) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
          ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4)
          ∧ r.2.mem ((c.tc : Thread Cert.QueryIdeal.nD Cert.QueryIdeal.τ).loc Cert.QueryIdeal.main_arg5) = m ((c.tc : Thread Cert.QueryIdeal.nD Cert.QueryIdeal.τ).loc Cert.QueryIdeal.main_arg5))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v70) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2)
          ∧ r.2.mem ((c.tc : Thread Cert.QueryRefIdeal.nD Cert.QueryRefIdeal.τ).loc Cert.QueryRefIdeal.main_arg3) = m' ((c.tc : Thread Cert.QueryRefIdeal.nD Cert.QueryRefIdeal.τ).loc Cert.QueryRefIdeal.main_arg3)
          ∧ r.2.mem ((c.tc : Thread Cert.QueryRefIdeal.nD Cert.QueryRefIdeal.τ).loc Cert.QueryRefIdeal.main_arg4) = m' ((c.tc : Thread Cert.QueryRefIdeal.nD Cert.QueryRefIdeal.τ).loc Cert.QueryRefIdeal.main_arg4)
          ∧ r.2.mem ((c.tc : Thread Cert.QueryRefIdeal.nD Cert.QueryRefIdeal.τ).loc Cert.QueryRefIdeal.main_arg5) = m' ((c.tc : Thread Cert.QueryRefIdeal.nD Cert.QueryRefIdeal.τ).loc Cert.QueryRefIdeal.main_arg5))

def preserves_KeyValue_KeyValueIdeal : Prop :=
  True

def algebraic_KeyValueIdeal_KeyValueRefIdeal [hKeyValueIdeal : Cert.KeyValueIdeal.Facts] [hKeyValueRefIdeal : Cert.KeyValueRefIdeal.Facts] : Prop :=
  ∀ (m : (ℓ : Loc Cert.KeyValueIdeal.nD Cert.KeyValueIdeal.τ Cert.KeyValueIdeal.sig) → Buf (Elt Ideal) ℓ) (g : Dev Cert.KeyValueIdeal.nD → PrngReg)
    (m' : (ℓ : Loc Cert.KeyValueRefIdeal.nD Cert.KeyValueRefIdeal.τ Cert.KeyValueRefIdeal.sig) → Buf (Elt Ideal) ℓ) (g' : Dev Cert.KeyValueRefIdeal.nD → PrngReg), Pre_KeyValueIdeal m →
    (∀ c : Dev Cert.KeyValueIdeal.nD,
      m' ((c.tc : Thread Cert.KeyValueRefIdeal.nD Cert.KeyValueRefIdeal.τ).loc Cert.KeyValueRefIdeal.main_arg0) = m ((c.tc : Thread Cert.KeyValueIdeal.nD Cert.KeyValueIdeal.τ).loc Cert.KeyValueIdeal.main_arg0)
      ∧ m' ((c.tc : Thread Cert.KeyValueRefIdeal.nD Cert.KeyValueRefIdeal.τ).loc Cert.KeyValueRefIdeal.main_arg1) = m ((c.tc : Thread Cert.KeyValueIdeal.nD Cert.KeyValueIdeal.τ).loc Cert.KeyValueIdeal.main_arg1)
      ∧ m' ((c.tc : Thread Cert.KeyValueRefIdeal.nD Cert.KeyValueRefIdeal.τ).loc Cert.KeyValueRefIdeal.main_arg2) = m ((c.tc : Thread Cert.KeyValueIdeal.nD Cert.KeyValueIdeal.τ).loc Cert.KeyValueIdeal.main_arg2)
      ∧ m' ((c.tc : Thread Cert.KeyValueRefIdeal.nD Cert.KeyValueRefIdeal.τ).loc Cert.KeyValueRefIdeal.main_arg3) = m ((c.tc : Thread Cert.KeyValueIdeal.nD Cert.KeyValueIdeal.τ).loc Cert.KeyValueIdeal.main_arg3)
      ∧ m' ((c.tc : Thread Cert.KeyValueRefIdeal.nD Cert.KeyValueRefIdeal.τ).loc Cert.KeyValueRefIdeal.main_arg4) = m ((c.tc : Thread Cert.KeyValueIdeal.nD Cert.KeyValueIdeal.τ).loc Cert.KeyValueIdeal.main_arg4)
      ∧ m' ((c.tc : Thread Cert.KeyValueRefIdeal.nD Cert.KeyValueRefIdeal.τ).loc Cert.KeyValueRefIdeal.main_arg5) = m ((c.tc : Thread Cert.KeyValueIdeal.nD Cert.KeyValueIdeal.τ).loc Cert.KeyValueIdeal.main_arg5)) →
    ∃ (v0 : (c : Dev Cert.KeyValueIdeal.nD) → Buf (Elt Ideal) ((c.tc : Thread Cert.KeyValueIdeal.nD Cert.KeyValueIdeal.τ).loc Cert.KeyValueIdeal.main_v32_0)) (v1 : (c : Dev Cert.KeyValueIdeal.nD) → Buf (Elt Ideal) ((c.tc : Thread Cert.KeyValueIdeal.nD Cert.KeyValueIdeal.τ).loc Cert.KeyValueIdeal.main_v32_1)),
      θ_run (Cert.KeyValueIdeal.defs (F := Ideal)) (onTc (τ := Cert.KeyValueIdeal.τ) (Cert.KeyValueIdeal.main (F := Ideal))) ⟨m, fun _ => 0, g⟩ (fun r => ∀ c : Dev Cert.KeyValueIdeal.nD,
          r.2.mem ((c.tc : Thread Cert.KeyValueIdeal.nD Cert.KeyValueIdeal.τ).loc Cert.KeyValueIdeal.main_v32_0) = v0 c
          ∧ r.2.mem ((c.tc : Thread Cert.KeyValueIdeal.nD Cert.KeyValueIdeal.τ).loc Cert.KeyValueIdeal.main_v32_1) = v1 c
          ∧ r.2.mem ((c.tc : Thread Cert.KeyValueIdeal.nD Cert.KeyValueIdeal.τ).loc Cert.KeyValueIdeal.main_arg0) = m ((c.tc : Thread Cert.KeyValueIdeal.nD Cert.KeyValueIdeal.τ).loc Cert.KeyValueIdeal.main_arg0)
          ∧ r.2.mem ((c.tc : Thread Cert.KeyValueIdeal.nD Cert.KeyValueIdeal.τ).loc Cert.KeyValueIdeal.main_arg1) = m ((c.tc : Thread Cert.KeyValueIdeal.nD Cert.KeyValueIdeal.τ).loc Cert.KeyValueIdeal.main_arg1)
          ∧ r.2.mem ((c.tc : Thread Cert.KeyValueIdeal.nD Cert.KeyValueIdeal.τ).loc Cert.KeyValueIdeal.main_arg2) = m ((c.tc : Thread Cert.KeyValueIdeal.nD Cert.KeyValueIdeal.τ).loc Cert.KeyValueIdeal.main_arg2)
          ∧ r.2.mem ((c.tc : Thread Cert.KeyValueIdeal.nD Cert.KeyValueIdeal.τ).loc Cert.KeyValueIdeal.main_arg3) = m ((c.tc : Thread Cert.KeyValueIdeal.nD Cert.KeyValueIdeal.τ).loc Cert.KeyValueIdeal.main_arg3)
          ∧ r.2.mem ((c.tc : Thread Cert.KeyValueIdeal.nD Cert.KeyValueIdeal.τ).loc Cert.KeyValueIdeal.main_arg4) = m ((c.tc : Thread Cert.KeyValueIdeal.nD Cert.KeyValueIdeal.τ).loc Cert.KeyValueIdeal.main_arg4)
          ∧ r.2.mem ((c.tc : Thread Cert.KeyValueIdeal.nD Cert.KeyValueIdeal.τ).loc Cert.KeyValueIdeal.main_arg5) = m ((c.tc : Thread Cert.KeyValueIdeal.nD Cert.KeyValueIdeal.τ).loc Cert.KeyValueIdeal.main_arg5))
      ∧ θ_run (Cert.KeyValueRefIdeal.defs (F := Ideal)) (onTc (τ := Cert.KeyValueRefIdeal.τ) (Cert.KeyValueRefIdeal.main (F := Ideal))) ⟨m', fun _ => 0, g'⟩ (fun r => ∀ c : Dev Cert.KeyValueRefIdeal.nD,
          r.2.mem ((c.tc : Thread Cert.KeyValueRefIdeal.nD Cert.KeyValueRefIdeal.τ).loc Cert.KeyValueRefIdeal.main_v65) = v0 c
          ∧ r.2.mem ((c.tc : Thread Cert.KeyValueRefIdeal.nD Cert.KeyValueRefIdeal.τ).loc Cert.KeyValueRefIdeal.main_v68) = v1 c
          ∧ r.2.mem ((c.tc : Thread Cert.KeyValueRefIdeal.nD Cert.KeyValueRefIdeal.τ).loc Cert.KeyValueRefIdeal.main_arg0) = m' ((c.tc : Thread Cert.KeyValueRefIdeal.nD Cert.KeyValueRefIdeal.τ).loc Cert.KeyValueRefIdeal.main_arg0)
          ∧ r.2.mem ((c.tc : Thread Cert.KeyValueRefIdeal.nD Cert.KeyValueRefIdeal.τ).loc Cert.KeyValueRefIdeal.main_arg1) = m' ((c.tc : Thread Cert.KeyValueRefIdeal.nD Cert.KeyValueRefIdeal.τ).loc Cert.KeyValueRefIdeal.main_arg1)
          ∧ r.2.mem ((c.tc : Thread Cert.KeyValueRefIdeal.nD Cert.KeyValueRefIdeal.τ).loc Cert.KeyValueRefIdeal.main_arg2) = m' ((c.tc : Thread Cert.KeyValueRefIdeal.nD Cert.KeyValueRefIdeal.τ).loc Cert.KeyValueRefIdeal.main_arg2)
          ∧ r.2.mem ((c.tc : Thread Cert.KeyValueRefIdeal.nD Cert.KeyValueRefIdeal.τ).loc Cert.KeyValueRefIdeal.main_arg3) = m' ((c.tc : Thread Cert.KeyValueRefIdeal.nD Cert.KeyValueRefIdeal.τ).loc Cert.KeyValueRefIdeal.main_arg3)
          ∧ r.2.mem ((c.tc : Thread Cert.KeyValueRefIdeal.nD Cert.KeyValueRefIdeal.τ).loc Cert.KeyValueRefIdeal.main_arg4) = m' ((c.tc : Thread Cert.KeyValueRefIdeal.nD Cert.KeyValueRefIdeal.τ).loc Cert.KeyValueRefIdeal.main_arg4)
          ∧ r.2.mem ((c.tc : Thread Cert.KeyValueRefIdeal.nD Cert.KeyValueRefIdeal.τ).loc Cert.KeyValueRefIdeal.main_arg5) = m' ((c.tc : Thread Cert.KeyValueRefIdeal.nD Cert.KeyValueRefIdeal.τ).loc Cert.KeyValueRefIdeal.main_arg5))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)
      ∧ m' ((c.tc : Thread Cert.MemoryRefIdeal.nD Cert.MemoryRefIdeal.τ).loc Cert.MemoryRefIdeal.main_arg3) = m ((c.tc : Thread Cert.MemoryIdeal.nD Cert.MemoryIdeal.τ).loc Cert.MemoryIdeal.main_arg3)) →
    ∃ (v0 : (c : Dev Cert.MemoryIdeal.nD) → Buf (Elt Ideal) ((c.tc : Thread Cert.MemoryIdeal.nD Cert.MemoryIdeal.τ).loc Cert.MemoryIdeal.main_v4_0)) (v1 : (c : Dev Cert.MemoryIdeal.nD) → Buf (Elt Ideal) ((c.tc : Thread Cert.MemoryIdeal.nD Cert.MemoryIdeal.τ).loc Cert.MemoryIdeal.main_v4_1)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v4_0) = v0 c
          ∧ r.2.mem ((c.tc : Thread Cert.MemoryIdeal.nD Cert.MemoryIdeal.τ).loc Cert.MemoryIdeal.main_v4_1) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v16) = v0 c
          ∧ r.2.mem ((c.tc : Thread Cert.MemoryRefIdeal.nD Cert.MemoryRefIdeal.τ).loc Cert.MemoryRefIdeal.main_v19) = v1 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2)
          ∧ r.2.mem ((c.tc : Thread Cert.MemoryRefIdeal.nD Cert.MemoryRefIdeal.τ).loc Cert.MemoryRefIdeal.main_arg3) = m' ((c.tc : Thread Cert.MemoryRefIdeal.nD Cert.MemoryRefIdeal.τ).loc Cert.MemoryRefIdeal.main_arg3))

def Claim : Prop :=
  ∃ (hAttn : Cert.Attn.Facts) (hAttnIdeal : Cert.AttnIdeal.Facts) (hAttnRefIdeal : Cert.AttnRefIdeal.Facts) (hMlp : Cert.Mlp.Facts) (hMlpIdeal : Cert.MlpIdeal.Facts) (hMlpRefIdeal : Cert.MlpRefIdeal.Facts) (hPost : Cert.Post.Facts) (hPostIdeal : Cert.PostIdeal.Facts) (hPostRefIdeal : Cert.PostRefIdeal.Facts) (hProj : Cert.Proj.Facts) (hProjIdeal : Cert.ProjIdeal.Facts) (hProjRefIdeal : Cert.ProjRefIdeal.Facts) (hIdx : Cert.Idx.Facts) (hIdxIdeal : Cert.IdxIdeal.Facts) (hIdxRefIdeal : Cert.IdxRefIdeal.Facts) (hQuery : Cert.Query.Facts) (hQueryIdeal : Cert.QueryIdeal.Facts) (hQueryRefIdeal : Cert.QueryRefIdeal.Facts) (hKeyValue : Cert.KeyValue.Facts) (hKeyValueIdeal : Cert.KeyValueIdeal.Facts) (hKeyValueRefIdeal : Cert.KeyValueRefIdeal.Facts) (hMemory : Cert.Memory.Facts) (hMemoryIdeal : Cert.MemoryIdeal.Facts) (hMemoryRefIdeal : Cert.MemoryRefIdeal.Facts) (hPre_finite_qk : Cert.Pre_finite_qk.Facts) (hPre_finite_post : Cert.Pre_finite_post.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Mlp (hMlp := hMlp)
    ∧ quiescent_MlpIdeal (hMlpIdeal := hMlpIdeal)
    ∧ quiescent_MlpRefIdeal (hMlpRefIdeal := hMlpRefIdeal)
    ∧ quiescent_Post (hPost := hPost)
    ∧ quiescent_PostIdeal (hPostIdeal := hPostIdeal)
    ∧ quiescent_PostIdeal_pre_finite_post (hPostIdeal := hPostIdeal) (hPre_finite_post := hPre_finite_post)
    ∧ quiescent_PostRefIdeal (hPostRefIdeal := hPostRefIdeal)
    ∧ quiescent_PostRefIdeal_pre_finite_post (hPostRefIdeal := hPostRefIdeal) (hPre_finite_post := hPre_finite_post)
    ∧ quiescent_Proj (hProj := hProj)
    ∧ quiescent_ProjIdeal (hProjIdeal := hProjIdeal)
    ∧ quiescent_ProjRefIdeal (hProjRefIdeal := hProjRefIdeal)
    ∧ quiescent_Idx (hIdx := hIdx)
    ∧ quiescent_IdxIdeal (hIdxIdeal := hIdxIdeal)
    ∧ quiescent_IdxRefIdeal (hIdxRefIdeal := hIdxRefIdeal)
    ∧ quiescent_Query (hQuery := hQuery)
    ∧ quiescent_QueryIdeal (hQueryIdeal := hQueryIdeal)
    ∧ quiescent_QueryRefIdeal (hQueryRefIdeal := hQueryRefIdeal)
    ∧ quiescent_KeyValue (hKeyValue := hKeyValue)
    ∧ quiescent_KeyValueIdeal (hKeyValueIdeal := hKeyValueIdeal)
    ∧ quiescent_KeyValueRefIdeal (hKeyValueRefIdeal := hKeyValueRefIdeal)
    ∧ quiescent_Memory (hMemory := hMemory)
    ∧ quiescent_MemoryIdeal (hMemoryIdeal := hMemoryIdeal)
    ∧ quiescent_MemoryRefIdeal (hMemoryRefIdeal := hMemoryRefIdeal)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_Mlp_MlpIdeal
    ∧ algebraic_MlpIdeal_MlpRefIdeal (hMlpIdeal := hMlpIdeal) (hMlpRefIdeal := hMlpRefIdeal)
    ∧ preserves_Post_PostIdeal
    ∧ algebraic_PostIdeal_PostRefIdeal_pre_finite_post (hPostIdeal := hPostIdeal) (hPostRefIdeal := hPostRefIdeal) (hPre_finite_post := hPre_finite_post)
    ∧ preserves_Proj_ProjIdeal
    ∧ algebraic_ProjIdeal_ProjRefIdeal (hProjIdeal := hProjIdeal) (hProjRefIdeal := hProjRefIdeal)
    ∧ preserves_Idx_IdxIdeal
    ∧ algebraic_IdxIdeal_IdxRefIdeal (hIdxIdeal := hIdxIdeal) (hIdxRefIdeal := hIdxRefIdeal)
    ∧ preserves_Query_QueryIdeal
    ∧ algebraic_QueryIdeal_QueryRefIdeal (hQueryIdeal := hQueryIdeal) (hQueryRefIdeal := hQueryRefIdeal)
    ∧ preserves_KeyValue_KeyValueIdeal
    ∧ algebraic_KeyValueIdeal_KeyValueRefIdeal (hKeyValueIdeal := hKeyValueIdeal) (hKeyValueRefIdeal := hKeyValueRefIdeal)
    ∧ preserves_Memory_MemoryIdeal
    ∧ algebraic_MemoryIdeal_MemoryRefIdeal (hMemoryIdeal := hMemoryIdeal) (hMemoryRefIdeal := hMemoryRefIdeal)
-- ==== Pre_finite_post.lean ====
abbrev S8192x1024 : Shape := ⟨2, ![8192, 1024]⟩
abbrev S8192x2048 : Shape := ⟨2, ![8192, 2048]⟩
abbrev S1x2048x2048 : Shape := ⟨3, ![1, 2048, 2048]⟩
abbrev S1x2048 : Shape := ⟨2, ![1, 2048]⟩
abbrev S1x2048x512 : Shape := ⟨3, ![1, 2048, 512]⟩
abbrev S2x256x512 : Shape := ⟨3, ![2, 256, 512]⟩
abbrev S1x512x2048 : Shape := ⟨3, ![1, 512, 2048]⟩
abbrev S_ : Shape := ⟨0, ![]⟩
abbrev S4x512x1 : Shape := ⟨3, ![4, 512, 1]⟩
abbrev S4x512x512 : Shape := ⟨3, ![4, 512, 512]⟩
abbrev S1x512x512 : Shape := ⟨3, ![1, 512, 512]⟩

class Facts : Prop where
  bcast_S_S1x2048 : S_.BroadcastsInDim S1x2048 (![] : Fin 0 → Fin S1x2048.rank)
  shapeCasts_S1x2048_S4x512x1 : S1x2048.ShapeCasts S4x512x1
  bcast_S_S1x2048x512 : S_.BroadcastsInDim S1x2048x512 (![] : Fin 0 → Fin S1x2048x512.rank)
  shapeCasts_S1x2048x512_S4x512x512 : S1x2048x512.ShapeCasts S4x512x512
  bcast_S4x512x1_S4x512x512_0_1_2 : S4x512x1.BroadcastsInDim S4x512x512 (![0, 1, 2] : Fin 3 → Fin S4x512x512.rank)
  bitsLt_bf16_f32 : FTy.bits .bf16 < FTy.bits .f32
  bcast_S_S2x256x512 : S_.BroadcastsInDim S2x256x512 (![] : Fin 0 → Fin S2x256x512.rank)
  shapeCasts_S2x256x512_S1x512x512 : S2x256x512.ShapeCasts S1x512x512
  bcast_S1x512x512_S4x512x512_0_1_2 : S1x512x512.BroadcastsInDim S4x512x512 (![0, 1, 2] : Fin 3 → Fin S4x512x512.rank)

variable [Facts]

def fn {F : FTy → Type} [FloatOps F] (main_arg0 : FVec F S8192x1024 .bf16) (main_arg1 : FVec F S8192x1024 .bf16) (main_arg2 : FVec F S8192x2048 .f32) (main_arg3 : FVec F S1x2048x2048 .f32) (main_arg4 : FVec F S1x2048 .f32) (main_arg5 : FVec F S1x2048x512 .f32) (main_arg6 : FVec F S2x256x512 .bf16) (main_arg7 : FVec F S2x256x512 .bf16) (main_arg8 : FVec F S1x512x2048 .f32) (main_arg9 : FVec F S1x2048 .f32) : IVec S4x512x512 1 :=
  let main_v0 : FVec F S1x2048 .f32 := Host.absf main_arg4
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : IVec S4x512x1 1 := shapeCast S4x512x1 main_v2 shapeCasts_S1x2048_S4x512x1
  let main_v4 : FVec F S1x2048x512 .f32 := Host.absf main_arg5
  let main_cst_0 : FVec F S_ .f32 := constant S_ .f32 0x7F800000#32
  let main_v5 : FVec F S1x2048x512 .f32 := broadcastInDim S1x2048x512 ![] bcast_S_S1x2048x512 main_cst_0
  let main_v6 : IVec S1x2048x512 1 := cmpf .olt main_v4 main_v5
  let main_v7 : IVec S4x512x512 1 := shapeCast S4x512x512 main_v6 shapeCasts_S1x2048x512_S4x512x512
  let main_v8 : IVec S4x512x512 1 := broadcastInDim S4x512x512 ![0, 1, 2] bcast_S4x512x1_S4x512x512_0_1_2 main_v3
  let main_v9 : IVec S4x512x512 1 := andi main_v8 main_v7
  let main_v10 : FVec F S2x256x512 .f32 := (extf .f32 · bitsLt_bf16_f32) main_arg6
  let main_v11 : FVec F S2x256x512 .f32 := Host.absf main_v10
  let main_cst_1 : FVec F S_ .f32 := constant S_ .f32 0x7F800000#32
  let main_v12 : FVec F S2x256x512 .f32 := broadcastInDim S2x256x512 ![] bcast_S_S2x256x512 main_cst_1
  let main_v13 : IVec S2x256x512 1 := cmpf .olt main_v11 main_v12
  let main_v14 : IVec S1x512x512 1 := shapeCast S1x512x512 main_v13 shapeCasts_S2x256x512_S1x512x512
  let main_v15 : IVec S4x512x512 1 := broadcastInDim S4x512x512 ![0, 1, 2] bcast_S1x512x512_S4x512x512_0_1_2 main_v14
  let main_v16 : IVec S4x512x512 1 := andi main_v9 main_v15
  main_v16
-- ==== Pre_finite_qk.lean ====
abbrev S8192x2048 : Shape := ⟨2, ![8192, 2048]⟩
abbrev S8192x1024 : Shape := ⟨2, ![8192, 1024]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)

variable [Facts]

def fn {F : FTy → Type} [FloatOps F] (main_arg0 : FVec F S8192x2048 .bf16) (main_arg1 : FVec F S8192x2048 .bf16) (main_arg2 : FVec F S8192x1024 .bf16) : IVec S8192x2048 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S8192x2048 .f32 := (extf .f32 · bitsLt_bf16_f32) main_arg1
  let main_v5 : FVec F S8192x2048 .f32 := Host.absf main_v4
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_v8 : IVec S8192x2048 1 := andi main_v3 main_v7
  main_v8
-- ==== Attn.lean ====
abbrev S8192x2048 : Shape := ⟨2, ![8192, 2048]⟩
abbrev S8192x1024 : Shape := ⟨2, ![8192, 1024]⟩
abbrev S2x4096x2048 : Shape := ⟨3, ![2, 4096, 2048]⟩
abbrev S2x4096x1024 : Shape := ⟨3, ![2, 4096, 1024]⟩
abbrev S1x512x256 : Shape := ⟨3, ![1, 512, 256]⟩
abbrev S1x4096x256 : Shape := ⟨3, ![1, 4096, 256]⟩
abbrev S1x4096x128 : Shape := ⟨3, ![1, 4096, 128]⟩
abbrev S1x512x128 : Shape := ⟨3, ![1, 512, 128]⟩
abbrev S512x1 : Shape := ⟨2, ![512, 1]⟩
abbrev S512x128 : Shape := ⟨2, ![512, 128]⟩
abbrev S512x256 : Shape := ⟨2, ![512, 256]⟩
abbrev S512x512 : Shape := ⟨2, ![512, 512]⟩
abbrev S512 : Shape := ⟨1, ![512]⟩
abbrev S1x512 : Shape := ⟨2, ![1, 512]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S2x4096x2048, .bf16⟩
  | .hbm, ⟨4, _⟩ => ⟨S2x4096x2048, .bf16⟩
  | .hbm, ⟨5, _⟩ => ⟨S2x4096x1024, .bf16⟩
  | .hbm, ⟨6, _⟩ => ⟨S2x4096x1024, .bf16⟩
  | .local _ .vmem, ⟨0, _⟩ => ⟨S1x512x256, .bf16⟩
  | .local _ .vmem, ⟨1, _⟩ => ⟨S1x512x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x512x128, .bf16⟩
  | .local _ .vmem, ⟨7, _⟩ => ⟨S1x512x128, .bf16⟩
  | .local _ .vmem, ⟨8, _⟩ => ⟨S512x1, .f32⟩
  | .local _ .vmem, ⟨9, _⟩ => ⟨S512x1, .f32⟩
  | .local _ .vmem, ⟨10, _⟩ => ⟨S512x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 8], ![false, false, false]⟩

@[reducible] def k0_t1_loop (i : grid0.Coords) : Scf.Loop 32 :=
  let c0_i32_10 : BitVec 32 := 0#32
  let arg2 : BitVec 32 := BitVec.ofNat 32 (i 2).val
  let v14 : BitVec 32 := Scalar.subi arg2 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_11 : BitVec 32 := 1#32
  ⟨c0_i32_10, v18, c1_i32_11⟩
def k0_mult1 (i : grid0.Coords) (k0_t1 : Fin (k0_t1_loop i).trips) : BitVec 32 :=
  let c0_i32_10 : BitVec 32 := 0#32
  let c1_i32_11 : BitVec 32 := 1#32
  let arg10 : BitVec 32 := Scf.iv c0_i32_10 c1_i32_11 k0_t1
  let c512_i32_54 : BitVec 32 := 512#32
  let v120 : BitVec 32 := Scalar.muli arg10 c512_i32_54
  v120
def k0_off1 (i : grid0.Coords) (k0_t1 : Fin (k0_t1_loop i).trips) : Fin 3 → Nat :=
  let c0_55 : Index := 0#32
  let c0_i32_10 : BitVec 32 := 0#32
  let c1_i32_11 : BitVec 32 := 1#32
  let arg10 : BitVec 32 := Scf.iv c0_i32_10 c1_i32_11 k0_t1
  let c512_i32_54 : BitVec 32 := 512#32
  let v120 : BitVec 32 := Scalar.muli arg10 c512_i32_54
  let v121 : BitVec 32 := v120
  let v122 : Index := Scalar.indexCast v121
  let c0_56 : Index := 0#32
  ![0, v122.toNat, 0]
def k0_off2 (i : grid0.Coords) (k0_t1 : Fin (k0_t1_loop i).trips) : Fin 3 → Nat :=
  let c0_58 : Index := 0#32
  let c0_i32_10 : BitVec 32 := 0#32
  let c1_i32_11 : BitVec 32 := 1#32
  let arg10 : BitVec 32 := Scf.iv c0_i32_10 c1_i32_11 k0_t1
  let c512_i32_54 : BitVec 32 := 512#32
  let v120 : BitVec 32 := Scalar.muli arg10 c512_i32_54
  let v121 : BitVec 32 := v120
  let v126 : Index := Scalar.indexCast v121
  let c0_59 : Index := 0#32
  ![0, v126.toNat, 0]
@[reducible] def k0_t2_loop (i : grid0.Coords) : Scf.Loop 32 :=
  let c0_i32_10 : BitVec 32 := 0#32
  let arg2 : BitVec 32 := BitVec.ofNat 32 (i 2).val
  let v14 : BitVec 32 := Scalar.subi arg2 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let v15 : BitVec 32 := Scalar.addi c0_i32_10 v14
  let c1_i32_12 : BitVec 32 := 1#32
  ⟨v18, v15, c1_i32_12⟩
def k0_mult2 (i : grid0.Coords) (k0_t2 : Fin (k0_t2_loop i).trips) : BitVec 32 :=
  let c0_i32_10 : BitVec 32 := 0#32
  let arg2 : BitVec 32 := BitVec.ofNat 32 (i 2).val
  let v14 : BitVec 32 := Scalar.subi arg2 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg10 : BitVec 32 := Scf.iv v18 c1_i32_12 k0_t2
  let c512_i32_54 : BitVec 32 := 512#32
  let v120 : BitVec 32 := Scalar.muli arg10 c512_i32_54
  v120
def k0_off3 (i : grid0.Coords) (k0_t2 : Fin (k0_t2_loop i).trips) : Fin 3 → Nat :=
  let c0_55 : Index := 0#32
  let c0_i32_10 : BitVec 32 := 0#32
  let arg2 : BitVec 32 := BitVec.ofNat 32 (i 2).val
  let v14 : BitVec 32 := Scalar.subi arg2 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg10 : BitVec 32 := Scf.iv v18 c1_i32_12 k0_t2
  let c512_i32_54 : BitVec 32 := 512#32
  let v120 : BitVec 32 := Scalar.muli arg10 c512_i32_54
  let v121 : BitVec 32 := v120
  let v122 : Index := Scalar.indexCast v121
  let c0_56 : Index := 0#32
  ![0, v122.toNat, 0]
def k0_off4 (i : grid0.Coords) (k0_t2 : Fin (k0_t2_loop i).trips) : Fin 3 → Nat :=
  let c0_58 : Index := 0#32
  let c0_i32_10 : BitVec 32 := 0#32
  let arg2 : BitVec 32 := BitVec.ofNat 32 (i 2).val
  let v14 : BitVec 32 := Scalar.subi arg2 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg10 : BitVec 32 := Scf.iv v18 c1_i32_12 k0_t2
  let c512_i32_54 : BitVec 32 := 512#32
  let v120 : BitVec 32 := Scalar.muli arg10 c512_i32_54
  let v121 : BitVec 32 := v120
  let v126 : Index := Scalar.indexCast v121
  let c0_59 : Index := 0#32
  ![0, v126.toNat, 0]
def k0_mult3 (i : grid0.Coords) : BitVec 32 :=
  let arg2 : BitVec 32 := BitVec.ofNat 32 (i 2).val
  let c512_i32 : BitVec 32 := 512#32
  let v19 : BitVec 32 := Scalar.muli arg2 c512_i32
  v19
def k0_off5 (i : grid0.Coords) : Fin 3 → Nat :=
  let c0_26 : Index := 0#32
  let arg2 : BitVec 32 := BitVec.ofNat 32 (i 2).val
  let c512_i32 : BitVec 32 := 512#32
  let v19 : BitVec 32 := Scalar.muli arg2 c512_i32
  let v20 : BitVec 32 := v19
  let v71 : Index := Scalar.indexCast v20
  let c0_27 : Index := 0#32
  ![0, v71.toNat, 0]
def k0_off6 (i : grid0.Coords) : Fin 3 → Nat :=
  let c0_30 : Index := 0#32
  let arg2 : BitVec 32 := BitVec.ofNat 32 (i 2).val
  let c512_i32 : BitVec 32 := 512#32
  let v19 : BitVec 32 := Scalar.muli arg2 c512_i32
  let v20 : BitVec 32 := v19
  let v80 : Index := Scalar.indexCast v20
  let c0_31 : Index := 0#32
  ![0, v80.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S8192x2048 : Shape := ⟨2, ![8192, 2048]⟩
abbrev S8192x1024 : Shape := ⟨2, ![8192, 1024]⟩
abbrev S2x4096x8x256 : Shape := ⟨4, ![2, 4096, 8, 256]⟩
abbrev S2x4096x8x128 : Shape := ⟨4, ![2, 4096, 8, 128]⟩
abbrev S4096 : Shape := ⟨1, ![4096]⟩
abbrev S_ : Shape := ⟨0, ![]⟩
abbrev S2x8x4096x4096 : Shape := ⟨4, ![2, 8, 4096, 4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S2x4096x1024 : Shape := ⟨3, ![2, 4096, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x2048, .f32⟩
  | .hbm, ⟨4, _⟩ => ⟨S2x4096x8x256, .f32⟩
  | .hbm, ⟨5, _⟩ => ⟨S8192x2048, .f32⟩
  | .hbm, ⟨6, _⟩ => ⟨S2x4096x8x256, .f32⟩
  | .hbm, ⟨7, _⟩ => ⟨S8192x1024, .f32⟩
  | .hbm, ⟨8, _⟩ => ⟨S2x4096x8x128, .f32⟩
  | .hbm, ⟨9, _⟩ => ⟨S4096, .i32⟩
  | .hbm, ⟨10, _⟩ => ⟨S_, .i32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S2x8x4096x4096, .f32⟩
  | .hbm, ⟨29, _⟩ => ⟨S1x4096, .i32⟩
  | .hbm, ⟨30, _⟩ => ⟨S4096x1, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S1x1x4096x4096, .i1⟩
  | .hbm, ⟨35, _⟩ => ⟨S_, .f32⟩
  | .hbm, ⟨36, _⟩ => ⟨S_, .f32⟩
  | .hbm, ⟨37, _⟩ => ⟨S2x8x4096x4096, .i1⟩
  | .hbm, ⟨38, _⟩ => ⟨S2x8x4096x4096, .f32⟩
  | .hbm, ⟨39, _⟩ => ⟨S2x8x4096x4096, .f32⟩
  | .hbm, ⟨40, _⟩ => ⟨S_, .f32⟩
  | .hbm, ⟨41, _⟩ => ⟨S2x8x4096, .f32⟩
  | .hbm, ⟨42, _⟩ => ⟨S_, .f32⟩
  | .hbm, ⟨43, _⟩ => ⟨S2x8x4096, .f32⟩
  | .hbm, ⟨44, _⟩ => ⟨S2x8x4096, .f32⟩
  | .hbm, ⟨45, _⟩ => ⟨S2x8x4096x1, .f32⟩
  | .hbm, ⟨46, _⟩ => ⟨S2x8x4096x4096, .f32⟩
  | .hbm, ⟨47, _⟩ => ⟨S2x8x4096x4096, .f32⟩
  | .hbm, ⟨48, _⟩ => ⟨S2x8x4096x4096, .f32⟩
  | .hbm, ⟨49, _⟩ => ⟨S_, .f32⟩
  | .hbm, ⟨50, _⟩ => ⟨S2x8x4096, .f32⟩
  | .hbm, ⟨51, _⟩ => ⟨S2x8x4096x1, .f32⟩
  | .hbm, ⟨52, _⟩ => ⟨S2x8x4096x4096, .f32⟩
  | .hbm, ⟨53, _⟩ => ⟨S2x8x4096x4096, .f32⟩
  | .hbm, ⟨54, _⟩ => ⟨S2x8x128x4096, .f32⟩
  | .hbm, ⟨55, _⟩ => ⟨S2x4096x8x128, .f32⟩
  | .hbm, ⟨56, _⟩ => ⟨S2x4096x1024, .f32⟩
  | .hbm, ⟨57, _⟩ => ⟨S2x4096x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v15 : Ref sig .tc := ⟨.hbm, 39, rfl⟩
abbrev main_cst_0 : Ref sig .tc := ⟨.hbm, 40, rfl⟩
abbrev main_v16 : Ref sig .tc := ⟨.hbm, 41, rfl⟩
abbrev main_cst_1 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩

abbrev nD : Nat := 1
abbrev τ : Topo := Topo.v7x

variable {F : FTy → Type} [FloatOps F]
-- ==== Mlp.lean ====
abbrev S8192x2048 : Shape := ⟨2, ![8192, 2048]⟩
abbrev S1x2048x8192 : Shape := ⟨3, ![1, 2048, 8192]⟩
abbrev S1x8192x2048 : Shape := ⟨3, ![1, 8192, 2048]⟩
abbrev S2048 : Shape := ⟨1, ![2048]⟩
abbrev S2048x8192 : Shape := ⟨2, ![2048, 8192]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S2048x8192, .f32⟩
  | .hbm, ⟨6, _⟩ => ⟨S2048x8192, .bf16⟩
  | .hbm, ⟨7, _⟩ => ⟨S8192x2048, .f32⟩
  | .hbm, ⟨8, _⟩ => ⟨S8192x2048, .bf16⟩
  | .hbm, ⟨9, _⟩ => ⟨S1x2048, .f32⟩
  | .hbm, ⟨10, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S8192x2048 : Shape := ⟨2, ![8192, 2048]⟩
abbrev S1x2048x8192 : Shape := ⟨3, ![1, 2048, 8192]⟩
abbrev S1x8192x2048 : Shape := ⟨3, ![1, 8192, 2048]⟩
abbrev S2048 : Shape := ⟨1, ![2048]⟩
abbrev S2048x8192 : Shape := ⟨2, ![2048, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S8192x2048, .f32⟩
  | .hbm, ⟨6, _⟩ => ⟨S2048x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S1x2048, .f32⟩
  | .hbm, ⟨29, _⟩ => ⟨S8192x2048, .f32⟩
  | .hbm, ⟨30, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Post.lean ====
abbrev S8192x1024 : Shape := ⟨2, ![8192, 1024]⟩
abbrev S8192x2048 : Shape := ⟨2, ![8192, 2048]⟩
abbrev S1x2048x2048 : Shape := ⟨3, ![1, 2048, 2048]⟩
abbrev S1x2048 : Shape := ⟨2, ![1, 2048]⟩
abbrev S1x2048x512 : Shape := ⟨3, ![1, 2048, 512]⟩
abbrev S2x256x512 : Shape := ⟨3, ![2, 256, 512]⟩
abbrev S1x512x2048 : Shape := ⟨3, ![1, 512, 2048]⟩
abbrev S1x1024x2048 : Shape := ⟨3, ![1, 1024, 2048]⟩
abbrev S1024x2048 : Shape := ⟨2, ![1024, 2048]⟩
abbrev S2048x512 : Shape := ⟨2, ![2048, 512]⟩
abbrev S512x2048 : Shape := ⟨2, ![512, 2048]⟩
abbrev S256x1024 : Shape := ⟨2, ![256, 1024]⟩
abbrev S256x2048 : Shape := ⟨2, ![256, 2048]⟩
abbrev S1x256x512 : Shape := ⟨3, ![1, 256, 512]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S1x256x128 : Shape := ⟨3, ![1, 256, 128]⟩
abbrev S256x256 : Shape := ⟨2, ![256, 256]⟩

abbrev nBuf : Space → Nat
  | .hbm => 22
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .f32⟩
  | .hbm, ⟨3, _⟩ => ⟨S1x2048x2048, .f32⟩
  | .hbm, ⟨4, _⟩ => ⟨S1x2048, .f32⟩
  | .hbm, ⟨5, _⟩ => ⟨S1x2048x512, .f32⟩
  | .hbm, ⟨6, _⟩ => ⟨S2x256x512, .bf16⟩
  | .hbm, ⟨7, _⟩ => ⟨S2x256x512, .bf16⟩
  | .hbm, ⟨8, _⟩ => ⟨S1x512x2048, .f32⟩
  | .hbm, ⟨9, _⟩ => ⟨S1x2048, .f32⟩
  | .hbm, ⟨10, _⟩ => ⟨S1x1024x2048, .f32⟩
  | .hbm, ⟨11, _⟩ => ⟨S1024x2048, .f32⟩
  | .hbm, ⟨12, _⟩ => ⟨S1024x2048, .bf16⟩
  | .hbm, ⟨13, _⟩ => ⟨S1x1024x2048, .f32⟩
  | .hbm, ⟨14, _⟩ => ⟨S1024x2048, .f32⟩
  | .hbm, ⟨15, _⟩ => ⟨S1024x2048, .bf16⟩
  | .hbm, ⟨16, _⟩ => ⟨S2048x512, .f32⟩
  | .hbm, ⟨17, _⟩ => ⟨S2048x512, .bf16⟩
  | .hbm, ⟨18, _⟩ => ⟨S512x2048, .f32⟩
  | .hbm, ⟨19, _⟩ => ⟨S512x2048, .bf16⟩
  | .hbm, ⟨20, _⟩ => ⟨S8192x2048, .f32⟩
  | .hbm, ⟨21, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S2048x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S512x2048, .bf16⟩
  | .local _ .vmem, ⟨15, _⟩ => ⟨S1x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .bf16⟩
  | .local _ .vmem, ⟨19, _⟩ => ⟨S256x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PostRefIdeal.lean ====
abbrev S8192x1024 : Shape := ⟨2, ![8192, 1024]⟩
abbrev S8192x2048 : Shape := ⟨2, ![8192, 2048]⟩
abbrev S1x2048x2048 : Shape := ⟨3, ![1, 2048, 2048]⟩
abbrev S1x2048 : Shape := ⟨2, ![1, 2048]⟩
abbrev S1x2048x512 : Shape := ⟨3, ![1, 2048, 512]⟩
abbrev S2x256x512 : Shape := ⟨3, ![2, 256, 512]⟩
abbrev S1x512x2048 : Shape := ⟨3, ![1, 512, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x512 : Shape := ⟨2, ![2048, 512]⟩
abbrev S8192x512 : Shape := ⟨2, ![8192, 512]⟩
abbrev S2x4096x4x128 : Shape := ⟨4, ![2, 4096, 4, 128]⟩
abbrev S2x256x4x128 : Shape := ⟨4, ![2, 256, 4, 128]⟩
abbrev S2x4x4096x256 : Shape := ⟨4, ![2, 4, 4096, 256]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩
abbrev S512x2048 : Shape := ⟨2, ![512, 2048]⟩

abbrev nBuf : Space → Nat
  | .hbm => 82
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .f32⟩
  | .hbm, ⟨3, _⟩ => ⟨S1x2048x2048, .f32⟩
  | .hbm, ⟨4, _⟩ => ⟨S1x2048, .f32⟩
  | .hbm, ⟨5, _⟩ => ⟨S1x2048x512, .f32⟩
  | .hbm, ⟨6, _⟩ => ⟨S2x256x512, .bf16⟩
  | .hbm, ⟨7, _⟩ => ⟨S2x256x512, .bf16⟩
  | .hbm, ⟨8, _⟩ => ⟨S1x512x2048, .f32⟩
  | .hbm, ⟨9, _⟩ => ⟨S1x2048, .f32⟩
  | .hbm, ⟨10, _⟩ => ⟨S8192x1024, .f32⟩
  | .hbm, ⟨11, _⟩ => ⟨S8192x1024, .f32⟩
  | .hbm, ⟨12, _⟩ => ⟨S8192x2048, .f32⟩
  | .hbm, ⟨13, _⟩ => ⟨S2048x2048, .f32⟩
  | .hbm, ⟨14, _⟩ => ⟨S8192x2048, .f32⟩
  | .hbm, ⟨15, _⟩ => ⟨S8192x2048, .f32⟩
  | .hbm, ⟨16, _⟩ => ⟨S2048, .f32⟩
  | .hbm, ⟨17, _⟩ => ⟨S8192x2048, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x2048, .f32⟩
  | .hbm, ⟨29, _⟩ => ⟨S8192x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S2048x512, .f32⟩
  | .hbm, ⟨34, _⟩ => ⟨S8192x512, .f32⟩
  | .hbm, ⟨35, _⟩ => ⟨S2x4096x4x128, .f32⟩
  | .hbm, ⟨36, _⟩ => ⟨S2x256x512, .f32⟩
  | .hbm, ⟨37, _⟩ => ⟨S2x256x4x128, .f32⟩
  | .hbm, ⟨38, _⟩ => ⟨S2x256x512, .f32⟩
  | .hbm, ⟨39, _⟩ => ⟨S2x256x4x128, .f32⟩
  | .hbm, ⟨40, _⟩ => ⟨S2x4x4096x256, .f32⟩
  | .hbm, ⟨41, _⟩ => ⟨S_, .f32⟩
  | .hbm, ⟨42, _⟩ => ⟨S2x4x4096x256, .f32⟩
  | .hbm, ⟨43, _⟩ => ⟨S2x4x4096x256, .f32⟩
  | .hbm, ⟨44, _⟩ => ⟨S_, .f32⟩
  | .hbm, ⟨45, _⟩ => ⟨S2x4x4096, .f32⟩
  | .hbm, ⟨46, _⟩ => ⟨S_, .f32⟩
  | .hbm, ⟨47, _⟩ => ⟨S2x4x4096, .f32⟩
  | .hbm, ⟨48, _⟩ => ⟨S2x4x4096, .f32⟩
  | .hbm, ⟨49, _⟩ => ⟨S2x4x4096x1, .f32⟩
  | .hbm, ⟨50, _⟩ => ⟨S2x4x4096x256, .f32⟩
  | .hbm, ⟨51, _⟩ => ⟨S2x4x4096x256, .f32⟩
  | .hbm, ⟨52, _⟩ => ⟨S2x4x4096x256, .f32⟩
  | .hbm, ⟨53, _⟩ => ⟨S_, .f32⟩
  | .hbm, ⟨54, _⟩ => ⟨S2x4x4096, .f32⟩
  | .hbm, ⟨55, _⟩ => ⟨S2x4x4096x1, .f32⟩
  | .hbm, ⟨56, _⟩ => ⟨S2x4x4096x256, .f32⟩
  | .hbm, ⟨57, _⟩ => ⟨S2x4x4096x256, .f32⟩
  | .hbm, ⟨58, _⟩ => ⟨S2x4x128x4096, .f32⟩
  | .hbm, ⟨59, _⟩ => ⟨S2x4096x4x128, .f32⟩
  | .hbm, ⟨60, _⟩ => ⟨S8192x512, .f32⟩
  | .hbm, ⟨61, _⟩ => ⟨S512x2048, .f32⟩
  | .hbm, ⟨62, _⟩ => ⟨S8192x2048, .f32⟩
  | .hbm, ⟨63, _⟩ => ⟨S8192x2048, .f32⟩
  | .hbm, ⟨64, _⟩ => ⟨S2048, .f32⟩
  | .hbm, ⟨65, _⟩ => ⟨S8192x2048, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S8192x1, .f32⟩
  | .hbm, ⟨76, _⟩ => ⟨S8192x2048, .f32⟩
  | .hbm, ⟨77, _⟩ => ⟨S8192x2048, .f32⟩
  | .hbm, ⟨78, _⟩ => ⟨S1x2048, .f32⟩
  | .hbm, ⟨79, _⟩ => ⟨S8192x2048, .f32⟩
  | .hbm, ⟨80, _⟩ => ⟨S8192x2048, .f32⟩
  | .hbm, ⟨81, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== Proj.lean ====
abbrev S2x4096x2048 : Shape := ⟨3, ![2, 4096, 2048]⟩
abbrev S2x4096 : Shape := ⟨2, ![2, 4096]⟩
abbrev S1x2048 : Shape := ⟨2, ![1, 2048]⟩
abbrev S1x2048x5008 : Shape := ⟨3, ![1, 2048, 5008]⟩
abbrev S8192x2048 : Shape := ⟨2, ![8192, 2048]⟩
abbrev S8192x1 : Shape := ⟨2, ![8192, 1]⟩
abbrev S2048x5008 : Shape := ⟨2, ![2048, 5008]⟩
abbrev S2048x3072 : Shape := ⟨2, ![2048, 3072]⟩
abbrev S16 : Shape := ⟨1, ![16]⟩
abbrev S_ : Shape := ⟨0, ![]⟩
abbrev S128 : Shape := ⟨1, ![128]⟩
abbrev S128x1 : Shape := ⟨2, ![128, 1]⟩
abbrev S1x128 : Shape := ⟨2, ![1, 128]⟩
abbrev S3x8192x1024 : Shape := ⟨3, ![3, 8192, 1024]⟩
abbrev S512x2048 : Shape := ⟨2, ![512, 2048]⟩
abbrev S512x1 : Shape := ⟨2, ![512, 1]⟩
abbrev S2048x1024 : Shape := ⟨2, ![2048, 1024]⟩
abbrev S1x512x1024 : Shape := ⟨3, ![1, 512, 1024]⟩
abbrev S512 : Shape := ⟨1, ![512]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 73
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S2x4096, .i32⟩
  | .hbm, ⟨2, _⟩ => ⟨S1x2048, .f32⟩
  | .hbm, ⟨3, _⟩ => ⟨S1x2048x5008, .f32⟩
  | .hbm, ⟨4, _⟩ => ⟨S8192x2048, .f32⟩
  | .hbm, ⟨5, _⟩ => ⟨S8192x1, .i32⟩
  | .hbm, ⟨6, _⟩ => ⟨S2048x5008, .f32⟩
  | .hbm, ⟨7, _⟩ => ⟨S2048x3072, .f32⟩
  | .hbm, ⟨8, _⟩ => ⟨S2048x3072, .bf16⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S128, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S_, .i32⟩
  | .hbm, ⟨27, _⟩ => ⟨S128, .i32⟩
  | .hbm, ⟨28, _⟩ => ⟨S128, .i1⟩
  | .hbm, ⟨29, _⟩ => ⟨S_, .i32⟩
  | .hbm, ⟨30, _⟩ => ⟨S128, .i32⟩
  | .hbm, ⟨31, _⟩ => ⟨S128, .i1⟩
  | .hbm, ⟨32, _⟩ => ⟨S_, .i32⟩
  | .hbm, ⟨33, _⟩ => ⟨S_, .i1⟩
  | .hbm, ⟨34, _⟩ => ⟨S128, .i1⟩
  | .hbm, ⟨35, _⟩ => ⟨S128, .i1⟩
  | .hbm, ⟨36, _⟩ => ⟨S128, .i1⟩
  | .hbm, ⟨37, _⟩ => ⟨S128, .i32⟩
  | .hbm, ⟨38, _⟩ => ⟨S128, .i32⟩
  | .hbm, ⟨39, _⟩ => ⟨S128, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S128, .i32⟩
  | .hbm, ⟨47, _⟩ => ⟨S128, .i32⟩
  | .hbm, ⟨48, _⟩ => ⟨S_, .i32⟩
  | .hbm, ⟨49, _⟩ => ⟨S128, .i32⟩
  | .hbm, ⟨50, _⟩ => ⟨S128, .i1⟩
  | .hbm, ⟨51, _⟩ => ⟨S_, .i32⟩
  | .hbm, ⟨52, _⟩ => ⟨S128, .i32⟩
  | .hbm, ⟨53, _⟩ => ⟨S128, .i1⟩
  | .hbm, ⟨54, _⟩ => ⟨S_, .i32⟩
  | .hbm, ⟨55, _⟩ => ⟨S_, .i1⟩
  | .hbm, ⟨56, _⟩ => ⟨S128, .i1⟩
  | .hbm, ⟨57, _⟩ => ⟨S128, .i1⟩
  | .hbm, ⟨58, _⟩ => ⟨S128, .i1⟩
  | .hbm, ⟨59, _⟩ => ⟨S128, .i32⟩
  | .hbm, ⟨60, _⟩ => ⟨S128, .i32⟩
  | .hbm, ⟨61, _⟩ => ⟨S128, .i32⟩
  | .hbm, ⟨62, _⟩ => ⟨S_, .i32⟩
  | .hbm, ⟨63, _⟩ => ⟨S128, .i32⟩
  | .hbm, ⟨64, _⟩ => ⟨S128, .i1⟩
  | .hbm, ⟨65, _⟩ => ⟨S_, .i32⟩
  | .hbm, ⟨66, _⟩ => ⟨S128, .i32⟩
  | .hbm, ⟨67, _⟩ => ⟨S128, .i32⟩
  | .hbm, ⟨68, _⟩ => ⟨S128, .i32⟩
  | .hbm, ⟨69, _⟩ => ⟨S128x1, .i32⟩
  | .hbm, ⟨70, _⟩ => ⟨S128, .f32⟩
  | .hbm, ⟨71, _⟩ => ⟨S1x128, .f32⟩
  | .hbm, ⟨72, _⟩ => ⟨S3x8192x1024, .bf16⟩
  | .local _ .vmem, ⟨0, _⟩ => ⟨S512x2048, .f32⟩
  | .local _ .vmem, ⟨1, _⟩ => ⟨S512x2048, .f32⟩
  | .local _ .vmem, ⟨2, _⟩ => ⟨S512x1, .i32⟩
  | .local _ .vmem, ⟨3, _⟩ => ⟨S512x1, .i32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S1x128, .f32⟩
  | .local _ .vmem, ⟨8, _⟩ => ⟨S1x512x1024, .bf16⟩
  | .local _ .vmem, ⟨9, _⟩ => ⟨S1x512x1024, .bf16⟩
  | .local _ .vmem, ⟨10, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v12 : Ref sig .tc := ⟨.hbm, 39, rfl⟩
abbrev main_c_1 : Ref sig .tc := ⟨.hbm, 40, rfl⟩
abbrev main_call1_v0 : Ref sig .tc := ⟨.hbm, 41, rfl⟩
abbrev main_call1_c : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_1 : Ref sig .tc := ⟨.hbm, 48, rfl⟩
abbrev main_call1_v5 : Ref sig .tc := ⟨.hbm, 49, rfl⟩
abbrev main_call1_v6 : Ref sig .tc := ⟨.hbm, 50, rfl⟩
abbrev main_call1_c_2 : Ref sig .tc := ⟨.hbm, 51, rfl⟩
abbrev main_call1_v7 : Ref sig .tc := ⟨.hbm, 52, rfl⟩
abbrev main_call1_v8 : Ref sig .tc := ⟨.hbm, 53, rfl⟩
abbrev main_call1_c_3 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_v13 : Ref sig .tc := ⟨.hbm, 61, rfl⟩
abbrev main_c_2 : Ref sig .tc := ⟨.hbm, 62, rfl⟩
abbrev main_v14 : Ref sig .tc := ⟨.hbm, 63, rfl⟩
abbrev main_v15 : Ref sig .tc := ⟨.hbm, 64, rfl⟩
abbrev main_c_3 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 3], ![false, false]⟩

def k0_cond2 (i : grid0.Coords) : BitVec 1 :=
  let arg1 : BitVec 32 := BitVec.ofNat 32 (i 1).val
  let c2_i32 : BitVec 32 := 2#32
  let v7 : BitVec 1 := Scalar.cmpi .eq arg1 c2_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c2_i32_5 : BitVec 32 := 2#32
  let v10 : BitVec 1 := Scalar.cmpi .slt arg1 c2_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjRefIdeal.lean ====
abbrev S2x4096x2048 : Shape := ⟨3, ![2, 4096, 2048]⟩
abbrev S2x4096 : Shape := ⟨2, ![2, 4096]⟩
abbrev S1x2048 : Shape := ⟨2, ![1, 2048]⟩
abbrev S1x2048x5008 : Shape := ⟨3, ![1, 2048, 5008]⟩
abbrev S2048 : Shape := ⟨1, ![2048]⟩
abbrev S_ : Shape := ⟨0, ![]⟩
abbrev S2x4096x1 : Shape := ⟨3, ![2, 4096, 1]⟩
abbrev S1x1x2048 : Shape := ⟨3, ![1, 1, 2048]⟩
abbrev S2048x5008 : Shape := ⟨2, ![2048, 5008]⟩
abbrev S2x4096x5008 : Shape := ⟨3, ![2, 4096, 5008]⟩
abbrev S2x4096x1024 : Shape := ⟨3, ![2, 4096, 1024]⟩
abbrev S2x4096x8x128 : Shape := ⟨4, ![2, 4096, 8, 128]⟩
abbrev S16 : Shape := ⟨1, ![16]⟩
abbrev S1x1x16 : Shape := ⟨3, ![1, 1, 16]⟩
abbrev S2x4096x16 : Shape := ⟨3, ![2, 4096, 16]⟩
abbrev S2x4096x1x16 : Shape := ⟨4, ![2, 4096, 1, 16]⟩
abbrev S2x4096x8x16 : Shape := ⟨4, ![2, 4096, 8, 16]⟩
abbrev S2x4096x8x96 : Shape := ⟨4, ![2, 4096, 8, 96]⟩
abbrev S8192x1024 : Shape := ⟨2, ![8192, 1024]⟩
abbrev S1x8192x1024 : Shape := ⟨3, ![1, 8192, 1024]⟩
abbrev S3x8192x1024 : Shape := ⟨3, ![3, 8192, 1024]⟩

abbrev nBuf : Space → Nat
  | .hbm => 102
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096, .i32⟩
  | .hbm, ⟨2, _⟩ => ⟨S1x2048, .f32⟩
  | .hbm, ⟨3, _⟩ => ⟨S1x2048x5008, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S2048x5008, .f32⟩
  | .hbm, ⟨22, _⟩ => ⟨S2x4096x5008, .f32⟩
  | .hbm, ⟨23, _⟩ => ⟨S2x4096x1024, .f32⟩
  | .hbm, ⟨24, _⟩ => ⟨S2x4096x8x128, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S2x4096, .f32⟩
  | .hbm, ⟨34, _⟩ => ⟨S2x4096x1, .f32⟩
  | .hbm, ⟨35, _⟩ => ⟨S1x1x16, .f32⟩
  | .hbm, ⟨36, _⟩ => ⟨S2x4096x16, .f32⟩
  | .hbm, ⟨37, _⟩ => ⟨S2x4096x16, .f32⟩
  | .hbm, ⟨38, _⟩ => ⟨S2x4096x16, .f32⟩
  | .hbm, ⟨39, _⟩ => ⟨S2x4096x1x16, .f32⟩
  | .hbm, ⟨40, _⟩ => ⟨S2x4096x1x16, .f32⟩
  | .hbm, ⟨41, _⟩ => ⟨S2x4096x1x16, .f32⟩
  | .hbm, ⟨42, _⟩ => ⟨S2x4096x8x16, .f32⟩
  | .hbm, ⟨43, _⟩ => ⟨S2x4096x8x16, .f32⟩
  | .hbm, ⟨44, _⟩ => ⟨S2x4096x8x96, .f32⟩
  | .hbm, ⟨45, _⟩ => ⟨S2x4096x8x16, .f32⟩
  | .hbm, ⟨46, _⟩ => ⟨S2x4096x8x16, .f32⟩
  | .hbm, ⟨47, _⟩ => ⟨S2x4096x8x16, .f32⟩
  | .hbm, ⟨48, _⟩ => ⟨S2x4096x8x16, .f32⟩
  | .hbm, ⟨49, _⟩ => ⟨S2x4096x8x16, .f32⟩
  | .hbm, ⟨50, _⟩ => ⟨S2x4096x8x16, .f32⟩
  | .hbm, ⟨51, _⟩ => ⟨S2x4096x8x16, .f32⟩
  | .hbm, ⟨52, _⟩ => ⟨S2x4096x8x16, .f32⟩
  | .hbm, ⟨53, _⟩ => ⟨S2x4096x8x16, .f32⟩
  | .hbm, ⟨54, _⟩ => ⟨S2x4096x8x16, .f32⟩
  | .hbm, ⟨55, _⟩ => ⟨S2x4096x8x128, .f32⟩
  | .hbm, ⟨56, _⟩ => ⟨S_, .f32⟩
  | .hbm, ⟨57, _⟩ => ⟨S2x4096x8x128, .f32⟩
  | .hbm, ⟨58, _⟩ => ⟨S2x4096x8x128, .f32⟩
  | .hbm, ⟨59, _⟩ => ⟨S2x4096x1024, .f32⟩
  | .hbm, ⟨60, _⟩ => ⟨S2x4096x8x128, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S2x4096, .f32⟩
  | .hbm, ⟨70, _⟩ => ⟨S2x4096x1, .f32⟩
  | .hbm, ⟨71, _⟩ => ⟨S1x1x16, .f32⟩
  | .hbm, ⟨72, _⟩ => ⟨S2x4096x16, .f32⟩
  | .hbm, ⟨73, _⟩ => ⟨S2x4096x16, .f32⟩
  | .hbm, ⟨74, _⟩ => ⟨S2x4096x16, .f32⟩
  | .hbm, ⟨75, _⟩ => ⟨S2x4096x1x16, .f32⟩
  | .hbm, ⟨76, _⟩ => ⟨S2x4096x1x16, .f32⟩
  | .hbm, ⟨77, _⟩ => ⟨S2x4096x1x16, .f32⟩
  | .hbm, ⟨78, _⟩ => ⟨S2x4096x8x16, .f32⟩
  | .hbm, ⟨79, _⟩ => ⟨S2x4096x8x16, .f32⟩
  | .hbm, ⟨80, _⟩ => ⟨S2x4096x8x96, .f32⟩
  | .hbm, ⟨81, _⟩ => ⟨S2x4096x8x16, .f32⟩
  | .hbm, ⟨82, _⟩ => ⟨S2x4096x8x16, .f32⟩
  | .hbm, ⟨83, _⟩ => ⟨S2x4096x8x16, .f32⟩
  | .hbm, ⟨84, _⟩ => ⟨S2x4096x8x16, .f32⟩
  | .hbm, ⟨85, _⟩ => ⟨S2x4096x8x16, .f32⟩
  | .hbm, ⟨86, _⟩ => ⟨S2x4096x8x16, .f32⟩
  | .hbm, ⟨87, _⟩ => ⟨S2x4096x8x16, .f32⟩
  | .hbm, ⟨88, _⟩ => ⟨S2x4096x8x16, .f32⟩
  | .hbm, ⟨89, _⟩ => ⟨S2x4096x8x16, .f32⟩
  | .hbm, ⟨90, _⟩ => ⟨S2x4096x8x16, .f32⟩
  | .hbm, ⟨91, _⟩ => ⟨S2x4096x8x128, .f32⟩
  | .hbm, ⟨92, _⟩ => ⟨S2x4096x1024, .f32⟩
  | .hbm, ⟨93, _⟩ => ⟨S2x4096x8x128, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S1x8192x1024, .f32⟩
  | .hbm, ⟨98, _⟩ => ⟨S1x8192x1024, .f32⟩
  | .hbm, ⟨99, _⟩ => ⟨S1x8192x1024, .f32⟩
  | .hbm, ⟨100, _⟩ => ⟨S3x8192x1024, .f32⟩
  | .hbm, ⟨101, _⟩ => ⟨S3x8192x1024, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_4 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_5 : Ref sig .tc := ⟨.hbm, 63, rfl⟩
abbrev main_v53 : Ref sig .tc := ⟨.hbm, 64, rfl⟩
abbrev main_v54 : Ref sig .tc := ⟨.hbm, 65, rfl⟩
abbrev main_cst_6 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩

abbrev nD : Nat := 1
abbrev τ : Topo := Topo.v7x

variable {F : FTy → Type} [FloatOps F]
-- ==== Idx.lean ====
abbrev S2x4096x2048 : Shape := ⟨3, ![2, 4096, 2048]⟩
abbrev S2x4096 : Shape := ⟨2, ![2, 4096]⟩
abbrev S1x2048 : Shape := ⟨2, ![1, 2048]⟩
abbrev S1x2048x5008 : Shape := ⟨3, ![1, 2048, 5008]⟩
abbrev S8192x2048 : Shape := ⟨2, ![8192, 2048]⟩
abbrev S8192x1 : Shape := ⟨2, ![8192, 1]⟩
abbrev S2048x5008 : Shape := ⟨2, ![2048, 5008]⟩
abbrev S2048x1024 : Shape := ⟨2, ![2048, 1024]⟩
abbrev S2048x64 : Shape := ⟨2, ![2048, 64]⟩
abbrev S2048x16 : Shape := ⟨2, ![2048, 16]⟩
abbrev S_ : Shape := ⟨0, ![]⟩
abbrev S2048x112 : Shape := ⟨2, ![2048, 112]⟩
abbrev S2048x1280 : Shape := ⟨2, ![2048, 1280]⟩
abbrev S8 : Shape := ⟨1, ![8]⟩
abbrev S128 : Shape := ⟨1, ![128]⟩
abbrev S128x1 : Shape := ⟨2, ![128, 1]⟩
abbrev S1x128 : Shape := ⟨2, ![1, 128]⟩
abbrev S8192x128 : Shape := ⟨2, ![8192, 128]⟩
abbrev S512x2048 : Shape := ⟨2, ![512, 2048]⟩
abbrev S512x1 : Shape := ⟨2, ![512, 1]⟩
abbrev S512x128 : Shape := ⟨2, ![512, 128]⟩
abbrev S512 : Shape := ⟨1, ![512]⟩
abbrev S512x1280 : Shape := ⟨2, ![512, 1280]⟩

abbrev nBuf : Space → Nat
  | .hbm => 81
  | .vmem => 13
  | .smem => 0
  | _ => 0

abbrev bufTy : (tb : Table) → Fin (tcTables nBuf tb) → BufTy
  | .hbm, ⟨0, _⟩ => ⟨S2x4096x2048, .f32⟩
  | .hbm, ⟨1, _⟩ => ⟨S2x4096, .i32⟩
  | .hbm, ⟨2, _⟩ => ⟨S1x2048, .f32⟩
  | .hbm, ⟨3, _⟩ => ⟨S1x2048x5008, .f32⟩
  | .hbm, ⟨4, _⟩ => ⟨S8192x2048, .f32⟩
  | .hbm, ⟨5, _⟩ => ⟨S8192x1, .i32⟩
  | .hbm, ⟨6, _⟩ => ⟨S2048x5008, .f32⟩
  | .hbm, ⟨7, _⟩ => ⟨S2048x1024, .f32⟩
  | .hbm, ⟨8, _⟩ => ⟨S2048x64, .f32⟩
  | .hbm, ⟨9, _⟩ => ⟨S2048x64, .f32⟩
  | .hbm, ⟨10, _⟩ => ⟨S2048x16, .f32⟩
  | .hbm, ⟨11, _⟩ => ⟨S_, .f32⟩
  | .hbm, ⟨12, _⟩ => ⟨S2048x112, .f32⟩
  | .hbm, ⟨13, _⟩ => ⟨S2048x1280, .f32⟩
  | .hbm, ⟨14, _⟩ => ⟨S2048x1280, .bf16⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S128, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S_, .i32⟩
  | .hbm, ⟨33, _⟩ => ⟨S128, .i32⟩
  | .hbm, ⟨34, _⟩ => ⟨S128, .i1⟩
  | .hbm, ⟨35, _⟩ => ⟨S_, .i32⟩
  | .hbm, ⟨36, _⟩ => ⟨S128, .i32⟩
  | .hbm, ⟨37, _⟩ => ⟨S128, .i1⟩
  | .hbm, ⟨38, _⟩ => ⟨S_, .i32⟩
  | .hbm, ⟨39, _⟩ => ⟨S_, .i1⟩
  | .hbm, ⟨40, _⟩ => ⟨S128, .i1⟩
  | .hbm, ⟨41, _⟩ => ⟨S128, .i1⟩
  | .hbm, ⟨42, _⟩ => ⟨S128, .i1⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S128, .i32⟩
  | .hbm, ⟨53, _⟩ => ⟨S128, .i32⟩
  | .hbm, ⟨54, _⟩ => ⟨S_, .i32⟩
  | .hbm, ⟨55, _⟩ => ⟨S128, .i32⟩
  | .hbm, ⟨56, _⟩ => ⟨S128, .i1⟩
  | .hbm, ⟨57, _⟩ => ⟨S_, .i32⟩
  | .hbm, ⟨58, _⟩ => ⟨S128, .i32⟩
  | .hbm, ⟨59, _⟩ => ⟨S128, .i1⟩
  | .hbm, ⟨60, _⟩ => ⟨S_, .i32⟩
  | .hbm, ⟨61, _⟩ => ⟨S_, .i1⟩
  | .hbm, ⟨62, _⟩ => ⟨S128, .i1⟩
  | .hbm, ⟨63, _⟩ => ⟨S128, .i1⟩
  | .hbm, ⟨64, _⟩ => ⟨S128, .i1⟩
  | .hbm, ⟨65, _⟩ => ⟨S128, .i32⟩
  | .hbm, ⟨66, _⟩ => ⟨S128, .i32⟩
  | .hbm, ⟨67, _⟩ => ⟨S128, .i32⟩
  | .hbm, ⟨68, _⟩ => ⟨S_, .i32⟩
  | .hbm, ⟨69, _⟩ => ⟨S128, .i32⟩
  | .hbm, ⟨70, _⟩ => ⟨S128, .i1⟩
  | .hbm, ⟨71, _⟩ => ⟨S_, .i32⟩
  | .hbm, ⟨72, _⟩ => ⟨S128, .i32⟩
  | .hbm, ⟨73, _⟩ => ⟨S128, .i32⟩
  | .hbm, ⟨74, _⟩ => ⟨S128, .i32⟩
  | .hbm, ⟨75, _⟩ => ⟨S128x1, .i32⟩
  | .hbm, ⟨76, _⟩ => ⟨S128, .f32⟩
  | .hbm, ⟨77, _⟩ => ⟨S1x128, .f32⟩
  | .hbm, ⟨78, _⟩ => ⟨S8192x2048, .bf16⟩
  | .hbm, ⟨79, _⟩ => ⟨S8192x128, .bf16⟩
  | .hbm, ⟨80, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S512x1, .i32⟩
  | .local _ .vmem, ⟨3, _⟩ => ⟨S512x1, .i32⟩
  | .local _ .vmem, ⟨4, _⟩ => ⟨S1x2048, .f32⟩
  | .local _ .vmem, ⟨5, _⟩ => ⟨S2048x1280, .bf16⟩
  | .local _ .vmem, ⟨6, _⟩ => ⟨S1x128, .f32⟩
  | .local _ .vmem, ⟨7, _⟩ => ⟨S512x2048, .bf16⟩
  | .local _ .vmem, ⟨8, _⟩ => ⟨S512x2048, .bf16⟩
  | .local _ .vmem, ⟨9, _⟩ => ⟨S512x128, .bf16⟩
  | .local _ .vmem, ⟨10, _⟩ => ⟨S512x128, .bf16⟩
  | .local _ .vmem, ⟨11, _⟩ => ⟨S512x128, .f32⟩
  | .local _ .vmem, ⟨12, _⟩ => ⟨S512x128, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_c_1 : Ref sig .tc := ⟨.hbm, 32, rfl⟩
abbrev main_call0_v5 : Ref sig .tc := ⟨.hbm, 33, rfl⟩
abbrev main_call0_v6 : Ref sig .tc := ⟨.hbm, 34, rfl⟩
abbrev main_call0_c_2 : Ref sig .tc := ⟨.hbm, 35, rfl⟩
abbrev main_call0_v7 : Ref sig .tc := ⟨.hbm, 36, rfl⟩
abbrev main_call0_v8 : Ref sig .tc := ⟨.hbm, 37, rfl⟩
abbrev main_call0_c_3 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_v17 : Ref sig .tc := ⟨.hbm, 45, rfl⟩
abbrev main_c_2 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_1 : Ref sig .tc := ⟨.hbm, 54, rfl⟩
abbrev main_call1_v5 : Ref sig .tc := ⟨.hbm, 55, rfl⟩
abbrev main_call1_v6 : Ref sig .tc := ⟨.hbm, 56, rfl⟩
abbrev main_call1_c_2 : Ref sig .tc := ⟨.hbm, 57, rfl⟩
abbrev main_call1_v7 : Ref sig .tc := ⟨.hbm, 58, rfl⟩
abbrev main_call1_v8 : Ref sig .tc := ⟨.hbm, 59, rfl⟩
abbrev main_call1_c_3 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_v18 : Ref sig .tc := ⟨.hbm, 67, rfl⟩
abbrev main_c_3 : Ref sig .tc := ⟨.hbm, 68, rfl⟩
abbrev main_v19 : Ref sig .tc := ⟨.hbm, 69, rfl⟩
abbrev main_v20 : Ref sig .tc := ⟨.hbm, 70, rfl⟩
abbrev main_c_4 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27_0 : Ref sig .tc := ⟨.hbm, 78, rfl⟩
abbrev main_v27_1 : Ref sig .tc := ⟨.hbm, 79, rfl⟩
abbrev main_v27_2 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== IdxRefIdeal.lean ====
abbrev S2x4096x2048 : Shape := ⟨3, ![2, 4096, 2048]⟩
abbrev S2x4096 : Shape := ⟨2, ![2, 4096]⟩
abbrev S1x2048 : Shape := ⟨2, ![1, 2048]⟩
abbrev S1x2048x5008 : Shape := ⟨3, ![1, 2048, 5008]⟩
abbrev S2048 : Shape := ⟨1, ![2048]⟩
abbrev S_ : Shape := ⟨0, ![]⟩
abbrev S2x4096x1 : Shape := ⟨3, ![2, 4096, 1]⟩
abbrev S1x1x2048 : Shape := ⟨3, ![1, 1, 2048]⟩
abbrev S2048x5008 : Shape := ⟨2, ![2048, 5008]⟩
abbrev S2x4096x5008 : Shape := ⟨3, ![2, 4096, 5008]⟩
abbrev S2x4096x1024 : Shape := ⟨3, ![2, 4096, 1024]⟩
abbrev S2x4096x16x64 : Shape := ⟨4, ![2, 4096, 16, 64]⟩
abbrev S8 : Shape := ⟨1, ![8]⟩
abbrev S1x1x8 : Shape := ⟨3, ![1, 1, 8]⟩
abbrev S2x4096x8 : Shape := ⟨3, ![2, 4096, 8]⟩
abbrev S2x4096x1x8 : Shape := ⟨4, ![2, 4096, 1, 8]⟩
abbrev S2x4096x16x8 : Shape := ⟨4, ![2, 4096, 16, 8]⟩
abbrev S2x4096x16x48 : Shape := ⟨4, ![2, 4096, 16, 48]⟩
abbrev S8192x16x64 : Shape := ⟨3, ![8192, 16, 64]⟩
abbrev S2x4096x64 : Shape := ⟨3, ![2, 4096, 64]⟩
abbrev S2x4096x1x64 : Shape := ⟨4, ![2, 4096, 1, 64]⟩
abbrev S2x4096x1x48 : Shape := ⟨4, ![2, 4096, 1, 48]⟩
abbrev S8192x64 : Shape := ⟨2, ![8192, 64]⟩
abbrev S2x4096x16 : Shape := ⟨3, ![2, 4096, 16]⟩
abbrev S8192x16 : Shape := ⟨2, ![8192, 16]⟩
abbrev S16 : Shape := ⟨1, ![16]⟩
abbrev S16x1 : Shape := ⟨2, ![16, 1]⟩
abbrev S128 : Shape := ⟨1, ![128]⟩
abbrev S1x128 : Shape := ⟨2, ![1, 128]⟩
abbrev S16x128 : Shape := ⟨2, ![16, 128]⟩
abbrev S1x16x128 : Shape := ⟨3, ![1, 16, 128]⟩
abbrev S8192x16x128 : Shape := ⟨3, ![8192, 16, 128]⟩
abbrev S8192x2048 : Shape := ⟨2, ![8192, 2048]⟩
abbrev S8192x128 : Shape := ⟨2, ![8192, 128]⟩
abbrev S8192x112 : Shape := ⟨2, ![8192, 112]⟩

abbrev nBuf : Space → Nat
  | .hbm => 156
  | .vmem => 0
  | .smem => 0
  | _ => 0

abbrev hbmTy0_0 (i : Nat) : BufTy := match i % 128 with
  | 0 => ⟨S2x4096x2048, .f32⟩
  | 1 => ⟨S2x4096, .i32⟩
  | 2 => ⟨S1x2048, .f32⟩
  | 3 => ⟨S1x2048x5008, .f32⟩
  | 4 => ⟨S2048, .f32⟩
  | 5 => ⟨S2x4096x2048, .f32⟩
  | 6 => ⟨S_, .f32⟩
  | 7 => ⟨S2x4096, .f32⟩
  | 8 => ⟨S2x4096x1, .f32⟩
  | 9 => ⟨S_, .f32⟩
  | 10 => ⟨S2x4096x1, .f32⟩
  | 11 => ⟨S2x4096x1, .f32⟩
  | 12 => ⟨S_, .f32⟩
  | 13 => ⟨S2x4096x1, .f32⟩
  | 14 => ⟨S2x4096x1, .f32⟩
  | 15 => ⟨S2x4096x1, .f32⟩
  | 16 => ⟨S2x4096x2048, .f32⟩
  | 17 => ⟨S2x4096x2048, .f32⟩
  | 18 => ⟨S1x1x2048, .f32⟩
  | 19 => ⟨S2x4096x2048, .f32⟩
  | 20 => ⟨S2x4096x2048, .f32⟩
  | 21 => ⟨S2048x5008, .f32⟩
  | 22 => ⟨S2x4096x5008, .f32⟩
  | 23 => ⟨S2x4096x1024, .f32⟩
  | 24 => ⟨S2x4096x16x64, .f32⟩
  | 25 => ⟨S8, .f32⟩
  | 26 => ⟨S8, .f32⟩
  | 27 => ⟨S_, .f32⟩
  | 28 => ⟨S8, .f32⟩
  | 29 => ⟨S8, .f32⟩
  | 30 => ⟨S_, .f32⟩
  | 31 => ⟨S8, .f32⟩
  | 32 => ⟨S8, .f32⟩
  | 33 => ⟨S2x4096, .f32⟩
  | 34 => ⟨S2x4096x1, .f32⟩
  | 35 => ⟨S1x1x8, .f32⟩
  | 36 => ⟨S2x4096x8, .f32⟩
  | 37 => ⟨S2x4096x8, .f32⟩
  | 38 => ⟨S2x4096x8, .f32⟩
  | 39 => ⟨S2x4096x1x8, .f32⟩
  | 40 => ⟨S2x4096x1x8, .f32⟩
  | 41 => ⟨S2x4096x1x8, .f32⟩
  | 42 => ⟨S2x4096x16x8, .f32⟩
  | 43 => ⟨S2x4096x16x8, .f32⟩
  | 44 => ⟨S2x4096x16x48, .f32⟩
  | 45 => ⟨S2x4096x16x8, .f32⟩
  | 46 => ⟨S2x4096x16x8, .f32⟩
  | 47 => ⟨S2x4096x16x8, .f32⟩
  | 48 => ⟨S2x4096x16x8, .f32⟩
  | 49 => ⟨S2x4096x16x8, .f32⟩
  | 50 => ⟨S2x4096x16x8, .f32⟩
  | 51 => ⟨S2x4096x16x8, .f32⟩
  | 52 => ⟨S2x4096x16x8, .f32⟩
  | 53 => ⟨S2x4096x16x8, .f32⟩
  | 54 => ⟨S2x4096x16x8, .f32⟩
  | 55 => ⟨S2x4096x16x64, .f32⟩
  | 56 => ⟨S_, .f32⟩
  | 57 => ⟨S2x4096x16x64, .f32⟩
  | 58 => ⟨S2x4096x16x64, .f32⟩
  | 59 => ⟨S8192x16x64, .f32⟩
  | 60 => ⟨S2x4096x64, .f32⟩
  | 61 => ⟨S2x4096x1x64, .f32⟩
  | 62 => ⟨S8, .f32⟩
  | 63 => ⟨S8, .f32⟩
  | 64 => ⟨S_, .f32⟩
  | 65 => ⟨S8, .f32⟩
  | 66 => ⟨S8, .f32⟩
  | 67 => ⟨S_, .f32⟩
  | 68 => ⟨S8, .f32⟩
  | 69 => ⟨S8, .f32⟩
  | 70 => ⟨S2x4096, .f32⟩
  | 71 => ⟨S2x4096x1, .f32⟩
  | 72 => ⟨S1x1x8, .f32⟩
  | 73 => ⟨S2x4096x8, .f32⟩
  | 74 => ⟨S2x4096x8, .f32⟩
  | 75 => ⟨S2x4096x8, .f32⟩
  | 76 => ⟨S2x4096x1x8, .f32⟩
  | 77 => ⟨S2x4096x1x8, .f32⟩
  | 78 => ⟨S2x4096x1x8, .f32⟩
  | 79 => ⟨S2x4096x1x8, .f32⟩
  | 80 => ⟨S2x4096x1x8, .f32⟩
  | 81 => ⟨S2x4096x1x48, .f32⟩
  | 82 => ⟨S2x4096x1x8, .f32⟩
  | 83 => ⟨S2x4096x1x8, .f32⟩
  | 84 => ⟨S2x4096x1x8, .f32⟩
  | 85 => ⟨S2x4096x1x8, .f32⟩
  | 86 => ⟨S2x4096x1x8, .f32⟩
  | 87 => ⟨S2x4096x1x8, .f32⟩
  | 88 => ⟨S2x4096x1x64, .f32⟩
  | 89 => ⟨S8192x64, .f32⟩
  | 90 => ⟨S2x4096x16, .f32⟩
  | 91 => ⟨S_, .f32⟩
  | 92 => ⟨S2x4096x16, .f32⟩
  | 93 => ⟨S2x4096x16, .f32⟩
  | 94 => ⟨S8192x16, .f32⟩
  | 95 => ⟨S16, .i32⟩
  | 96 => ⟨S16x1, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S16x1, .i32⟩
  | 104 => ⟨S16x1, .i32⟩
  | 105 => ⟨S_, .i32⟩
  | 106 => ⟨S16x1, .i32⟩
  | 107 => ⟨S16x1, .i1⟩
  | 108 => ⟨S_, .i32⟩
  | 109 => ⟨S16x1, .i32⟩
  | 110 => ⟨S16x1, .i1⟩
  | 111 => ⟨S_, .i32⟩
  | 112 => ⟨S_, .i1⟩
  | 113 => ⟨S16x1, .i1⟩
  | 114 => ⟨S16x1, .i1⟩
  | 115 => ⟨S16x1, .i1⟩
  | 116 => ⟨S16x1, .i32⟩
  | 117 => ⟨S16x1, .i32⟩
  | 118 => ⟨S16x1, .i32⟩
  | 119 => ⟨S128, .i32⟩
  | 120 => ⟨S1x128, .i32⟩
  | 121 => ⟨S_, .i32⟩
  | 122 => ⟨S_, .i32⟩
  | 123 => ⟨S1x128, .i32⟩
  | 124 => ⟨S1x128, .i32⟩
  | 125 => ⟨S1x128, .i32⟩
  | 126 => ⟨S_, .i32⟩
  | 127 => ⟨S1x128, .i32⟩
  | _ => ⟨S2x4096x2048, .f32⟩

abbrev hbmTy0_1 (i : Nat) : BufTy := match i % 128 with
  | 0 => ⟨S1x128, .i1⟩
  | 1 => ⟨S1x128, .i32⟩
  | 2 => ⟨S1x128, .i32⟩
  | 3 => ⟨S_, .i32⟩
  | 4 => ⟨S1x128, .i32⟩
  | 5 => ⟨S1x128, .i1⟩
  | 6 => ⟨S1x128, .i1⟩
  | 7 => ⟨S_, .i32⟩
  | 8 => ⟨S1x128, .i32⟩
  | 9 => ⟨S1x128, .i32⟩
  | 10 => ⟨S1x128, .i32⟩
  | 11 => ⟨S16x128, .i32⟩
  | 12 => ⟨S16x128, .i32⟩
  | 13 => ⟨S16x128, .i1⟩
  | 14 => ⟨S1x16x128, .i1⟩
  | 15 => ⟨S8192x16x128, .f32⟩
  | 16 => ⟨S_, .f32⟩
  | 17 => ⟨S_, .f32⟩
  | 18 => ⟨S8192x16x128, .i1⟩
  | 19 => ⟨S8192x16x128, .f32⟩
  | 20 => ⟨S8192x16x128, .f32⟩
  | 21 => ⟨S8192x2048, .f32⟩
  | 22 => ⟨S8192x128, .f32⟩
  | 23 => ⟨S_, .f32⟩
  | 24 => ⟨S8192x112, .f32⟩
  | 25 => ⟨S8192x128, .f32⟩
  | 26 => ⟨S8192x2048, .bf16⟩
  | 27 => ⟨S8192x128, .bf16⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_4 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_5 : Ref sig .tc := ⟨.hbm, 64, rfl⟩
abbrev main_v54 : Ref sig .tc := ⟨.hbm, 65, rfl⟩
abbrev main_v55 : Ref sig .tc := ⟨.hbm, 66, rfl⟩
abbrev main_cst_6 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_cst_7 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_c : Ref sig .tc := ⟨.hbm, 97, rfl⟩
abbrev main_call0_v0 : Ref sig .tc := ⟨.hbm, 98, rfl⟩
abbrev main_call0_c : Ref sig .tc := ⟨.hbm, 99, rfl⟩
abbrev main_call0_v1 : Ref sig .tc := ⟨.hbm, 100, rfl⟩
abbrev main_call0_c_0 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_c_1 : Ref sig .tc := ⟨.hbm, 105, rfl⟩
abbrev main_call0_v5 : Ref sig .tc := ⟨.hbm, 106, rfl⟩
abbrev main_call0_v6 : Ref sig .tc := ⟨.hbm, 107, rfl⟩
abbrev main_call0_c_2 : Ref sig .tc := ⟨.hbm, 108, rfl⟩
abbrev main_call0_v7 : Ref sig .tc := ⟨.hbm, 109, rfl⟩
abbrev main_call0_v8 : Ref sig .tc := ⟨.hbm, 110, rfl⟩
abbrev main_call0_c_3 : Ref sig .tc := ⟨.hbm, 111, rfl⟩
abbrev main_call0_v9 : Ref sig .tc := ⟨.hbm, 112, rfl⟩
abbrev main_call0_v10 : Ref sig .tc := ⟨.hbm, 113, rfl⟩
abbrev main_call0_v11 : Ref sig .tc := ⟨.hbm, 114, rfl⟩
abbrev main_call0_v12 : Ref sig .tc := ⟨.hbm, 115, rfl⟩
abbrev main_call0_v13 : Ref sig .tc := ⟨.hbm, 116, rfl⟩
abbrev main_call0_v14 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_c_8 : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_call1_v3 : Ref sig .tc := ⟨.hbm, 125, rfl⟩
abbrev main_call1_v4 : Ref sig .tc := ⟨.hbm, 126, rfl⟩
abbrev main_call1_v5 : Ref sig .tc := ⟨.hbm, 127, rfl⟩
abbrev main_call1_v6 : Ref sig .tc := ⟨.hbm, 128, rfl⟩
abbrev main_call1_v7 : Ref sig .tc := ⟨.hbm, 129, rfl⟩
abbrev main_call1_v8 : Ref sig .tc := ⟨.hbm, 130, rfl⟩
abbrev main_call1_c : Ref sig .tc := ⟨.hbm, 131, rfl⟩
abbrev main_call1_v9 : Ref sig .tc := ⟨.hbm, 132, rfl⟩
abbrev main_call1_v10 : Ref sig .tc := ⟨.hbm, 133, rfl⟩
abbrev main_call1_v11 : Ref sig .tc := ⟨.hbm, 134, rfl⟩
abbrev main_call1_c_0 : Ref sig .tc := ⟨.hbm, 135, rfl⟩
abbrev main_call1_v12 : Ref sig .tc := ⟨.hbm, 136, rfl⟩
abbrev main_call1_v13 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_9 : Ref sig .tc := ⟨.hbm, 144, rfl⟩
abbrev main_call2_v0 : Ref sig .tc := ⟨.hbm, 145, rfl⟩
abbrev main_call2_v1 : Ref sig .tc := ⟨.hbm, 146, rfl⟩
abbrev main_call2_v2 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_cst_10 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩

abbrev nD : Nat := 1
abbrev τ : Topo := Topo.v7x

variable {F : FTy → Type} [FloatOps F]
-- ==== Query.lean ====
abbrev S2x4096x2048 : Shape := ⟨3, ![2, 4096, 2048]⟩
abbrev S2x4096 : Shape := ⟨2, ![2, 4096]⟩
abbrev S1x2048 : Shape := ⟨2, ![1, 2048]⟩
abbrev S1x2048x5008 : Shape := ⟨3, ![1, 2048, 5008]⟩
abbrev S1x512 : Shape := ⟨2, ![1, 512]⟩
abbrev S1x512x1536 : Shape := ⟨3, ![1, 512, 1536]⟩
abbrev S8192x2048 : Shape := ⟨2, ![8192, 2048]⟩
abbrev S8192x1 : Shape := ⟨2, ![8192, 1]⟩
abbrev S2048x5008 : Shape := ⟨2, ![2048, 5008]⟩
abbrev S2048x512 : Shape := ⟨2, ![2048, 512]⟩
abbrev S512x1536 : Shape := ⟨2, ![512, 1536]⟩
abbrev S512x8x192 : Shape := ⟨3, ![512, 8, 192]⟩
abbrev S_ : Shape := ⟨0, ![]⟩
abbrev S512x8x256 : Shape := ⟨3, ![512, 8, 256]⟩
abbrev S512x2048 : Shape := ⟨2, ![512, 2048]⟩
abbrev S32 : Shape := ⟨1, ![32]⟩
abbrev S128 : Shape := ⟨1, ![128]⟩
abbrev S128x1 : Shape := ⟨2, ![128, 1]⟩
abbrev S1x128 : Shape := ⟨2, ![1, 128]⟩
abbrev S512x1 : Shape := ⟨2, ![512, 1]⟩
abbrev S512 : Shape := ⟨1, ![512]⟩
abbrev S512x512 : Shape := ⟨2, ![512, 512]⟩
abbrev S512x128 : Shape := ⟨2, ![512, 128]⟩

abbrev nBuf : Space → Nat
  | .hbm => 82
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S2x4096, .i32⟩
  | .hbm, ⟨2, _⟩ => ⟨S1x2048, .f32⟩
  | .hbm, ⟨3, _⟩ => ⟨S1x2048x5008, .f32⟩
  | .hbm, ⟨4, _⟩ => ⟨S1x512, .f32⟩
  | .hbm, ⟨5, _⟩ => ⟨S1x512x1536, .f32⟩
  | .hbm, ⟨6, _⟩ => ⟨S8192x2048, .f32⟩
  | .hbm, ⟨7, _⟩ => ⟨S8192x1, .i32⟩
  | .hbm, ⟨8, _⟩ => ⟨S2048x5008, .f32⟩
  | .hbm, ⟨9, _⟩ => ⟨S2048x512, .f32⟩
  | .hbm, ⟨10, _⟩ => ⟨S2048x512, .bf16⟩
  | .hbm, ⟨11, _⟩ => ⟨S512x1536, .f32⟩
  | .hbm, ⟨12, _⟩ => ⟨S512x8x192, .f32⟩
  | .hbm, ⟨13, _⟩ => ⟨S_, .i32⟩
  | .hbm, ⟨14, _⟩ => ⟨S_, .f32⟩
  | .hbm, ⟨15, _⟩ => ⟨S512x8x256, .f32⟩
  | .hbm, ⟨16, _⟩ => ⟨S512x2048, .f32⟩
  | .hbm, ⟨17, _⟩ => ⟨S512x2048, .bf16⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S128, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S128, .i32⟩
  | .hbm, ⟨34, _⟩ => ⟨S128, .i32⟩
  | .hbm, ⟨35, _⟩ => ⟨S_, .i32⟩
  | .hbm, ⟨36, _⟩ => ⟨S128, .i32⟩
  | .hbm, ⟨37, _⟩ => ⟨S128, .i1⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S_, .i32⟩
  | .hbm, ⟨42, _⟩ => ⟨S_, .i1⟩
  | .hbm, ⟨43, _⟩ => ⟨S128, .i1⟩
  | .hbm, ⟨44, _⟩ => ⟨S128, .i1⟩
  | .hbm, ⟨45, _⟩ => ⟨S128, .i1⟩
  | .hbm, ⟨46, _⟩ => ⟨S128, .i32⟩
  | .hbm, ⟨47, _⟩ => ⟨S128, .i32⟩
  | .hbm, ⟨48, _⟩ => ⟨S128, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S128, .i32⟩
  | .hbm, ⟨56, _⟩ => ⟨S128, .i32⟩
  | .hbm, ⟨57, _⟩ => ⟨S_, .i32⟩
  | .hbm, ⟨58, _⟩ => ⟨S128, .i32⟩
  | .hbm, ⟨59, _⟩ => ⟨S128, .i1⟩
  | .hbm, ⟨60, _⟩ => ⟨S_, .i32⟩
  | .hbm, ⟨61, _⟩ => ⟨S128, .i32⟩
  | .hbm, ⟨62, _⟩ => ⟨S128, .i1⟩
  | .hbm, ⟨63, _⟩ => ⟨S_, .i32⟩
  | .hbm, ⟨64, _⟩ => ⟨S_, .i1⟩
  | .hbm, ⟨65, _⟩ => ⟨S128, .i1⟩
  | .hbm, ⟨66, _⟩ => ⟨S128, .i1⟩
  | .hbm, ⟨67, _⟩ => ⟨S128, .i1⟩
  | .hbm, ⟨68, _⟩ => ⟨S128, .i32⟩
  | .hbm, ⟨69, _⟩ => ⟨S128, .i32⟩
  | .hbm, ⟨70, _⟩ => ⟨S128, .i32⟩
  | .hbm, ⟨71, _⟩ => ⟨S_, .i32⟩
  | .hbm, ⟨72, _⟩ => ⟨S128, .i32⟩
  | .hbm, ⟨73, _⟩ => ⟨S128, .i1⟩
  | .hbm, ⟨74, _⟩ => ⟨S_, .i32⟩
  | .hbm, ⟨75, _⟩ => ⟨S128, .i32⟩
  | .hbm, ⟨76, _⟩ => ⟨S128, .i32⟩
  | .hbm, ⟨77, _⟩ => ⟨S128, .i32⟩
  | .hbm, ⟨78, _⟩ => ⟨S128x1, .i32⟩
  | .hbm, ⟨79, _⟩ => ⟨S128, .f32⟩
  | .hbm, ⟨80, _⟩ => ⟨S1x128, .f32⟩
  | .hbm, ⟨81, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x1, .i32⟩
  | .local _ .vmem, ⟨3, _⟩ => ⟨S512x1, .i32⟩
  | .local _ .vmem, ⟨4, _⟩ => ⟨S1x2048, .f32⟩
  | .local _ .vmem, ⟨5, _⟩ => ⟨S2048x512, .bf16⟩
  | .local _ .vmem, ⟨6, _⟩ => ⟨S1x512, .f32⟩
  | .local _ .vmem, ⟨7, _⟩ => ⟨S512x2048, .bf16⟩
  | .local _ .vmem, ⟨8, _⟩ => ⟨S1x128, .f32⟩
  | .local _ .vmem, ⟨9, _⟩ => ⟨S512x2048, .bf16⟩
  | .local _ .vmem, ⟨10, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v17 : Ref sig .tc := ⟨.hbm, 48, rfl⟩
abbrev main_c_2 : Ref sig .tc := ⟨.hbm, 49, rfl⟩
abbrev main_call2_v0 : Ref sig .tc := ⟨.hbm, 50, rfl⟩
abbrev main_call2_c : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_c_1 : Ref sig .tc := ⟨.hbm, 57, rfl⟩
abbrev main_call2_v5 : Ref sig .tc := ⟨.hbm, 58, rfl⟩
abbrev main_call2_v6 : Ref sig .tc := ⟨.hbm, 59, rfl⟩
abbrev main_call2_c_2 : Ref sig .tc := ⟨.hbm, 60, rfl⟩
abbrev main_call2_v7 : Ref sig .tc := ⟨.hbm, 61, rfl⟩
abbrev main_call2_v8 : Ref sig .tc := ⟨.hbm, 62, rfl⟩
abbrev main_call2_c_3 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_v12 : Ref sig .tc := ⟨.hbm, 67, rfl⟩
abbrev main_call2_v13 : Ref sig .tc := ⟨.hbm, 68, rfl⟩
abbrev main_call2_v14 : Ref sig .tc := ⟨.hbm, 69, rfl⟩
abbrev main_v18 : Ref sig .tc := ⟨.hbm, 70, rfl⟩
abbrev main_c_3 : Ref sig .tc := ⟨.hbm, 71, rfl⟩
abbrev main_v19 : Ref sig .tc := ⟨.hbm, 72, rfl⟩
abbrev main_v20 : Ref sig .tc := ⟨.hbm, 73, rfl⟩
abbrev main_c_4 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QueryRefIdeal.lean ====
abbrev S2x4096x2048 : Shape := ⟨3, ![2, 4096, 2048]⟩
abbrev S2x4096 : Shape := ⟨2, ![2, 4096]⟩
abbrev S1x2048 : Shape := ⟨2, ![1, 2048]⟩
abbrev S1x2048x5008 : Shape := ⟨3, ![1, 2048, 5008]⟩
abbrev S1x512 : Shape := ⟨2, ![1, 512]⟩
abbrev S1x512x1536 : Shape := ⟨3, ![1, 512, 1536]⟩
abbrev S2048 : Shape := ⟨1, ![2048]⟩
abbrev S_ : Shape := ⟨0, ![]⟩
abbrev S2x4096x1 : Shape := ⟨3, ![2, 4096, 1]⟩
abbrev S1x1x2048 : Shape := ⟨3, ![1, 1, 2048]⟩
abbrev S2048x5008 : Shape := ⟨2, ![2048, 5008]⟩
abbrev S2x4096x5008 : Shape := ⟨3, ![2, 4096, 5008]⟩
abbrev S2x4096x512 : Shape := ⟨3, ![2, 4096, 512]⟩
abbrev S512 : Shape := ⟨1, ![512]⟩
abbrev S1x1x512 : Shape := ⟨3, ![1, 1, 512]⟩
abbrev S512x1536 : Shape := ⟨2, ![512, 1536]⟩
abbrev S2x4096x1536 : Shape := ⟨3, ![2, 4096, 1536]⟩
abbrev S2x4096x8x192 : Shape := ⟨4, ![2, 4096, 8, 192]⟩
abbrev S2x4096x8x128 : Shape := ⟨4, ![2, 4096, 8, 128]⟩
abbrev S2x4096x8x64 : Shape := ⟨4, ![2, 4096, 8, 64]⟩
abbrev S32 : Shape := ⟨1, ![32]⟩
abbrev S1x1x32 : Shape := ⟨3, ![1, 1, 32]⟩
abbrev S2x4096x32 : Shape := ⟨3, ![2, 4096, 32]⟩
abbrev S2x4096x1x32 : Shape := ⟨4, ![2, 4096, 1, 32]⟩
abbrev S2x4096x8x32 : Shape := ⟨4, ![2, 4096, 8, 32]⟩
abbrev S2x4096x8x256 : Shape := ⟨4, ![2, 4096, 8, 256]⟩
abbrev S8192x2048 : Shape := ⟨2, ![8192, 2048]⟩

abbrev nBuf : Space → Nat
  | .hbm => 87
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096, .i32⟩
  | .hbm, ⟨2, _⟩ => ⟨S1x2048, .f32⟩
  | .hbm, ⟨3, _⟩ => ⟨S1x2048x5008, .f32⟩
  | .hbm, ⟨4, _⟩ => ⟨S1x512, .f32⟩
  | .hbm, ⟨5, _⟩ => ⟨S1x512x1536, .f32⟩
  | .hbm, ⟨6, _⟩ => ⟨S2048, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S2048x5008, .f32⟩
  | .hbm, ⟨24, _⟩ => ⟨S2x4096x5008, .f32⟩
  | .hbm, ⟨25, _⟩ => ⟨S2x4096x512, .f32⟩
  | .hbm, ⟨26, _⟩ => ⟨S512, .f32⟩
  | .hbm, ⟨27, _⟩ => ⟨S2x4096x512, .f32⟩
  | .hbm, ⟨28, _⟩ => ⟨S_, .f32⟩
  | .hbm, ⟨29, _⟩ => ⟨S2x4096, .f32⟩
  | .hbm, ⟨30, _⟩ => ⟨S2x4096x1, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S_, .f32⟩
  | .hbm, ⟨35, _⟩ => ⟨S2x4096x1, .f32⟩
  | .hbm, ⟨36, _⟩ => ⟨S2x4096x1, .f32⟩
  | .hbm, ⟨37, _⟩ => ⟨S2x4096x1, .f32⟩
  | .hbm, ⟨38, _⟩ => ⟨S2x4096x512, .f32⟩
  | .hbm, ⟨39, _⟩ => ⟨S2x4096x512, .f32⟩
  | .hbm, ⟨40, _⟩ => ⟨S1x1x512, .f32⟩
  | .hbm, ⟨41, _⟩ => ⟨S2x4096x512, .f32⟩
  | .hbm, ⟨42, _⟩ => ⟨S2x4096x512, .f32⟩
  | .hbm, ⟨43, _⟩ => ⟨S512x1536, .f32⟩
  | .hbm, ⟨44, _⟩ => ⟨S2x4096x1536, .f32⟩
  | .hbm, ⟨45, _⟩ => ⟨S2x4096x8x192, .f32⟩
  | .hbm, ⟨46, _⟩ => ⟨S2x4096x8x128, .f32⟩
  | .hbm, ⟨47, _⟩ => ⟨S2x4096x8x64, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S2x4096, .f32⟩
  | .hbm, ⟨57, _⟩ => ⟨S2x4096x1, .f32⟩
  | .hbm, ⟨58, _⟩ => ⟨S1x1x32, .f32⟩
  | .hbm, ⟨59, _⟩ => ⟨S2x4096x32, .f32⟩
  | .hbm, ⟨60, _⟩ => ⟨S2x4096x32, .f32⟩
  | .hbm, ⟨61, _⟩ => ⟨S2x4096x32, .f32⟩
  | .hbm, ⟨62, _⟩ => ⟨S2x4096x1x32, .f32⟩
  | .hbm, ⟨63, _⟩ => ⟨S2x4096x1x32, .f32⟩
  | .hbm, ⟨64, _⟩ => ⟨S2x4096x1x32, .f32⟩
  | .hbm, ⟨65, _⟩ => ⟨S2x4096x8x32, .f32⟩
  | .hbm, ⟨66, _⟩ => ⟨S2x4096x8x32, .f32⟩
  | .hbm, ⟨67, _⟩ => ⟨S2x4096x8x32, .f32⟩
  | .hbm, ⟨68, _⟩ => ⟨S2x4096x8x32, .f32⟩
  | .hbm, ⟨69, _⟩ => ⟨S2x4096x8x32, .f32⟩
  | .hbm, ⟨70, _⟩ => ⟨S2x4096x8x32, .f32⟩
  | .hbm, ⟨71, _⟩ => ⟨S2x4096x8x32, .f32⟩
  | .hbm, ⟨72, _⟩ => ⟨S2x4096x8x32, .f32⟩
  | .hbm, ⟨73, _⟩ => ⟨S2x4096x8x32, .f32⟩
  | .hbm, ⟨74, _⟩ => ⟨S2x4096x8x32, .f32⟩
  | .hbm, ⟨75, _⟩ => ⟨S2x4096x8x32, .f32⟩
  | .hbm, ⟨76, _⟩ => ⟨S2x4096x8x32, .f32⟩
  | .hbm, ⟨77, _⟩ => ⟨S2x4096x8x64, .f32⟩
  | .hbm, ⟨78, _⟩ => ⟨S2x4096x8x192, .f32⟩
  | .hbm, ⟨79, _⟩ => ⟨S_, .f32⟩
  | .hbm, ⟨80, _⟩ => ⟨S2x4096x8x192, .f32⟩
  | .hbm, ⟨81, _⟩ => ⟨S2x4096x8x192, .f32⟩
  | .hbm, ⟨82, _⟩ => ⟨S_, .f32⟩
  | .hbm, ⟨83, _⟩ => ⟨S2x4096x8x64, .f32⟩
  | .hbm, ⟨84, _⟩ => ⟨S2x4096x8x256, .f32⟩
  | .hbm, ⟨85, _⟩ => ⟨S8192x2048, .f32⟩
  | .hbm, ⟨86, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_7 : Ref sig .tc := ⟨.hbm, 79, rfl⟩
abbrev main_v65 : Ref sig .tc := ⟨.hbm, 80, rfl⟩
abbrev main_v66 : Ref sig .tc := ⟨.hbm, 81, rfl⟩
abbrev main_cst_8 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩

abbrev nD : Nat := 1
abbrev τ : Topo := Topo.v7x

variable {F : FTy → Type} [FloatOps F]
-- ==== KeyValue.lean ====
abbrev S2x4096x2048 : Shape := ⟨3, ![2, 4096, 2048]⟩
abbrev S2x4096 : Shape := ⟨2, ![2, 4096]⟩
abbrev S1x2048 : Shape := ⟨2, ![1, 2048]⟩
abbrev S1x2048x5008 : Shape := ⟨3, ![1, 2048, 5008]⟩
abbrev S1x256 : Shape := ⟨2, ![1, 256]⟩
abbrev S1x256x2048 : Shape := ⟨3, ![1, 256, 2048]⟩
abbrev S8192x2048 : Shape := ⟨2, ![8192, 2048]⟩
abbrev S8192x1 : Shape := ⟨2, ![8192, 1]⟩
abbrev S2048x5008 : Shape := ⟨2, ![2048, 5008]⟩
abbrev S2048x320 : Shape := ⟨2, ![2048, 320]⟩
abbrev S_ : Shape := ⟨0, ![]⟩
abbrev S2048x64 : Shape := ⟨2, ![2048, 64]⟩
abbrev S2048x384 : Shape := ⟨2, ![2048, 384]⟩
abbrev S256x2048 : Shape := ⟨2, ![256, 2048]⟩
abbrev S256x8x256 : Shape := ⟨3, ![256, 8, 256]⟩
abbrev S256x8x128 : Shape := ⟨3, ![256, 8, 128]⟩
abbrev S256x1024 : Shape := ⟨2, ![256, 1024]⟩
abbrev S32 : Shape := ⟨1, ![32]⟩
abbrev S128 : Shape := ⟨1, ![128]⟩
abbrev S128x1 : Shape := ⟨2, ![128, 1]⟩
abbrev S1x128 : Shape := ⟨2, ![1, 128]⟩
abbrev S8192x1024 : Shape := ⟨2, ![8192, 1024]⟩
abbrev S512x2048 : Shape := ⟨2, ![512, 2048]⟩
abbrev S512x1 : Shape := ⟨2, ![512, 1]⟩
abbrev S512x1024 : Shape := ⟨2, ![512, 1024]⟩
abbrev S512 : Shape := ⟨1, ![512]⟩
abbrev S512x384 : Shape := ⟨2, ![512, 384]⟩
abbrev S512x256 : Shape := ⟨2, ![512, 256]⟩
abbrev S512x128 : Shape := ⟨2, ![512, 128]⟩

abbrev nBuf : Space → Nat
  | .hbm => 87
  | .vmem => 13
  | .smem => 0
  | _ => 0

abbrev bufTy : (tb : Table) → Fin (tcTables nBuf tb) → BufTy
  | .hbm, ⟨0, _⟩ => ⟨S2x4096x2048, .f32⟩
  | .hbm, ⟨1, _⟩ => ⟨S2x4096, .i32⟩
  | .hbm, ⟨2, _⟩ => ⟨S1x2048, .f32⟩
  | .hbm, ⟨3, _⟩ => ⟨S1x2048x5008, .f32⟩
  | .hbm, ⟨4, _⟩ => ⟨S1x256, .f32⟩
  | .hbm, ⟨5, _⟩ => ⟨S1x256x2048, .f32⟩
  | .hbm, ⟨6, _⟩ => ⟨S8192x2048, .f32⟩
  | .hbm, ⟨7, _⟩ => ⟨S8192x1, .i32⟩
  | .hbm, ⟨8, _⟩ => ⟨S2048x5008, .f32⟩
  | .hbm, ⟨9, _⟩ => ⟨S2048x320, .f32⟩
  | .hbm, ⟨10, _⟩ => ⟨S_, .f32⟩
  | .hbm, ⟨11, _⟩ => ⟨S2048x64, .f32⟩
  | .hbm, ⟨12, _⟩ => ⟨S2048x384, .f32⟩
  | .hbm, ⟨13, _⟩ => ⟨S2048x384, .bf16⟩
  | .hbm, ⟨14, _⟩ => ⟨S256x2048, .f32⟩
  | .hbm, ⟨15, _⟩ => ⟨S256x8x256, .f32⟩
  | .hbm, ⟨16, _⟩ => ⟨S256x8x128, .f32⟩
  | .hbm, ⟨17, _⟩ => ⟨S256x1024, .f32⟩
  | .hbm, ⟨18, _⟩ => ⟨S256x8x128, .f32⟩
  | .hbm, ⟨19, _⟩ => ⟨S256x1024, .f32⟩
  | .hbm, ⟨20, _⟩ => ⟨S256x2048, .f32⟩
  | .hbm, ⟨21, _⟩ => ⟨S256x2048, .bf16⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S128, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S128, .i32⟩
  | .hbm, ⟨38, _⟩ => ⟨S128, .i32⟩
  | .hbm, ⟨39, _⟩ => ⟨S_, .i32⟩
  | .hbm, ⟨40, _⟩ => ⟨S128, .i32⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S_, .i32⟩
  | .hbm, ⟨46, _⟩ => ⟨S_, .i1⟩
  | .hbm, ⟨47, _⟩ => ⟨S128, .i1⟩
  | .hbm, ⟨48, _⟩ => ⟨S128, .i1⟩
  | .hbm, ⟨49, _⟩ => ⟨S128, .i1⟩
  | .hbm, ⟨50, _⟩ => ⟨S128, .i32⟩
  | .hbm, ⟨51, _⟩ => ⟨S128, .i32⟩
  | .hbm, ⟨52, _⟩ => ⟨S128, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S128, .i32⟩
  | .hbm, ⟨60, _⟩ => ⟨S128, .i32⟩
  | .hbm, ⟨61, _⟩ => ⟨S_, .i32⟩
  | .hbm, ⟨62, _⟩ => ⟨S128, .i32⟩
  | .hbm, ⟨63, _⟩ => ⟨S128, .i1⟩
  | .hbm, ⟨64, _⟩ => ⟨S_, .i32⟩
  | .hbm, ⟨65, _⟩ => ⟨S128, .i32⟩
  | .hbm, ⟨66, _⟩ => ⟨S128, .i1⟩
  | .hbm, ⟨67, _⟩ => ⟨S_, .i32⟩
  | .hbm, ⟨68, _⟩ => ⟨S_, .i1⟩
  | .hbm, ⟨69, _⟩ => ⟨S128, .i1⟩
  | .hbm, ⟨70, _⟩ => ⟨S128, .i1⟩
  | .hbm, ⟨71, _⟩ => ⟨S128, .i1⟩
  | .hbm, ⟨72, _⟩ => ⟨S128, .i32⟩
  | .hbm, ⟨73, _⟩ => ⟨S128, .i32⟩
  | .hbm, ⟨74, _⟩ => ⟨S128, .i32⟩
  | .hbm, ⟨75, _⟩ => ⟨S_, .i32⟩
  | .hbm, ⟨76, _⟩ => ⟨S128, .i32⟩
  | .hbm, ⟨77, _⟩ => ⟨S128, .i1⟩
  | .hbm, ⟨78, _⟩ => ⟨S_, .i32⟩
  | .hbm, ⟨79, _⟩ => ⟨S128, .i32⟩
  | .hbm, ⟨80, _⟩ => ⟨S128, .i32⟩
  | .hbm, ⟨81, _⟩ => ⟨S128, .i32⟩
  | .hbm, ⟨82, _⟩ => ⟨S128x1, .i32⟩
  | .hbm, ⟨83, _⟩ => ⟨S128, .f32⟩
  | .hbm, ⟨84, _⟩ => ⟨S1x128, .f32⟩
  | .hbm, ⟨85, _⟩ => ⟨S8192x2048, .bf16⟩
  | .hbm, ⟨86, _⟩ => ⟨S8192x1024, .bf16⟩
  | .local _ .vmem, ⟨0, _⟩ => ⟨S512x2048, .f32⟩
  | .local _ .vmem, ⟨1, _⟩ => ⟨S512x2048, .f32⟩
  | .local _ .vmem, ⟨2, _⟩ => ⟨S512x1, .i32⟩
  | .local _ .vmem, ⟨3, _⟩ => ⟨S512x1, .i32⟩
  | .local _ .vmem, ⟨4, _⟩ => ⟨S1x2048, .f32⟩
  | .local _ .vmem, ⟨5, _⟩ => ⟨S2048x384, .bf16⟩
  | .local _ .vmem, ⟨6, _⟩ => ⟨S1x256, .f32⟩
  | .local _ .vmem, ⟨7, _⟩ => ⟨S256x2048, .bf16⟩
  | .local _ .vmem, ⟨8, _⟩ => ⟨S1x128, .f32⟩
  | .local _ .vmem, ⟨9, _⟩ => ⟨S512x2048, .bf16⟩
  | .local _ .vmem, ⟨10, _⟩ => ⟨S512x2048, .bf16⟩
  | .local _ .vmem, ⟨11, _⟩ => ⟨S512x1024, .bf16⟩
  | .local _ .vmem, ⟨12, _⟩ => ⟨S512x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_call0_v0 : Ref sig .tc := ⟨.hbm, 32, rfl⟩
abbrev main_call0_c : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_1 : Ref sig .tc := ⟨.hbm, 39, rfl⟩
abbrev main_call0_v5 : Ref sig .tc := ⟨.hbm, 40, rfl⟩
abbrev main_call0_v6 : Ref sig .tc := ⟨.hbm, 41, rfl⟩
abbrev main_call0_c_2 : Ref sig .tc := ⟨.hbm, 42, rfl⟩
abbrev main_call0_v7 : Ref sig .tc := ⟨.hbm, 43, rfl⟩
abbrev main_call0_v8 : Ref sig .tc := ⟨.hbm, 44, rfl⟩
abbrev main_call0_c_3 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_v22 : Ref sig .tc := ⟨.hbm, 52, rfl⟩
abbrev main_c_2 : Ref sig .tc := ⟨.hbm, 53, rfl⟩
abbrev main_call1_v0 : Ref sig .tc := ⟨.hbm, 54, rfl⟩
abbrev main_call1_c : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_c_1 : Ref sig .tc := ⟨.hbm, 61, rfl⟩
abbrev main_call1_v5 : Ref sig .tc := ⟨.hbm, 62, rfl⟩
abbrev main_call1_v6 : Ref sig .tc := ⟨.hbm, 63, rfl⟩
abbrev main_call1_c_2 : Ref sig .tc := ⟨.hbm, 64, rfl⟩
abbrev main_call1_v7 : Ref sig .tc := ⟨.hbm, 65, rfl⟩
abbrev main_call1_v8 : Ref sig .tc := ⟨.hbm, 66, rfl⟩
abbrev main_call1_c_3 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_v23 : Ref sig .tc := ⟨.hbm, 74, rfl⟩
abbrev main_c_3 : Ref sig .tc := ⟨.hbm, 75, rfl⟩
abbrev main_v24 : Ref sig .tc := ⟨.hbm, 76, rfl⟩
abbrev main_v25 : Ref sig .tc := ⟨.hbm, 77, rfl⟩
abbrev main_c_4 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32_0 : Ref sig .tc := ⟨.hbm, 85, rfl⟩
abbrev main_v32_1 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KeyValueRefIdeal.lean ====
abbrev S2x4096x2048 : Shape := ⟨3, ![2, 4096, 2048]⟩
abbrev S2x4096 : Shape := ⟨2, ![2, 4096]⟩
abbrev S1x2048 : Shape := ⟨2, ![1, 2048]⟩
abbrev S1x2048x5008 : Shape := ⟨3, ![1, 2048, 5008]⟩
abbrev S1x256 : Shape := ⟨2, ![1, 256]⟩
abbrev S1x256x2048 : Shape := ⟨3, ![1, 256, 2048]⟩
abbrev S2048 : Shape := ⟨1, ![2048]⟩
abbrev S_ : Shape := ⟨0, ![]⟩
abbrev S2x4096x1 : Shape := ⟨3, ![2, 4096, 1]⟩
abbrev S1x1x2048 : Shape := ⟨3, ![1, 1, 2048]⟩
abbrev S2048x5008 : Shape := ⟨2, ![2048, 5008]⟩
abbrev S2x4096x5008 : Shape := ⟨3, ![2, 4096, 5008]⟩
abbrev S2x4096x64 : Shape := ⟨3, ![2, 4096, 64]⟩
abbrev S2x4096x1x64 : Shape := ⟨4, ![2, 4096, 1, 64]⟩
abbrev S32 : Shape := ⟨1, ![32]⟩
abbrev S1x1x32 : Shape := ⟨3, ![1, 1, 32]⟩
abbrev S2x4096x32 : Shape := ⟨3, ![2, 4096, 32]⟩
abbrev S2x4096x1x32 : Shape := ⟨4, ![2, 4096, 1, 32]⟩
abbrev S2x4096x256 : Shape := ⟨3, ![2, 4096, 256]⟩
abbrev S256 : Shape := ⟨1, ![256]⟩
abbrev S1x1x256 : Shape := ⟨3, ![1, 1, 256]⟩
abbrev S256x2048 : Shape := ⟨2, ![256, 2048]⟩
abbrev S2x4096x8x256 : Shape := ⟨4, ![2, 4096, 8, 256]⟩
abbrev S2x4096x8x128 : Shape := ⟨4, ![2, 4096, 8, 128]⟩
abbrev S2x4096x8x64 : Shape := ⟨4, ![2, 4096, 8, 64]⟩
abbrev S8192x2048 : Shape := ⟨2, ![8192, 2048]⟩
abbrev S8192x1024 : Shape := ⟨2, ![8192, 1024]⟩

abbrev nBuf : Space → Nat
  | .hbm => 84
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096, .i32⟩
  | .hbm, ⟨2, _⟩ => ⟨S1x2048, .f32⟩
  | .hbm, ⟨3, _⟩ => ⟨S1x2048x5008, .f32⟩
  | .hbm, ⟨4, _⟩ => ⟨S1x256, .f32⟩
  | .hbm, ⟨5, _⟩ => ⟨S1x256x2048, .f32⟩
  | .hbm, ⟨6, _⟩ => ⟨S2048, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S2048x5008, .f32⟩
  | .hbm, ⟨24, _⟩ => ⟨S2x4096x5008, .f32⟩
  | .hbm, ⟨25, _⟩ => ⟨S2x4096x64, .f32⟩
  | .hbm, ⟨26, _⟩ => ⟨S2x4096x1x64, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S2x4096, .f32⟩
  | .hbm, ⟨36, _⟩ => ⟨S2x4096x1, .f32⟩
  | .hbm, ⟨37, _⟩ => ⟨S1x1x32, .f32⟩
  | .hbm, ⟨38, _⟩ => ⟨S2x4096x32, .f32⟩
  | .hbm, ⟨39, _⟩ => ⟨S2x4096x32, .f32⟩
  | .hbm, ⟨40, _⟩ => ⟨S2x4096x32, .f32⟩
  | .hbm, ⟨41, _⟩ => ⟨S2x4096x1x32, .f32⟩
  | .hbm, ⟨42, _⟩ => ⟨S2x4096x1x32, .f32⟩
  | .hbm, ⟨43, _⟩ => ⟨S2x4096x1x32, .f32⟩
  | .hbm, ⟨44, _⟩ => ⟨S2x4096x1x32, .f32⟩
  | .hbm, ⟨45, _⟩ => ⟨S2x4096x1x32, .f32⟩
  | .hbm, ⟨46, _⟩ => ⟨S2x4096x1x32, .f32⟩
  | .hbm, ⟨47, _⟩ => ⟨S2x4096x1x32, .f32⟩
  | .hbm, ⟨48, _⟩ => ⟨S2x4096x1x32, .f32⟩
  | .hbm, ⟨49, _⟩ => ⟨S2x4096x1x32, .f32⟩
  | .hbm, ⟨50, _⟩ => ⟨S2x4096x1x32, .f32⟩
  | .hbm, ⟨51, _⟩ => ⟨S2x4096x1x32, .f32⟩
  | .hbm, ⟨52, _⟩ => ⟨S2x4096x1x64, .f32⟩
  | .hbm, ⟨53, _⟩ => ⟨S2x4096x256, .f32⟩
  | .hbm, ⟨54, _⟩ => ⟨S256, .f32⟩
  | .hbm, ⟨55, _⟩ => ⟨S2x4096x256, .f32⟩
  | .hbm, ⟨56, _⟩ => ⟨S_, .f32⟩
  | .hbm, ⟨57, _⟩ => ⟨S2x4096, .f32⟩
  | .hbm, ⟨58, _⟩ => ⟨S2x4096x1, .f32⟩
  | .hbm, ⟨59, _⟩ => ⟨S_, .f32⟩
  | .hbm, ⟨60, _⟩ => ⟨S2x4096x1, .f32⟩
  | .hbm, ⟨61, _⟩ => ⟨S2x4096x1, .f32⟩
  | .hbm, ⟨62, _⟩ => ⟨S_, .f32⟩
  | .hbm, ⟨63, _⟩ => ⟨S2x4096x1, .f32⟩
  | .hbm, ⟨64, _⟩ => ⟨S2x4096x1, .f32⟩
  | .hbm, ⟨65, _⟩ => ⟨S2x4096x1, .f32⟩
  | .hbm, ⟨66, _⟩ => ⟨S2x4096x256, .f32⟩
  | .hbm, ⟨67, _⟩ => ⟨S2x4096x256, .f32⟩
  | .hbm, ⟨68, _⟩ => ⟨S1x1x256, .f32⟩
  | .hbm, ⟨69, _⟩ => ⟨S2x4096x256, .f32⟩
  | .hbm, ⟨70, _⟩ => ⟨S2x4096x256, .f32⟩
  | .hbm, ⟨71, _⟩ => ⟨S256x2048, .f32⟩
  | .hbm, ⟨72, _⟩ => ⟨S2x4096x2048, .f32⟩
  | .hbm, ⟨73, _⟩ => ⟨S2x4096x8x256, .f32⟩
  | .hbm, ⟨74, _⟩ => ⟨S2x4096x8x128, .f32⟩
  | .hbm, ⟨75, _⟩ => ⟨S2x4096x8x64, .f32⟩
  | .hbm, ⟨76, _⟩ => ⟨S_, .f32⟩
  | .hbm, ⟨77, _⟩ => ⟨S2x4096x8x64, .f32⟩
  | .hbm, ⟨78, _⟩ => ⟨S2x4096x8x256, .f32⟩
  | .hbm, ⟨79, _⟩ => ⟨S8192x2048, .f32⟩
  | .hbm, ⟨80, _⟩ => ⟨S8192x2048, .bf16⟩
  | .hbm, ⟨81, _⟩ => ⟨S2x4096x8x128, .f32⟩
  | .hbm, ⟨82, _⟩ => ⟨S8192x1024, .f32⟩
  | .hbm, ⟨83, _⟩ => ⟨S8192x1024, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_cst_5 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_7 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩

abbrev nD : Nat := 1
abbrev τ : Topo := Topo.v7x

variable {F : FTy → Type} [FloatOps F]
-- ==== Memory.lean ====
abbrev S2x256x2048 : Shape := ⟨3, ![2, 256, 2048]⟩
abbrev S1x2048 : Shape := ⟨2, ![1, 2048]⟩
abbrev S1x2048x512 : Shape := ⟨3, ![1, 2048, 512]⟩
abbrev S2048x512 : Shape := ⟨2, ![2048, 512]⟩
abbrev S2x256x512 : Shape := ⟨3, ![2, 256, 512]⟩
abbrev S1x256x2048 : Shape := ⟨3, ![1, 256, 2048]⟩
abbrev S1x256x512 : Shape := ⟨3, ![1, 256, 512]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩

abbrev nBuf : Space → Nat
  | .hbm => 10
  | .vmem => 9
  | .smem => 0
  | _ => 0

abbrev bufTy : (tb : Table) → Fin (tcTables nBuf tb) → BufTy
  | .hbm, ⟨0, _⟩ => ⟨S2x256x2048, .f32⟩
  | .hbm, ⟨1, _⟩ => ⟨S1x2048, .f32⟩
  | .hbm, ⟨2, _⟩ => ⟨S1x2048x512, .f32⟩
  | .hbm, ⟨3, _⟩ => ⟨S1x2048x512, .f32⟩
  | .hbm, ⟨4, _⟩ => ⟨S2048x512, .f32⟩
  | .hbm, ⟨5, _⟩ => ⟨S2048x512, .bf16⟩
  | .hbm, ⟨6, _⟩ => ⟨S2048x512, .f32⟩
  | .hbm, ⟨7, _⟩ => ⟨S2048x512, .bf16⟩
  | .hbm, ⟨8, _⟩ => ⟨S2x256x512, .bf16⟩
  | .hbm, ⟨9, _⟩ => ⟨S2x256x512, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemoryRefIdeal.lean ====
abbrev S2x256x2048 : Shape := ⟨3, ![2, 256, 2048]⟩
abbrev S1x2048 : Shape := ⟨2, ![1, 2048]⟩
abbrev S1x2048x512 : Shape := ⟨3, ![1, 2048, 512]⟩
abbrev S2048 : Shape := ⟨1, ![2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2048x512 : Shape := ⟨2, ![2048, 512]⟩
abbrev S2x256x512 : Shape := ⟨3, ![2, 256, 512]⟩

abbrev nBuf : Space → Nat
  | .hbm => 27
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S1x2048, .f32⟩
  | .hbm, ⟨2, _⟩ => ⟨S1x2048x512, .f32⟩
  | .hbm, ⟨3, _⟩ => ⟨S1x2048x512, .f32⟩
  | .hbm, ⟨4, _⟩ => ⟨S2048, .f32⟩
  | .hbm, ⟨5, _⟩ => ⟨S2x256x2048, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x2048, .f32⟩
  | .hbm, ⟨17, _⟩ => ⟨S2x256x2048, .f32⟩
  | .hbm, ⟨18, _⟩ => ⟨S1x1x2048, .f32⟩
  | .hbm, ⟨19, _⟩ => ⟨S2x256x2048, .f32⟩
  | .hbm, ⟨20, _⟩ => ⟨S2x256x2048, .f32⟩
  | .hbm, ⟨21, _⟩ => ⟨S2048x512, .f32⟩
  | .hbm, ⟨22, _⟩ => ⟨S2x256x512, .f32⟩
  | .hbm, ⟨23, _⟩ => ⟨S2x256x512, .bf16⟩
  | .hbm, ⟨24, _⟩ => ⟨S2048x512, .f32⟩
  | .hbm, ⟨25, _⟩ => ⟨S2x256x512, .f32⟩
  | .hbm, ⟨26, _⟩ => ⟨S2x256x512, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proof.AttnOpen.lean ====
/-
  What the attention kernel's body leaves behind at one grid point, as a function of the point's blocks of queries, keys
  and values: a running maximum, denominator and numerator, started at minus infinity and zeros, taken past the key tiles
  before the query tile's own one after the other, then past the query tile's own under its mask, and divided.
-/
module

public import proofs.«01_k».proof.Proof.Gen.AttnIdeal.Value
public import Idealize.ShloMosaic.Lib.Pointwise
public import Idealize.ShloMosaic.Lib.WritesUnit
public import Idealize.ShloMosaic.Lib.LoopRemainder

@[expose] public section

set_option maxRecDepth 16384

noncomputable section

namespace Cert.AttnIdeal.Open

open Cert.AttnIdeal Cert.AttnIdeal.Gen Idealize.ShloMosaic Idealize.ShloMosaic.TcCoe Idealize.SL.Sem

variable {F : FTy → Type} [FloatOps F] [Named F]

/-- Whole-buffer accesses start at the origin. -/
theorem hz : (![0, 0] : Fin 2 → Nat) = fun _ => 0 := funext fun a => by fin_cases a <;> rfl
theorem hz3 : (![0, 0, 0] : Fin 3 → Nat) = fun _ => 0 := funext fun a => by fin_cases a <;> rfl

/-- A whole-buffer store, the newest of a list, reads back as what it stored. -/
theorem read_newest {sig' : RefSig} {κ : Kind} {sp : Space} {S : Shape} {e : EltTy} {Val : EltTy → Type} (v : View sig' κ sp S e) (f : v.ty.Contents Val)
    {off : Fin S.rank → Nat} (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w :=
  funext fun y => View.read_writes_cons_unit_of_mem v f inb w L y y h fun a => (Nat.zero_add _).symm

/-- The running maximum, denominator and numerator of a query tile. -/
abbrev St (F : FTy → Type) := Vec F S512x1 .f32 × Vec F S512x1 .f32 × Vec F S512x128 .f32

/-- At the start: minus infinity, zero, zeros. -/
def start : St F := (k0_pay15, k0_pay16, k0_pay17)
/-- Past a key tile every key of which is allowed. -/
def step (q : Vec F S512x256 .bf16) (K : Vec F S1x512x256 .bf16) (V : Vec F S1x512x128 .bf16) (s : St F) : St F :=
  (k0_pay18 (k0_pay3 q K s.1), k0_pay6 q K s.1 s.2.1, k0_pay7 q K V s.1 s.2.2)
/-- The masked scores' chunk number of the query. -/
def rowChunk : IVec S512x512 32 := k0_pay24 (iota Kind.tc S512x1 32 [0] iota_S512x1_d0_w32) 64#32 k0_pay20 k0_pay21
/-- The result past the query tile's own keys: numerator over denominator. -/
def finish (q : Vec F S512x256 .bf16) (K : Vec F S1x512x256 .bf16) (V : Vec F S1x512x128 .bf16) (s : St F) : Vec F S1x512x128 .bf16 :=
  k0_pay1 (k0_pay30 (k0_pay22 q K) k0_pay23 rowChunk V s.1 s.2.2) (k0_pay29 (k0_pay22 q K) k0_pay23 rowChunk s.1 s.2.1)

variable (c : Dev nD) (i : grid0.Coords)

/-- Key and value tile of a trip, and of the query tile itself. -/
def tileK (x1 : Vec F S1x4096x256 .bf16) (k : Fin (k0_t1_loop i).trips) : Vec F S1x512x256 .bf16 := View.ld x1 (Rect.unit (k0_off1 i k) S1x512x256.size (k0_off1_inb i k))
def tileV (x2 : Vec F S1x4096x128 .bf16) (k : Fin (k0_t1_loop i).trips) : Vec F S1x512x128 .bf16 := View.ld x2 (Rect.unit (k0_off2 i k) S1x512x128.size (k0_off2_inb i k))
def ownK (x1 : Vec F S1x4096x256 .bf16) : Vec F S1x512x256 .bf16 := View.ld x1 (Rect.unit (k0_off5 i) S1x512x256.size (k0_off5_inb i))
def ownV (x2 : Vec F S1x4096x128 .bf16) : Vec F S1x512x128 .bf16 := View.ld x2 (Rect.unit (k0_off6 i) S1x512x128.size (k0_off6_inb i))

/-- The state after the first `k` key tiles. -/
def st (x0 : Vec F S1x512x256 .bf16) (x1 : Vec F S1x4096x256 .bf16) (x2 : Vec F S1x4096x128 .bf16) : ℕ → St F
  | 0 => start
  | k + 1 => if h : k < (k0_t1_loop i).trips then step (k0_pay14 x0) (tileK i x1 ⟨k, h⟩) (tileV i x2 ⟨k, h⟩) (st x0 x1 x2 k) else st x0 x1 x2 k

variable (a3 : Memref sig .tc .vmem S1x512x256 .bf16) (h3 : a3.IsWhole) (a4 : Memref sig .tc .vmem S1x4096x256 .bf16) (h4 : a4.IsWhole) (a5 : Memref sig .tc .vmem S1x4096x128 .bf16) (h5 : a5.IsWhole) (a6 : Memref sig .tc .vmem S1x512x128 .bf16) (h6 : a6.IsWhole) (a7 : Memref sig .tc .vmem S512x1 .f32) (h7 : a7.IsWhole) (a8 : Memref sig .tc .vmem S512x1 .f32) (h8 : a8.IsWhole) (a9 : Memref sig .tc .vmem S512x128 .f32) (h9 : a9.IsWhole)
variable (x0 : Vec F S1x512x256 .bf16) (x1 : Vec F S1x4096x256 .bf16) (x2 : Vec F S1x4096x128 .bf16)

/-- One trip stores the step's three values over what it finds. -/
theorem trip_pieces (k : Fin (k0_t1_loop i).trips)
    (f7 : BufTy.Contents (Elt F) a7.view.ty) (f8 : BufTy.Contents (Elt F) a8.view.ty) (f9 : BufTy.Contents (Elt F) a9.view.ty) :
    tripL_k0_t1 Variants.none c none i a3 h3 a4 h4 a5 h5 a6 h6 a7 h7 a8 h8 a9 h9 x0 (h4.unread x1) (h5.unread x2) k f7 f8 f9
      = ([⟨Rect.unit ![0, 0] S512x1.size inb_S512x1_S512x1_0_0, (step (k0_pay14 x0) (tileK i x1 k) (tileV i x2 k) (a7.view.read _ f7, a8.view.read _ f8, a9.view.read _ f9)).1⟩],
         [⟨Rect.unit ![0, 0] S512x1.size inb_S512x1_S512x1_0_0, (step (k0_pay14 x0) (tileK i x1 k) (tileV i x2 k) (a7.view.read _ f7, a8.view.read _ f8, a9.view.read _ f9)).2.1⟩],
         [⟨Rect.unit ![0, 0] S512x128.size inb_S512x128_S512x128_0_0, (step (k0_pay14 x0) (tileK i x1 k) (tileV i x2 k) (a7.view.read _ f7, a8.view.read _ f8, a9.view.read _ f9)).2.2⟩]) := by
  unfold tripL_k0_t1 trip_k0_t1
  dsimp only
  sl_unfold_words
  simp only [View.readAt_eq_ld, h4.read_unread, h5.read_unread, View.ld_unit_zero (S := S512x1) hz, View.ld_unit_zero (S := S512x128) hz]
  rfl

/-- The scratch buffers after the first `k` trips hold the state. -/
theorem loop_reads (G7 : BufTy.Contents (Elt F) a7.view.ty) (G8 : BufTy.Contents (Elt F) a8.view.ty) (G9 : BufTy.Contents (Elt F) a9.view.ty)
    (e7 : a7.view.read _ G7 = k0_pay15) (e8 : a8.view.read _ G8 = k0_pay16) (e9 : a9.view.read _ G9 = k0_pay17) : ∀ k : ℕ, k ≤ (k0_t1_loop i).trips →
    (a7.view.read (Elt F) (a7.view.writes (Elt F) G7 (pb_k0_t1 Variants.none c none i a3 h3 a4 h4 a5 h5 a6 h6 a7 h7 a8 h8 a9 h9 x0 (h4.unread x1) (h5.unread x2) G7 G8 G9 k).1),
     a8.view.read (Elt F) (a8.view.writes (Elt F) G8 (pb_k0_t1 Variants.none c none i a3 h3 a4 h4 a5 h5 a6 h6 a7 h7 a8 h8 a9 h9 x0 (h4.unread x1) (h5.unread x2) G7 G8 G9 k).2.1),
     a9.view.read (Elt F) (a9.view.writes (Elt F) G9 (pb_k0_t1 Variants.none c none i a3 h3 a4 h4 a5 h5 a6 h6 a7 h7 a8 h8 a9 h9 x0 (h4.unread x1) (h5.unread x2) G7 G8 G9 k).2.2)) = st i x0 x1 x2 k
  | 0, _ => by
    show (a7.view.read _ G7, a8.view.read _ G8, a9.view.read _ G9) = start
    rw [e7, e8, e9]; rfl
  | k + 1, hk => by
    have ih := loop_reads G7 G8 G9 e7 e8 e9 k (Nat.le_of_succ_le hk)
    rw [pb_k0_t1_succ Variants.none c none i a3 h3 a4 h4 a5 h5 a6 h6 a7 h7 a8 h8 a9 h9 x0 (h4.unread x1) (h5.unread x2) G7 G8 G9 ⟨k, hk⟩]
    rw [trip_pieces, ih]
    dsimp only [List.singleton_append]
    rw [read_newest (S := S512x1) _ _ hz, read_newest (S := S512x1) _ _ hz, read_newest (S := S512x128) _ _ hz]
    rw [show st i x0 x1 x2 (k + 1) = step (k0_pay14 x0) (tileK i x1 ⟨k, hk⟩) (tileV i x2 ⟨k, hk⟩) (st i x0 x1 x2 k) from dif_pos hk]

/-- THE BODY'S RESULT at a grid point. -/
theorem out_eq : out0_A_3 c i a3 h3 a4 h4 a5 h5 a6 h6 a7 h7 a8 h8 a9 h9 x0 x1 x2
      = finish (k0_pay14 x0) (ownK i x1) (ownV i x2) (st i x0 x1 x2 (k0_t1_loop i).trips) := by
  unfold out0_A_3
  rw [View.read_writes_eq_canon _ _ _ (cover0_A_3 c i a3 h3 a4 h4 a5 h5 a6 h6 a7 h7 a8 h8 a9 h9 x0 x1 x2)]
  unfold kernelRun0_A
  dsimp only
  sl_unfold_words
  rw [View.canon_unit_zero (S := S1x512x128) hz3]
  have hn : Scf.trips (k0_t2_loop i).lb (k0_t2_loop i).ub (k0_t2_loop i).st = 0 := Scf.rem_trips _ _
  rw [hn]
  have hP2 : ∀ (v0 : Vec F S1x512x256 .bf16) (b : BitVec 32) (X4 : BufTy.Contents (Elt F) a4.view.ty) (X5 : BufTy.Contents (Elt F) a5.view.ty) (G7 : BufTy.Contents (Elt F) a7.view.ty) (G8 : BufTy.Contents (Elt F) a8.view.ty) (G9 : BufTy.Contents (Elt F) a9.view.ty),
      pb_k0_t2 Variants.none c none i a3 h3 a4 h4 a5 h5 a6 h6 a7 h7 a8 h8 a9 h9 v0 b X4 X5 G7 G8 G9 0 = ([], [], []) := fun _ _ _ _ _ _ _ => rfl
  simp only [hP2, List.nil_append]
  have hq : View.readAt (Elt F) a3.view (Rect.unit ![0, 0, 0] S1x512x256.size inb_S1x512x256_S1x512x256_0_0_0).toLoadRect (h3.unread x0) = x0 := by
    rw [View.readAt_eq_ld, h3.read_unread, View.ld_unit_zero (S := S1x512x256) hz3]
  rw [hq]
  have H := loop_reads c i a3 h3 a4 h4 a5 h5 a6 h6 a7 h7 a8 h8 a9 h9 x0 x1 x2
    (a7.view.writes (Elt F) a7.view.junk [⟨Rect.unit ![0, 0] S512x1.size inb_S512x1_S512x1_0_0, k0_pay15⟩])
    (a8.view.writes (Elt F) a8.view.junk [⟨Rect.unit ![0, 0] S512x1.size inb_S512x1_S512x1_0_0, k0_pay16⟩])
    (a9.view.writes (Elt F) a9.view.junk [⟨Rect.unit ![0, 0] S512x128.size inb_S512x128_S512x128_0_0, k0_pay17⟩])
    (read_newest (S := S512x1) _ _ hz _ _ _) (read_newest (S := S512x1) _ _ hz _ _ _) (read_newest (S := S512x128) _ _ hz _ _ _) (k0_t1_loop i).trips (le_refl _)
  have H7 := congrArg (fun p => p.1) H
  have H8 := congrArg (fun p => p.2.1) H
  have H9 := congrArg (fun p => p.2.2) H
  dsimp only at H7 H8 H9
  generalize pb_k0_t1 (F := F) Variants.none c none i a3 h3 a4 h4 a5 h5 a6 h6 a7 h7 a8 h8 a9 h9 x0 (h4.unread x1) (h5.unread x2) _ _ _ _ = P at H7 H8 H9 ⊢
  simp only [View.readCov, View.writes_append, View.readAt_eq_ld, h4.read_unread, h5.read_unread, read_newest (S := S512x1) _ _ hz, read_newest (S := S512x128) _ _ hz,
    View.ld_unit_zero (S := S512x1) hz, View.ld_unit_zero (S := S512x128) hz]
  rw [H7, H8, H9]
  rfl

end Cert.AttnIdeal.Open

end
-- ==== Proof.Softmax.lean ====
/-
  The softmax average by an online sum, over the extended reals. For scores `f` and values `v` numbered by the natural
  numbers: the largest of the first `n` scores, the sum of their exponentials relative to it, and the same sum weighted
  by the values, each of which is passed from `a` keys to `a + b` keys by rescaling what stands and adding `b` terms. The
  quotient of the last two is the average with the softmax weights over any longer range whose further scores are
  minus infinity. Scores are never plus infinity; values are arbitrary.
-/
module

public import Idealize.ShloMosaic.PureOps.Ideal

@[expose] public section

noncomputable section

namespace Cert.Softmax

open Idealize.ShloMosaic

/-- An exponential relative to a real number is a nonnegative real. -/
theorem exp_sub_real {x : EReal} (hx : x ≠ ⊤) (r : ℝ) : ∃ e : ℝ, 0 ≤ e ∧ Ideal.exp (x - (r : EReal)) = (e : EReal) := by
  induction x with
  | bot => exact ⟨0, le_refl _, by rw [EReal.bot_sub]; rfl⟩
  | top => exact absurd rfl hx
  | coe x => exact ⟨Real.exp (x - r), (Real.exp_pos _).le, by rw [← EReal.coe_sub]; rfl⟩

/-- The exponential of minus infinity relative to a real is zero. -/
theorem exp_bot_sub (r : ℝ) : Ideal.exp (⊥ - (r : EReal)) = 0 := by rw [EReal.bot_sub]; rfl

/-- Rescaling: relative to `M`, then from `M` to the real `r`. -/
theorem rescale {x M : EReal} {r : ℝ} (hx : x ≤ M) (hM : M ≤ (r : EReal)) :
    Ideal.exp (M - (r : EReal)) * Ideal.exp (x - M) = Ideal.exp (x - (r : EReal)) := by
  induction M with
  | bot => rw [exp_bot_sub, zero_mul, le_bot_iff.mp hx, exp_bot_sub]
  | top => exact absurd (top_le_iff.mp hM) (EReal.coe_ne_top r)
  | coe M =>
    induction x with
    | bot => rw [exp_bot_sub, mul_zero, exp_bot_sub]
    | top => exact absurd (top_le_iff.mp hx) (EReal.coe_ne_top M)
    | coe x =>
      rw [← EReal.coe_sub, ← EReal.coe_sub, ← EReal.coe_sub]
      simp only [Ideal.exp_coe]
      rw [← EReal.coe_mul, ← Real.exp_add]
      congr 2
      ring

/-- A nonnegative real factor passes into a sum of extended reals. -/
theorem real_mul_sum {ι : Type*} {e : ℝ} (he : 0 ≤ e) (S : Finset ι) (g : ι → EReal) :
    (e : EReal) * ∑ k ∈ S, g k = ∑ k ∈ S, (e : EReal) * g k := by
  classical
  induction S using Finset.induction_on with
  | empty => simp
  | insert a S ha ih =>
    rw [Finset.sum_insert ha, Finset.sum_insert ha, ← ih]
    exact EReal.left_distrib_of_nonneg_of_ne_top (EReal.coe_nonneg.mpr he) (EReal.coe_ne_top e) _ _

/-- A sum of reals is the sum of its terms as extended reals. -/
theorem coe_sum {ι : Type*} (S : Finset ι) (e : ι → ℝ) : ((∑ k ∈ S, e k : ℝ) : EReal) = ∑ k ∈ S, (e k : EReal) := by
  classical
  induction S using Finset.induction_on with
  | empty => simp
  | insert a S ha ih => rw [Finset.sum_insert ha, Finset.sum_insert ha, ← ih, EReal.coe_add]

variable (f v : ℕ → EReal)

/-- The largest of the first `n` scores. -/
def mx (n : ℕ) : EReal := (Finset.range n).sup f
/-- The sum of the first `n` exponentials relative to the largest score. -/
def den (n : ℕ) : EReal := ∑ k ∈ Finset.range n, Ideal.exp (f k - mx f n)
/-- The same sum weighted by the values. -/
def num (n : ℕ) : EReal := ∑ k ∈ Finset.range n, Ideal.exp (f k - mx f n) * v k

variable {f v}

theorem le_mx {n k : ℕ} (hk : k < n) : f k ≤ mx f n := Finset.le_sup (f := f) (Finset.mem_range.mpr hk)

theorem mx_mono {n k : ℕ} (hk : n ≤ k) : mx f n ≤ mx f k :=
  Finset.sup_mono (fun _ h => Finset.mem_range.mpr ((Finset.mem_range.mp h).trans_le hk))

/-- The largest score, from the largest of the first `a` and the largest of the next `b`. -/
theorem mx_add (a b : ℕ) : mx f (a + b) = max (mx f a) (Finset.univ.sup fun u : Fin b => f (a + u.val)) := by
  apply le_antisymm
  · refine Finset.sup_le fun k hk => ?_
    have hk := Finset.mem_range.mp hk
    by_cases h : k < a
    · exact le_max_of_le_left (le_mx h)
    · refine le_max_of_le_right ?_
      have := Finset.le_sup (f := fun u : Fin b => f (a + u.val)) (Finset.mem_univ ⟨k - a, by omega⟩)
      rwa [show a + (k - a) = k by omega] at this
  · exact max_le (mx_mono (Nat.le_add_right a b)) (Finset.sup_le fun u _ => le_mx (by omega))

/-- The largest score is a real once one of the scores is and none is plus infinity. -/
theorem mx_real {n k : ℕ} (hf : ∀ j < n, f j ≠ ⊤) (hk : k < n) (hb : f k ≠ ⊥) :
    ∃ r : ℝ, mx f n = (r : EReal) ∧ ∃ j < n, f j = (r : EReal) := by
  obtain ⟨j, hj, e⟩ := Finset.exists_mem_eq_sup (Finset.range n) ⟨k, Finset.mem_range.mpr hk⟩ f
  have hj := Finset.mem_range.mp hj
  have h0 : f j ≠ ⊥ := fun h => hb (le_bot_iff.mp ((le_mx hk).trans (le_of_eq (e.trans h))))
  have hc : ((f j).toReal : EReal) = f j := EReal.coe_toReal (hf j hj) h0
  exact ⟨(f j).toReal, e.trans hc.symm, j, hj, hc.symm⟩

/-- The sum of exponentials after `b` more keys. -/
theorem den_add {a b : ℕ} {r : ℝ} (hr : mx f (a + b) = (r : EReal)) (hf : ∀ j < a + b, f j ≠ ⊤) :
    Ideal.exp (mx f a - (r : EReal)) * den f a + ∑ u : Fin b, Ideal.exp (f (a + u.val) - (r : EReal)) = den f (a + b) := by
  have hM : mx f a ≤ (r : EReal) := (mx_mono (Nat.le_add_right a b)).trans_eq hr
  obtain ⟨e, he, h⟩ := exp_sub_real (x := mx f a) (fun h => EReal.coe_ne_top r (top_le_iff.mp (h ▸ hM))) r
  unfold den
  rw [Finset.sum_range_add, hr, h, real_mul_sum he, ← h, Finset.sum_range (n := b)]
  congr 1
  exact Finset.sum_congr rfl fun k hk => rescale (le_mx (Finset.mem_range.mp hk)) hM

/-- The weighted sum after `b` more keys. -/
theorem num_add {a b : ℕ} {r : ℝ} (hr : mx f (a + b) = (r : EReal)) (hf : ∀ j < a + b, f j ≠ ⊤) :
    Ideal.exp (mx f a - (r : EReal)) * num f v a + ∑ u : Fin b, Ideal.exp (f (a + u.val) - (r : EReal)) * v (a + u.val)
      = num f v (a + b) := by
  have hM : mx f a ≤ (r : EReal) := (mx_mono (Nat.le_add_right a b)).trans_eq hr
  obtain ⟨e, he, h⟩ := exp_sub_real (x := mx f a) (fun h => EReal.coe_ne_top r (top_le_iff.mp (h ▸ hM))) r
  unfold num
  rw [Finset.sum_range_add, hr, h, real_mul_sum he, ← h, Finset.sum_range (n := b)]
  congr 1
  refine Finset.sum_congr rfl fun k hk => ?_
  rw [← mul_assoc, rescale (le_mx (Finset.mem_range.mp hk)) hM]

/-- A tile of `b` keys, its scores `t` and values `w`: the maximum, the sum of exponentials and the weighted sum pass
    over it together. -/
theorem tile {a b k : ℕ} {t w : Fin b → EReal} (ht : ∀ u, t u = f (a + u.val)) (hw : ∀ u, w u = v (a + u.val))
    (hf : ∀ j < a + b, f j ≠ ⊤) (hk : k < a + b) (hb : f k ≠ ⊥) :
    max (mx f a) (Finset.univ.fold max ⊥ t) = mx f (a + b)
    ∧ Ideal.exp (mx f a - mx f (a + b)) * den f a + ∑ u, Ideal.exp (t u - mx f (a + b)) = den f (a + b)
    ∧ Ideal.exp (mx f a - mx f (a + b)) * num f v a + ∑ u, Ideal.exp (t u - mx f (a + b)) * w u = num f v (a + b) := by
  obtain ⟨r, hr, -⟩ := mx_real hf hk hb
  obtain rfl : t = fun u => f (a + u.val) := funext ht
  obtain rfl : w = fun u => v (a + u.val) := funext hw
  refine ⟨(mx_add a b).symm, ?_, ?_⟩
  · rw [hr]; exact den_add hr hf
  · rw [hr]; exact num_add hr hf

/-- The sum of exponentials is a positive real. -/
theorem den_real {n : ℕ} {r : ℝ} (hr : mx f n = (r : EReal)) (hf : ∀ j < n, f j ≠ ⊤) (ha : ∃ j < n, f j = (r : EReal)) :
    ∃ d : ℝ, 0 < d ∧ den f n = (d : EReal) := by
  have h : ∀ k : ℕ, ∃ e : ℝ, 0 ≤ e ∧ (k < n → Ideal.exp (f k - (r : EReal)) = (e : EReal)) := fun k => by
    by_cases hk : k < n
    · obtain ⟨e, he, h⟩ := exp_sub_real (hf k hk) r
      exact ⟨e, he, fun _ => h⟩
    · exact ⟨0, le_refl _, fun h => absurd h hk⟩
  choose e he h using h
  refine ⟨∑ k ∈ Finset.range n, e k, ?_, ?_⟩
  · obtain ⟨j, hj, hfj⟩ := ha
    refine Finset.sum_pos' (fun k _ => he k) ⟨j, Finset.mem_range.mpr hj, ?_⟩
    have := h j hj
    rw [hfj, ← EReal.coe_sub, sub_self, Ideal.exp_coe, Real.exp_zero] at this
    exact EReal.coe_pos.mp (by rw [← this]; exact EReal.coe_pos.mpr one_pos)
  · unfold den
    rw [hr, coe_sum]
    exact Finset.sum_congr rfl fun k hk => h k (Finset.mem_range.mp hk)

/-- THE AVERAGE: the online quotient over the first `n` keys is the sum of the values with the softmax weights over
    `N ≥ n` keys, the further scores being minus infinity. -/
theorem average {n N : ℕ} (hn : n ≤ N) {k : ℕ} (hf : ∀ j < n, f j ≠ ⊤) (hk : k < n) (hb : f k ≠ ⊥)
    (hrest : ∀ j, n ≤ j → j < N → f j = ⊥) :
    Ideal.div (num f v n) (den f n)
      = ∑ j ∈ Finset.range N, v j * Ideal.div (Ideal.exp (f j - mx f N)) (den f N) := by
  obtain ⟨r, hr, ha⟩ := mx_real hf hk hb
  obtain ⟨b, rfl⟩ := Nat.exists_eq_add_of_le hn
  have hf' : ∀ j < n + b, f j ≠ ⊤ := fun j hj => by
    by_cases h : j < n
    · exact hf j h
    · rw [hrest j (by omega) hj]; exact bot_ne_top
  have hz : ∀ u : Fin b, f (n + u.val) = ⊥ := fun u => hrest _ (by omega) (by omega)
  have hr' : mx f (n + b) = (r : EReal) := by
    rw [mx_add, hr]
    refine max_eq_left (Finset.sup_le fun u _ => ?_)
    rw [hz u]; exact bot_le
  have hd : den f (n + b) = den f n := by
    rw [← den_add hr' hf', hr, ← EReal.coe_sub, sub_self, Ideal.exp_coe, Real.exp_zero, EReal.coe_one, one_mul]
    simp only [hz, exp_bot_sub, Finset.sum_const_zero, add_zero]
  have hs : num f v (n + b) = num f v n := by
    rw [← num_add hr' hf', hr, ← EReal.coe_sub, sub_self, Ideal.exp_coe, Real.exp_zero, EReal.coe_one, one_mul]
    simp only [hz, exp_bot_sub, zero_mul, Finset.sum_const_zero, add_zero]
  obtain ⟨d, hd0, hde⟩ := den_real hr hf ha
  rw [← hs, hd, hde, hr', Ideal.div_coe hd0.ne', mul_comm]
  unfold num
  rw [hr', real_mul_sum (one_div_pos.mpr hd0).le]
  refine Finset.sum_congr rfl fun j _ => ?_
  rw [Ideal.div_coe hd0.ne', mul_comm (v j), mul_comm, mul_right_comm]

end Cert.Softmax

end
-- ==== Proof.AttnStep.lean ====
/-
  The attention body at the ideal instance, index by index: on a query row the running maximum, denominator and numerator
  are the largest score, the sum of exponentials and the weighted sum of the keys passed so far, and the body's result
  on the row is the average of the values with the softmax weights over all keys, those of later chunks masked.
-/
module

public import proofs.«01_k».proof.Proof.AttnOpen
public import proofs.«01_k».proof.Proof.Softmax

@[expose] public section

set_option maxRecDepth 16384

noncomputable section

namespace Cert.AttnIdeal.Open

open Cert.AttnIdeal Cert.AttnIdeal.Gen Idealize.ShloMosaic Idealize.ShloMosaic.TcCoe Idealize.SL.Sem

/-! ## The body's terms at an index -/

variable (Q : Vec Ideal S512x256 .bf16) (K : Vec Ideal S1x512x256 .bf16) (V : Vec Ideal S1x512x128 .bf16)
  (S : Vec Ideal S512x512 .f32) (m l : Vec Ideal S512x1 .f32) (a : Vec Ideal S512x128 .f32) (r u : Fin 512) (j : Fin 128)

theorem score_at (X : Vec Ideal S1x512x256 .bf16) :
    k0_pay2 (F := Ideal) (k0_pay14 X) K (ix2 r u) = ∑ d : Fin 256, X (ix3 0 r d) * K (ix3 0 u d) := by
  pointwise [k0_pay2, k0_pay14]

theorem ninf : Ideal.ofBits .f32 0xFF800000#32 = ⊥ := by simp [Ideal.ofBits, Ideal.ieee]

theorem max_at : k0_pay3 (F := Ideal) Q K m (ix2 r 0)
    = max (m (ix2 r 0)) (Finset.univ.fold max ⊥ fun u : Fin 512 => k0_pay2 (F := Ideal) Q K (ix2 r u)) := by
  rw [← ninf]; pointwise [k0_pay3]

theorem den_at : k0_pay6 (F := Ideal) Q K m l (ix2 r 0)
    = Ideal.exp (m (ix2 r 0) - k0_pay3 (F := Ideal) Q K m (ix2 r 0)) * l (ix2 r 0)
      + ∑ u : Fin 512, Ideal.exp (k0_pay2 (F := Ideal) Q K (ix2 r u) - k0_pay3 (F := Ideal) Q K m (ix2 r 0)) := by
  pointwise [k0_pay6, k0_pay4, k0_pay5]

theorem num_at : k0_pay7 (F := Ideal) Q K V m a (ix2 r j)
    = Ideal.exp (m (ix2 r 0) - k0_pay3 (F := Ideal) Q K m (ix2 r 0)) * a (ix2 r j)
      + ∑ u : Fin 512, Ideal.exp (k0_pay2 (F := Ideal) Q K (ix2 r u) - k0_pay3 (F := Ideal) Q K m (ix2 r 0)) * V (ix3 0 u j) := by
  pointwise [k0_pay7, k0_pay4, k0_pay5]

theorem keep_at : k0_pay18 (F := Ideal) m (ix2 r 0) = m (ix2 r 0) := by pointwise [k0_pay18]

/-- The chunk number of a key and of a query within their tile. -/
theorem colChunk_at : k0_pay23 (ix2 r u) = BitVec.ofNat 32 (u.val / 64) := by
  pointwise [k0_pay23]
  revert u
  decide +kernel

theorem rowChunk_at : rowChunk (ix2 r u) = BitVec.ofNat 32 (r.val / 64) := by
  pointwise [rowChunk, k0_pay24, k0_pay20, k0_pay21]
  revert r
  decide +kernel

/-- The comparison of two chunk numbers. -/
theorem chunk_le : ∀ p q : Fin 8, IntOp.cmpi .sle (BitVec.ofNat 32 p.val) (BitVec.ofNat 32 q.val) = if p.val ≤ q.val then 1#1 else 0#1 := by
  decide +kernel

/-- The masked score: a key of a later chunk counts minus infinity. -/
theorem masked_at : k0_pay25 (F := Ideal) S k0_pay23 rowChunk (ix2 r u) = if u.val / 64 ≤ r.val / 64 then S (ix2 r u) else ⊥ := by
  have e : Named.named (F := Ideal) Cert.AttnIdeal.κ "mask" (φ := .f32) 0xF149F2CA#32 = ⊥ := IdealRules.named_const.ideal_named_scalar _ _ _ _ rfl
  pointwise [k0_pay25]
  rw [colChunk_at, rowChunk_at, e]
  have h := chunk_le ⟨u.val / 64, by omega⟩ ⟨r.val / 64, by omega⟩
  dsimp only at h
  rw [h]
  split <;> rfl

theorem max_own_at (A B : IVec S512x512 32) : k0_pay26 (F := Ideal) S A B m (ix2 r 0)
    = max (m (ix2 r 0)) (Finset.univ.fold max ⊥ fun u : Fin 512 => k0_pay25 (F := Ideal) S A B (ix2 r u)) := by
  rw [← ninf]; pointwise [k0_pay26]

theorem den_own_at (A B : IVec S512x512 32) : k0_pay29 (F := Ideal) S A B m l (ix2 r 0)
    = Ideal.exp (m (ix2 r 0) - k0_pay26 (F := Ideal) S A B m (ix2 r 0)) * l (ix2 r 0)
      + ∑ u : Fin 512, Ideal.exp (k0_pay25 (F := Ideal) S A B (ix2 r u) - k0_pay26 (F := Ideal) S A B m (ix2 r 0)) := by
  pointwise [k0_pay29, k0_pay27, k0_pay28]

theorem num_own_at (A B : IVec S512x512 32) : k0_pay30 (F := Ideal) S A B V m a (ix2 r j)
    = Ideal.exp (m (ix2 r 0) - k0_pay26 (F := Ideal) S A B m (ix2 r 0)) * a (ix2 r j)
      + ∑ u : Fin 512, Ideal.exp (k0_pay25 (F := Ideal) S A B (ix2 r u) - k0_pay26 (F := Ideal) S A B m (ix2 r 0)) * V (ix3 0 u j) := by
  pointwise [k0_pay30, k0_pay27, k0_pay28]

theorem div_at : k0_pay1 (F := Ideal) a l (ix3 0 r j) = Ideal.div (a (ix2 r j)) (l (ix2 r 0)) := by
  pointwise [k0_pay1]

theorem start_at : (start (F := Ideal)).1 (ix2 r 0) = ⊥ ∧ (start (F := Ideal)).2.1 (ix2 r 0) = 0 ∧ (start (F := Ideal)).2.2 (ix2 r j) = 0 := by
  refine ⟨?_, ?_, ?_⟩
  · show k0_pay15 (F := Ideal) (ix2 r 0) = ⊥
    have e : Named.named (F := Ideal) Cert.AttnIdeal.κ "mask" (φ := .f32) 0xF149F2CA#32 = ⊥ := IdealRules.named_const.ideal_named_scalar _ _ _ _ rfl
    rw [← e]; pointwise [k0_pay15]
  · show k0_pay16 (F := Ideal) (ix2 r 0) = 0
    pointwise [k0_pay16]
  · show k0_pay17 (F := Ideal) (ix2 r j) = 0
    pointwise [k0_pay17]

/-! ## The tiles -/

variable (i : grid0.Coords)

theorem trips_eq : (k0_t1_loop i).trips = (i 2).val :=
  (by decide +kernel : ∀ n : Fin 8, Scf.trips 0#32 (Scalar.addi 0#32 (Scalar.muli (Scalar.divsi (Scalar.subi (BitVec.ofNat 32 n.val) 0#32) 1#32) 1#32)) 1#32 = n.val) (i 2)

theorem off_trip : ∀ n : Fin 8, (Scalar.indexCast (Scalar.muli (Scf.iv 0#32 1#32 n.val) 512#32) : Index).toNat = 512 * n.val := by decide +kernel
theorem off_own : ∀ n : Fin 8, (Scalar.indexCast (Scalar.muli (BitVec.ofNat 32 n.val) 512#32) : Index).toNat = 512 * n.val := by decide +kernel

/-- The tiles at an index: rows `512 k` onward, and the query tile's own. -/
theorem tileK_at (x1 : Vec Ideal S1x4096x256 .bf16) (k : Fin (k0_t1_loop i).trips) (u : Fin 512) (d : Fin 256) (h : 512 * k.val + u.val < 4096) :
    tileK i x1 k (ix3 0 u d) = x1 (ix3 0 ⟨512 * k.val + u.val, h⟩ d) := by
  have hk : k.val < 8 := lt_trans (lt_of_lt_of_eq k.isLt (trips_eq i)) (i 2).isLt
  show x1 ((Rect.unit (s := S1x4096x256) (k0_off1 i k) S1x512x256.size (k0_off1_inb i k)).emb (ix3 0 u d)) = _
  congr 1
  funext b
  apply Fin.ext
  match b with
  | ⟨0, _⟩ => rfl
  | ⟨1, _⟩ =>
    show (Scalar.indexCast (Scalar.muli (Scf.iv 0#32 1#32 k.val) 512#32) : Index).toNat + 1 * u.val = 512 * k.val + u.val
    rw [off_trip ⟨k.val, hk⟩, Nat.one_mul]
  | ⟨2, _⟩ => show 0 + 1 * d.val = d.val; omega

theorem tileV_at (x2 : Vec Ideal S1x4096x128 .bf16) (k : Fin (k0_t1_loop i).trips) (u : Fin 512) (j : Fin 128) (h : 512 * k.val + u.val < 4096) :
    tileV i x2 k (ix3 0 u j) = x2 (ix3 0 ⟨512 * k.val + u.val, h⟩ j) := by
  have hk : k.val < 8 := lt_trans (lt_of_lt_of_eq k.isLt (trips_eq i)) (i 2).isLt
  show x2 ((Rect.unit (s := S1x4096x128) (k0_off2 i k) S1x512x128.size (k0_off2_inb i k)).emb (ix3 0 u j)) = _
  congr 1
  funext b
  apply Fin.ext
  match b with
  | ⟨0, _⟩ => rfl
  | ⟨1, _⟩ =>
    show (Scalar.indexCast (Scalar.muli (Scf.iv 0#32 1#32 k.val) 512#32) : Index).toNat + 1 * u.val = 512 * k.val + u.val
    rw [off_trip ⟨k.val, hk⟩, Nat.one_mul]
  | ⟨2, _⟩ => show 0 + 1 * j.val = j.val; omega

theorem ownK_at (x1 : Vec Ideal S1x4096x256 .bf16) (u : Fin 512) (d : Fin 256) (h : 512 * (i 2).val + u.val < 4096) :
    ownK i x1 (ix3 0 u d) = x1 (ix3 0 ⟨512 * (i 2).val + u.val, h⟩ d) := by
  show x1 ((Rect.unit (s := S1x4096x256) (k0_off5 i) S1x512x256.size (k0_off5_inb i)).emb (ix3 0 u d)) = _
  congr 1
  funext b
  apply Fin.ext
  match b with
  | ⟨0, _⟩ => rfl
  | ⟨1, _⟩ =>
    show (Scalar.indexCast (Scalar.muli (BitVec.ofNat 32 (i 2).val) 512#32) : Index).toNat + 1 * u.val = 512 * (i 2).val + u.val
    rw [off_own (i 2), Nat.one_mul]
  | ⟨2, _⟩ => show 0 + 1 * d.val = d.val; omega

theorem ownV_at (x2 : Vec Ideal S1x4096x128 .bf16) (u : Fin 512) (j : Fin 128) (h : 512 * (i 2).val + u.val < 4096) :
    ownV i x2 (ix3 0 u j) = x2 (ix3 0 ⟨512 * (i 2).val + u.val, h⟩ j) := by
  show x2 ((Rect.unit (s := S1x4096x128) (k0_off6 i) S1x512x128.size (k0_off6_inb i)).emb (ix3 0 u j)) = _
  congr 1
  funext b
  apply Fin.ext
  match b with
  | ⟨0, _⟩ => rfl
  | ⟨1, _⟩ =>
    show (Scalar.indexCast (Scalar.muli (BitVec.ofNat 32 (i 2).val) 512#32) : Index).toNat + 1 * u.val = 512 * (i 2).val + u.val
    rw [off_own (i 2), Nat.one_mul]
  | ⟨2, _⟩ => show 0 + 1 * j.val = j.val; omega

end Cert.AttnIdeal.Open

end
-- ==== Proof.AttnRow.lean ====
/-
  A query row of the attention body: the kernel's result is the average of the values with the softmax weights over all
  4096 keys, those of later chunks of 64 positions masked, for finite queries and keys.
-/
module

public import proofs.«01_k».proof.Proof.AttnStep

@[expose] public section

set_option maxRecDepth 16384

noncomputable section

namespace Cert.AttnIdeal.Open

open Cert.AttnIdeal Cert.AttnIdeal.Gen Idealize.ShloMosaic Idealize.ShloMosaic.TcCoe Idealize.SL.Sem Cert.Softmax

/-- The masked score of the query at position `p` with key `k` (the products `s`): keys of later chunks, and positions past the last, count
    minus infinity. -/
def masked (s : Fin 4096 → EReal) (p k : ℕ) : EReal := if h : k < 4096 then (if k / 64 ≤ p / 64 then s ⟨k, h⟩ else ⊥) else ⊥
/-- The values by key number. -/
def valN (w : Fin 4096 → EReal) (k : ℕ) : EReal := if h : k < 4096 then w ⟨k, h⟩ else 0

theorem masked_of_le {s : Fin 4096 → EReal} {p k : ℕ} (h : k < 4096) (hc : k / 64 ≤ p / 64) : masked s p k = s ⟨k, h⟩ := by
  unfold masked; rw [dif_pos h, if_pos hc]
theorem masked_of_lt {s : Fin 4096 → EReal} {p k : ℕ} (hc : p / 64 < k / 64) : masked s p k = ⊥ := by
  unfold masked; split
  · rw [if_neg (Nat.not_le.mpr hc)]
  · rfl
theorem valN_of_lt {w : Fin 4096 → EReal} {k : ℕ} (h : k < 4096) : valN w k = w ⟨k, h⟩ := dif_pos h

theorem masked_ne_top {s : Fin 4096 → EReal} (hs : ∀ k, ∃ x : ℝ, s k = (x : EReal)) (p k : ℕ) : masked s p k ≠ ⊤ := by
  unfold masked; split
  · split
    · obtain ⟨x, hx⟩ := hs ⟨k, by assumption⟩
      rw [hx]; exact EReal.coe_ne_top x
    · exact bot_ne_top
  · exact bot_ne_top
theorem masked_zero_ne_bot {s : Fin 4096 → EReal} (hs : ∀ k, ∃ x : ℝ, s k = (x : EReal)) (p : ℕ) : masked s p 0 ≠ ⊥ := by
  rw [masked_of_le (by omega) (by omega)]
  obtain ⟨x, hx⟩ := hs ⟨0, by omega⟩
  rw [hx]; exact EReal.coe_ne_bot x

variable (i : grid0.Coords) (x0 : Vec Ideal S1x512x256 .bf16) (x1 : Vec Ideal S1x4096x256 .bf16) (x2 : Vec Ideal S1x4096x128 .bf16)

/-- The product of query row `r` with key `k`. -/
def prod (r : Fin 512) (k : Fin 4096) : EReal := ∑ d : Fin 256, x0 (ix3 0 r d) * x1 (ix3 0 k d)
/-- The masked score of query row `r` of the tile, by key number. -/
def sc (r : Fin 512) (k : ℕ) : EReal := masked (prod x0 x1 r) (512 * (i 2).val + r.val) k
/-- Column `j` of the values, by key number. -/
def vl (j : Fin 128) (k : ℕ) : EReal := valN (fun k => x2 (ix3 0 k j)) k

/-- The running state on a row after the first `k` key tiles. -/
theorem st_row (hs : ∀ r k, ∃ x : ℝ, prod x0 x1 r k = (x : EReal)) (r : Fin 512) (j : Fin 128) : ∀ k : ℕ, k ≤ (i 2).val →
    (st i x0 x1 x2 k).1 (ix2 r 0) = mx (sc i x0 x1 r) (512 * k)
    ∧ (st i x0 x1 x2 k).2.1 (ix2 r 0) = den (sc i x0 x1 r) (512 * k)
    ∧ (st i x0 x1 x2 k).2.2 (ix2 r j) = num (sc i x0 x1 r) (vl x2 j) (512 * k)
  | 0, _ => by
    have h := start_at r j
    refine ⟨h.1, h.2.1, h.2.2⟩
  | k + 1, hk => by
    obtain ⟨hm, hl, ha⟩ := st_row hs r j k (Nat.le_of_succ_le hk)
    have hi : (i 2).val < 8 := (i 2).isLt
    have hk' : k < (k0_t1_loop i).trips := by rw [trips_eq]; exact hk
    have e : st i x0 x1 x2 (k + 1) = step (k0_pay14 x0) (tileK i x1 ⟨k, hk'⟩) (tileV i x2 ⟨k, hk'⟩) (st i x0 x1 x2 k) := dif_pos hk'
    have T := tile (f := sc i x0 x1 r) (v := vl x2 j) (a := 512 * k) (b := 512) (k := 0)
      (t := fun u => k0_pay2 (F := Ideal) (k0_pay14 x0) (tileK i x1 ⟨k, hk'⟩) (ix2 r u))
      (w := fun u => tileV i x2 ⟨k, hk'⟩ (ix3 0 u j))
      (fun u => by
        rw [score_at]
        have hu : 512 * k + u.val < 4096 := by omega
        unfold sc
        rw [masked_of_le hu (by omega)]
        exact Finset.sum_congr rfl fun d _ => by rw [tileK_at i x1 ⟨k, hk'⟩ u d hu])
      (fun u => by
        have hu : 512 * k + u.val < 4096 := by omega
        unfold vl
        rw [valN_of_lt hu, tileV_at i x2 ⟨k, hk'⟩ u j hu])
      (fun j _ => masked_ne_top (hs r) _ j) (by omega) (masked_zero_ne_bot (hs r) _)
    have hM : k0_pay3 (F := Ideal) (k0_pay14 x0) (tileK i x1 ⟨k, hk'⟩) (st i x0 x1 x2 k).1 (ix2 r 0) = mx (sc i x0 x1 r) (512 * (k + 1)) := by
      rw [max_at, hm]; exact T.1
    rw [e]
    unfold step
    dsimp only
    refine ⟨?_, ?_, ?_⟩
    · rw [keep_at]; exact hM
    · rw [den_at, hM, hm, hl]; exact T.2.1
    · rw [num_at, hM, hm, ha]; exact T.2.2

/-- THE ROW: the body's result is the softmax average over all keys. -/
theorem finish_row (hs : ∀ r k, ∃ x : ℝ, prod x0 x1 r k = (x : EReal)) (r : Fin 512) (j : Fin 128) :
    finish (k0_pay14 x0) (ownK i x1) (ownV i x2) (st i x0 x1 x2 (k0_t1_loop i).trips) (ix3 0 r j)
      = ∑ k ∈ Finset.range 4096, vl x2 j k * Ideal.div (Ideal.exp (sc i x0 x1 r k - mx (sc i x0 x1 r) 4096)) (den (sc i x0 x1 r) 4096) := by
  have hi : (i 2).val < 8 := (i 2).isLt
  obtain ⟨hm, hl, ha⟩ := st_row i x0 x1 x2 hs r j (i 2).val (le_refl _)
  rw [trips_eq]
  have T := tile (f := sc i x0 x1 r) (v := vl x2 j) (a := 512 * (i 2).val) (b := 512) (k := 0)
    (t := fun u => k0_pay25 (F := Ideal) (k0_pay22 (k0_pay14 x0) (ownK i x1)) k0_pay23 rowChunk (ix2 r u))
    (w := fun u => ownV i x2 (ix3 0 u j))
    (fun u => by
      have hu : 512 * (i 2).val + u.val < 4096 := by omega
      rw [masked_at]
      unfold sc
      by_cases hc : u.val / 64 ≤ r.val / 64
      · rw [if_pos hc, masked_of_le hu (by omega)]
        refine (score_at (ownK i x1) r u x0).trans ?_
        exact Finset.sum_congr rfl fun d _ => by rw [ownK_at i x1 u d hu]
      · rw [if_neg hc, masked_of_lt (by omega)])
    (fun u => by
      have hu : 512 * (i 2).val + u.val < 4096 := by omega
      unfold vl
      rw [valN_of_lt hu, ownV_at i x2 u j hu])
    (fun j _ => masked_ne_top (hs r) _ j) (by omega) (masked_zero_ne_bot (hs r) _)
  have hM : k0_pay26 (F := Ideal) (k0_pay22 (k0_pay14 x0) (ownK i x1)) k0_pay23 rowChunk (st i x0 x1 x2 (i 2).val).1 (ix2 r 0)
      = mx (sc i x0 x1 r) (512 * (i 2).val + 512) := by
    rw [max_own_at, hm]; exact T.1
  unfold finish
  rw [div_at, num_own_at, den_own_at, hM, hm, hl, ha, T.2.1, T.2.2]
  exact average (by omega) (k := 0) (fun j _ => masked_ne_top (hs r) _ j) (by omega) (masked_zero_ne_bot (hs r) _)
    fun k hk _ => masked_of_lt (by omega)

end Cert.AttnIdeal.Open

end
-- ==== Proof.AttnRef.lean ====
/-
  The attention reference at an index: the softmax average of a head's values over the keys of the query's chunk of 64
  positions and of all earlier ones, stated with the same row quantities as the kernel's row.
-/
module

public import proofs.«01_k».proof.Proof.AttnRow
public import proofs.«01_k».proof.Proof.Gen.AttnRefIdeal.Run
public import Idealize.ShloMosaic.Lib.Pointwise

@[expose] public section

set_option maxRecDepth 16384

noncomputable section

namespace Cert.AttnRefIdeal.Open

open Cert.AttnRefIdeal Cert.AttnRefIdeal.Gen Idealize.ShloMosaic Idealize.ShloMosaic.TcCoe Idealize.SL.Sem
open Cert.AttnIdeal.Open (masked valN masked_of_le masked_of_lt valN_of_lt ninf)
open Cert.Softmax (mx den)

/-- The chunk number of each of the 4096 positions. -/
def chunks : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))

/-- Which key (last axis) a query position may see. -/
def seen : IVec S2x8x4096x4096 1 :=
  broadcastInDim S2x8x4096x4096 ![0, 1, 2, 3] bcast_S1x1x4096x4096_S2x8x4096x4096_0_1_2_3 (broadcastInDim S1x1x4096x4096 ![2, 3] bcast_S4096x4096_S1x1x4096x4096_2_3 (cmpi .sle (broadcastInDim S4096x4096 ![0, 1] bcast_S1x4096_S4096x4096_0_1 (broadcastInDim S1x4096 ![1] bcast_S4096_S1x4096_1 chunks)) (broadcastInDim S4096x4096 ![0, 1] bcast_S4096x1_S4096x4096_0_1 (broadcastInDim S4096x1 ![0] bcast_S4096_S4096x1_0 chunks))))

/-- The masked scores. -/
def scores (q k : FVec Ideal S8192x2048 .bf16) : FVec Ideal S2x8x4096x4096 .f32 :=
  select seen (Host.dotGeneral dot_S2x4096x8x256_S2x4096x8x256_S2x8x4096x4096_3_3_1_1_02_02 none (shapeCast _ (extf .f32 q bitsLt_bf16_f32) shapeCasts_S8192x2048_S2x4096x8x256) (shapeCast _ (extf .f32 k bitsLt_bf16_f32) shapeCasts_S8192x2048_S2x4096x8x256)) (broadcastInDim S2x8x4096x4096 ![] bcast_S_S2x8x4096x4096 (id (constant S_ .f32 0xFF800000#32)))

/-- The largest score of each row. -/
def rowMax (X : FVec Ideal S2x8x4096x4096 .f32) : FVec Ideal S2x8x4096 .f32 :=
  Host.reduce FloatOps.maximumf X (constant S_ .f32 0xFF800000#32) reducesTo_S2x8x4096x4096_S2x8x4096_d3 h_S_

/-- The number each row's scores are taken relative to: its largest, from minus infinity. -/
def rowTop (X : FVec Ideal S2x8x4096x4096 .f32) : FVec Ideal S2x8x4096 .f32 :=
  maximumf (broadcastInDim S2x8x4096 ![] bcast_S_S2x8x4096 (constant S_ .f32 0xFF800000#32)) (rowMax X)

/-- The exponentials relative to a row's largest score. -/
def exps (X : FVec Ideal S2x8x4096x4096 .f32) : FVec Ideal S2x8x4096x4096 .f32 :=
  Host.exp (subf X (broadcastInDim S2x8x4096x4096 ![0, 1, 2, 3] bcast_S2x8x4096x1_S2x8x4096x4096_0_1_2_3 (broadcastInDim S2x8x4096x1 ![0, 1, 2] bcast_S2x8x4096_S2x8x4096x1_0_1_2 (rowTop X))))

/-- The softmax weights. -/
def weights (X : FVec Ideal S2x8x4096x4096 .f32) : FVec Ideal S2x8x4096x4096 .f32 :=
  Host.divf (exps X) (broadcastInDim S2x8x4096x4096 ![0, 1, 2, 3] bcast_S2x8x4096x1_S2x8x4096x4096_0_1_2_3 (broadcastInDim S2x8x4096x1 ![0, 1, 2] bcast_S2x8x4096_S2x8x4096x1_0_1_2 (Host.reduceAdd (exps X) (constant S_ .f32 0x00000000#32) reducesTo_S2x8x4096x4096_S2x8x4096_d3 h_S_)))

/-- The averages of the values. -/
def avg (v : FVec Ideal S8192x1024 .bf16) (p : FVec Ideal S2x8x4096x4096 .f32) : FVec Ideal S2x4096x1024 .bf16 :=
  truncf .bf16 (shapeCast _ (transpose S2x4096x8x128 [0, 3, 1, 2] (Host.dotGeneral dot_S2x4096x8x128_S2x8x4096x4096_S2x8x128x4096_1_3_3_2_02_01 none (shapeCast _ (extf .f32 v bitsLt_bf16_f32) shapeCasts_S8192x1024_S2x4096x8x128) p) transposes_S2x8x128x4096_S2x4096x8x128_0_3_1_2) shapeCasts_S2x4096x8x128_S2x4096x1024) bitsLt_bf16_f32

/-- The printed result is the average with these weights. -/
theorem res_eq (m : (ℓ : Loc nD τ sig) → Buf (Elt Ideal) ℓ) (c : Dev nD) :
    Value.res_main_v30 m c = avg (m ((c.tc : Thread nD τ).loc main_arg2)) (weights (scores (m ((c.tc : Thread nD τ).loc main_arg0)) (m ((c.tc : Thread nD τ).loc main_arg1)))) := by
  unfold Value.res_main_v30 avg weights exps rowTop rowMax scores seen chunks
  rfl

theorem chunks_at (k : Fin 4096) : chunks (ix1 k) = BitVec.ofNat 32 (k.val / 64) := by
  pointwise [chunks]
  revert k
  decide +kernel

/-- Comparing two chunk numbers as words compares them as numbers. -/
theorem chunk_le : ∀ p q : Fin 64, IntOp.cmpi .sle (BitVec.ofNat 32 p.val) (BitVec.ofNat 32 q.val) = if p.val ≤ q.val then 1#1 else 0#1 := by
  decide +kernel

theorem seen_at (b : Fin 2) (h : Fin 8) (s t : Fin 4096) : seen (ix4 b h s t) = if t.val / 64 ≤ s.val / 64 then 1#1 else 0#1 := by
  have e : seen (ix4 b h s t) = IntOp.cmpi .sle (chunks (ix1 t)) (chunks (ix1 s)) := by pointwise [seen]
  have ht := t.isLt
  have hs := s.isLt
  rw [e, chunks_at, chunks_at]
  exact chunk_le ⟨t.val / 64, by omega⟩ ⟨s.val / 64, by omega⟩

/-- The product of query position `s` with key position `t`, of one batch and head. -/
def pr (q k : FVec Ideal S8192x2048 .bf16) (b : Fin 2) (h : Fin 8) (s t : Fin 4096) : EReal :=
  ∑ d : Fin 256, q (ix2 ⟨b.val * 4096 + s.val, by omega⟩ ⟨h.val * 256 + d.val, by omega⟩)
    * k (ix2 ⟨b.val * 4096 + t.val, by omega⟩ ⟨h.val * 256 + d.val, by omega⟩)

theorem scores_at (q k : FVec Ideal S8192x2048 .bf16) (b : Fin 2) (h : Fin 8) (s t : Fin 4096) :
    scores q k (ix4 b h s t) = masked (pr q k b h s) s.val t.val := by
  have e : scores q k (ix4 b h s t) = Scalar.select (seen (ix4 b h s t)) (pr q k b h s t) (Ideal.ofBits .f32 0xFF800000#32) := by
    pointwise [scores, pr]
    try rfl
  rw [e, seen_at, ninf]
  by_cases hc : t.val / 64 ≤ s.val / 64
  · rw [masked_of_le t.isLt hc, if_pos hc]
    exact if_pos rfl
  · rw [masked_of_lt (Nat.not_le.mp hc), if_neg hc]
    exact if_neg (by decide)

/-- The last axis put back. -/
theorem lift_last {n0 n1 n2 n3 : ℕ} (h : (⟨4, ![n0, n1, n2, n3]⟩ : Shape).Reduces [3] (⟨3, ![n0, n1, n2]⟩ : Shape)) (a : Fin n0) (b : Fin n1) (c : Fin n2)
    (k : Fin ((⟨4, ![n0, n1, n2, n3]⟩ : Shape).size 3)) : h.lift (ix3 a b c) k = ix4 a b c (⟨k.val, k.isLt⟩ : Fin n3) := by
  funext d; apply Fin.ext
  fin_cases d <;> rfl

/-- The maximum along the last axis, at an index. -/
theorem max_last {n0 n1 n2 n3 : ℕ} (x : FVec Ideal ⟨4, ![n0, n1, n2, n3]⟩ .f32) (h' : (⟨4, ![n0, n1, n2, n3]⟩ : Shape).ReducesTo [3] (⟨3, ![n0, n1, n2]⟩ : Shape))
    (h : (⟨4, ![n0, n1, n2, n3]⟩ : Shape).Reduces [3] (⟨3, ![n0, n1, n2]⟩ : Shape)) (hu : 0 < (⟨0, ![]⟩ : Shape).numel) (a : Fin n0) (b : Fin n1) (c : Fin n2) :
    Host.reduce FloatOps.maximumf x (constant (⟨0, ![]⟩ : Shape) .f32 0xFF800000#32) h' hu (ix3 a b c)
      = (Finset.univ : Finset (Fin n3)).sup fun k => (x (ix4 a b c k) : EReal) := by
  rw [Host.reduce_eq_fold_single FloatOps.maximumf x _ h' h hu]
  have hf : (x ∘ h.lift (ix3 a b c)) = fun k : Fin n3 => x (ix4 a b c k) := funext fun k => congrArg x (lift_last h a b c k)
  refine (congrArg (fun f => Finset.fold max (Ideal.ofBits .f32 0xFF800000#32) f (Finset.univ : Finset (Fin n3))) hf).trans ?_
  rw [ninf]
  rfl

/-- A maximum over the positions is one over their numbers. -/
theorem sup_range (f : ℕ → EReal) (n : ℕ) : ((Finset.univ : Finset (Fin n)).sup fun k => f k.val) = mx f n := by
  refine le_antisymm (Finset.sup_le fun k _ => Cert.Softmax.le_mx k.isLt) (Finset.sup_le fun k hk => ?_)
  exact Finset.le_sup (f := fun k : Fin n => f k.val) (Finset.mem_univ ⟨k, Finset.mem_range.mp hk⟩)

theorem reduces_last : (S2x8x4096x4096 : Shape).Reduces [3] S2x8x4096 := by decide

theorem rowMax_sup (X : FVec Ideal S2x8x4096x4096 .f32) (b : Fin 2) (h : Fin 8) (s : Fin 4096) :
    rowMax X (ix3 b h s) = (Finset.univ : Finset (Fin 4096)).sup fun k => (X (ix4 b h s k) : EReal) :=
  max_last X reducesTo_S2x8x4096x4096_S2x8x4096_d3 reduces_last h_S_ b h s

/-- A maximum with minus infinity changes nothing. -/
theorem max_ninf {S : Shape} (h : S_.BroadcastsInDim S ![]) (Y : FVec Ideal S .f32) (j : S.Idx) :
    maximumf (broadcastInDim S ![] h (constant S_ .f32 0xFF800000#32)) Y j = Y j := by
  show max (Ideal.ofBits .f32 0xFF800000#32) (Y j : EReal) = Y j
  rw [ninf]
  exact max_eq_right bot_le

section Row

variable (X : FVec Ideal S2x8x4096x4096 .f32) (b : Fin 2) (h : Fin 8) (s : Fin 4096) (f : ℕ → EReal) (hX : ∀ t : Fin 4096, X (ix4 b h s t) = f t.val)
include hX

theorem rowMax_at : rowMax X (ix3 b h s) = mx f 4096 :=
  (rowMax_sup X b h s).trans ((Finset.sup_congr rfl fun t _ => hX t).trans (sup_range f 4096))

theorem rowTop_at : rowTop X (ix3 b h s) = mx f 4096 :=
  (max_ninf bcast_S_S2x8x4096 (rowMax X) (ix3 b h s)).trans (rowMax_at X b h s f hX)

theorem exps_at (t : Fin 4096) : exps X (ix4 b h s t) = Ideal.exp (f t.val - mx f 4096) := by
  have e : exps X (ix4 b h s t) = Ideal.exp (X (ix4 b h s t) - rowTop X (ix3 b h s)) := by
    pointwise [exps]
  rw [e, rowTop_at X b h s f hX, hX]

theorem weights_at (t : Fin 4096) : weights X (ix4 b h s t) = Ideal.div (Ideal.exp (f t.val - mx f 4096)) (den f 4096) := by
  have e : weights X (ix4 b h s t) = Ideal.div (exps X (ix4 b h s t)) (∑ x, exps X (ix4 b h s x)) := by pointwise [weights]
  rw [e, exps_at X b h s f hX]
  unfold den
  rw [Finset.sum_range]
  exact congrArg _ (Finset.sum_congr rfl fun x _ => exps_at X b h s f hX x)

end Row

/-- The reference's result at an index. -/
theorem res_at (q k : FVec Ideal S8192x2048 .bf16) (v : FVec Ideal S8192x1024 .bf16) (b : Fin 2) (s : Fin 4096) (e : Fin 1024) (h : Fin 8) (hh : h.val = e.val / 128) :
    avg v (weights (scores q k)) (ix3 b s e)
      = ∑ t ∈ Finset.range 4096, valN (fun t => v (ix2 ⟨b.val * 4096 + t.val, by omega⟩ e)) t
          * Ideal.div (Ideal.exp (masked (pr q k b h s) s.val t - mx (masked (pr q k b h s) s.val) 4096)) (den (masked (pr q k b h s) s.val) 4096) := by
  have E : ∀ X, avg v X (ix3 b s e) = ∑ t : Fin 4096, v (ix2 ⟨b.val * 4096 + t.val, by omega⟩ e) * X (ix4 b ⟨e.val / 128, by omega⟩ s t) := by
    intro X
    pointwise [avg]
  rw [E, show (⟨e.val / 128, by omega⟩ : Fin 8) = h from Fin.ext hh.symm, Finset.sum_range]
  refine Finset.sum_congr rfl fun t _ => ?_
  rw [weights_at (scores q k) b _ s _ (scores_at q k b h s) t, valN_of_lt t.isLt]

end Cert.AttnRefIdeal.Open

end
-- ==== Proof.AttnClaim.lean ====
/-
  The attention claim: the kernel's result array holds, at each batch, position and column, the softmax average of the
  values, and so does the reference's, when every query and key entry is finite.
-/
module

public import proofs.«01_k».proof.Proof.AttnRef
public import proofs.«01_k».proof.Proof.Gen.AttnIdeal.Value
public import proofs.«01_k».proof.Defs
public import Idealize.ShloMosaic.Lib.Quiescent
public import Idealize.ShloMosaic.Lib.StableHlo.ReadAt

@[expose] public section

set_option maxRecDepth 16384

noncomputable section

namespace Cert.AttnIdeal.Open

open Cert.AttnIdeal Cert.AttnIdeal.Gen Idealize.ShloMosaic Idealize.ShloMosaic.TcCoe Idealize.SL.Sem
open Cert.AttnRefIdeal.Open (pr)
open Cert.Softmax (mx den)

variable (m : (ℓ : Loc nD τ sig) → Buf (Elt Ideal) ℓ)

/-- The call's queries, keys and values. -/
abbrev QA (c : Dev nD) : FVec Ideal S8192x2048 .bf16 := m ((c : Thread nD τ).loc main_arg0)
abbrev KA (c : Dev nD) : FVec Ideal S8192x2048 .bf16 := m ((c : Thread nD τ).loc main_arg1)
abbrev VA (c : Dev nD) : FVec Ideal S8192x1024 .bf16 := m ((c : Thread nD τ).loc main_arg2)

theorem N_0 : cfg0.N = 128 := by decide +kernel

/-- Point `t` works on batch `t / 64`, head `t / 8 % 8`, query tile `t % 8`. -/
theorem tile_no : ∀ t : Fin cfg0.N, (grid0.coords t 2).val = t.val % 8 := (by decide +kernel : ∀ t : Fin grid0.N, _)
theorem idx0 : ∀ t : Fin cfg0.N, win0_0.index t 0 = t.val / 64 ∧ win0_0.index t 1 = t.val % 8 ∧ win0_0.index t 2 = t.val / 8 % 8 := (by decide +kernel : ∀ t : Fin grid0.N, _)
theorem idx1 : ∀ t : Fin cfg0.N, win0_1.index t 0 = t.val / 64 ∧ win0_1.index t 1 = 0 ∧ win0_1.index t 2 = t.val / 8 % 8 := (by decide +kernel : ∀ t : Fin grid0.N, _)
theorem idx2 : ∀ t : Fin cfg0.N, win0_2.index t 0 = t.val / 64 ∧ win0_2.index t 1 = 0 ∧ win0_2.index t 2 = t.val / 8 % 8 := (by decide +kernel : ∀ t : Fin grid0.N, _)
theorem idx3 : ∀ t : Fin cfg0.N, win0_3.index t 0 = t.val / 64 ∧ win0_3.index t 1 = t.val % 8 ∧ win0_3.index t 2 = t.val / 8 % 8 := (by decide +kernel : ∀ t : Fin grid0.N, _)

/-- The batch, the head and a query row's position, of point `t`. -/
abbrev bt (t : Fin cfg0.N) : Fin 2 := ⟨t.val / 64, by have := lt_of_lt_of_eq t.isLt N_0; omega⟩
abbrev hd (t : Fin cfg0.N) : Fin 8 := ⟨t.val / 8 % 8, by omega⟩
abbrev pos (t : Fin cfg0.N) (r : Fin 512) : Fin 4096 := ⟨512 * (t.val % 8) + r.val, by omega⟩

theorem blk0 (c : Dev nD) (t : Fin cfg0.N) (r : Fin 512) (d : Fin 256) :
    (iblk m c 0 t : Vec Ideal S1x512x256 .bf16) (ix3 0 r d)
      = QA m c (ix2 ⟨(bt t).val * 4096 + (pos t r).val, by omega⟩ ⟨(hd t).val * 256 + d.val, by omega⟩) := by
  unfold iblk
  rw [View.read_apply]
  show V m c main_v0 _ = _
  have e : ((cfg0.win 0).blk t).view.emb (ix3 0 r d) = (ix3 (bt t) (pos t r) ⟨(hd t).val * 256 + d.val, by omega⟩ : S2x4096x2048.Idx) := by
    funext a
    apply Fin.ext
    match a with
    | ⟨0, _⟩ => show win0_0.index t 0 * 1 + 1 * 0 = t.val / 64; rw [(idx0 t).1]; omega
    | ⟨1, _⟩ => show win0_0.index t 1 * 512 + 1 * r.val = 512 * (t.val % 8) + r.val; rw [(idx0 t).2.1]; omega
    | ⟨2, _⟩ => show win0_0.index t 2 * 256 + 1 * d.val = t.val / 8 % 8 * 256 + d.val; rw [(idx0 t).2.2]; omega
  rw [e]
  unfold V
  after_reads_at

theorem blk1 (c : Dev nD) (t : Fin cfg0.N) (k : Fin 4096) (d : Fin 256) :
    (iblk m c 1 t : Vec Ideal S1x4096x256 .bf16) (ix3 0 k d)
      = KA m c (ix2 ⟨(bt t).val * 4096 + k.val, by omega⟩ ⟨(hd t).val * 256 + d.val, by omega⟩) := by
  unfold iblk
  rw [View.read_apply]
  show V m c main_v1 _ = _
  have e : ((cfg0.win 1).blk t).view.emb (ix3 0 k d) = (ix3 (bt t) k ⟨(hd t).val * 256 + d.val, by omega⟩ : S2x4096x2048.Idx) := by
    funext a
    apply Fin.ext
    match a with
    | ⟨0, _⟩ => show win0_1.index t 0 * 1 + 1 * 0 = t.val / 64; rw [(idx1 t).1]; omega
    | ⟨1, _⟩ => show win0_1.index t 1 * 4096 + 1 * k.val = k.val; rw [(idx1 t).2.1]; omega
    | ⟨2, _⟩ => show win0_1.index t 2 * 256 + 1 * d.val = t.val / 8 % 8 * 256 + d.val; rw [(idx1 t).2.2]; omega
  rw [e]
  unfold V
  after_reads_at

theorem blk2 (c : Dev nD) (t : Fin cfg0.N) (k : Fin 4096) (j : Fin 128) :
    (iblk m c 2 t : Vec Ideal S1x4096x128 .bf16) (ix3 0 k j)
      = VA m c (ix2 ⟨(bt t).val * 4096 + k.val, by omega⟩ ⟨(hd t).val * 128 + j.val, by omega⟩) := by
  unfold iblk
  rw [View.read_apply]
  show V m c main_v2 _ = _
  have e : ((cfg0.win 2).blk t).view.emb (ix3 0 k j) = (ix3 (bt t) k ⟨(hd t).val * 128 + j.val, by omega⟩ : S2x4096x1024.Idx) := by
    funext a
    apply Fin.ext
    match a with
    | ⟨0, _⟩ => show win0_2.index t 0 * 1 + 1 * 0 = t.val / 64; rw [(idx2 t).1]; omega
    | ⟨1, _⟩ => show win0_2.index t 1 * 4096 + 1 * k.val = k.val; rw [(idx2 t).2.1]; omega
    | ⟨2, _⟩ => show win0_2.index t 2 * 128 + 1 * j.val = t.val / 8 % 8 * 128 + j.val; rw [(idx2 t).2.2]; omega
  rw [e]
  unfold V
  after_reads_at

/-- Every point writes its output block back. -/
theorem flush3 : ∀ t : Fin cfg0.N, (cfg0.win 3).flush t = true := (by decide +kernel : ∀ t : Fin grid0.N, win0_3.flush t = true)

/-- The result at an index, in the terms of the call's arguments. -/
def att (q k : FVec Ideal S8192x2048 .bf16) (v : FVec Ideal S8192x1024 .bf16) (b : Fin 2) (h : Fin 8) (s : Fin 4096) (e : Fin 1024) : EReal :=
  ∑ t ∈ Finset.range 4096, valN (fun t => v (ix2 ⟨b.val * 4096 + t.val, by omega⟩ e)) t
    * Ideal.div (Ideal.exp (masked (pr q k b h s) s.val t - mx (masked (pr q k b h s) s.val) 4096)) (den (masked (pr q k b h s) s.val) 4096)

/-- The final array at row `r` and column `j` of point `t`'s output block. -/
theorem block_at (c : Dev nD) (t : Fin cfg0.N) (hs : ∀ r k, ∃ x : ℝ, prod (iblk m c 0 t) (iblk m c 1 t) r k = (x : EReal)) (r : Fin 512) (j : Fin 128) :
    ((dats m 0 c).arrAt 3 cfg0.N : FVec Ideal S2x4096x1024 .bf16) (ix3 (bt t) (pos t r) ⟨(hd t).val * 128 + j.val, by omega⟩)
      = att (QA m c) (KA m c) (VA m c) (bt t) (hd t) (pos t r) ⟨(hd t).val * 128 + j.val, by omega⟩ := by
  have e : ((cfg0.win 3).blk t).view.emb (ix3 0 r j) = (ix3 (bt t) (pos t r) ⟨(hd t).val * 128 + j.val, by omega⟩ : S2x4096x1024.Idx) := by
    funext a
    apply Fin.ext
    match a with
    | ⟨0, _⟩ => show win0_3.index t 0 * 1 + 1 * 0 = t.val / 64; rw [(idx3 t).1]; omega
    | ⟨1, _⟩ => show win0_3.index t 1 * 512 + 1 * r.val = 512 * (t.val % 8) + r.val; rw [(idx3 t).2.1]; omega
    | ⟨2, _⟩ => show win0_3.index t 2 * 128 + 1 * j.val = t.val / 8 % 8 * 128 + j.val; rw [(idx3 t).2.2]; omega
  have hb := congrFun (Value.blocks3 m c t (flush3 t)) (ix3 0 r j)
  rw [View.read_apply, e] at hb
  refine hb.trans ?_
  rw [Value.flushed3_A m c t]
  refine (congrFun (out_eq c (grid0.coords t) _ _ _ _ _ _ _ _ _ _ _ _ _ _ (iblk m c 0 t) (iblk m c 1 t) (iblk m c 2 t)) (ix3 0 r j)).trans ?_
  rw [finish_row (grid0.coords t) (iblk m c 0 t) (iblk m c 1 t) (iblk m c 2 t) hs r j]
  have hsc : sc (grid0.coords t) (iblk m c 0 t) (iblk m c 1 t) r = masked (pr (QA m c) (KA m c) (bt t) (hd t) (pos t r)) (pos t r).val := by
    funext k
    unfold sc
    rw [tile_no]
    congr 1
    funext k
    exact Finset.sum_congr rfl fun d _ => by rw [blk0, blk1]
  have hvl : vl (iblk m c 2 t) j = valN fun k => VA m c (ix2 ⟨(bt t).val * 4096 + k.val, by omega⟩ ⟨(hd t).val * 128 + j.val, by omega⟩) := by
    funext k
    unfold vl
    congr 1
    funext k
    exact blk2 m c t k j
  rw [hsc, hvl]
  rfl

/-- Products of rows of finite entries are finite. -/
theorem pr_real (q k : FVec Ideal S8192x2048 .bf16) (hq : ∀ i j, ∃ x : ℝ, q (ix2 i j) = (x : EReal)) (hk : ∀ i j, ∃ x : ℝ, k (ix2 i j) = (x : EReal))
    (b : Fin 2) (h : Fin 8) (s t : Fin 4096) : ∃ x : ℝ, pr q k b h s t = (x : EReal) := by
  choose f hf using hq
  choose g hg using hk
  refine ⟨∑ d : Fin 256, f ⟨b.val * 4096 + s.val, by omega⟩ ⟨h.val * 256 + d.val, by omega⟩ * g ⟨b.val * 4096 + t.val, by omega⟩ ⟨h.val * 256 + d.val, by omega⟩, ?_⟩
  rw [Cert.Softmax.coe_sum]
  exact Finset.sum_congr rfl fun d _ => by rw [hf, hg, EReal.coe_mul]

/-- The kernel's result array, at each index. -/
theorem result_apply (c : Dev nD) (hq : ∀ i j, ∃ x : ℝ, QA m c (ix2 i j) = (x : EReal)) (hk : ∀ i j, ∃ x : ℝ, KA m c (ix2 i j) = (x : EReal))
    (b : Fin 2) (s : Fin 4096) (e : Fin 1024) :
    ((dats m 0 c).arrAt 3 cfg0.N : FVec Ideal S2x4096x1024 .bf16) (ix3 b s e) = att (QA m c) (KA m c) (VA m c) b ⟨e.val / 128, by omega⟩ s e := by
  have hlt : b.val * 64 + e.val / 128 * 8 + s.val / 512 < cfg0.N := by rw [N_0]; omega
  have H := block_at m c ⟨b.val * 64 + e.val / 128 * 8 + s.val / 512, hlt⟩
    (fun r k => by
      obtain ⟨x, hx⟩ := pr_real (QA m c) (KA m c) hq hk (bt ⟨b.val * 64 + e.val / 128 * 8 + s.val / 512, hlt⟩) (hd ⟨b.val * 64 + e.val / 128 * 8 + s.val / 512, hlt⟩) (pos ⟨b.val * 64 + e.val / 128 * 8 + s.val / 512, hlt⟩ r) k
      refine ⟨x, Eq.trans ?_ hx⟩
      exact Finset.sum_congr rfl fun d _ => by rw [blk0, blk1])
    ⟨s.val % 512, by omega⟩ ⟨e.val % 128, by omega⟩
  have eb : bt ⟨b.val * 64 + e.val / 128 * 8 + s.val / 512, hlt⟩ = b := Fin.ext (by show (b.val * 64 + e.val / 128 * 8 + s.val / 512) / 64 = b.val; omega)
  have eh : hd ⟨b.val * 64 + e.val / 128 * 8 + s.val / 512, hlt⟩ = (⟨e.val / 128, by omega⟩ : Fin 8) :=
    Fin.ext (by show (b.val * 64 + e.val / 128 * 8 + s.val / 512) / 8 % 8 = e.val / 128; omega)
  have es : pos ⟨b.val * 64 + e.val / 128 * 8 + s.val / 512, hlt⟩ ⟨s.val % 512, by omega⟩ = s :=
    Fin.ext (by show 512 * ((b.val * 64 + e.val / 128 * 8 + s.val / 512) % 8) + s.val % 512 = s.val; omega)
  have ee : (⟨(hd ⟨b.val * 64 + e.val / 128 * 8 + s.val / 512, hlt⟩).val * 128 + (⟨e.val % 128, by omega⟩ : Fin 128).val, by omega⟩ : Fin 1024) = e :=
    Fin.ext (by show (b.val * 64 + e.val / 128 * 8 + s.val / 512) / 8 % 8 * 128 + e.val % 128 = e.val; omega)
  rw [ee, es, eb, eh] at H
  exact H

end Cert.AttnIdeal.Open

namespace Cert.Proof.Attn

open Idealize.ShloMosaic Idealize.ShloMosaic.TcCoe Idealize.SL.Sem
open Cert.AttnIdeal.Open (att)

/-- The shape facts of the precondition's function. -/
theorem pre_facts : Cert.Pre_finite_qk.Facts := ⟨by decide, by decide⟩

/-- A number whose absolute value is below infinity is real. -/
theorem real_of_abs_lt (x : EReal) (h : max x (-x) < ⊤) : ∃ r : ℝ, x = (r : EReal) := by
  induction x with
  | bot => exact absurd h (by simp)
  | top => exact absurd h (by simp)
  | coe r => exact ⟨r, rfl⟩

theorem pinf : Ideal.ofBits .f32 0x7F800000#32 = ⊤ := by simp [Ideal.ofBits, Ideal.ieee]

theorem lt_of_cmp {x y : EReal} (h : Ideal.cmp .olt x y = 1#1) : x < y := by
  by_contra hn
  simp [Ideal.cmp, hn] at h

theorem and_one : ∀ a b : BitVec 1, a &&& b = 1#1 → a = 1#1 ∧ b = 1#1 := by decide

/-- Where the precondition holds every query entry and every key entry is real. -/
theorem pre_real [Cert.Pre_finite_qk.Facts] (q k : FVec Ideal Cert.Pre_finite_qk.S8192x2048 .bf16) (v : FVec Ideal Cert.Pre_finite_qk.S8192x1024 .bf16)
    (h : Cert.Pre_finite_qk.fn (F := Ideal) q k v = fun _ => 1#1) (j : Cert.Pre_finite_qk.S8192x2048.Idx) :
    (∃ x : ℝ, q j = (x : EReal)) ∧ ∃ x : ℝ, k j = (x : EReal) := by
  have hj : Ideal.cmp .olt (max (q j : EReal) (-(q j))) (Ideal.ofBits .f32 0x7F800000#32) &&& Ideal.cmp .olt (max (k j : EReal) (-(k j))) (Ideal.ofBits .f32 0x7F800000#32) = 1#1 :=
    congrFun h j
  obtain ⟨h1, h2⟩ := and_one _ _ hj
  rw [pinf] at h1 h2
  exact ⟨real_of_abs_lt _ (lt_of_cmp h1), real_of_abs_lt _ (lt_of_cmp h2)⟩

/-- The reference's frame: its arguments unchanged, no counter moved. -/
theorem frame_ref : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- Kernel and reference end at one array, from arguments that agree, when every query and key entry is finite. -/
theorem algebraic [Cert.Pre_finite_qk.Facts] : Cert.algebraic_AttnIdeal_AttnRefIdeal_pre_finite_qk := by
  intro m ρ m' ρ' hpre hagree
  refine ⟨fun c => (Cert.AttnIdeal.Gen.dats m 0 c).arrAt 3 Cert.AttnIdeal.cfg0.N, Cert.AttnIdeal.Value.run_blocks m ρ, ?_⟩
  refine (θ_run _ _ _).mono (fun r h c => ⟨?_, (h c).2⟩) (Cert.AttnRefIdeal.Value.run m' ρ')
  obtain ⟨e0, e1, e2⟩ := hagree c
  refine (h c).1.trans ?_
  rw [Cert.AttnRefIdeal.Open.res_eq, e0, e1, e2]
  refine funext fun (j : (⟨3, ![2, 4096, 1024]⟩ : Shape).Idx) => ?_
  obtain ⟨b, s, e, rfl⟩ : ∃ b s e, j = ix3 b s e := ⟨j 0, j 1, j 2, eq_ix3 j⟩
  have hr := fun j => pre_real _ _ _ (hpre c) j
  exact (Cert.AttnRefIdeal.Open.res_at _ _ _ b s e ⟨e.val / 128, by omega⟩ rfl).trans
    (Cert.AttnIdeal.Open.result_apply m c (fun i j => (hr (ix2 i j)).1) (fun i j => (hr (ix2 i j)).2) b s e).symm

end Cert.Proof.Attn

end
-- ==== Proof.MlpOpen.lean ====
/-
  What the feed-forward kernel's body leaves behind at one grid point, as a function of the point's input blocks and of
  the running sum it found: the first point of a row block starts the sum at the residual and adds the first product,
  a later point adds its product to the sum, and the last point also normalizes the sum into the output block.
-/
module

public import proofs.«01_k».proof.Proof.Gen.MlpIdeal.Value
public import Idealize.ShloMosaic.Lib.Pointwise

@[expose] public section

set_option maxRecDepth 16384

noncomputable section

namespace Cert.MlpIdeal.Open

open Cert.MlpIdeal Cert.MlpIdeal.Gen Idealize.ShloMosaic Idealize.ShloMosaic.TcCoe Idealize.SL.Sem

variable {F : FTy → Type} [FloatOps F]

/-- Whole-buffer accesses start at the origin. -/
theorem hz : (![0, 0] : Fin 2 → Nat) = fun _ => 0 := funext fun a => by fin_cases a <;> rfl

/-- The first point of a row block: the residual block, then the first product added. -/
theorem sum_first (c : Dev nD) (i : grid0.Coords) (a2 : Memref sig .tc .vmem S512x2048 .bf16) (h2 : a2.IsWhole) (a3 : Memref sig .tc .vmem S512x2048 .f32) (h3 : a3.IsWhole) (a4 : Memref sig .tc .vmem S2048x512 .bf16) (h4 : a4.IsWhole) (a5 : Memref sig .tc .vmem S512x2048 .bf16) (h5 : a5.IsWhole) (a6 : Memref sig .tc .vmem S1x2048 .f32) (h6 : a6.IsWhole) (a7 : Memref sig .tc .vmem S512x2048 .f32) (h7 : a7.IsWhole) (a8 : Memref sig .tc .vmem S512x2048 .f32) (h8 : a8.IsWhole)
    (hc0 : cond0_0 i) (hc1 : ¬cond0_1 i) (x0 : Vec F S512x2048 .bf16) (x1 : Vec F S512x2048 .f32) (x2 : Vec F S2048x512 .bf16) (x3 : Vec F S512x2048 .bf16) (x4 : Vec F S1x2048 .f32) :
    sout0_A_0 c i a2 h2 a3 h3 a4 h4 a5 h5 a6 h6 a7 h7 a8 h8 hc0 hc1 x0 x1 x2 x3 x4 = k0_pay2 x0 x2 (k0_pay1 x1) x3 := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S512x2048) hz, View.readCov_unit_zero (S := S512x2048) _ hz]
  simp only [View.readAt_eq_ld, h2.read_unread, h3.read_unread, h4.read_unread, h5.read_unread, h6.read_unread, h8.read_unread,
    View.ld_unit_zero (S := S512x2048) hz, View.ld_unit_zero (S := S2048x512) hz, View.ld_unit_zero (S := S1x2048) hz]

/-- A middle point: the product added to the sum found. -/
theorem sum_mid (c : Dev nD) (i : grid0.Coords) (a2 : Memref sig .tc .vmem S512x2048 .bf16) (h2 : a2.IsWhole) (a3 : Memref sig .tc .vmem S512x2048 .f32) (h3 : a3.IsWhole) (a4 : Memref sig .tc .vmem S2048x512 .bf16) (h4 : a4.IsWhole) (a5 : Memref sig .tc .vmem S512x2048 .bf16) (h5 : a5.IsWhole) (a6 : Memref sig .tc .vmem S1x2048 .f32) (h6 : a6.IsWhole) (a7 : Memref sig .tc .vmem S512x2048 .f32) (h7 : a7.IsWhole) (a8 : Memref sig .tc .vmem S512x2048 .f32) (h8 : a8.IsWhole)
    (hc0 : ¬cond0_0 i) (hc1 : ¬cond0_1 i) (x0 : Vec F S512x2048 .bf16) (x1 : Vec F S512x2048 .f32) (x2 : Vec F S2048x512 .bf16) (x3 : Vec F S512x2048 .bf16) (x4 : Vec F S1x2048 .f32) (xs0 : Vec F S512x2048 .f32) :
    sout0_B_0 c i a2 h2 a3 h3 a4 h4 a5 h5 a6 h6 a7 h7 a8 h8 hc0 hc1 x0 x1 x2 x3 x4 xs0 = k0_pay2 x0 x2 xs0 x3 := by
  unfold sout0_B_0
  rw [View.read_writes_eq_canon _ _ _ (scover0_B_0 c i a2 h2 a3 h3 a4 h4 a5 h5 a6 h6 a7 h7 a8 h8 hc0 hc1 x0 x1 x2 x3 x4 xs0)]
  unfold kernelRun0_B
  dsimp only
  sl_unfold_words
  rw [View.canon_unit_zero (S := S512x2048) hz]
  simp only [View.readAt_eq_ld, h2.read_unread, h3.read_unread, h4.read_unread, h5.read_unread, h6.read_unread, h8.read_unread,
    View.ld_unit_zero (S := S512x2048) hz, View.ld_unit_zero (S := S2048x512) hz, View.ld_unit_zero (S := S1x2048) hz]

/-- The last point adds its product to the sum in the same way. -/
theorem sum_last (c : Dev nD) (i : grid0.Coords) (a2 : Memref sig .tc .vmem S512x2048 .bf16) (h2 : a2.IsWhole) (a3 : Memref sig .tc .vmem S512x2048 .f32) (h3 : a3.IsWhole) (a4 : Memref sig .tc .vmem S2048x512 .bf16) (h4 : a4.IsWhole) (a5 : Memref sig .tc .vmem S512x2048 .bf16) (h5 : a5.IsWhole) (a6 : Memref sig .tc .vmem S1x2048 .f32) (h6 : a6.IsWhole) (a7 : Memref sig .tc .vmem S512x2048 .f32) (h7 : a7.IsWhole) (a8 : Memref sig .tc .vmem S512x2048 .f32) (h8 : a8.IsWhole)
    (hc0 : ¬cond0_0 i) (hc1 : cond0_1 i) (x0 : Vec F S512x2048 .bf16) (x1 : Vec F S512x2048 .f32) (x2 : Vec F S2048x512 .bf16) (x3 : Vec F S512x2048 .bf16) (x4 : Vec F S1x2048 .f32) (xs0 : Vec F S512x2048 .f32) :
    sout0_C_0 c i a2 h2 a3 h3 a4 h4 a5 h5 a6 h6 a7 h7 a8 h8 hc0 hc1 x0 x1 x2 x3 x4 xs0 = k0_pay2 x0 x2 xs0 x3 := by
  unfold sout0_C_0
  rw [View.read_writes_eq_canon _ _ _ (scover0_C_0 c i a2 h2 a3 h3 a4 h4 a5 h5 a6 h6 a7 h7 a8 h8 hc0 hc1 x0 x1 x2 x3 x4 xs0)]
  unfold kernelRun0_C
  dsimp only
  sl_unfold_words
  rw [View.canon_unit_zero (S := S512x2048) hz]
  simp only [View.readAt_eq_ld, h2.read_unread, h3.read_unread, h4.read_unread, h5.read_unread, h6.read_unread, h8.read_unread,
    View.ld_unit_zero (S := S512x2048) hz, View.ld_unit_zero (S := S2048x512) hz, View.ld_unit_zero (S := S1x2048) hz]

/-- The last point's output block: the completed sum, normalized. -/
theorem out_last (c : Dev nD) (i : grid0.Coords) (a2 : Memref sig .tc .vmem S512x2048 .bf16) (h2 : a2.IsWhole) (a3 : Memref sig .tc .vmem S512x2048 .f32) (h3 : a3.IsWhole) (a4 : Memref sig .tc .vmem S2048x512 .bf16) (h4 : a4.IsWhole) (a5 : Memref sig .tc .vmem S512x2048 .bf16) (h5 : a5.IsWhole) (a6 : Memref sig .tc .vmem S1x2048 .f32) (h6 : a6.IsWhole) (a7 : Memref sig .tc .vmem S512x2048 .f32) (h7 : a7.IsWhole) (a8 : Memref sig .tc .vmem S512x2048 .f32) (h8 : a8.IsWhole)
    (hc0 : ¬cond0_0 i) (hc1 : cond0_1 i) (x0 : Vec F S512x2048 .bf16) (x1 : Vec F S512x2048 .f32) (x2 : Vec F S2048x512 .bf16) (x3 : Vec F S512x2048 .bf16) (x4 : Vec F S1x2048 .f32) (xs0 : Vec F S512x2048 .f32) :
    out0_C_5 c i a2 h2 a3 h3 a4 h4 a5 h5 a6 h6 a7 h7 a8 h8 hc0 hc1 x0 x1 x2 x3 x4 xs0 = k0_pay3 (k0_pay2 x0 x2 xs0 x3) x4 := by
  unfold out0_C_5
  rw [View.read_writes_eq_canon _ _ _ (cover0_C_5 c i a2 h2 a3 h3 a4 h4 a5 h5 a6 h6 a7 h7 a8 h8 hc0 hc1 x0 x1 x2 x3 x4 xs0)]
  unfold kernelRun0_C
  dsimp only
  sl_unfold_words
  rw [View.canon_unit_zero (S := S512x2048) hz, View.readCov_unit_zero (S := S512x2048) _ hz]
  simp only [View.readAt_eq_ld, h2.read_unread, h3.read_unread, h4.read_unread, h5.read_unread, h6.read_unread, h8.read_unread,
    View.ld_unit_zero (S := S512x2048) hz, View.ld_unit_zero (S := S2048x512) hz, View.ld_unit_zero (S := S1x2048) hz]

end Cert.MlpIdeal.Open

end
-- ==== Proof.MlpSum.lean ====
/-
  The running sum of the feed-forward kernel, index by index at the ideal instance: after the `r`-th point of a row
  block it is the residual plus the first `r + 1` blocks of the second product, and the output block is its
  normalization by the root of its mean square.
-/
module

public import proofs.«01_k».proof.Proof.MlpOpen
public import Idealize.ShloMosaic.Lib.Pointwise
public import Idealize.ShloMosaic.Lib.StableHlo.ReadAt

@[expose] public section

set_option maxRecDepth 16384

noncomputable section

namespace Cert.MlpIdeal.Open

open Cert.MlpIdeal Cert.MlpIdeal.Gen Idealize.ShloMosaic Idealize.ShloMosaic.TcCoe Idealize.SL.Sem

/-- A row and column of the hidden layer, squared after the cut at zero. -/
def act (hm : S8192x2048.Idx → EReal) (wu : S2048x8192.Idx → EReal) (i k : Fin 8192) : EReal :=
  max (∑ j : Fin 2048, hm (ix2 i j) * wu (ix2 j k)) 0 * max (∑ j : Fin 2048, hm (ix2 i j) * wu (ix2 j k)) 0

/-- One product term of the second layer. -/
def term (hm : S8192x2048.Idx → EReal) (wu : S2048x8192.Idx → EReal) (wd : S8192x2048.Idx → EReal)
    (i : Fin 8192) (b : Fin 2048) (k : Fin 8192) : EReal := act hm wu i k * wd (ix2 k b)

/-- The term at a natural column number, zero past the last column. -/
def termN (hm : S8192x2048.Idx → EReal) (wu : S2048x8192.Idx → EReal) (wd : S8192x2048.Idx → EReal)
    (i : Fin 8192) (b : Fin 2048) (k : ℕ) : EReal := if h : k < 8192 then term hm wu wd i b ⟨k, h⟩ else 0

/-- A stored partial sum at an index: what it was, plus the block's product. -/
theorem pay2_apply (x0 : Vec Ideal S512x2048 .bf16) (x2 : Vec Ideal S2048x512 .bf16) (s : Vec Ideal S512x2048 .f32)
    (x3 : Vec Ideal S512x2048 .bf16) (a : Fin 512) (b : Fin 2048) :
    k0_pay2 x0 x2 s x3 (ix2 a b) = s (ix2 a b) + ∑ k : Fin 512,
      max (∑ j : Fin 2048, x0 (ix2 a j) * x2 (ix2 j k)) 0 * max (∑ j : Fin 2048, x0 (ix2 a j) * x2 (ix2 j k)) 0 * x3 (ix2 k b) := by
  pointwise [k0_pay2]

/-- The first partial sum starts from the residual block itself. -/
theorem pay1_eq (x1 : Vec Ideal S512x2048 .f32) : k0_pay1 x1 = x1 := by
  unfold k0_pay1; exact shapeCast_self ..

/-- The normalization of a row of the finished sum. -/
theorem pay3_apply (s : Vec Ideal S512x2048 .f32) (g : Vec Ideal S1x2048 .f32) (a : Fin 512) (b : Fin 2048) :
    k0_pay3 s g (ix2 a b) = s (ix2 a b) * Ideal.rsqrt (Ideal.div (∑ k : Fin 2048, s (ix2 a k) * s (ix2 a k)) (Ideal.ofBits .f32 0x45000000#32)
      + Ideal.ofBits .f32 0x358637BD#32) * g (ix2 0 b) := by
  pointwise [k0_pay3]

variable (m : (ℓ : Loc nD τ sig) → Buf (Elt Ideal) ℓ)

/-- Where each window's block sits: rows go with the slow coordinate, the hidden columns with the fast one. -/
theorem idx0 : ∀ t : Fin cfg0.N, win0_0.index t 0 = t.val / 16 ∧ win0_0.index t 1 = 0 := (by decide +kernel : ∀ t : Fin grid0.N, _)
theorem idx1 : ∀ t : Fin cfg0.N, win0_1.index t 0 = t.val / 16 ∧ win0_1.index t 1 = 0 := (by decide +kernel : ∀ t : Fin grid0.N, _)
theorem idx2 : ∀ t : Fin cfg0.N, win0_2.index t 0 = 0 ∧ win0_2.index t 1 = t.val % 16 := (by decide +kernel : ∀ t : Fin grid0.N, _)
theorem idx3 : ∀ t : Fin cfg0.N, win0_3.index t 0 = t.val % 16 ∧ win0_3.index t 1 = 0 := (by decide +kernel : ∀ t : Fin grid0.N, _)
theorem idx4 : ∀ t : Fin cfg0.N, win0_4.index t 0 = 0 ∧ win0_4.index t 1 = 0 := (by decide +kernel : ∀ t : Fin grid0.N, _)

/-- Row `a` of point `t`'s row block. -/
abbrev row (t : Fin cfg0.N) (a : Fin 512) : Fin 8192 :=
  ⟨512 * (t.val / 16) + a.val, by have := lt_of_lt_of_eq t.isLt N_0; omega⟩
/-- Hidden column `k` of point `t`'s column block. -/
abbrev col (t : Fin cfg0.N) (k : Fin 512) : Fin 8192 := ⟨512 * (t.val % 16) + k.val, by omega⟩

theorem blk0 (c : Dev nD) (t : Fin cfg0.N) (a : Fin 512) (j : Fin 2048) :
    (iblk m c 0 t : Vec Ideal S512x2048 .bf16) (ix2 a j) = m ((c : Thread nD τ).loc main_arg0) (ix2 (row t a) j) := by
  unfold iblk
  rw [View.read_apply]
  show V m c main_arg0 _ = _
  rw [V_main_arg0]
  congr 1
  funext d
  apply Fin.ext
  match d with
  | ⟨0, _⟩ => show win0_0.index t 0 * 512 + 1 * a.val = 512 * (t.val / 16) + a.val; rw [(idx0 t).1]; omega
  | ⟨1, _⟩ => show win0_0.index t 1 * 2048 + 1 * j.val = j.val; rw [(idx0 t).2]; omega

theorem blk1 (c : Dev nD) (t : Fin cfg0.N) (a : Fin 512) (j : Fin 2048) :
    (iblk m c 1 t : Vec Ideal S512x2048 .f32) (ix2 a j) = m ((c : Thread nD τ).loc main_arg1) (ix2 (row t a) j) := by
  unfold iblk
  rw [View.read_apply]
  show V m c main_arg1 _ = _
  rw [V_main_arg1]
  congr 1
  funext d
  apply Fin.ext
  match d with
  | ⟨0, _⟩ => show win0_1.index t 0 * 512 + 1 * a.val = 512 * (t.val / 16) + a.val; rw [(idx1 t).1]; omega
  | ⟨1, _⟩ => show win0_1.index t 1 * 2048 + 1 * j.val = j.val; rw [(idx1 t).2]; omega

theorem blk2 (c : Dev nD) (t : Fin cfg0.N) (j : Fin 2048) (k : Fin 512) :
    (iblk m c 2 t : Vec Ideal S2048x512 .bf16) (ix2 j k) = m ((c : Thread nD τ).loc main_arg2) (ix3 0 j (col t k)) := by
  unfold iblk
  rw [View.read_apply]
  show V m c main_v1 _ = _
  have e : ((cfg0.win 2).blk t).view.emb (ix2 j k) = (ix2 j (col t k) : S2048x8192.Idx) := by
    funext d
    apply Fin.ext
    match d with
    | ⟨0, _⟩ => show win0_2.index t 0 * 2048 + 1 * j.val = j.val; rw [(idx2 t).1]; omega
    | ⟨1, _⟩ => show win0_2.index t 1 * 512 + 1 * k.val = 512 * (t.val % 16) + k.val; rw [(idx2 t).2]; omega
  rw [e]
  unfold V
  after_reads_at

theorem blk3 (c : Dev nD) (t : Fin cfg0.N) (k : Fin 512) (j : Fin 2048) :
    (iblk m c 3 t : Vec Ideal S512x2048 .bf16) (ix2 k j) = m ((c : Thread nD τ).loc main_arg3) (ix3 0 (col t k) j) := by
  unfold iblk
  rw [View.read_apply]
  show V m c main_v3 _ = _
  have e : ((cfg0.win 3).blk t).view.emb (ix2 k j) = (ix2 (col t k) j : S8192x2048.Idx) := by
    funext d
    apply Fin.ext
    match d with
    | ⟨0, _⟩ => show win0_3.index t 0 * 512 + 1 * k.val = 512 * (t.val % 16) + k.val; rw [(idx3 t).1]; omega
    | ⟨1, _⟩ => show win0_3.index t 1 * 2048 + 1 * j.val = j.val; rw [(idx3 t).2]; omega
  rw [e]
  unfold V
  after_reads_at

theorem blk4 (c : Dev nD) (t : Fin cfg0.N) (j : Fin 2048) :
    (iblk m c 4 t : Vec Ideal S1x2048 .f32) (ix2 0 j) = m ((c : Thread nD τ).loc main_arg4) (ix1 j) := by
  unfold iblk
  rw [View.read_apply]
  show V m c main_v4 _ = _
  have e : ((cfg0.win 4).blk t).view.emb (ix2 0 j) = (ix2 0 j : S1x2048.Idx) := by
    funext d
    apply Fin.ext
    match d with
    | ⟨0, _⟩ => show win0_4.index t 0 * 1 + 1 * 0 = 0; rw [(idx4 t).1]
    | ⟨1, _⟩ => show win0_4.index t 1 * 2048 + 1 * j.val = j.val; rw [(idx4 t).2]; omega
  rw [e]
  unfold V
  after_reads_at

/-- The arguments as arrays of extended reals. -/
abbrev HM (c : Dev nD) : S8192x2048.Idx → EReal := m ((c : Thread nD τ).loc main_arg0)
abbrev X2 (c : Dev nD) : S8192x2048.Idx → EReal := m ((c : Thread nD τ).loc main_arg1)
abbrev WU (c : Dev nD) : S2048x8192.Idx → EReal := fun j => m ((c : Thread nD τ).loc main_arg2) (ix3 0 (j 0) (j 1))
abbrev WD (c : Dev nD) : S8192x2048.Idx → EReal := fun j => m ((c : Thread nD τ).loc main_arg3) (ix3 0 (j 0) (j 1))
abbrev GF (c : Dev nD) : S2048.Idx → EReal := m ((c : Thread nD τ).loc main_arg4)

/-- One point's stored sum: the sum found plus the point's 512 terms. -/
theorem step (c : Dev nD) (t : Fin cfg0.N) (s : Vec Ideal S512x2048 .f32) (a : Fin 512) (b : Fin 2048) :
    k0_pay2 (iblk m c 0 t) (iblk m c 2 t) s (iblk m c 3 t) (ix2 a b)
      = s (ix2 a b) + ∑ k ∈ Finset.range 512, termN (HM m c) (WU m c) (WD m c) (row t a) b (512 * (t.val % 16) + k) := by
  rw [pay2_apply, ← Fin.sum_univ_eq_sum_range (fun k => termN (HM m c) (WU m c) (WD m c) (row t a) b (512 * (t.val % 16) + k))]
  congr 1
  refine Finset.sum_congr rfl fun k _ => ?_
  unfold termN
  rw [dif_pos (col t k).isLt, blk3]
  unfold term act
  congr 1
  simp only [blk0, blk2]
  rfl

/-- THE RUNNING SUM after point `n`: the residual plus the blocks up to the point's. -/
theorem sum_after (c : Dev nD) : ∀ (n : ℕ) (hn : n < cfg0.N) (a : Fin 512) (b : Fin 2048),
    (outsAt0 m c n hn).2 (ix2 a b) = X2 m c (ix2 (row ⟨n, hn⟩ a) b)
      + ∑ k ∈ Finset.range (512 * (n % 16 + 1)), termN (HM m c) (WU m c) (WD m c) (row ⟨n, hn⟩ a) b k := by
  intro n
  induction n with
  | zero =>
    intro hn a b
    rw [outsAt0_A m c ⟨0, hn⟩ rfl (by dsimp only; omega)]
    dsimp only
    rw [sum_first, step, pay1_eq, blk1]
    simp only [Nat.zero_mod, Nat.mul_zero, Nat.zero_add, Nat.mul_one]
  | succ n ih =>
    intro hn a b
    have hN := lt_of_lt_of_eq hn N_0
    by_cases h0 : (n + 1) % 16 = 0
    · rw [outsAt0_A m c ⟨n + 1, hn⟩ h0 (by dsimp only; omega)]
      dsimp only
      rw [sum_first, step, pay1_eq, blk1, h0]
      simp only [h0, Nat.mul_zero, Nat.zero_add, Nat.mul_one]
    · have hprev := ih (Nat.lt_of_succ_lt hn) a b
      have hr : row ⟨n, Nat.lt_of_succ_lt hn⟩ a = row ⟨n + 1, hn⟩ a := by
        apply Fin.ext; dsimp only; omega
      have hm : (n + 1) % 16 = n % 16 + 1 := by omega
      have key : (k0_pay2 (iblk m c 0 ⟨n + 1, hn⟩) (iblk m c 2 ⟨n + 1, hn⟩) (outsAt0 m c n (Nat.lt_of_succ_lt hn)).2
          (iblk m c 3 ⟨n + 1, hn⟩) : Vec Ideal S512x2048 .f32) (ix2 a b) = X2 m c (ix2 (row ⟨n + 1, hn⟩ a) b)
          + ∑ k ∈ Finset.range (512 * ((n + 1) % 16 + 1)), termN (HM m c) (WU m c) (WD m c) (row ⟨n + 1, hn⟩ a) b k := by
        rw [step, hprev, hr, hm, show 512 * (n % 16 + 1 + 1) = 512 * (n % 16 + 1) + 512 by ring, Finset.sum_range_add, add_assoc]
      by_cases h1 : (n + 1) % 16 = 15
      · rw [outsAt0_C m c ⟨n + 1, hn⟩ h0 h1]
        dsimp only
        rw [sum_last]
        exact key
      · rw [outsAt0_B m c ⟨n + 1, hn⟩ h0 h1]
        dsimp only
        rw [sum_mid]
        exact key

/-- The whole row of the finished sum. -/
def fin (hm : S8192x2048.Idx → EReal) (x2 : S8192x2048.Idx → EReal) (wu : S2048x8192.Idx → EReal) (wd : S8192x2048.Idx → EReal)
    (i : Fin 8192) (b : Fin 2048) : EReal := x2 (ix2 i b) + ∑ k : Fin 8192, term hm wu wd i b k

/-- The normalized row: the layer's result. -/
def res (hm : S8192x2048.Idx → EReal) (x2 : S8192x2048.Idx → EReal) (wu : S2048x8192.Idx → EReal) (wd : S8192x2048.Idx → EReal)
    (g : S2048.Idx → EReal) (i : Fin 8192) (b : Fin 2048) : EReal :=
  fin hm x2 wu wd i b * Ideal.rsqrt (Ideal.div (∑ k : Fin 2048, fin hm x2 wu wd i k * fin hm x2 wu wd i k) (Ideal.ofBits .f32 0x45000000#32)
      + Ideal.ofBits .f32 0x358637BD#32) * g (ix1 b)

/-- All 8192 terms, counted by naturals. -/
theorem sum_all (hm : S8192x2048.Idx → EReal) (wu : S2048x8192.Idx → EReal) (wd : S8192x2048.Idx → EReal) (i : Fin 8192) (b : Fin 2048) :
    ∑ k ∈ Finset.range 8192, termN hm wu wd i b k = ∑ k : Fin 8192, term hm wu wd i b k := by
  rw [← Fin.sum_univ_eq_sum_range]
  exact Finset.sum_congr rfl fun k _ => dif_pos k.isLt

/-- THE OUTPUT BLOCK a row block's last point stores. -/
theorem out_after (c : Dev nD) (t : Fin cfg0.N) (h1 : t.val % 16 = 15) (a : Fin 512) (b : Fin 2048) :
    (outsAt0 m c t.val t.isLt).1 (ix2 a b) = res (HM m c) (X2 m c) (WU m c) (WD m c) (GF m c) (row t a) b := by
  have h0 : ¬t.val % 16 = 0 := by omega
  have e2 : ∀ b', (k0_pay2 (iblk m c 0 t) (iblk m c 2 t) (outsAt0 m c (t.val - 1) (Nat.lt_of_le_of_lt (Nat.sub_le _ _) t.isLt)).2
      (iblk m c 3 t) : Vec Ideal S512x2048 .f32) (ix2 a b') = fin (HM m c) (X2 m c) (WU m c) (WD m c) (row t a) b' := by
    intro b'
    have := sum_after m c t.val t.isLt a b'
    rw [outsAt0_C m c t h0 h1] at this
    dsimp only at this
    rw [sum_last] at this
    rw [this, h1]
    unfold fin
    rw [← sum_all]
  rw [outsAt0_C m c t h0 h1]
  dsimp only
  rw [out_last, pay3_apply, blk4]
  simp only [e2]
  rfl

end Cert.MlpIdeal.Open

end
-- ==== Proof.MlpClaim.lean ====
/-
  The feed-forward claims: the kernel's result array holds, at each row and column, the normalized residual sum
  (`res`), and so does the reference's; the reference leaves its counters at zero.
-/
module

public import proofs.«01_k».proof.Proof.MlpSum
public import proofs.«01_k».proof.Proof.Gen.MlpRefIdeal.Run
public import proofs.«01_k».proof.Defs
public import Idealize.ShloMosaic.Lib.Quiescent

@[expose] public section

set_option maxRecDepth 16384

noncomputable section

namespace Cert.MlpIdeal.Open

open Cert.MlpIdeal Cert.MlpIdeal.Gen Idealize.ShloMosaic Idealize.ShloMosaic.TcCoe Idealize.SL.Sem

variable (m : (ℓ : Loc nD τ sig) → Buf (Elt Ideal) ℓ)

/-- The kernel's result array, at each index. -/
theorem result_apply (c : Dev nD) (i : Fin 8192) (b : Fin 2048) :
    Value.G5 m c (ix2 i b) = res (HM m c) (X2 m c) (WU m c) (WD m c) (GF m c) i b := by
  have hi := i.isLt
  have hp : Value.pt5Of (ix2 i b) = 16 * (i.val / 512) + 15 := by
    show 16 * (1 * (i.val / 512 - 0) + 1 * (b.val / 2048 - 0)) + 15 = _
    have : b.val / 2048 = 0 := Nat.div_eq_of_lt b.isLt
    omega
  have hlt : Value.pt5Of (ix2 i b) < cfg0.N := by rw [hp, show cfg0.N = 256 from N_0]; omega
  have hl : Value.loc5Of (ix2 i b) = ix2 ⟨i.val % 512, Nat.mod_lt _ (by decide)⟩ b := by
    funext d
    apply Fin.ext
    match d with
    | ⟨0, _⟩ => rfl
    | ⟨1, _⟩ => exact Nat.mod_eq_of_lt b.isLt
  unfold Value.G5
  rw [dif_pos hlt, ← Value.outsAt0_sweep m c _ hlt, hl,
    out_after m c ⟨Value.pt5Of (ix2 i b), hlt⟩ (by dsimp only; rw [hp]; omega)]
  congr 1
  apply Fin.ext
  show 512 * (Value.pt5Of (ix2 i b) / 16) + i.val % 512 = i.val
  rw [hp]; omega

end Cert.MlpIdeal.Open

namespace Cert.MlpRefIdeal.Open

open Cert.MlpRefIdeal Idealize.ShloMosaic Idealize.ShloMosaic.TcCoe Idealize.SL.Sem
open Cert.MlpIdeal.Open (res fin term act)

variable (m : (ℓ : Loc nD τ sig) → Buf (Elt Ideal) ℓ) (ρ : Dev nD → PrngReg)

/-- The leading axis of length one dropped, index by index. -/
theorem weight_up (w : FVec Ideal S1x2048x8192 .f32) (h : S1x2048x8192.ShapeCasts S2048x8192) :
    shapeCast S2048x8192 w h = fun j => w (ix3 0 (j 0) (j 1)) := by
  funext j
  pointwise

theorem weight_down (w : FVec Ideal S1x8192x2048 .f32) (h : S1x8192x2048.ShapeCasts S8192x2048) :
    shapeCast S8192x2048 w h = fun j => w (ix3 0 (j 0) (j 1)) := by
  funext j
  pointwise

/-- The reference's result array, at each index. -/
theorem run : θ_run (defs (F := Ideal)) (onTc (τ := τ) (main (F := Ideal))) ⟨m, fun _ => 0, ρ⟩ fun r => ∀ c : Dev nD,
      (∀ (i : Fin 8192) (b : Fin 2048), r.2.mem ((c.tc : Thread nD τ).loc main_v20) (ix2 i b)
        = res (m ((c.tc : Thread nD τ).loc main_arg0)) (m ((c.tc : Thread nD τ).loc main_arg1)) (fun j => m ((c.tc : Thread nD τ).loc main_arg2) (ix3 0 (j 0) (j 1)))
            (fun j => m ((c.tc : Thread nD τ).loc main_arg3) (ix3 0 (j 0) (j 1))) (m ((c.tc : Thread nD τ).loc main_arg4)) i b)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ⟨fun i b => ?_, (h c).2⟩) (Value.run m ρ)
  rw [(h c).1]
  rw [weight_up, weight_down]
  pointwise [res, fin, term, act]

end Cert.MlpRefIdeal.Open

namespace Cert.Proof.Mlp

open Idealize.ShloMosaic Idealize.ShloMosaic.TcCoe Idealize.SL.Sem

/-- The reference's frame: its arguments unchanged, no counter moved. -/
theorem frame_ref : Cert.quiescent_MlpRefIdeal := fun m ρ _ =>
  (θ_run Cert.MlpRefIdeal.defs _ _).mono (fun r h => ⟨fun c => (h c).2, sem_eq_zero_of_no_sems (by decide) r.2⟩)
    (Cert.MlpRefIdeal.Open.run m ρ)

/-- Kernel and reference end at one array, from arguments that agree: index by index both are `res`. -/
theorem algebraic : Cert.algebraic_MlpIdeal_MlpRefIdeal := by
  intro m ρ m' ρ' _ hagree
  refine ⟨fun c => Cert.MlpIdeal.Value.G5 m c, Cert.MlpIdeal.Value.run m ρ, ?_⟩
  refine (θ_run _ _ _).mono (fun r h c => ⟨?_, (h c).2⟩) (Cert.MlpRefIdeal.Open.run m' ρ')
  obtain ⟨e0, e1, e2, e3, e4⟩ := hagree c
  refine funext fun (j : (⟨2, ![8192, 2048]⟩ : Shape).Idx) => ?_
  obtain ⟨i, b, rfl⟩ : ∃ i b, j = ix2 i b := ⟨j 0, j 1, eq_ix2 j⟩
  refine ((h c).1 i b).trans (Eq.trans ?_ (Cert.MlpIdeal.Open.result_apply m c i b).symm)
  rw [e0, e1, e2, e3, e4]

end Cert.Proof.Mlp

end
-- ==== Proof.PostRow.lean ====
/-
  The mathematics of one row of the cross-attention block, apart from any program: its normalized row is real whatever
  the row holds, so real weights and keys give real scores, and then the quotient of weighted sums is the sum of the
  values with the softmax weights.
-/
module

public import proofs.«01_k».proof.Proof.Softmax

@[expose] public section

set_option maxRecDepth 16384

noncomputable section

namespace Cert.PostRow

open Idealize.ShloMosaic
open Cert.Softmax (mx den num)

/-- The row length, the number added to the mean square, and the scale of the scores, as the programs write them. -/
abbrev len : EReal := Ideal.ofBits .f32 0x45000000#32
abbrev eps : EReal := Ideal.ofBits .f32 0x358637BD#32
abbrev scale : EReal := Ideal.ofBits .f32 0x3DB504F3#32

/-- A row divided by the root of its mean square, times a gain. -/
def rms (x : Fin 2048 → EReal) (g : EReal) (b : Fin 2048) : EReal :=
  x b * Ideal.rsqrt (Ideal.div (∑ k : Fin 2048, x k * x k) len + eps) * g

/-- The largest of 256 scores. -/
def top (s : Fin 256 → EReal) : EReal := Finset.univ.fold max ⊥ s

/-- The values' sum weighted by exponentials relative to the number `m`, over the sum of these. -/
def quot (s : Fin 256 → EReal) (m : EReal) (v : Fin 256 → EReal) : EReal :=
  Ideal.div (∑ u : Fin 256, Ideal.exp (s u - m) * v u) (∑ u : Fin 256, Ideal.exp (s u - m))

/-- The values' sum with the softmax weights. -/
def mean (s : Fin 256 → EReal) (v : Fin 256 → EReal) : EReal :=
  ∑ u : Fin 256, v u * Ideal.div (Ideal.exp (s u - top s)) (∑ u : Fin 256, Ideal.exp (s u - top s))

/-- Two rows of 1024 set end to end. -/
def ends (a b : Fin 1024 → EReal) (c : Fin 2048) : EReal :=
  if h : c.val < 1024 then a ⟨c.val, h⟩ else b ⟨c.val - 1024, by omega⟩

/-- Column `c` of four heads of 128 columns set side by side. -/
def side (h0 h1 h2 h3 : Fin 128 → EReal) (c : Fin 512) : EReal :=
  if h : c.val < 128 then h0 ⟨c.val, h⟩ else if h : c.val - 128 < 128 then h1 ⟨c.val - 128, h⟩
  else if h : c.val - 128 - 128 < 128 then h2 ⟨c.val - 128 - 128, h⟩ else h3 ⟨c.val - 128 - 128 - 128, by omega⟩

/-- The residual sum of a row. -/
def first (a b : Fin 1024 → EReal) (x : Fin 2048 → EReal) (w : Fin 2048 → Fin 2048 → EReal) (n : Fin 2048) : EReal :=
  x n + ∑ k : Fin 2048, ends a b k * w k n

/-- The queries of a row. -/
def query (x g : Fin 2048 → EReal) (w : Fin 2048 → Fin 512 → EReal) (n : Fin 512) : EReal :=
  ∑ k : Fin 2048, rms x (g k) k * w k n

/-- The product of a head's queries with a memory position's keys. -/
def prod (q : Fin 512 → EReal) (K : Fin 256 → Fin 512 → EReal) (h : Fin 4) (u : Fin 256) : EReal :=
  ∑ d : Fin 128, q ⟨h.val * 128 + d.val, by omega⟩ * K u ⟨h.val * 128 + d.val, by omega⟩

/-- The head a column belongs to. -/
abbrev hd (c : Fin 512) : Fin 4 := ⟨c.val / 128, by omega⟩

/-- The new residual of a row, from the heads' columns. -/
def second (x : Fin 2048 → EReal) (o : Fin 512 → EReal) (w : Fin 512 → Fin 2048 → EReal) (n : Fin 2048) : EReal :=
  x n + ∑ c : Fin 512, o c * w c n

/-- A column of the heads, in softmax weights of the scaled scores. -/
def cell (q : Fin 512 → EReal) (K V : Fin 256 → Fin 512 → EReal) (c : Fin 512) : EReal :=
  mean (fun u => prod q K (hd c) u * scale) fun u => V u c

/-! ## Real numbers -/

/-- To be a real number. -/
def IsReal (x : EReal) : Prop := ∃ r : ℝ, x = (r : EReal)

theorem real_mul {x y : EReal} (hx : IsReal x) (hy : IsReal y) : IsReal (x * y) := by
  obtain ⟨r, rfl⟩ := hx
  obtain ⟨s, rfl⟩ := hy
  exact ⟨r * s, (EReal.coe_mul r s).symm⟩

theorem real_sum {ι : Type*} (S : Finset ι) {f : ι → EReal} (hf : ∀ i, IsReal (f i)) : IsReal (∑ i ∈ S, f i) := by
  choose g hg using hf
  exact ⟨∑ i ∈ S, g i, by rw [Cert.Softmax.coe_sum]; exact Finset.sum_congr rfl fun i _ => hg i⟩

theorem len_pos : ∃ r : ℝ, 0 < r ∧ len = (r : EReal) := by
  refine ⟨_, ?_, by simp only [len, Ideal.ofBits, Ideal.ieee]; rfl⟩
  rw [if_neg (by decide)]
  positivity

theorem eps_pos : ∃ r : ℝ, 0 < r ∧ eps = (r : EReal) := by
  refine ⟨_, ?_, by simp only [eps, Ideal.ofBits, Ideal.ieee]; rfl⟩
  rw [if_neg (by decide)]
  positivity

theorem scale_real : IsReal scale :=
  ⟨_, by simp [scale, Ideal.ofBits, Ideal.ieee]; rfl⟩

/-- A square is not negative. -/
theorem sq_nonneg (x : EReal) : 0 ≤ x * x := by
  induction x with
  | bot => simp
  | top => simp
  | coe r => rw [← EReal.coe_mul]; exact EReal.coe_nonneg.mpr (mul_self_nonneg r)

/-- The normalized row is real whatever the row holds: an infinite entry makes the sum of squares infinite and the
    factor zero. -/
theorem rms_real (x : Fin 2048 → EReal) {g : EReal} (hg : IsReal g) (b : Fin 2048) : IsReal (rms x g b) := by
  obtain ⟨n, hn, en⟩ := len_pos
  obtain ⟨e, he, ee⟩ := eps_pos
  unfold rms
  refine real_mul ?_ hg
  by_cases hx : ∀ k, IsReal (x k)
  · choose y hy using hx
    have hs : (∑ k : Fin 2048, x k * x k) = ((∑ k : Fin 2048, y k * y k : ℝ) : EReal) := by
      rw [Cert.Softmax.coe_sum]
      exact Finset.sum_congr rfl fun k _ => by rw [hy, EReal.coe_mul]
    have h0 : 0 ≤ ∑ k : Fin 2048, y k * y k := Finset.sum_nonneg fun k _ => mul_self_nonneg _
    have hp : 0 < (∑ k : Fin 2048, y k * y k) * (1 / n) + e := by positivity
    refine real_mul ⟨y b, hy b⟩ ?_
    rw [hs, en, ee, Ideal.div_coe hn.ne', ← EReal.coe_mul, ← EReal.coe_add]
    generalize (∑ k : Fin 2048, y k * y k) * (1 / n) + e = z at hp
    show IsReal (if z < 0 then ⊥ else if z = 0 then ⊤ else (((Real.sqrt z)⁻¹ : ℝ) : EReal))
    rw [if_neg hp.not_gt, if_neg hp.ne']
    exact ⟨_, rfl⟩
  · obtain ⟨k, hk⟩ := not_forall.mp hx
    have hk' : x k * x k = ⊤ := by
      generalize x k = z at hk
      induction z with
      | bot => rfl
      | top => rfl
      | coe r => exact absurd ⟨r, rfl⟩ hk
    have hs : (∑ k : Fin 2048, x k * x k) = ⊤ :=
      top_le_iff.mp (hk' ▸ Finset.single_le_sum (f := fun k => x k * x k) (fun k _ => sq_nonneg _) (Finset.mem_univ k))
    refine ⟨0, ?_⟩
    rw [hs, en, ee]
    have hd : Ideal.div ⊤ (n : EReal) + (e : EReal) = ⊤ := by
      rw [Ideal.div_coe hn.ne', EReal.top_mul_coe_of_pos (by positivity), EReal.top_add_coe]
    have ht : Ideal.rsqrt ⊤ = 0 := rfl
    rw [hd, ht, mul_zero, EReal.coe_zero]

theorem query_real (x : Fin 2048 → EReal) {g : Fin 2048 → EReal} {w : Fin 2048 → Fin 512 → EReal} (hg : ∀ k, IsReal (g k)) (hw : ∀ k n, IsReal (w k n)) (n : Fin 512) :
    IsReal (query x g w n) :=
  real_sum _ fun k => real_mul (rms_real x (hg k) k) (hw k n)

/-! ## The meeting points of the two programs -/

/-- The residual sum in two halves. -/
theorem first_halves (a b : Fin 1024 → EReal) (x : Fin 2048 → EReal) (w : Fin 2048 → Fin 2048 → EReal) (n : Fin 2048) :
    x n + (∑ k : Fin 1024, a k * w ⟨k.val, by omega⟩ n) + (∑ k : Fin 1024, b k * w ⟨1024 + k.val, by omega⟩ n) = first a b x w n := by
  unfold first
  rw [add_assoc]
  refine congrArg (x n + ·) (Eq.trans ?_ (Fin.sum_univ_add (a := 1024) (b := 1024) fun k : Fin (1024 + 1024) => ends a b k * w k n).symm)
  refine congrArg₂ (· + ·) (Finset.sum_congr rfl fun k _ => ?_) (Finset.sum_congr rfl fun k _ => ?_)
  · congr 1
    exact Eq.symm (dif_pos (c := (Fin.castAdd 1024 k : Fin (1024 + 1024)).val < 1024) k.isLt)
  · congr 1
    refine Eq.symm ((dif_neg (by show ¬ 1024 + k.val < 1024; omega)).trans (congrArg b (Fin.ext ?_)))
    show 1024 + k.val - 1024 = k.val
    omega

/-- Scaling the queries first scales the products. -/
theorem prod_scale {q : Fin 512 → EReal} {K : Fin 256 → Fin 512 → EReal} (hq : ∀ n, IsReal (q n)) (hK : ∀ u n, IsReal (K u n)) (h : Fin 4) (u : Fin 256) :
    prod (fun n => q n * scale) K h u = prod q K h u * scale := by
  obtain ⟨s, hs⟩ := scale_real
  choose f hf using hq
  choose g hg using hK
  unfold prod
  simp only [hf, hg, hs, ← EReal.coe_mul, ← Cert.Softmax.coe_sum]
  rw [Finset.sum_mul]
  congr 1
  exact Finset.sum_congr rfl fun d _ => by ring

/-- The quotient of the weighted sums is the sum with the softmax weights, for real scores. -/
theorem quot_mean {s : Fin 256 → EReal} (hs : ∀ u, IsReal (s u)) (v : Fin 256 → EReal) : quot s (top s) v = mean s v := by
  have hne : ∀ u, s u ≠ ⊤ ∧ s u ≠ ⊥ := fun u => by
    obtain ⟨r, hr⟩ := hs u
    rw [hr]; exact ⟨EReal.coe_ne_top r, EReal.coe_ne_bot r⟩
  let f : ℕ → EReal := fun k => if h : k < 256 then s ⟨k, h⟩ else ⊥
  let w : ℕ → EReal := fun k => if h : k < 256 then v ⟨k, h⟩ else 0
  have hf : ∀ u : Fin 256, f u.val = s u := fun u => dif_pos u.isLt
  have hw : ∀ u : Fin 256, w u.val = v u := fun u => dif_pos u.isLt
  have ht : mx f 256 = top s := by
    refine le_antisymm (Finset.sup_le fun k hk => ?_) ?_
    · have hk := Finset.mem_range.mp hk
      refine (hf ⟨k, hk⟩).le.trans ?_
      exact Finset.le_sup (f := s) (Finset.mem_univ _)
    · show (Finset.univ.sup s) ≤ _
      exact Finset.sup_le fun u _ => (hf u).symm.le.trans (Cert.Softmax.le_mx u.isLt)
  have key := Cert.Softmax.average (f := f) (v := w) (n := 256) (N := 256) le_rfl (k := 0)
    (fun j hj => by rw [hf ⟨j, hj⟩]; exact (hne _).1) (by norm_num) (by rw [hf ⟨0, by norm_num⟩]; exact (hne _).2) (fun j h1 h2 => absurd h2 (by omega))
  unfold num den at key
  rw [ht] at key
  simp only [Finset.sum_range, hf, hw] at key
  exact key

/-- A head's column. -/
theorem cell_eq {q : Fin 512 → EReal} {K : Fin 256 → Fin 512 → EReal} (hq : ∀ n, IsReal (q n)) (hK : ∀ u n, IsReal (K u n)) (V : Fin 256 → Fin 512 → EReal) (c : Fin 512) :
    quot (prod (fun n => q n * scale) K (hd c)) (top (prod (fun n => q n * scale) K (hd c))) (fun u => V u c) = cell q K V c := by
  have e : prod (fun n => q n * scale) K (hd c) = fun u => prod q K (hd c) u * scale := funext fun u => prod_scale hq hK (hd c) u
  rw [e]
  exact quot_mean (fun u => real_mul (real_sum _ fun d => real_mul (hq _) (hK _ _)) scale_real) _

/-- Four heads side by side, each given by one formula of its columns. -/
theorem side_eq {h0 h1 h2 h3 : Fin 128 → EReal} {F : Fin 512 → EReal} (e0 : ∀ j, h0 j = F ⟨j.val, by omega⟩) (e1 : ∀ j, h1 j = F ⟨128 + j.val, by omega⟩)
    (e2 : ∀ j, h2 j = F ⟨256 + j.val, by omega⟩) (e3 : ∀ j, h3 j = F ⟨384 + j.val, by omega⟩) : side h0 h1 h2 h3 = F := by
  funext c
  have hc := c.isLt
  unfold side
  split
  · rw [e0]
  split
  · rw [e1]; congr 1; apply Fin.ext; dsimp only; omega
  split
  · rw [e2]; congr 1; apply Fin.ext; dsimp only; omega
  · rw [e3]; congr 1; apply Fin.ext; dsimp only; omega

end Cert.PostRow

end
-- ==== Proof.PostOpen.lean ====
/-
  What the cross-attention kernel's body computes on one row, at the ideal instance: the residual sum, its normalization,
  the scaled queries, each head's quotient, the new residual and its normalization.
-/
module

public import proofs.«01_k».proof.Proof.Gen.PostIdeal.Value
public import proofs.«01_k».proof.Proof.PostRow
public import Idealize.ShloMosaic.Lib.Pointwise

@[expose] public section

set_option maxRecDepth 16384

noncomputable section

namespace Cert.PostIdeal.Open

open Cert.PostIdeal Cert.PostIdeal.Gen Idealize.ShloMosaic Idealize.ShloMosaic.TcCoe Idealize.SL.Sem
open Cert.PostRow (rms top quot side)

theorem ninf : Ideal.ofBits .f32 0xFF800000#32 = ⊥ := by simp [Ideal.ofBits, Ideal.ieee]

variable (r : Fin 256)

/-- The residual sum. -/
theorem sum_at (x : Vec Ideal S256x2048 .f32) (a b : Vec Ideal S256x1024 .bf16) (wa wb : Vec Ideal S1024x2048 .bf16) (n : Fin 2048) :
    k0_pay2 (F := Ideal) x a wa b wb (ix2 r n)
      = x (ix2 r n) + (∑ k : Fin 1024, a (ix2 r k) * wa (ix2 k n)) + ∑ k : Fin 1024, b (ix2 r k) * wb (ix2 k n) := by
  pointwise [k0_pay2]

/-- The scaled queries. -/
theorem query_at (x : Vec Ideal S256x2048 .f32) (a b : Vec Ideal S256x1024 .bf16) (wa wb : Vec Ideal S1024x2048 .bf16) (g : Vec Ideal S1x2048 .f32)
    (wq : Vec Ideal S2048x512 .bf16) (n : Fin 512) :
    k0_pay3 (F := Ideal) x a wa b wb g wq (ix2 r n)
      = (∑ k : Fin 2048, rms (fun k => k0_pay2 (F := Ideal) x a wa b wb (ix2 r k)) (g (ix2 0 k)) k * wq (ix2 k n)) * Cert.PostRow.scale := by
  pointwise [k0_pay3, rms, Cert.PostRow.len, Cert.PostRow.eps]

/-- The first head's queries. -/
theorem query0_at (x : Vec Ideal S256x2048 .f32) (a b : Vec Ideal S256x1024 .bf16) (wa wb : Vec Ideal S1024x2048 .bf16) (g : Vec Ideal S1x2048 .f32)
    (wq : Vec Ideal S2048x512 .bf16) (d : Fin 128) :
    k0_pay4 (F := Ideal) x a wa b wb g wq (ix2 r d) = k0_pay3 (F := Ideal) x a wa b wb g wq (ix2 r ⟨d.val, by omega⟩) := by
  pointwise [k0_pay4]

/-- The first head. -/
theorem head0_at (q : FVec Ideal S256x128 .bf16) (K V : Vec Ideal S1x256x128 .bf16) (j : Fin 128) :
    k0_pay6 (F := Ideal) q (k0_pay5 K) (constant S256x256 .f32 0x00000000#32) V (ix2 r j)
      = quot (fun u => ∑ d : Fin 128, q (ix2 r d) * K (ix3 0 u d)) (top fun u => ∑ d : Fin 128, q (ix2 r d) * K (ix3 0 u d)) fun u => V (ix3 0 u j) := by
  unfold quot top; rw [← ninf]; pointwise [k0_pay6, k0_pay5]

/-- The second head. -/
theorem head1_at (q : FVec Ideal S256x512 .bf16) (K V : Vec Ideal S1x256x128 .bf16) (j : Fin 128) :
    k0_pay7 (F := Ideal) q K V (ix2 r j)
      = quot (fun u => ∑ d : Fin 128, q (ix2 r ⟨128 + d.val, by omega⟩) * K (ix3 0 u d)) (top fun u => ∑ d : Fin 128, q (ix2 r ⟨128 + d.val, by omega⟩) * K (ix3 0 u d)) fun u => V (ix3 0 u j) := by
  unfold quot top; rw [← ninf]; pointwise [k0_pay7]

/-- The third head's scores and their largest. -/
theorem score2_at (q : FVec Ideal S256x512 .bf16) (K : Vec Ideal S1x256x128 .bf16) (u : Fin 256) :
    k0_pay8 (F := Ideal) q K (ix2 r u) = ∑ d : Fin 128, q (ix2 r ⟨256 + d.val, by omega⟩) * K (ix3 0 u d) := by
  pointwise [k0_pay8]

theorem top2_at (q : FVec Ideal S256x512 .bf16) (K : Vec Ideal S1x256x128 .bf16) :
    k0_pay9 (F := Ideal) q K (ix2 r 0) = top fun u => k0_pay8 (F := Ideal) q K (ix2 r u) := by
  unfold top; rw [← ninf]; pointwise [k0_pay9]

/-- The new residual: the four heads side by side, projected and added. -/
theorem out_at (x : FVec Ideal S256x2048 .f32) (q : FVec Ideal S256x512 .bf16) (o0 o1 : FVec Ideal S256x128 .bf16)
    (s2 : FVec Ideal S256x256 .f32) (m2 : FVec Ideal S256x1 .f32) (V2 K3 V3 : Vec Ideal S1x256x128 .bf16) (wo : Vec Ideal S512x2048 .bf16) (n : Fin 2048) :
    k0_pay10 (F := Ideal) x q o0 o1 s2 m2 V2 K3 V3 wo (ix2 r n) = x (ix2 r n) + ∑ c : Fin 512,
      side (fun j => o0 (ix2 r j)) (fun j => o1 (ix2 r j)) (fun j => quot (fun u => s2 (ix2 r u)) (m2 (ix2 r 0)) fun u => V2 (ix3 0 u j))
        (fun j => quot (fun u => ∑ d : Fin 128, q (ix2 r ⟨384 + d.val, by omega⟩) * K3 (ix3 0 u d))
          (top fun u => ∑ d : Fin 128, q (ix2 r ⟨384 + d.val, by omega⟩) * K3 (ix3 0 u d)) fun u => V3 (ix3 0 u j)) c * wo (ix2 c n) := by
  unfold quot top; rw [← ninf]; pointwise [k0_pay10]
  rfl

/-- The new residual's normalization. -/
theorem norm_at (x : Vec Ideal S256x2048 .f32) (g : Vec Ideal S1x2048 .f32) (n : Fin 2048) :
    k0_pay1 (F := Ideal) x g (ix2 r n) = rms (fun k => x (ix2 r k)) (g (ix2 0 n)) n := by
  pointwise [k0_pay1, rms, Cert.PostRow.len, Cert.PostRow.eps]

/-! ## The body's two results on a row -/

/-- Whole-buffer accesses start at the origin. -/
theorem hz : (![0, 0] : Fin 2 → Nat) = fun _ => 0 := funext fun a => by fin_cases a <;> rfl

/-- A head's 128 columns of the memory's keys or values. -/
theorem slice_at (x : Vec Ideal S1x256x512 .bf16) (o : ℕ) (inb : ∀ a, (![0, 0, o] : Fin 3 → ℕ) a + S1x256x128.size a ≤ S1x256x512.size a)
    (u : Fin 256) (d : Fin 128) (h : o + d.val < 512) :
    View.ld x (Rect.unit (s := S1x256x512) ![0, 0, o] S1x256x128.size inb) (ix3 0 u d) = x (ix3 0 u ⟨o + d.val, h⟩) := by
  show x ((Rect.unit (s := S1x256x512) ![0, 0, o] S1x256x128.size inb).emb (ix3 0 u d)) = _
  congr 1
  funext b
  apply Fin.ext
  match b with
  | ⟨0, _⟩ => rfl
  | ⟨1, _⟩ => show 0 + 1 * u.val = u.val; omega
  | ⟨2, _⟩ => show o + 1 * d.val = o + d.val; omega

section Row

variable (x0 x1 : Vec Ideal S256x1024 .bf16) (x2 : Vec Ideal S256x2048 .f32) (x3 x4 : Vec Ideal S1024x2048 .bf16) (x5 : Vec Ideal S1x2048 .f32)
  (x6 : Vec Ideal S2048x512 .bf16) (x7 x8 : Vec Ideal S1x256x512 .bf16) (x9 : Vec Ideal S512x2048 .bf16) (x10 : Vec Ideal S1x2048 .f32)

/-- The row's residual sum. -/
abbrev X1 : Fin 2048 → EReal := fun n => k0_pay2 (F := Ideal) x2 x0 x3 x1 x4 (ix2 r n)
/-- The row's queries before the scale. -/
abbrev Q1 : Fin 512 → EReal :=
  Cert.PostRow.query (X1 r x0 x1 x2 x3 x4) (fun k => x5 (ix2 0 k)) fun k n => x6 (ix2 k n)
/-- The memory's keys, or values, by position and column. -/
abbrev mem (x : Vec Ideal S1x256x512 .bf16) : Fin 256 → Fin 512 → EReal := fun u c => x (ix3 0 u c)

/-- The new residual block. -/
def new : FVec Ideal S256x2048 .f32 :=
  k0_pay10 (F := Ideal) (k0_pay11 x0 x1 x2 x3 x4 x5 x6 x7 x8 x9 x10) (k0_pay12 x0 x1 x2 x3 x4 x5 x6 x7 x8 x9 x10) (k0_pay13 x0 x1 x2 x3 x4 x5 x6 x7 x8 x9 x10) (k0_pay14 x0 x1 x2 x3 x4 x5 x6 x7 x8 x9 x10) (k0_pay15 x0 x1 x2 x3 x4 x5 x6 x7 x8 x9 x10) (k0_pay16 x0 x1 x2 x3 x4 x5 x6 x7 x8 x9 x10) (View.ld x8 r0_7) (View.ld x7 r0_8) (View.ld x8 r0_8) (View.ld x9 r0_9)

theorem out11_eq : out0_11 (F := Ideal) x0 x1 x2 x3 x4 x5 x6 x7 x8 x9 x10 = new x0 x1 x2 x3 x4 x5 x6 x7 x8 x9 x10 := by
  unfold out0_11
  rw [View.canon_unit_zero (S := S256x2048) hz]
  rfl

theorem out12_eq : out0_12 (F := Ideal) x0 x1 x2 x3 x4 x5 x6 x7 x8 x9 x10 = k0_pay1 (F := Ideal) (new x0 x1 x2 x3 x4 x5 x6 x7 x8 x9 x10) x10 := by
  unfold out0_12
  rw [View.canon_unit_zero (S := S256x2048) hz, View.ld_unit_zero (S := S1x2048) hz]
  rfl

/-- The scaled queries on the row. -/
theorem scaled_at (n : Fin 512) : k0_pay12 (F := Ideal) x0 x1 x2 x3 x4 x5 x6 x7 x8 x9 x10 (ix2 r n) = Q1 r x0 x1 x2 x3 x4 x5 x6 n * Cert.PostRow.scale := by
  unfold k0_pay12
  rw [View.ld_unit_zero (S := S256x2048) hz, View.ld_unit_zero (S := S256x1024) hz, View.ld_unit_zero (S := S256x1024) hz,
    View.ld_unit_zero (S := S1024x2048) hz, View.ld_unit_zero (S := S1024x2048) hz, View.ld_unit_zero (S := S1x2048) hz,
    View.ld_unit_zero (S := S2048x512) hz]
  exact query_at r x2 x0 x1 x3 x4 x5 x6 n

/-- One head's product of the row's queries with a memory position's keys, the head starting at column `o`. -/
theorem prod_at (o : ℕ) (h : Fin 4) (ho : o = h.val * 128) (inb : ∀ a, (![0, 0, o] : Fin 3 → ℕ) a + S1x256x128.size a ≤ S1x256x512.size a) (u : Fin 256)
    {q : Fin 128 → EReal} (hq : ∀ d : Fin 128, q d = Q1 r x0 x1 x2 x3 x4 x5 x6 ⟨o + d.val, by omega⟩ * Cert.PostRow.scale) :
    (∑ d : Fin 128, q d * View.ld x7 (Rect.unit (s := S1x256x512) ![0, 0, o] S1x256x128.size inb) (ix3 0 u d))
      = Cert.PostRow.prod (fun n => Q1 r x0 x1 x2 x3 x4 x5 x6 n * Cert.PostRow.scale) (mem x7) h u := by
  subst ho
  unfold Cert.PostRow.prod
  refine Finset.sum_congr rfl fun d _ => ?_
  rw [hq, slice_at x7 _ inb u d (by omega)]

/-- A column of the heads, as the body computes it. -/
def col (c : Fin 512) : EReal :=
  quot (Cert.PostRow.prod (fun n => Q1 r x0 x1 x2 x3 x4 x5 x6 n * Cert.PostRow.scale) (mem x7) (Cert.PostRow.hd c))
    (top (Cert.PostRow.prod (fun n => Q1 r x0 x1 x2 x3 x4 x5 x6 n * Cert.PostRow.scale) (mem x7) (Cert.PostRow.hd c))) fun u => mem x8 u c

/-- A head's column from its scores and values, the head starting at column `o`. -/
theorem col_at (o : ℕ) (h : Fin 4) (ho : o = h.val * 128) (inb : ∀ a, (![0, 0, o] : Fin 3 → ℕ) a + S1x256x128.size a ≤ S1x256x512.size a) (j : Fin 128)
    {s : Fin 256 → EReal} (hs : ∀ u, s u = Cert.PostRow.prod (fun n => Q1 r x0 x1 x2 x3 x4 x5 x6 n * Cert.PostRow.scale) (mem x7) h u) :
    quot s (top s) (fun u => View.ld x8 (Rect.unit (s := S1x256x512) ![0, 0, o] S1x256x128.size inb) (ix3 0 u j))
      = col r x0 x1 x2 x3 x4 x5 x6 x7 x8 ⟨o + j.val, by omega⟩ := by
  have e : s = Cert.PostRow.prod (fun n => Q1 r x0 x1 x2 x3 x4 x5 x6 n * Cert.PostRow.scale) (mem x7) h := funext hs
  have eh : Cert.PostRow.hd ⟨o + j.val, by omega⟩ = h := Fin.ext (by show (o + j.val) / 128 = h.val; omega)
  unfold col
  rw [e, eh]
  exact congrArg _ (funext fun u => slice_at x8 o inb u j (by omega))

/-- THE NEW RESIDUAL on the row. -/
theorem new_at (n : Fin 2048) : new x0 x1 x2 x3 x4 x5 x6 x7 x8 x9 x10 (ix2 r n)
    = Cert.PostRow.second (X1 r x0 x1 x2 x3 x4) (col r x0 x1 x2 x3 x4 x5 x6 x7 x8) (fun c n => x9 (ix2 c n)) n := by
  unfold new
  rw [out_at, View.ld_unit_zero (S := S512x2048) hz]
  unfold Cert.PostRow.second
  refine congrArg₂ (· + ·) ?_ (Finset.sum_congr rfl fun c _ => congrArg (· * x9 (ix2 c n)) ?_)
  · unfold k0_pay11
    rw [View.ld_unit_zero (S := S256x2048) hz, View.ld_unit_zero (S := S256x1024) hz, View.ld_unit_zero (S := S256x1024) hz,
      View.ld_unit_zero (S := S1024x2048) hz, View.ld_unit_zero (S := S1024x2048) hz]
  · refine congrFun (Cert.PostRow.side_eq (fun j => ?_) (fun j => ?_) (fun j => ?_) fun j => ?_) c
    · unfold k0_pay13
      rw [head0_at]
      refine (col_at r x0 x1 x2 x3 x4 x5 x6 x7 x8 0 0 rfl _ j fun u => prod_at r x0 x1 x2 x3 x4 x5 x6 x7 0 0 rfl _ u fun d => ?_).trans ?_
      · rw [query0_at]
        refine (scaled_at r x0 x1 x2 x3 x4 x5 x6 x7 x8 x9 x10 ⟨d.val, by omega⟩).trans ?_
        congr 2; apply Fin.ext; dsimp only; omega
      · congr 1; apply Fin.ext; dsimp only; omega
    · unfold k0_pay14
      rw [head1_at]
      exact col_at r x0 x1 x2 x3 x4 x5 x6 x7 x8 128 1 rfl _ j fun u => prod_at r x0 x1 x2 x3 x4 x5 x6 x7 128 1 rfl _ u fun d =>
        scaled_at r x0 x1 x2 x3 x4 x5 x6 x7 x8 x9 x10 _
    · unfold k0_pay15 k0_pay16
      rw [top2_at]
      exact col_at r x0 x1 x2 x3 x4 x5 x6 x7 x8 256 2 rfl _ j fun u => (score2_at r _ _ u).trans (prod_at r x0 x1 x2 x3 x4 x5 x6 x7 256 2 rfl _ u fun d =>
        scaled_at r x0 x1 x2 x3 x4 x5 x6 x7 x8 x9 x10 _)
    · exact col_at r x0 x1 x2 x3 x4 x5 x6 x7 x8 384 3 rfl _ j fun u => prod_at r x0 x1 x2 x3 x4 x5 x6 x7 384 3 rfl _ u fun d =>
        scaled_at r x0 x1 x2 x3 x4 x5 x6 x7 x8 x9 x10 _

end Row

end Cert.PostIdeal.Open

end
-- ==== Proof.PostRef.lean ====
/-
  The cross-attention block's reference at an index: the same row quantities as the kernel's row, in softmax weights.
-/
module

public import proofs.«01_k».proof.Proof.AttnRef
public import proofs.«01_k».proof.Proof.PostRow
public import proofs.«01_k».proof.Proof.Gen.PostRefIdeal.Run
public import Idealize.ShloMosaic.Lib.Pointwise

@[expose] public section

set_option maxRecDepth 16384

noncomputable section

namespace Cert.PostRefIdeal.Open

open Cert.PostRefIdeal Cert.PostRefIdeal.Gen Idealize.ShloMosaic Idealize.ShloMosaic.TcCoe Idealize.SL.Sem
open Cert.AttnRefIdeal.Open (max_last max_ninf)
open Cert.PostRow (ends rms top mean cell hd)

/-- The residual plus the output projection. -/
def first (a b : FVec Ideal S8192x1024 .bf16) (x : FVec Ideal S8192x2048 .f32) (w : FVec Ideal S1x2048x2048 .f32) : FVec Ideal S8192x2048 .f32 :=
  addf x (Host.dotGeneral dot_S8192x2048_S2048x2048_S8192x2048_1_0_0_1_n_n none (concatenate S8192x2048 1 [⟨S8192x1024, (extf .f32 a bitsLt_bf16_f32)⟩, ⟨S8192x1024, (extf .f32 b bitsLt_bf16_f32)⟩] concatenates_S8192x1024_S8192x1024_S8192x2048_d1) (shapeCast _ w shapeCasts_S1x2048x2048_S2048x2048))

theorem first_at (a b : FVec Ideal S8192x1024 .bf16) (x : FVec Ideal S8192x2048 .f32) (w : FVec Ideal S1x2048x2048 .f32) (i : Fin 8192) (n : Fin 2048) :
    first a b x w (ix2 i n) = x (ix2 i n) + ∑ k : Fin 2048, ends (fun k => a (ix2 i k)) (fun k => b (ix2 i k)) k * w (ix3 0 k n) := by
  pointwise [first, ends]

/-- Each row divided by the root of its mean square, times a gain. -/
def norm (x : FVec Ideal S8192x2048 .f32) (g : FVec Ideal S1x2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 (shapeCast _ g shapeCasts_S1x2048_S2048)))

/-- The queries, split into batches and heads. -/
def query (x : FVec Ideal S8192x2048 .f32) (w : FVec Ideal S1x2048x512 .f32) : FVec Ideal S2x4096x4x128 .f32 :=
  shapeCast _ (Host.dotGeneral dot_S8192x2048_S2048x512_S8192x512_1_0_0_1_n_n none x (shapeCast _ w shapeCasts_S1x2048x512_S2048x512)) shapeCasts_S8192x512_S2x4096x4x128

/-- The scaled scores. -/
def scores (q : FVec Ideal S2x4096x4x128 .f32) (k : FVec Ideal S2x256x512 .bf16) : FVec Ideal S2x4x4096x256 .f32 :=
  mulf (Host.dotGeneral dot_S2x4096x4x128_S2x256x4x128_S2x4x4096x256_3_3_1_1_02_02 none q (shapeCast _ (extf .f32 k bitsLt_bf16_f32) shapeCasts_S2x256x512_S2x256x4x128)) (broadcastInDim S2x4x4096x256 ![] bcast_S_S2x4x4096x256 (constant S_ .f32 0x3DB504F3#32))

/-- The largest score of each row. -/
def rowMax (X : FVec Ideal S2x4x4096x256 .f32) : FVec Ideal S2x4x4096 .f32 :=
  Host.reduce FloatOps.maximumf X (constant S_ .f32 0xFF800000#32) reducesTo_S2x4x4096x256_S2x4x4096_d3 h_S_

/-- The number each row's scores are taken relative to. -/
def rowTop (X : FVec Ideal S2x4x4096x256 .f32) : FVec Ideal S2x4x4096 .f32 :=
  maximumf (broadcastInDim S2x4x4096 ![] bcast_S_S2x4x4096 (constant S_ .f32 0xFF800000#32)) (rowMax X)

/-- The exponentials relative to a row's largest score. -/
def exps (X : FVec Ideal S2x4x4096x256 .f32) : FVec Ideal S2x4x4096x256 .f32 :=
  Host.exp (subf X (broadcastInDim S2x4x4096x256 ![0, 1, 2, 3] bcast_S2x4x4096x1_S2x4x4096x256_0_1_2_3 (broadcastInDim S2x4x4096x1 ![0, 1, 2] bcast_S2x4x4096_S2x4x4096x1_0_1_2 (rowTop X))))

/-- The softmax weights. -/
def weights (X : FVec Ideal S2x4x4096x256 .f32) : FVec Ideal S2x4x4096x256 .f32 :=
  Host.divf (exps X) (broadcastInDim S2x4x4096x256 ![0, 1, 2, 3] bcast_S2x4x4096x1_S2x4x4096x256_0_1_2_3 (broadcastInDim S2x4x4096x1 ![0, 1, 2] bcast_S2x4x4096_S2x4x4096x1_0_1_2 (Host.reduceAdd (exps X) (constant S_ .f32 0x00000000#32) reducesTo_S2x4x4096x256_S2x4x4096_d3 h_S_)))

/-- The averages of the memory's values, the heads side by side. -/
def avg (v : FVec Ideal S2x256x512 .bf16) (p : FVec Ideal S2x4x4096x256 .f32) : FVec Ideal S8192x512 .f32 :=
  shapeCast _ (transpose S2x4096x4x128 [0, 3, 1, 2] (Host.dotGeneral dot_S2x256x4x128_S2x4x4096x256_S2x4x128x4096_1_3_3_2_02_01 none (shapeCast _ (extf .f32 v bitsLt_bf16_f32) shapeCasts_S2x256x512_S2x256x4x128) p) transposes_S2x4x128x4096_S2x4096x4x128_0_3_1_2) shapeCasts_S2x4096x4x128_S8192x512

/-- The new residual. -/
def second (x : FVec Ideal S8192x2048 .f32) (o : FVec Ideal S8192x512 .f32) (w : FVec Ideal S1x512x2048 .f32) : FVec Ideal S8192x2048 .f32 :=
  addf x (Host.dotGeneral dot_S8192x512_S512x2048_S8192x2048_1_0_0_1_n_n none o (shapeCast _ w shapeCasts_S1x512x2048_S512x2048))

/-- The reference's two results from its arguments. -/
def out0 (m : (ℓ : Loc nD τ sig) → Buf (Elt Ideal) ℓ) (c : Dev nD) : FVec Ideal S8192x2048 .f32 :=
  let X := first (m ((c.tc : Thread nD τ).loc main_arg0)) (m ((c.tc : Thread nD τ).loc main_arg1)) (m ((c.tc : Thread nD τ).loc main_arg2)) (m ((c.tc : Thread nD τ).loc main_arg3))
  second X (avg (m ((c.tc : Thread nD τ).loc main_arg7)) (weights (scores (query (norm X (m ((c.tc : Thread nD τ).loc main_arg4))) (m ((c.tc : Thread nD τ).loc main_arg5))) (m ((c.tc : Thread nD τ).loc main_arg6))))) (m ((c.tc : Thread nD τ).loc main_arg8))

theorem res0_eq (m : (ℓ : Loc nD τ sig) → Buf (Elt Ideal) ℓ) (c : Dev nD) : Value.res_main_v46 m c = out0 m c := by
  unfold Value.res_main_v46 out0 second avg weights exps rowTop rowMax scores query norm first
  rfl

theorem res1_eq (m : (ℓ : Loc nD τ sig) → Buf (Elt Ideal) ℓ) (c : Dev nD) : Value.res_main_v61 m c = truncf .bf16 (norm (out0 m c) (m ((c.tc : Thread nD τ).loc main_arg9))) bitsLt_bf16_f32 := by
  unfold Value.res_main_v61 out0 second avg weights exps rowTop rowMax scores query norm first
  rfl

theorem query_at (x : FVec Ideal S8192x2048 .f32) (w : FVec Ideal S1x2048x512 .f32) (b : Fin 2) (s : Fin 4096) (h : Fin 4) (d : Fin 128) :
    query x w (ix4 b s h d) = ∑ k : Fin 2048, x (ix2 ⟨b.val * 4096 + s.val, by omega⟩ k) * w (ix3 0 k ⟨h.val * 128 + d.val, by omega⟩) := by
  pointwise [query]

theorem scores_at (q : FVec Ideal S2x4096x4x128 .f32) (k : FVec Ideal S2x256x512 .bf16) (b : Fin 2) (h : Fin 4) (s : Fin 4096) (t : Fin 256) :
    scores q k (ix4 b h s t) = (∑ d : Fin 128, q (ix4 b s h d) * k (ix3 b t ⟨h.val * 128 + d.val, by omega⟩)) * Cert.PostRow.scale := by
  pointwise [scores]

theorem avg_at (v : FVec Ideal S2x256x512 .bf16) (p : FVec Ideal S2x4x4096x256 .f32) (i : Fin 8192) (e : Fin 512) :
    avg v p (ix2 i e) = ∑ t : Fin 256, v (ix3 ⟨i.val / 4096, by omega⟩ t e) * p (ix4 ⟨i.val / 4096, by omega⟩ ⟨e.val / 128, by omega⟩ ⟨i.val % 4096, by omega⟩ t) := by
  pointwise [avg]

theorem second_at (x : FVec Ideal S8192x2048 .f32) (o : FVec Ideal S8192x512 .f32) (w : FVec Ideal S1x512x2048 .f32) (i : Fin 8192) (n : Fin 2048) :
    second x o w (ix2 i n) = x (ix2 i n) + ∑ c : Fin 512, o (ix2 i c) * w (ix3 0 c n) := by
  pointwise [second]

theorem norm_at (x : FVec Ideal S8192x2048 .f32) (g : FVec Ideal S1x2048 .f32) (i : Fin 8192) (n : Fin 2048) :
    norm x g (ix2 i n) = rms (fun k => x (ix2 i k)) (g (ix2 0 n)) n := by
  pointwise [norm, rms, Cert.PostRow.len, Cert.PostRow.eps]

theorem reduces_last : (S2x4x4096x256 : Shape).Reduces [3] S2x4x4096 := by decide

theorem rowMax_at (X : FVec Ideal S2x4x4096x256 .f32) (b : Fin 2) (h : Fin 4) (s : Fin 4096) :
    rowMax X (ix3 b h s) = top fun k => X (ix4 b h s k) :=
  max_last X reducesTo_S2x4x4096x256_S2x4x4096_d3 reduces_last h_S_ b h s

theorem rowTop_at (X : FVec Ideal S2x4x4096x256 .f32) (b : Fin 2) (h : Fin 4) (s : Fin 4096) :
    rowTop X (ix3 b h s) = top fun k => X (ix4 b h s k) :=
  (max_ninf bcast_S_S2x4x4096 (rowMax X) (ix3 b h s)).trans (rowMax_at X b h s)

theorem exps_at (X : FVec Ideal S2x4x4096x256 .f32) (b : Fin 2) (h : Fin 4) (s : Fin 4096) (t : Fin 256) :
    exps X (ix4 b h s t) = Ideal.exp (X (ix4 b h s t) - top fun k => X (ix4 b h s k)) := by
  have e : exps X (ix4 b h s t) = Ideal.exp (X (ix4 b h s t) - rowTop X (ix3 b h s)) := by
    pointwise [exps]
  rw [e, rowTop_at]

/-- The averages, in the softmax weights of the scores. -/
theorem mean_at (v : FVec Ideal S2x256x512 .bf16) (X : FVec Ideal S2x4x4096x256 .f32) (i : Fin 8192) (e : Fin 512) :
    avg v (weights X) (ix2 i e) = mean (fun u => X (ix4 ⟨i.val / 4096, by omega⟩ (hd e) ⟨i.val % 4096, by omega⟩ u)) fun u => v (ix3 ⟨i.val / 4096, by omega⟩ u e) := by
  rw [avg_at]
  unfold mean
  refine Finset.sum_congr rfl fun t _ => congrArg (v (ix3 ⟨i.val / 4096, by omega⟩ t e) * ·) ?_
  have w : ∀ b h s t, weights X (ix4 b h s t) = Ideal.div (exps X (ix4 b h s t)) (∑ x, exps X (ix4 b h s x)) := fun b h s t => by pointwise [weights]
  rw [w]
  simp only [exps_at]

/-- The new residual of a row. -/
theorem out_at (a b : FVec Ideal S8192x1024 .bf16) (x : FVec Ideal S8192x2048 .f32) (w : FVec Ideal S1x2048x2048 .f32) (g : FVec Ideal S1x2048 .f32)
    (wq : FVec Ideal S1x2048x512 .f32) (k v : FVec Ideal S2x256x512 .bf16) (wo : FVec Ideal S1x512x2048 .f32) (i : Fin 8192) (n : Fin 2048) :
    second (first a b x w) (avg v (weights (scores (query (norm (first a b x w) g) wq) k))) wo (ix2 i n)
      = Cert.PostRow.second (Cert.PostRow.first (fun j => a (ix2 i j)) (fun j => b (ix2 i j)) (fun j => x (ix2 i j)) fun j n => w (ix3 0 j n))
          (cell (Cert.PostRow.query (Cert.PostRow.first (fun j => a (ix2 i j)) (fun j => b (ix2 i j)) (fun j => x (ix2 i j)) fun j n => w (ix3 0 j n))
              (fun j => g (ix2 0 j)) fun j n => wq (ix3 0 j n))
            (fun u c => k (ix3 ⟨i.val / 4096, by omega⟩ u c)) fun u c => v (ix3 ⟨i.val / 4096, by omega⟩ u c)) (fun c n => wo (ix3 0 c n)) n := by
  have hi : (⟨(⟨i.val / 4096, by omega⟩ : Fin 2).val * 4096 + (⟨i.val % 4096, by omega⟩ : Fin 4096).val, by omega⟩ : Fin 8192) = i :=
    Fin.ext (by show i.val / 4096 * 4096 + i.val % 4096 = i.val; omega)
  have hf : ∀ j, first a b x w (ix2 i j) = Cert.PostRow.first (fun j => a (ix2 i j)) (fun j => b (ix2 i j)) (fun j => x (ix2 i j)) (fun j n => w (ix3 0 j n)) j :=
    fun j => first_at a b x w i j
  rw [second_at, hf]
  unfold Cert.PostRow.second
  refine congrArg (_ + ·) (Finset.sum_congr rfl fun c _ => congrArg (· * wo (ix3 0 c n)) ?_)
  rw [mean_at]
  unfold cell
  refine congrArg (fun s => mean s _) (funext fun u => ?_)
  rw [scores_at]
  refine congrArg (· * Cert.PostRow.scale) (Finset.sum_congr rfl fun d _ => ?_)
  rw [query_at, hi]
  refine congrArg (· * _) (Finset.sum_congr rfl fun j _ => ?_)
  rw [norm_at]
  simp only [hf]

end Cert.PostRefIdeal.Open

end
-- ==== Proof.PostClaim.lean ====
/-
  The cross-attention block's claims: the kernel's two arrays hold, row by row, the new residual and its normalization
  as the reference states them, from a finite gain, finite query weights and finite memory keys.
-/
module

public import proofs.«01_k».proof.Proof.PostOpen
public import proofs.«01_k».proof.Proof.PostRef
public import proofs.«01_k».proof.Proof.AttnClaim
public import proofs.«01_k».proof.Proof.Gen.Pre_finite_post
public import proofs.«01_k».proof.Defs
public import Idealize.ShloMosaic.Lib.Quiescent
public import Idealize.ShloMosaic.Lib.StableHlo.ReadAt

@[expose] public section

set_option maxRecDepth 16384

noncomputable section

namespace Cert.PostIdeal.Open

open Cert.PostIdeal Cert.PostIdeal.Gen Idealize.ShloMosaic Idealize.ShloMosaic.TcCoe Idealize.SL.Sem
open Cert.PostRow (IsReal first query cell second rms)

variable (m : (ℓ : Loc nD τ sig) → Buf (Elt Ideal) ℓ)

theorem N_0 : cfg0.N = 32 := by decide +kernel

/-- Point `t` works on rows `256 t` onward, of batch `t / 16`. -/
theorem idx0 : ∀ t : Fin cfg0.N, win0_0.index t 0 = t.val ∧ win0_0.index t 1 = 0 := (by decide +kernel : ∀ t : Fin grid0.N, _)
theorem idx1 : ∀ t : Fin cfg0.N, win0_1.index t 0 = t.val ∧ win0_1.index t 1 = 0 := (by decide +kernel : ∀ t : Fin grid0.N, _)
theorem idx2 : ∀ t : Fin cfg0.N, win0_2.index t 0 = t.val ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)
theorem idx6 : ∀ t : Fin cfg0.N, win0_6.index t 0 = 0 ∧ win0_6.index t 1 = 0 := (by decide +kernel : ∀ t : Fin grid0.N, _)
theorem idx7 : ∀ t : Fin cfg0.N, win0_7.index t 0 = t.val / 16 ∧ win0_7.index t 1 = 0 ∧ win0_7.index t 2 = 0 := (by decide +kernel : ∀ t : Fin grid0.N, _)
theorem idx8 : ∀ t : Fin cfg0.N, win0_8.index t 0 = t.val / 16 ∧ win0_8.index t 1 = 0 ∧ win0_8.index t 2 = 0 := (by decide +kernel : ∀ t : Fin grid0.N, _)
theorem idx9 : ∀ t : Fin cfg0.N, win0_9.index t 0 = 0 ∧ win0_9.index t 1 = 0 := (by decide +kernel : ∀ t : Fin grid0.N, _)
theorem idx10 : ∀ t : Fin cfg0.N, win0_10.index t 0 = 0 ∧ win0_10.index t 1 = 0 := (by decide +kernel : ∀ t : Fin grid0.N, _)
theorem idx11 : ∀ t : Fin cfg0.N, win0_11.index t 0 = t.val ∧ win0_11.index t 1 = 0 := (by decide +kernel : ∀ t : Fin grid0.N, _)
theorem idx12 : ∀ t : Fin cfg0.N, win0_12.index t 0 = t.val ∧ win0_12.index t 1 = 0 := (by decide +kernel : ∀ t : Fin grid0.N, _)

/-- Row `r` of point `t`'s row block, and the point's batch. -/
abbrev row (t : Fin cfg0.N) (r : Fin 256) : Fin 8192 := ⟨256 * t.val + r.val, by have := lt_of_lt_of_eq t.isLt N_0; omega⟩
abbrev bt (t : Fin cfg0.N) : Fin 2 := ⟨t.val / 16, by have := lt_of_lt_of_eq t.isLt N_0; omega⟩

/-- The call's arguments. -/
abbrev AA (c : Dev nD) : FVec Ideal S8192x1024 .bf16 := m ((c : Thread nD τ).loc main_arg0)
abbrev BA (c : Dev nD) : FVec Ideal S8192x1024 .bf16 := m ((c : Thread nD τ).loc main_arg1)
abbrev XA (c : Dev nD) : FVec Ideal S8192x2048 .f32 := m ((c : Thread nD τ).loc main_arg2)
abbrev WA (c : Dev nD) : FVec Ideal S1x2048x2048 .f32 := m ((c : Thread nD τ).loc main_arg3)
abbrev GA (c : Dev nD) : FVec Ideal S1x2048 .f32 := m ((c : Thread nD τ).loc main_arg4)
abbrev QA (c : Dev nD) : FVec Ideal S1x2048x512 .f32 := m ((c : Thread nD τ).loc main_arg5)
abbrev KA (c : Dev nD) : FVec Ideal S2x256x512 .bf16 := m ((c : Thread nD τ).loc main_arg6)
abbrev VA (c : Dev nD) : FVec Ideal S2x256x512 .bf16 := m ((c : Thread nD τ).loc main_arg7)
abbrev OA (c : Dev nD) : FVec Ideal S1x512x2048 .f32 := m ((c : Thread nD τ).loc main_arg8)
abbrev HA (c : Dev nD) : FVec Ideal S1x2048 .f32 := m ((c : Thread nD τ).loc main_arg9)

/-! ## The blocks of a point, in the call's arguments -/

variable (c : Dev nD) (t : Fin cfg0.N)

theorem blk0 (r : Fin 256) (k : Fin 1024) : (iblk m c 0 t : Vec Ideal S256x1024 .bf16) (ix2 r k) = AA m c (ix2 (row t r) k) := by
  unfold iblk
  rw [View.read_apply]
  show V m c main_arg0 _ = _
  rw [V_main_arg0]
  congr 1
  funext d
  apply Fin.ext
  match d with
  | ⟨0, _⟩ => show win0_0.index t 0 * 256 + 1 * r.val = 256 * t.val + r.val; rw [(idx0 t).1]; omega
  | ⟨1, _⟩ => show win0_0.index t 1 * 1024 + 1 * k.val = k.val; rw [(idx0 t).2]; omega

theorem blk1 (r : Fin 256) (k : Fin 1024) : (iblk m c 1 t : Vec Ideal S256x1024 .bf16) (ix2 r k) = BA m c (ix2 (row t r) k) := by
  unfold iblk
  rw [View.read_apply]
  show V m c main_arg1 _ = _
  rw [V_main_arg1]
  congr 1
  funext d
  apply Fin.ext
  match d with
  | ⟨0, _⟩ => show win0_1.index t 0 * 256 + 1 * r.val = 256 * t.val + r.val; rw [(idx1 t).1]; omega
  | ⟨1, _⟩ => show win0_1.index t 1 * 1024 + 1 * k.val = k.val; rw [(idx1 t).2]; omega

theorem blk2 (r : Fin 256) (k : Fin 2048) : (iblk m c 2 t : Vec Ideal S256x2048 .f32) (ix2 r k) = XA m c (ix2 (row t r) k) := by
  unfold iblk
  rw [View.read_apply]
  show V m c main_arg2 _ = _
  rw [V_main_arg2]
  congr 1
  funext d
  apply Fin.ext
  match d with
  | ⟨0, _⟩ => show win0_2.index t 0 * 256 + 1 * r.val = 256 * t.val + r.val; rw [(idx2 t).1]; omega
  | ⟨1, _⟩ => show win0_2.index t 1 * 2048 + 1 * k.val = k.val; rw [(idx2 t).2]; omega

theorem blk3 (k : Fin 1024) (n : Fin 2048) : (iblk m c 3 t : Vec Ideal S1024x2048 .bf16) (ix2 k n) = WA m c (ix3 0 ⟨k.val, by omega⟩ n) := by
  unfold iblk
  rw [View.read_apply]
  show V m c main_v2 _ = _
  have e : ((cfg0.win 3).blk t).view.emb (ix2 k n) = (ix2 k n : S1024x2048.Idx) := by
    funext d
    apply Fin.ext
    match d with
    | ⟨0, _⟩ => show win0_3.index t 0 * 1024 + 1 * k.val = k.val; rw [(idx3 t).1]; omega
    | ⟨1, _⟩ => show win0_3.index t 1 * 2048 + 1 * n.val = n.val; rw [(idx3 t).2]; omega
  rw [e]
  unfold V
  after_reads_at

theorem blk4 (k : Fin 1024) (n : Fin 2048) : (iblk m c 4 t : Vec Ideal S1024x2048 .bf16) (ix2 k n) = WA m c (ix3 0 ⟨1024 + k.val, by omega⟩ n) := by
  unfold iblk
  rw [View.read_apply]
  show V m c main_v5 _ = _
  have e : ((cfg0.win 4).blk t).view.emb (ix2 k n) = (ix2 k n : S1024x2048.Idx) := by
    funext d
    apply Fin.ext
    match d with
    | ⟨0, _⟩ => show win0_4.index t 0 * 1024 + 1 * k.val = k.val; rw [(idx4 t).1]; omega
    | ⟨1, _⟩ => show win0_4.index t 1 * 2048 + 1 * n.val = n.val; rw [(idx4 t).2]; omega
  rw [e]
  unfold V
  after_reads_at

theorem blk5 (n : Fin 2048) : (iblk m c 5 t : Vec Ideal S1x2048 .f32) (ix2 0 n) = GA m c (ix2 0 n) := by
  unfold iblk
  rw [View.read_apply]
  show V m c main_arg4 _ = _
  rw [V_main_arg4]
  congr 1
  funext d
  apply Fin.ext
  match d with
  | ⟨0, _⟩ => show win0_5.index t 0 * 1 + 1 * 0 = 0; rw [(idx5 t).1]
  | ⟨1, _⟩ => show win0_5.index t 1 * 2048 + 1 * n.val = n.val; rw [(idx5 t).2]; omega

theorem blk6 (k : Fin 2048) (n : Fin 512) : (iblk m c 6 t : Vec Ideal S2048x512 .bf16) (ix2 k n) = QA m c (ix3 0 k n) := by
  unfold iblk
  rw [View.read_apply]
  show V m c main_v7 _ = _
  have e : ((cfg0.win 6).blk t).view.emb (ix2 k n) = (ix2 k n : S2048x512.Idx) := by
    funext d
    apply Fin.ext
    match d with
    | ⟨0, _⟩ => show win0_6.index t 0 * 2048 + 1 * k.val = k.val; rw [(idx6 t).1]; omega
    | ⟨1, _⟩ => show win0_6.index t 1 * 512 + 1 * n.val = n.val; rw [(idx6 t).2]; omega
  rw [e]
  unfold V
  after_reads_at

theorem blk7 (u : Fin 256) (n : Fin 512) : (iblk m c 7 t : Vec Ideal S1x256x512 .bf16) (ix3 0 u n) = KA m c (ix3 (bt t) u n) := by
  unfold iblk
  rw [View.read_apply]
  show V m c main_arg6 _ = _
  rw [V_main_arg6]
  congr 1
  funext d
  apply Fin.ext
  match d with
  | ⟨0, _⟩ => show win0_7.index t 0 * 1 + 1 * 0 = t.val / 16; rw [(idx7 t).1]; omega
  | ⟨1, _⟩ => show win0_7.index t 1 * 256 + 1 * u.val = u.val; rw [(idx7 t).2.1]; omega
  | ⟨2, _⟩ => show win0_7.index t 2 * 512 + 1 * n.val = n.val; rw [(idx7 t).2.2]; omega

theorem blk8 (u : Fin 256) (n : Fin 512) : (iblk m c 8 t : Vec Ideal S1x256x512 .bf16) (ix3 0 u n) = VA m c (ix3 (bt t) u n) := by
  unfold iblk
  rw [View.read_apply]
  show V m c main_arg7 _ = _
  rw [V_main_arg7]
  congr 1
  funext d
  apply Fin.ext
  match d with
  | ⟨0, _⟩ => show win0_8.index t 0 * 1 + 1 * 0 = t.val / 16; rw [(idx8 t).1]; omega
  | ⟨1, _⟩ => show win0_8.index t 1 * 256 + 1 * u.val = u.val; rw [(idx8 t).2.1]; omega
  | ⟨2, _⟩ => show win0_8.index t 2 * 512 + 1 * n.val = n.val; rw [(idx8 t).2.2]; omega

theorem blk9 (k : Fin 512) (n : Fin 2048) : (iblk m c 9 t : Vec Ideal S512x2048 .bf16) (ix2 k n) = OA m c (ix3 0 k n) := by
  unfold iblk
  rw [View.read_apply]
  show V m c main_v9 _ = _
  have e : ((cfg0.win 9).blk t).view.emb (ix2 k n) = (ix2 k n : S512x2048.Idx) := by
    funext d
    apply Fin.ext
    match d with
    | ⟨0, _⟩ => show win0_9.index t 0 * 512 + 1 * k.val = k.val; rw [(idx9 t).1]; omega
    | ⟨1, _⟩ => show win0_9.index t 1 * 2048 + 1 * n.val = n.val; rw [(idx9 t).2]; omega
  rw [e]
  unfold V
  after_reads_at

theorem blk10 (n : Fin 2048) : (iblk m c 10 t : Vec Ideal S1x2048 .f32) (ix2 0 n) = HA m c (ix2 0 n) := by
  unfold iblk
  rw [View.read_apply]
  show V m c main_arg9 _ = _
  rw [V_main_arg9]
  congr 1
  funext d
  apply Fin.ext
  match d with
  | ⟨0, _⟩ => show win0_10.index t 0 * 1 + 1 * 0 = 0; rw [(idx10 t).1]
  | ⟨1, _⟩ => show win0_10.index t 1 * 2048 + 1 * n.val = n.val; rw [(idx10 t).2]; omega

/-! ## The results on a row, in the call's arguments -/

/-- The residual sum of row `i`. -/
def sum1 (i : Fin 8192) : Fin 2048 → EReal :=
  first (fun j => AA m c (ix2 i j)) (fun j => BA m c (ix2 i j)) (fun j => XA m c (ix2 i j)) fun j n => WA m c (ix3 0 j n)

/-- The new residual of row `i`, of batch `b`. -/
def sum2 (i : Fin 8192) (b : Fin 2) : Fin 2048 → EReal :=
  second (sum1 m c i) (cell (query (sum1 m c i) (fun j => GA m c (ix2 0 j)) fun j n => QA m c (ix3 0 j n))
    (fun u k => KA m c (ix3 b u k)) fun u k => VA m c (ix3 b u k)) fun k n => OA m c (ix3 0 k n)

/-- The gain, the query weights and the memory's keys are real numbers. -/
def Real : Prop := (∀ n, IsReal (GA m c (ix2 0 n))) ∧ (∀ k n, IsReal (QA m c (ix3 0 k n))) ∧ ∀ b u n, IsReal (KA m c (ix3 b u n))

/-- The new residual block at a row and column. -/
theorem new_row (h : Real m c) (r : Fin 256) (n : Fin 2048) :
    new (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n)
      = sum2 m c (row t r) (bt t) n := by
  obtain ⟨hg, hq, hk⟩ := h
  have e1 : X1 r (iblk m c 0 t) (iblk m c 1 t) (iblk m c 2 t) (iblk m c 3 t) (iblk m c 4 t) = sum1 m c (row t r) := by
    funext n
    refine (sum_at r (iblk m c 2 t) (iblk m c 0 t) (iblk m c 1 t) (iblk m c 3 t) (iblk m c 4 t) n).trans ?_
    simp only [blk0, blk1, blk2, blk3, blk4]
    exact Cert.PostRow.first_halves (fun j => AA m c (ix2 (row t r) j)) (fun j => BA m c (ix2 (row t r) j)) (fun j => XA m c (ix2 (row t r) j)) (fun j n => WA m c (ix3 0 j n)) n
  have e2 : Q1 r (iblk m c 0 t) (iblk m c 1 t) (iblk m c 2 t) (iblk m c 3 t) (iblk m c 4 t) (iblk m c 5 t) (iblk m c 6 t)
      = query (sum1 m c (row t r)) (fun j => GA m c (ix2 0 j)) fun j n => QA m c (ix3 0 j n) := by
    unfold Q1
    rw [e1]
    simp only [blk5, blk6]
  have e3 : mem (iblk m c 7 t) = fun u k => KA m c (ix3 (bt t) u k) := funext fun u => funext fun k => blk7 m c t u k
  have e4 : mem (iblk m c 8 t) = fun u k => VA m c (ix3 (bt t) u k) := funext fun u => funext fun k => blk8 m c t u k
  rw [new_at, e1]
  unfold sum2
  have e5 : col r (iblk m c 0 t) (iblk m c 1 t) (iblk m c 2 t) (iblk m c 3 t) (iblk m c 4 t) (iblk m c 5 t) (iblk m c 6 t) (iblk m c 7 t) (iblk m c 8 t)
      = cell (query (sum1 m c (row t r)) (fun j => GA m c (ix2 0 j)) fun j n => QA m c (ix3 0 j n))
          (fun u k => KA m c (ix3 (bt t) u k)) fun u k => VA m c (ix3 (bt t) u k) := by
    funext k
    unfold col
    rw [e2, e3, e4]
    exact Cert.PostRow.cell_eq (q := query (sum1 m c (row t r)) (fun j => GA m c (ix2 0 j)) fun j n => QA m c (ix3 0 j n))
      (K := fun u k => KA m c (ix3 (bt t) u k)) (fun n => Cert.PostRow.query_real _ hg hq n) (fun u n => hk (bt t) u n) (fun u k => VA m c (ix3 (bt t) u k)) k
  rw [e5]
  simp only [blk9]

theorem flush11 : ∀ t : Fin cfg0.N, (cfg0.win 11).flush t = true := (by decide +kernel : ∀ t : Fin grid0.N, win0_11.flush t = true)
theorem flush12 : ∀ t : Fin cfg0.N, (cfg0.win 12).flush t = true := (by decide +kernel : ∀ t : Fin grid0.N, win0_12.flush t = true)

/-- The first array at a row of point `t`'s block. -/
theorem block11 (h : Real m c) (r : Fin 256) (n : Fin 2048) :
    ((dats m 0 c).arrAt 11 cfg0.N : FVec Ideal S8192x2048 .f32) (ix2 (row t r) n) = sum2 m c (row t r) (bt t) n := by
  have e : ((cfg0.win 11).blk t).view.emb (ix2 r n) = (ix2 (row t r) n : S8192x2048.Idx) := by
    funext a
    apply Fin.ext
    match a with
    | ⟨0, _⟩ => show win0_11.index t 0 * 256 + 1 * r.val = 256 * t.val + r.val; rw [(idx11 t).1]; omega
    | ⟨1, _⟩ => show win0_11.index t 1 * 2048 + 1 * n.val = n.val; rw [(idx11 t).2]; omega
  have hb := congrFun (Value.blocks11 m c t (flush11 t)) (ix2 r n)
  rw [View.read_apply, e] at hb
  refine hb.trans ?_
  rw [Value.flushed11 m c t]
  refine (congrFun (out11_eq (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2 r n)).trans ?_
  exact new_row m c t h r n

/-- The second array there. -/
theorem block12 (h : Real m c) (r : Fin 256) (n : Fin 2048) :
    ((dats m 0 c).arrAt 12 cfg0.N : FVec Ideal S8192x2048 .bf16) (ix2 (row t r) n) = rms (sum2 m c (row t r) (bt t)) (HA m c (ix2 0 n)) n := by
  have e : ((cfg0.win 12).blk t).view.emb (ix2 r n) = (ix2 (row t r) n : S8192x2048.Idx) := by
    funext a
    apply Fin.ext
    match a with
    | ⟨0, _⟩ => show win0_12.index t 0 * 256 + 1 * r.val = 256 * t.val + r.val; rw [(idx12 t).1]; omega
    | ⟨1, _⟩ => show win0_12.index t 1 * 2048 + 1 * n.val = n.val; rw [(idx12 t).2]; omega
  have hb := congrFun (Value.blocks12 m c t (flush12 t)) (ix2 r n)
  rw [View.read_apply, e] at hb
  refine hb.trans ?_
  rw [Value.flushed12 m c t]
  refine (congrFun (out12_eq (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2 r n)).trans ?_
  rw [norm_at, blk10]
  exact congrArg (fun x => rms x (HA m c (ix2 0 n)) n) (funext fun k => new_row m c t h r k)

/-- Every row is a row of some point's block. -/
theorem row_exists (i : Fin 8192) : ∃ (t : Fin cfg0.N) (r : Fin 256), row t r = i ∧ bt t = ⟨i.val / 4096, by omega⟩ := by
  have hN := N_0
  refine ⟨⟨i.val / 256, by omega⟩, ⟨i.val % 256, by omega⟩, Fin.ext ?_, Fin.ext ?_⟩
  · show 256 * (i.val / 256) + i.val % 256 = i.val; omega
  · show i.val / 256 / 16 = i.val / 4096; omega

end Cert.PostIdeal.Open

namespace Cert.Proof.Post

open Idealize.ShloMosaic Idealize.ShloMosaic.TcCoe Idealize.SL.Sem
open Cert.Proof.Attn (real_of_abs_lt pinf lt_of_cmp and_one)
open Cert.PostRow (IsReal)

/-- A comparison of an absolute value with infinity. -/
def below (x : EReal) : BitVec 1 := Ideal.cmp .olt (max x (-x)) (Ideal.ofBits .f32 0x7F800000#32)

theorem real_of_below {x : EReal} (h : below x = 1#1) : IsReal x := by
  unfold below at h
  rw [pinf] at h
  exact real_of_abs_lt x (lt_of_cmp h)

section Pre

open Cert.Pre_finite_post

variable (a b : FVec Ideal S8192x1024 .bf16) (x : FVec Ideal S8192x2048 .f32) (w : FVec Ideal S1x2048x2048 .f32) (g : FVec Ideal S1x2048 .f32)
  (wq : FVec Ideal S1x2048x512 .f32) (k v : FVec Ideal S2x256x512 .bf16) (wo : FVec Ideal S1x512x2048 .f32) (gm : FVec Ideal S1x2048 .f32)

/-- The precondition's function at an index: three comparisons. -/
theorem pre_at [Cert.Pre_finite_post.Facts] (p : Fin 4) (q r : Fin 512) :
    Cert.Pre_finite_post.fn (F := Ideal) a b x w g wq k v wo gm (ix3 p q r)
      = (below (g (ix2 0 ⟨p.val * 512 + q.val, by omega⟩)) &&& below (wq (ix3 0 ⟨p.val * 512 + q.val, by omega⟩ r)))
          &&& below (k (ix3 ⟨q.val / 256, by omega⟩ ⟨q.val % 256, by omega⟩ r)) := by
  pointwise [Cert.Pre_finite_post.fn, below]
  rfl

/-- Where the precondition holds the gain, the query weights and the memory's keys are real. -/
theorem pre_real [Cert.Pre_finite_post.Facts] (h : Cert.Pre_finite_post.fn (F := Ideal) a b x w g wq k v wo gm = fun _ => 1#1) :
    (∀ n, IsReal (g (ix2 0 n))) ∧ (∀ j n, IsReal (wq (ix3 0 j n))) ∧ ∀ p u n, IsReal (k (ix3 p u n)) := by
  have H := fun p q r => and_one _ _ ((pre_at a b x w g wq k v wo gm p q r).symm.trans (congrFun h (ix3 p q r)))
  have H1 := fun p q r => and_one _ _ (H p q r).1
  refine ⟨fun n => ?_, fun j n => ?_, fun p u n => ?_⟩
  · have e : (⟨(⟨n.val / 512, by omega⟩ : Fin 4).val * 512 + (⟨n.val % 512, by omega⟩ : Fin 512).val, by omega⟩ : Fin 2048) = n :=
      Fin.ext (by show n.val / 512 * 512 + n.val % 512 = n.val; omega)
    have := real_of_below (H1 ⟨n.val / 512, by omega⟩ ⟨n.val % 512, by omega⟩ 0).1
    rwa [e] at this
  · have e : (⟨(⟨j.val / 512, by omega⟩ : Fin 4).val * 512 + (⟨j.val % 512, by omega⟩ : Fin 512).val, by omega⟩ : Fin 2048) = j :=
      Fin.ext (by show j.val / 512 * 512 + j.val % 512 = j.val; omega)
    have := real_of_below (H1 ⟨j.val / 512, by omega⟩ ⟨j.val % 512, by omega⟩ n).2
    rwa [e] at this
  · have ep : (⟨(⟨p.val * 256 + u.val, by omega⟩ : Fin 512).val / 256, by omega⟩ : Fin 2) = p := Fin.ext (by show (p.val * 256 + u.val) / 256 = p.val; omega)
    have eu : (⟨(⟨p.val * 256 + u.val, by omega⟩ : Fin 512).val % 256, by omega⟩ : Fin 256) = u := Fin.ext (by show (p.val * 256 + u.val) % 256 = u.val; omega)
    have := real_of_below (H 0 ⟨p.val * 256 + u.val, by omega⟩ n).2
    rwa [ep, eu] at this

end Pre

/-- The reference's frame: its arguments unchanged, no counter moved. -/
theorem frame_ref : Cert.quiescent_PostRefIdeal := fun m ρ _ =>
  (θ_run Cert.PostRefIdeal.defs _ _).mono (fun r h => ⟨fun c => (h c).2.2, sem_eq_zero_of_no_sems (by decide) r.2⟩)
    (Cert.PostRefIdeal.Value.run (F := Ideal) m ρ)

/-- Kernel and reference end at the same two arrays, from arguments that agree, when the gain, the query weights and the
    memory's keys are finite. -/
theorem algebraic [Cert.Pre_finite_post.Facts] : Cert.algebraic_PostIdeal_PostRefIdeal_pre_finite_post := by
  intro m ρ m' ρ' hpre hagree
  refine ⟨fun c => (Cert.PostIdeal.Gen.dats m 0 c).arrAt 11 Cert.PostIdeal.cfg0.N, fun c => (Cert.PostIdeal.Gen.dats m 0 c).arrAt 12 Cert.PostIdeal.cfg0.N,
    Cert.PostIdeal.Value.run_blocks m ρ, ?_⟩
  refine (θ_run _ _ _).mono (fun r h c => ⟨?_, ?_, (h c).2.2⟩) (Cert.PostRefIdeal.Value.run m' ρ')
  all_goals
    obtain ⟨e0, e1, e2, e3, e4, e5, e6, e7, e8, e9⟩ := hagree c
    have hr : Cert.PostIdeal.Open.Real m c := pre_real _ _ _ _ _ _ _ _ _ _ (hpre c)
    have out : ∀ i n, Cert.PostRefIdeal.Open.out0 m' c (ix2 i n) = Cert.PostIdeal.Open.sum2 m c i ⟨i.val / 4096, by omega⟩ n := by
      intro i n
      unfold Cert.PostRefIdeal.Open.out0
      rw [e0, e1, e2, e3, e4, e5, e6, e7, e8]
      exact Cert.PostRefIdeal.Open.out_at _ _ _ _ _ _ _ _ _ i n
  · refine (h c).1.trans ?_
    rw [Cert.PostRefIdeal.Open.res0_eq]
    refine funext fun (j : (⟨2, ![8192, 2048]⟩ : Shape).Idx) => ?_
    obtain ⟨i, n, rfl⟩ : ∃ i n, j = ix2 i n := ⟨j 0, j 1, eq_ix2 j⟩
    obtain ⟨t, q, rfl, hb⟩ := Cert.PostIdeal.Open.row_exists i
    refine (out _ n).trans ?_
    rw [← hb]
    exact (Cert.PostIdeal.Open.block11 m c t hr q n).symm
  · refine (h c).2.1.trans ?_
    rw [Cert.PostRefIdeal.Open.res1_eq]
    refine funext fun (j : (⟨2, ![8192, 2048]⟩ : Shape).Idx) => ?_
    obtain ⟨i, n, rfl⟩ : ∃ i n, j = ix2 i n := ⟨j 0, j 1, eq_ix2 j⟩
    obtain ⟨t, q, rfl, hb⟩ := Cert.PostIdeal.Open.row_exists i
    refine (Cert.PostRefIdeal.Open.norm_at _ _ _ n).trans ?_
    rw [e9]
    refine Eq.trans ?_ (Cert.PostIdeal.Open.block12 m c t hr q n).symm
    refine congrArg (fun x => Cert.PostRow.rms x _ n) (funext fun k => (out _ k).trans ?_)
    rw [← hb]

end Cert.Proof.Post

end
-- ==== Proof.ProjOpen.lean ====
/-
  What one grid point of the query, key and value projection leaves behind: the normalized rows in the scratch, and an
  output block whose eight heads of 128 columns are each turned by the same three lane patterns.
-/
module

public import proofs.«01_k».proof.Proof.Gen.ProjIdeal.Value
public import Idealize.ShloMosaic.Lib.Pointwise

@[expose] public section

set_option maxRecDepth 16384

noncomputable section

namespace Cert.ProjIdeal.Open

open Cert.ProjIdeal Cert.ProjIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- One head turned: the head times the pattern `C`, its lanes 16 further times `L`, its lanes 16 back times `H`, the
    sum scaled by `s`. -/
def turned (p C L H : FVec F S512x128 .f32) (s : F .f32) : FVec F S1x512x128 .bf16 :=
  shapeCast S1x512x128 (truncf .bf16 (mulf (addf (addf (mulf p C) (mulf (dynamicRotate 1 112#32 none p rotates_S512x128_d1) L))
    (mulf (dynamicRotate 1 16#32 none p rotates_S512x128_d1) H)) (broadcast S512x128 s)) bitsLt_bf16_f32) shapeCasts_S512x128_S1x512x128

/-- Head `h` of a block of eight. -/
def headOf (p : FVec F S512x1024 .f32) (h : ℕ) (hh : h < 8) : FVec F S512x128 .f32 := fun z =>
  p (ix2 (z 0) ⟨128 * h + (z 1).val, by have : (z 1).val < 128 := (z 1).isLt; omega⟩)

/-- The eight turned heads side by side. -/
def block (p : FVec F S512x1024 .f32) (C L H : FVec F S512x128 .f32) (s : F .f32) : FVec F S1x512x1024 .bf16 := fun y =>
  turned (headOf p ((y 2).val / 128) (by have : (y 2).val < 1024 := (y 2).isLt; omega)) C L H s
    (ix3 0 (y 1) ⟨(y 2).val % 128, Nat.mod_lt _ (by norm_num)⟩)

theorem block_at (p : FVec F S512x1024 .f32) (C L H : FVec F S512x128 .f32) (s : F .f32) (r : Fin 512) (n : Fin 1024) :
    block p C L H s (ix3 0 r n) = turned (headOf p (n.val / 128) (by omega)) C L H s (ix3 0 r ⟨n.val % 128, by omega⟩) := rfl

/-- A slice of 128 columns is the head it starts at. -/
theorem slice_head (p : FVec F S512x1024 .f32) (h : ℕ) (hh : h < 8) (w : S512x1024.Slices ![0, 128 * h] S512x128) :
    extractStridedSlice S512x128 ![0, 128 * h] p w = headOf p h hh := by
  funext z
  refine congrArg p (funext fun a => Fin.ext ?_)
  match a with
  | ⟨0, _⟩ => show 0 + (z 0).val = (z 0).val; omega
  | ⟨1, _⟩ => rfl

/-- A turned head is the block at the columns it is stored to. -/
theorem turned_block (p : FVec F S512x1024 .f32) (C L H : FVec F S512x128 .f32) (s : F .f32) (h : ℕ) (hh : h < 8)
    (w : S512x1024.Slices ![0, 128 * h] S512x128)
    (inb : ∀ a, (![0, 0, 128 * h] : Fin 3 → ℕ) a + (![1, 512, 128] : Fin 3 → ℕ) a ≤ S1x512x1024.size a)
    (x : (Rect.unit (s := S1x512x1024) ![0, 0, 128 * h] ![1, 512, 128] inb).shape.Idx) :
    turned (extractStridedSlice S512x128 ![0, 128 * h] p w) C L H s x = block p C L H s ((Rect.unit (s := S1x512x1024) ![0, 0, 128 * h] ![1, 512, 128] inb).emb x) := by
  have h2 : (x 2).val < 128 := (x 2).isLt
  have e2 : ((Rect.unit (s := S1x512x1024) ![0, 0, 128 * h] ![1, 512, 128] inb).emb x 2).val = 128 * h + (x 2).val := by
    show 128 * h + 1 * (x 2).val = _; omega
  rw [slice_head p h hh]
  unfold block
  have eh : ((Rect.unit (s := S1x512x1024) ![0, 0, 128 * h] ![1, 512, 128] inb).emb x 2).val / 128 = h := by rw [e2]; omega
  have ep : ∀ (k : ℕ) (hk : k < 8), k = h → headOf p k hk = headOf p h hh := fun k hk e => by subst e; rfl
  rw [ep _ _ eh]
  refine congrArg (turned (headOf p h hh) C L H s) (funext fun a => ?_)
  apply Fin.ext
  match a with
  | ⟨0, _⟩ => have : (x 0).val < 1 := (x 0).isLt; show (x 0).val = 0; omega
  | ⟨1, _⟩ => show (x 1).val = 0 + 1 * (x 1).val; omega
  | ⟨2, _⟩ => show (x 2).val = _ % 128; rw [e2]; omega

/-- A column lies in the head its number names. -/
theorem mem_head (y : S1x512x1024.Idx) (h : ℕ) (e : (y 2).val / 128 = h)
    (inb : ∀ a, (![0, 0, 128 * h] : Fin 3 → ℕ) a + (![1, 512, 128] : Fin 3 → ℕ) a ≤ S1x512x1024.size a) :
    y ∈ (Rect.unit (s := S1x512x1024) ![0, 0, 128 * h] ![1, 512, 128] inb).set := by
  rw [Rect.mem_set_unit]
  intro a
  match a with
  | ⟨0, _⟩ => have : (y 0).val < 1 := (y 0).isLt; exact ⟨Nat.zero_le _, by show (y 0).val < 0 + 1; omega⟩
  | ⟨1, _⟩ => have : (y 1).val < 512 := (y 1).isLt; exact ⟨Nat.zero_le _, by show (y 1).val < 0 + 512; omega⟩
  | ⟨2, _⟩ => exact ⟨by show 128 * h ≤ (y 2).val; omega, by show (y 2).val < 128 * h + 128; omega⟩

/-- The eight stores of a turned point fill its block. -/
theorem heads (p : FVec F S512x1024 .f32) (C L H : FVec F S512x128 .f32) (s : F .f32)
    (f0 f1 f2 f3 f4 f5 f6 f7 : FVec F S1x512x128 .bf16)
    (e0 : f0 = turned (extractStridedSlice S512x128 ![0, 128 * 0] p slices_S512x1024_o0_0_S512x128) C L H s)
    (e1 : f1 = turned (extractStridedSlice S512x128 ![0, 128 * 1] p slices_S512x1024_o0_128_S512x128) C L H s)
    (e2 : f2 = turned (extractStridedSlice S512x128 ![0, 128 * 2] p slices_S512x1024_o0_256_S512x128) C L H s)
    (e3 : f3 = turned (extractStridedSlice S512x128 ![0, 128 * 3] p slices_S512x1024_o0_384_S512x128) C L H s)
    (e4 : f4 = turned (extractStridedSlice S512x128 ![0, 128 * 4] p slices_S512x1024_o0_512_S512x128) C L H s)
    (e5 : f5 = turned (extractStridedSlice S512x128 ![0, 128 * 5] p slices_S512x1024_o0_640_S512x128) C L H s)
    (e6 : f6 = turned (extractStridedSlice S512x128 ![0, 128 * 6] p slices_S512x1024_o0_768_S512x128) C L H s)
    (e7 : f7 = turned (extractStridedSlice S512x128 ![0, 128 * 7] p slices_S512x1024_o0_896_S512x128) C L H s) :
    View.canon (Val := Elt F) (s := S1x512x1024) (e := .bf16)
      [⟨Rect.unit (s := S1x512x1024) ![0, 0, 128 * 7] ![1, 512, 128] inb_S1x512x1024_S1x512x128_0_0_896, f7⟩,
       ⟨Rect.unit (s := S1x512x1024) ![0, 0, 128 * 6] ![1, 512, 128] inb_S1x512x1024_S1x512x128_0_0_768, f6⟩,
       ⟨Rect.unit (s := S1x512x1024) ![0, 0, 128 * 5] ![1, 512, 128] inb_S1x512x1024_S1x512x128_0_0_640, f5⟩,
       ⟨Rect.unit (s := S1x512x1024) ![0, 0, 128 * 4] ![1, 512, 128] inb_S1x512x1024_S1x512x128_0_0_512, f4⟩,
       ⟨Rect.unit (s := S1x512x1024) ![0, 0, 128 * 3] ![1, 512, 128] inb_S1x512x1024_S1x512x128_0_0_384, f3⟩,
       ⟨Rect.unit (s := S1x512x1024) ![0, 0, 128 * 2] ![1, 512, 128] inb_S1x512x1024_S1x512x128_0_0_256, f2⟩,
       ⟨Rect.unit (s := S1x512x1024) ![0, 0, 128 * 1] ![1, 512, 128] inb_S1x512x1024_S1x512x128_0_0_128, f1⟩,
       ⟨Rect.unit (s := S1x512x1024) ![0, 0, 128 * 0] ![1, 512, 128] inb_S1x512x1024_S1x512x128_0_0_0, f0⟩] = block p C L H s := by
  funext y
  refine View.canon_apply_of_pieces (Val := Elt F) (S := S1x512x1024) (e := .bf16) (block p C L H s) _ ?_ y ?_
  · simp only [List.forall_mem_cons, List.not_mem_nil, false_imp_iff, implies_true, and_true]
    subst e0 e1 e2 e3 e4 e5 e6 e7
    exact ⟨fun x => turned_block p C L H s 7 (by norm_num) _ _ x, fun x => turned_block p C L H s 6 (by norm_num) _ _ x,
      fun x => turned_block p C L H s 5 (by norm_num) _ _ x, fun x => turned_block p C L H s 4 (by norm_num) _ _ x,
      fun x => turned_block p C L H s 3 (by norm_num) _ _ x, fun x => turned_block p C L H s 2 (by norm_num) _ _ x,
      fun x => turned_block p C L H s 1 (by norm_num) _ _ x, fun x => turned_block p C L H s 0 (by norm_num) _ _ x⟩
  · have hy : (y 2).val < 1024 := (y 2).isLt
    simp only [List.exists_mem_cons_iff, List.not_mem_nil, false_and, exists_false, or_false]
    rcases (by omega : (y 2).val / 128 = 7 ∨ (y 2).val / 128 = 6 ∨ (y 2).val / 128 = 5 ∨ (y 2).val / 128 = 4 ∨ (y 2).val / 128 = 3 ∨ (y 2).val / 128 = 2
      ∨ (y 2).val / 128 = 1 ∨ (y 2).val / 128 = 0) with h | h | h | h | h | h | h | h
    · exact .inl (mem_head y 7 h _)
    · exact .inr (.inl (mem_head y 6 h _))
    · exact .inr (.inr (.inl (mem_head y 5 h _)))
    · exact .inr (.inr (.inr (.inl (mem_head y 4 h _))))
    · exact .inr (.inr (.inr (.inr (.inl (mem_head y 3 h _)))))
    · exact .inr (.inr (.inr (.inr (.inr (.inl (mem_head y 2 h _))))))
    · exact .inr (.inr (.inr (.inr (.inr (.inr (.inl (mem_head y 1 h _)))))))
    · exact .inr (.inr (.inr (.inr (.inr (.inr (.inr (mem_head y 0 h _)))))))

section Readings

variable (c : Dev nD) (i : grid0.Coords) (a2 : Memref sig .tc .vmem S512x2048 .f32) (h2 : a2.IsWhole) (a3 : Memref sig .tc .vmem S512x1 .i32) (h3 : a3.IsWhole)
  (a4 : Memref sig .tc .vmem S1x2048 .f32) (h4 : a4.IsWhole) (a5 : Memref sig .tc .vmem S2048x1024 .bf16) (h5 : a5.IsWhole) (a6 : Memref sig .tc .vmem S1x128 .f32) (h6 : a6.IsWhole)
  (a7 : Memref sig .tc .vmem S1x512x1024 .bf16) (h7 : a7.IsWhole) (a8 : Memref sig .tc .vmem S512x2048 .bf16) (h8 : a8.IsWhole)
  (x0 : Vec F S512x2048 .f32) (x1 : Vec F S512x1 .i32) (x2 : Vec F S1x2048 .f32) (x3 : Vec F S2048x1024 .bf16) (x4 : Vec F S1x128 .f32) (xs0 : Vec F S512x2048 .bf16)

/-- A turned point's block, from its normalized rows. -/
def made (i : grid0.Coords) (x1 : Vec F S512x1 .i32) (x3 : Vec F S2048x1024 .bf16) (x4 : Vec F S1x128 .f32) (u : Vec F S512x2048 .bf16) : FVec F S1x512x1024 .bf16 :=
  block (k0_pay2 u x3) (k0_pay11 x1 x4) (k0_pay12 x1 x4) (k0_pay13 x1 x4) (k0_pay14 (BitVec.ofNat 32 (i 1).val))

/-- The first point of a row block stores its normalized rows. -/
theorem scratch_A (hc0 : cond0_0 i) (hc1 : ¬cond0_1 i) (hc2 : cond0_2 i) :
    sout0_A_0 c i a2 h2 a3 h3 a4 h4 a5 h5 a6 h6 a7 h7 a8 h8 hc0 hc1 hc2 x0 x1 x2 x3 x4 = k0_pay1 x0 x2 := by
  unfold sout0_A_0
  rw [View.read_writes_eq_canon _ _ _ (scover0_A_0 c i a2 h2 a3 h3 a4 h4 a5 h5 a6 h6 a7 h7 a8 h8 hc0 hc1 hc2 x0 x1 x2 x3 x4)]
  unfold kernelRun0_A
  dsimp only
  sl_unfold_words
  rw [View.canon_cons_unit_zero (S := S512x2048) hz]
  simp only [View.readAt_eq_ld, h2.read_unread, h4.read_unread, View.ld_unit_zero (S := S512x2048) hz, View.ld_unit_zero (S := S1x2048) hz]

theorem out_A (hc0 : cond0_0 i) (hc1 : ¬cond0_1 i) (hc2 : cond0_2 i) :
    out0_A_5 c i a2 h2 a3 h3 a4 h4 a5 h5 a6 h6 a7 h7 a8 h8 hc0 hc1 hc2 x0 x1 x2 x3 x4 = made i x1 x3 x4 (k0_pay1 x0 x2) := by
  unfold out0_A_5
  rw [View.read_writes_eq_canon _ _ _ (cover0_A_5 c i a2 h2 a3 h3 a4 h4 a5 h5 a6 h6 a7 h7 a8 h8 hc0 hc1 hc2 x0 x1 x2 x3 x4)]
  unfold kernelRun0_A
  dsimp only
  sl_unfold_words
  rw [View.readCov_unit_zero (S := S512x2048) _ hz]
  simp only [View.readAt_eq_ld, h2.read_unread, h3.read_unread, h4.read_unread, h5.read_unread, h6.read_unread,
    View.ld_unit_zero (S := S512x2048) hz, View.ld_unit_zero (S := S512x1) hz, View.ld_unit_zero (S := S2048x1024) hz, View.ld_unit_zero (S := S1x2048) hz, View.ld_unit_zero (S := S1x128) hz]
  exact heads (k0_pay2 (k0_pay1 x0 x2) x3) _ _ _ _ _ _ _ _ _ _ _ _ rfl rfl rfl rfl rfl rfl rfl rfl

theorem out_B (hc0 : ¬cond0_0 i) (hc1 : ¬cond0_1 i) (hc2 : cond0_2 i) :
    out0_B_5 c i a2 h2 a3 h3 a4 h4 a5 h5 a6 h6 a7 h7 a8 h8 hc0 hc1 hc2 x0 x1 x2 x3 x4 xs0 = made i x1 x3 x4 xs0 := by
  unfold out0_B_5
  rw [View.read_writes_eq_canon _ _ _ (cover0_B_5 c i a2 h2 a3 h3 a4 h4 a5 h5 a6 h6 a7 h7 a8 h8 hc0 hc1 hc2 x0 x1 x2 x3 x4 xs0)]
  unfold kernelRun0_B
  dsimp only
  sl_unfold_words
  simp only [View.readAt_eq_ld, h3.read_unread, h5.read_unread, h6.read_unread, h8.read_unread,
    View.ld_unit_zero (S := S512x2048) hz, View.ld_unit_zero (S := S512x1) hz, View.ld_unit_zero (S := S2048x1024) hz, View.ld_unit_zero (S := S1x128) hz]
  exact heads (k0_pay2 xs0 x3) _ _ _ _ _ _ _ _ _ _ _ _ rfl rfl rfl rfl rfl rfl rfl rfl

/-- The last point of a row block stores the product itself. -/
theorem out_C (hc0 : ¬cond0_0 i) (hc1 : cond0_1 i) (hc2 : ¬cond0_2 i) :
    out0_C_5 c i a2 h2 a3 h3 a4 h4 a5 h5 a6 h6 a7 h7 a8 h8 hc0 hc1 hc2 x0 x1 x2 x3 x4 xs0 = k0_pay3 xs0 x3 := by
  unfold out0_C_5
  rw [View.read_writes_eq_canon _ _ _ (cover0_C_5 c i a2 h2 a3 h3 a4 h4 a5 h5 a6 h6 a7 h7 a8 h8 hc0 hc1 hc2 x0 x1 x2 x3 x4 xs0)]
  unfold kernelRun0_C
  dsimp only
  sl_unfold_words
  rw [View.canon_cons_unit_zero (S := S1x512x1024) hz3]
  simp only [View.readAt_eq_ld, h5.read_unread, h8.read_unread, View.ld_unit_zero (S := S512x2048) hz, View.ld_unit_zero (S := S2048x1024) hz]

end Readings

/-! ## The lane patterns at an index -/

theorem mask_lo : ∀ l : Fin 128, k0_pay9 (ix2 0 l) = if l.val < 16 then 1#1 else 0#1 := by decide +kernel
theorem mask_hi : ∀ l : Fin 128, k0_pay10 (ix2 0 l) = if 16 ≤ l.val ∧ l.val < 32 then 1#1 else 0#1 := by decide +kernel

/-- The angle of a lane. -/
abbrev angle (x1 : Vec Ideal S512x1 .i32) (x4 : Vec Ideal S1x128 .f32) (r : Fin 512) (l : Fin 128) : EReal :=
  (FloatOps.sitofp (F := Ideal) .f32 (x1 (ix2 r 0)) : EReal) * x4 (ix2 0 l)

/-- The three patterns of a row and lane: cosines in the first 32 lanes, negated sines in the first 16, sines in the next 16. -/
theorem cos_at (x1 : Vec Ideal S512x1 .i32) (x4 : Vec Ideal S1x128 .f32) (r : Fin 512) (l : Fin 128) :
    k0_pay11 x1 x4 (ix2 r l) = if l.val < 32 then Ideal.cos (angle x1 x4 r l) else 1 := by
  have e : k0_pay11 x1 x4 (ix2 r l) = Scalar.select (IntOp.ori (k0_pay9 (ix2 0 l)) (k0_pay10 (ix2 0 l))) (Ideal.cos (angle x1 x4 r l)) 1 := by
    pointwise [k0_pay11, k0_pay6]
  rw [e, mask_lo, mask_hi]
  by_cases h1 : l.val < 16
  · rw [if_pos h1, if_neg (by omega), if_pos (by omega)]; rfl
  by_cases h2 : l.val < 32
  · rw [if_neg h1, if_pos ⟨by omega, h2⟩, if_pos h2]; rfl
  · rw [if_neg h1, if_neg (by omega), if_neg h2]; rfl

theorem lo_at (x1 : Vec Ideal S512x1 .i32) (x4 : Vec Ideal S1x128 .f32) (r : Fin 512) (l : Fin 128) :
    k0_pay12 x1 x4 (ix2 r l) = if l.val < 16 then 0 - Ideal.sin (angle x1 x4 r l) else 0 := by
  have e : k0_pay12 x1 x4 (ix2 r l) = Scalar.select (k0_pay9 (ix2 0 l)) (0 - Ideal.sin (angle x1 x4 r l)) 0 := by
    pointwise [k0_pay12, k0_pay7, k0_pay6]
  rw [e, mask_lo]
  by_cases h : l.val < 16
  · rw [if_pos h, if_pos h]; rfl
  · rw [if_neg h, if_neg h]; rfl

theorem hi_at (x1 : Vec Ideal S512x1 .i32) (x4 : Vec Ideal S1x128 .f32) (r : Fin 512) (l : Fin 128) :
    k0_pay13 x1 x4 (ix2 r l) = if 16 ≤ l.val ∧ l.val < 32 then Ideal.sin (angle x1 x4 r l) else 0 := by
  have e : k0_pay13 x1 x4 (ix2 r l) = Scalar.select (k0_pay10 (ix2 0 l)) (Ideal.sin (angle x1 x4 r l)) 0 := by
    pointwise [k0_pay13, k0_pay7, k0_pay6]
  rw [e, mask_hi]
  by_cases h : 16 ≤ l.val ∧ l.val < 32
  · rw [if_pos h, if_pos h]; rfl
  · rw [if_neg h, if_neg h]; rfl

/-- The scale: that of the queries at the first point of a row block, one at the second. -/
theorem scale_zero : k0_pay14 (F := Ideal) (BitVec.ofNat 32 0) = Ideal.ofBits .f32 0x3DB504F3#32 := rfl
theorem scale_one : k0_pay14 (F := Ideal) (BitVec.ofNat 32 1) = 1 := by
  have e : k0_pay14 (F := Ideal) (BitVec.ofNat 32 1) = Ideal.ofBits .f32 0x3F800000#32 := rfl
  rw [e]
  pointwise

theorem turned_at (p C L H : FVec Ideal S512x128 .f32) (s : EReal) (r : Fin 512) (l : Fin 128) :
    turned (F := Ideal) p C L H s (ix3 0 r l) = (p (ix2 r l) * C (ix2 r l) + p (ix2 r ⟨(l.val + 128 - 112) % 128, by omega⟩) * L (ix2 r l)
      + p (ix2 r ⟨(l.val + 128 - 16) % 128, by omega⟩) * H (ix2 r l)) * s := by
  pointwise [turned]

theorem pay1_at (x0 : Vec Ideal S512x2048 .f32) (x2 : Vec Ideal S1x2048 .f32) (r : Fin 512) (k : Fin 2048) :
    k0_pay1 x0 x2 (ix2 r k) = x0 (ix2 r k) * Ideal.rsqrt (Ideal.div (∑ j : Fin 2048, x0 (ix2 r j) * x0 (ix2 r j)) (Ideal.ofBits .f32 0x45000000#32)
      + Ideal.ofBits .f32 0x358637BD#32) * x2 (ix2 0 k) := by
  pointwise [k0_pay1]

theorem pay2_at (u : Vec Ideal S512x2048 .bf16) (w : Vec Ideal S2048x1024 .bf16) (r : Fin 512) (n : Fin 1024) :
    k0_pay2 u w (ix2 r n) = ∑ k : Fin 2048, u (ix2 r k) * w (ix2 k n) := by
  pointwise [k0_pay2]

theorem pay3_at (u : Vec Ideal S512x2048 .bf16) (w : Vec Ideal S2048x1024 .bf16) (r : Fin 512) (n : Fin 1024) :
    k0_pay3 u w (ix3 0 r n) = ∑ k : Fin 2048, u (ix2 r k) * w (ix2 k n) := by
  pointwise [k0_pay3, k0_pay2]

end Cert.ProjIdeal.Open

end
-- ==== Proof.ProjRow.lean ====
/-
  The mathematics of one row of the query, key and value projection, apart from any program: the rotation of the first
  32 lanes of each head, and its writing as a product with three lane patterns.
-/
module

public import proofs.«01_k».proof.Proof.PostRow

@[expose] public section

set_option maxRecDepth 16384

noncomputable section

namespace Cert.ProjRow

open Idealize.ShloMosaic
open Cert.PostRow (rms scale)

/-- The `k`-th of 16 frequencies: the base to the power `-k / 16`. -/
def freq (k : ℕ) : EReal :=
  Ideal.pow (Ideal.ofBits .f32 0x48F42400#32) (Ideal.div (-(FloatOps.sitofp (F := Ideal) .f32 (BitVec.ofNat 32 k) : EReal)) (Ideal.ofBits .f32 0x41800000#32))

/-- The angle of frequency `k` at a position. -/
def angle (p : BitVec 32) (k : ℕ) : EReal := (FloatOps.sitofp (F := Ideal) .f32 p : EReal) * freq k

/-- Column `n` of eight heads of 128 lanes, the first 16 lanes of each head rotated against the next 16. -/
def spin (r : Fin 1024 → EReal) (a : ℕ → EReal) (n : Fin 1024) : EReal :=
  if h : n.val % 128 < 16 then r n * Ideal.cos (a (n.val % 128)) - r ⟨n.val + 16, by omega⟩ * Ideal.sin (a (n.val % 128))
  else if h : n.val % 128 < 32 then r n * Ideal.cos (a (n.val % 128 - 16)) + r ⟨n.val - 16, by omega⟩ * Ideal.sin (a (n.val % 128 - 16))
  else r n

/-- A column of the normalized row's product with the weights. -/
def proj (x g : Fin 2048 → EReal) (w : Fin 2048 → Fin 5008 → EReal) (n : Fin 5008) : EReal :=
  ∑ k : Fin 2048, rms x (g k) k * w k n

/-- The queries' columns (slab 0), rotated and scaled; the keys' (slab 1), rotated; the values' (slab 2). -/
def entry (p : Fin 5008 → EReal) (a : ℕ → EReal) (j : ℕ) (n : Fin 1024) : EReal :=
  if j = 0 then spin (fun n => p ⟨832 + n.val, by omega⟩) a n * scale
  else if j = 1 then spin (fun n => p ⟨1856 + n.val, by omega⟩) a n
  else p ⟨2880 + n.val, by omega⟩

/-- The rotation by lane patterns: each lane, the lane 16 further and the lane 16 back, each times a pattern that is
    zero where the rotation does not use it. -/
theorem spin_lanes (r : Fin 1024 → EReal) (a : ℕ → EReal) (n : Fin 1024) :
    r n * (if n.val % 128 < 32 then Ideal.cos (a (n.val % 128 % 16)) else 1)
      + r ⟨128 * (n.val / 128) + (n.val % 128 + 128 - 112) % 128, by omega⟩ * (if n.val % 128 < 16 then 0 - Ideal.sin (a (n.val % 128 % 16)) else 0)
      + r ⟨128 * (n.val / 128) + (n.val % 128 + 128 - 16) % 128, by omega⟩ * (if 16 ≤ n.val % 128 ∧ n.val % 128 < 32 then Ideal.sin (a (n.val % 128 % 16)) else 0)
      = spin r a n := by
  unfold spin
  by_cases h1 : n.val % 128 < 16
  · have e : (⟨128 * (n.val / 128) + (n.val % 128 + 128 - 112) % 128, by omega⟩ : Fin 1024) = ⟨n.val + 16, by omega⟩ := Fin.ext (by dsimp only; omega)
    rw [if_pos (by omega), if_pos h1, if_neg (by omega), dif_pos h1, e, Nat.mod_eq_of_lt h1, mul_zero, add_zero, zero_sub, mul_neg, sub_eq_add_neg]
  by_cases h2 : n.val % 128 < 32
  · have e : (⟨128 * (n.val / 128) + (n.val % 128 + 128 - 16) % 128, by omega⟩ : Fin 1024) = ⟨n.val - 16, by omega⟩ := Fin.ext (by dsimp only; omega)
    have e' : n.val % 128 % 16 = n.val % 128 - 16 := by omega
    rw [if_pos h2, if_neg h1, if_pos ⟨by omega, h2⟩, dif_neg h1, dif_pos h2, e, e', mul_zero, add_zero]
  · rw [if_neg h2, if_neg h1, if_neg (by omega), dif_neg h1, dif_neg h2, mul_zero, mul_zero, add_zero, add_zero, mul_one]

end Cert.ProjRow

end
-- ==== Proof.ProjRef.lean ====
/-
  The reference of the query, key and value projection at an index: normalization, product, rotation and scale of one
  row.
-/
module

public import proofs.«01_k».proof.Proof.ProjRow
public import proofs.«01_k».proof.Proof.Gen.ProjRefIdeal.Run
public import Idealize.ShloMosaic.Lib.Pointwise

@[expose] public section

set_option maxRecDepth 16384

noncomputable section

namespace Cert.ProjRefIdeal.Open

open Cert.ProjRefIdeal Cert.ProjRefIdeal.Gen Idealize.ShloMosaic Idealize.ShloMosaic.TcCoe Idealize.SL.Sem
open Cert.PostRow (rms scale)
open Cert.ProjRow (freq angle spin proj entry)

/-- Each row divided by the root of its mean square, times a gain. -/
def norm (x : FVec Ideal S2x4096x2048 .f32) (g : FVec Ideal S1x2048 .f32) : FVec Ideal S2x4096x2048 .f32 :=
  mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32))))))
    (broadcastInDim S2x4096x2048 ![0, 1, 2] bcast_S1x1x2048_S2x4096x2048_0_1_2 (broadcastInDim S1x1x2048 ![2] bcast_S2048_S1x1x2048_2 (shapeCast _ g shapeCasts_S1x2048_S2048)))

/-- The product with the weights. -/
def prod (h : FVec Ideal S2x4096x2048 .f32) (w : FVec Ideal S1x2048x5008 .f32) : FVec Ideal S2x4096x5008 .f32 :=
  Host.dotGeneral dot_S2x4096x2048_S2048x5008_S2x4096x5008_2_0_01_1_n_n none h (shapeCast _ w shapeCasts_S1x2048x5008_S2048x5008)

/-- Eight heads of 128 columns, from column `o` on. -/
def band (o : ℕ) (s : S2x4096x5008.Slices ![0, 0, o] S2x4096x1024) (p : FVec Ideal S2x4096x5008 .f32) : FVec Ideal S2x4096x8x128 .f32 :=
  shapeCast _ (extractStridedSlice S2x4096x1024 ![0, 0, o] p s) shapeCasts_S2x4096x1024_S2x4096x8x128

/-- The angles of the positions. -/
def angles (t : IVec S2x4096 32) : FVec Ideal S2x4096x1x16 .f32 :=
  broadcastInDim S2x4096x1x16 ![0, 1, 3] bcast_S2x4096x16_S2x4096x1x16_0_1_3 (mulf (broadcastInDim S2x4096x16 ![0, 1, 2] bcast_S2x4096x1_S2x4096x16_0_1_2 (broadcastInDim S2x4096x1 ![0, 1] bcast_S2x4096_S2x4096x1_0_1 (sitofp .f32 t))) (broadcastInDim S2x4096x16 ![0, 1, 2] bcast_S1x1x16_S2x4096x16_0_1_2 (broadcastInDim S1x1x16 ![2] bcast_S16_S1x1x16_2 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32)))))))

/-- The first 32 lanes rotated. -/
def turn (z : FVec Ideal S2x4096x8x128 .f32) (a : FVec Ideal S2x4096x1x16 .f32) : FVec Ideal S2x4096x8x128 .f32 :=
  concatenate S2x4096x8x128 3 [⟨S2x4096x8x16, subf (mulf (extractStridedSlice S2x4096x8x16 ![0, 0, 0, 0] z slices_S2x4096x8x128_S2x4096x8x16_0_0_0_0) (broadcastInDim S2x4096x8x16 ![0, 1, 2, 3] bcast_S2x4096x1x16_S2x4096x8x16_0_1_2_3 (Host.cos a))) (mulf (extractStridedSlice S2x4096x8x16 ![0, 0, 0, 16] z slices_S2x4096x8x128_S2x4096x8x16_0_0_0_16) (broadcastInDim S2x4096x8x16 ![0, 1, 2, 3] bcast_S2x4096x1x16_S2x4096x8x16_0_1_2_3 (Host.sin a)))⟩,
    ⟨S2x4096x8x16, addf (mulf (extractStridedSlice S2x4096x8x16 ![0, 0, 0, 16] z slices_S2x4096x8x128_S2x4096x8x16_0_0_0_16) (broadcastInDim S2x4096x8x16 ![0, 1, 2, 3] bcast_S2x4096x1x16_S2x4096x8x16_0_1_2_3 (Host.cos a))) (mulf (extractStridedSlice S2x4096x8x16 ![0, 0, 0, 0] z slices_S2x4096x8x128_S2x4096x8x16_0_0_0_0) (broadcastInDim S2x4096x8x16 ![0, 1, 2, 3] bcast_S2x4096x1x16_S2x4096x8x16_0_1_2_3 (Host.sin a)))⟩,
    ⟨S2x4096x8x96, extractStridedSlice S2x4096x8x96 ![0, 0, 0, 32] z slices_S2x4096x8x128_S2x4096x8x96_0_0_0_32⟩] concatenates_S2x4096x8x16_S2x4096x8x16_S2x4096x8x96_S2x4096x8x128_d3

/-- Three arrays stacked. -/
def stack (q k v : FVec Ideal S2x4096x8x128 .f32) : FVec Ideal S3x8192x1024 .bf16 :=
  truncf .bf16 (concatenate S3x8192x1024 0 [⟨S1x8192x1024, broadcastInDim S1x8192x1024 ![1, 2] bcast_S8192x1024_S1x8192x1024_1_2 (shapeCast _ q shapeCasts_S2x4096x8x128_S8192x1024)⟩,
    ⟨S1x8192x1024, broadcastInDim S1x8192x1024 ![1, 2] bcast_S8192x1024_S1x8192x1024_1_2 (shapeCast _ k shapeCasts_S2x4096x8x128_S8192x1024)⟩,
    ⟨S1x8192x1024, broadcastInDim S1x8192x1024 ![1, 2] bcast_S8192x1024_S1x8192x1024_1_2 (shapeCast _ v shapeCasts_S2x4096x8x128_S8192x1024)⟩] concatenates_S1x8192x1024_S1x8192x1024_S1x8192x1024_S3x8192x1024_d0) bitsLt_bf16_f32

/-- The scale of the queries, at each index. -/
def scales : FVec Ideal S2x4096x8x128 .f32 := broadcastInDim S2x4096x8x128 ![] bcast_S_S2x4096x8x128 (constant S_ .f32 0x3DB504F3#32)

/-- The reference's result from its arguments. -/
def out (x : FVec Ideal S2x4096x2048 .f32) (t : IVec S2x4096 32) (g : FVec Ideal S1x2048 .f32) (w : FVec Ideal S1x2048x5008 .f32) : FVec Ideal S3x8192x1024 .bf16 :=
  stack (mulf (turn (band 832 slices_S2x4096x5008_S2x4096x1024_0_0_832 (prod (norm x g) w)) (angles t)) scales)
    (turn (band 1856 slices_S2x4096x5008_S2x4096x1024_0_0_1856 (prod (norm x g) w)) (angles t))
    (band 2880 slices_S2x4096x5008_S2x4096x1024_0_0_2880 (prod (norm x g) w))

theorem res_eq (m : (ℓ : Loc nD τ sig) → Buf (Elt Ideal) ℓ) (c : Dev nD) : Value.res_main_v89 m c
    = out (m ((c.tc : Thread nD τ).loc main_arg0)) (m ((c.tc : Thread nD τ).loc main_arg1)) (m ((c.tc : Thread nD τ).loc main_arg2)) (m ((c.tc : Thread nD τ).loc main_arg3)) := by
  unfold Value.res_main_v89 out stack scales turn angles band prod norm
  rfl

theorem norm_at (x : FVec Ideal S2x4096x2048 .f32) (g : FVec Ideal S1x2048 .f32) (b : Fin 2) (s : Fin 4096) (k : Fin 2048) :
    norm x g (ix3 b s k) = rms (fun k => x (ix3 b s k)) (g (ix2 0 k)) k := by
  pointwise [norm, rms, Cert.PostRow.len, Cert.PostRow.eps]

theorem prod_at (h : FVec Ideal S2x4096x2048 .f32) (w : FVec Ideal S1x2048x5008 .f32) (b : Fin 2) (s : Fin 4096) (n : Fin 5008) :
    prod h w (ix3 b s n) = ∑ k : Fin 2048, h (ix3 b s k) * w (ix3 0 k n) := by
  pointwise [prod]

theorem angles_at (t : IVec S2x4096 32) (b : Fin 2) (s : Fin 4096) (k : Fin 16) :
    angles t (ix4 b s 0 k) = angle (t (ix2 b s)) k.val := by
  pointwise [angles, angle, freq]

theorem turn_at (z : FVec Ideal S2x4096x8x128 .f32) (a : FVec Ideal S2x4096x1x16 .f32) (b : Fin 2) (s : Fin 4096) (h : Fin 8) (d : Fin 128) :
    turn z a (ix4 b s h d) = if hd : d.val < 16 then z (ix4 b s h d) * Ideal.cos (a (ix4 b s 0 ⟨d.val, hd⟩)) - z (ix4 b s h ⟨d.val + 16, by omega⟩) * Ideal.sin (a (ix4 b s 0 ⟨d.val, hd⟩))
      else if hd : d.val < 32 then z (ix4 b s h d) * Ideal.cos (a (ix4 b s 0 ⟨d.val - 16, by omega⟩)) + z (ix4 b s h ⟨d.val - 16, by omega⟩) * Ideal.sin (a (ix4 b s 0 ⟨d.val - 16, by omega⟩))
      else z (ix4 b s h d) := by
  pointwise [turn]
  by_cases h1 : d.val < 16
  · have e : (⟨16 + d.val, by omega⟩ : Fin 128) = ⟨d.val + 16, by omega⟩ := Fin.ext (Nat.add_comm _ _)
    rw [dif_pos h1, dif_pos h1, e]
  by_cases h2 : d.val < 32
  · have e : (⟨16 + (d.val - 16), by omega⟩ : Fin 128) = d := Fin.ext (by dsimp only; omega)
    rw [dif_neg h1, dif_neg h1, dif_pos (by omega), dif_pos h2, e]
  · have e : (⟨32 + (d.val - 16 - 16), by omega⟩ : Fin 128) = d := Fin.ext (by dsimp only; omega)
    rw [dif_neg h1, dif_neg h1, dif_neg (by omega), dif_neg h2, e]

theorem band_at (o : ℕ) (ho : o + 1024 ≤ 5008) (w : S2x4096x5008.Slices ![0, 0, o] S2x4096x1024) (p : FVec Ideal S2x4096x5008 .f32) (b : Fin 2) (s : Fin 4096) (h : Fin 8) (d : Fin 128) :
    band o w p (ix4 b s h d) = p (ix3 b s ⟨o + (h.val * 128 + d.val), by omega⟩) := by
  pointwise [band]

theorem stack_at (q k v : FVec Ideal S2x4096x8x128 .f32) (j : Fin 3) (i : Fin 8192) (n : Fin 1024) :
    stack q k v (ix3 j i n) = (if j.val = 0 then q else if j.val = 1 then k else v) (ix4 ⟨i.val / 4096, by omega⟩ ⟨i.val % 4096, by omega⟩ ⟨n.val / 128, by omega⟩ ⟨n.val % 128, by omega⟩) := by
  pointwise [stack]
  by_cases h0 : j.val = 0
  · rw [dif_pos (by omega), if_pos h0]
  by_cases h1 : j.val = 1
  · rw [dif_neg (by omega), dif_pos (by omega), if_neg h0, if_pos h1]
  · rw [dif_neg (by omega), dif_neg (by omega), if_neg h0, if_neg h1]

/-- A rotated column. -/
theorem turn_spin (z : FVec Ideal S2x4096x8x128 .f32) (t : IVec S2x4096 32) (b : Fin 2) (s : Fin 4096) (r : Fin 1024 → EReal)
    (hz : ∀ (h : Fin 8) (d : Fin 128), z (ix4 b s h d) = r ⟨h.val * 128 + d.val, by omega⟩) (n : Fin 1024) :
    turn z (angles t) (ix4 b s ⟨n.val / 128, by omega⟩ ⟨n.val % 128, by omega⟩) = spin r (angle (t (ix2 b s))) n := by
  have e0 : (⟨n.val / 128 * 128 + n.val % 128, by omega⟩ : Fin 1024) = n := Fin.ext (by dsimp only; omega)
  rw [turn_at]
  unfold spin
  by_cases h1 : n.val % 128 < 16
  · have e : (⟨n.val / 128 * 128 + (n.val % 128 + 16), by omega⟩ : Fin 1024) = ⟨n.val + 16, by omega⟩ := Fin.ext (by dsimp only; omega)
    rw [dif_pos h1, dif_pos h1, angles_at, hz, hz]
    dsimp only
    rw [e0, e]
  by_cases h2 : n.val % 128 < 32
  · have e : (⟨n.val / 128 * 128 + (n.val % 128 - 16), by omega⟩ : Fin 1024) = ⟨n.val - 16, by omega⟩ := Fin.ext (by dsimp only; omega)
    rw [dif_neg h1, dif_neg h1, dif_pos h2, dif_pos h2, angles_at, hz, hz]
    dsimp only
    rw [e0, e]
  · rw [dif_neg h1, dif_neg h1, dif_neg h2, dif_neg h2, hz]
    exact congrArg r e0

theorem prod_proj (x : FVec Ideal S2x4096x2048 .f32) (g : FVec Ideal S1x2048 .f32) (w : FVec Ideal S1x2048x5008 .f32) (b : Fin 2) (s : Fin 4096) (n : Fin 5008) :
    prod (norm x g) w (ix3 b s n) = proj (fun k => x (ix3 b s k)) (fun k => g (ix2 0 k)) (fun k n => w (ix3 0 k n)) n := by
  rw [prod_at]
  exact Finset.sum_congr rfl fun k _ => congrArg (· * w (ix3 0 k n)) (norm_at x g b s k)

/-- The reference's result at a slab, row and column. -/
theorem out_at (x : FVec Ideal S2x4096x2048 .f32) (t : IVec S2x4096 32) (g : FVec Ideal S1x2048 .f32) (w : FVec Ideal S1x2048x5008 .f32) (j : Fin 3) (i : Fin 8192) (n : Fin 1024) :
    out x t g w (ix3 j i n) = entry (proj (fun k => x (ix3 ⟨i.val / 4096, by omega⟩ ⟨i.val % 4096, by omega⟩ k)) (fun k => g (ix2 0 k)) fun k n => w (ix3 0 k n))
      (angle (t (ix2 ⟨i.val / 4096, by omega⟩ ⟨i.val % 4096, by omega⟩))) j.val n := by
  have hb : ∀ (o : ℕ) (ho : o + 1024 ≤ 5008) (s : S2x4096x5008.Slices ![0, 0, o] S2x4096x1024) (h : Fin 8) (d : Fin 128),
      band o s (prod (norm x g) w) (ix4 ⟨i.val / 4096, by omega⟩ ⟨i.val % 4096, by omega⟩ h d)
        = (fun n : Fin 1024 => proj (fun k => x (ix3 ⟨i.val / 4096, by omega⟩ ⟨i.val % 4096, by omega⟩ k)) (fun k => g (ix2 0 k)) (fun k n => w (ix3 0 k n)) ⟨o + n.val, by omega⟩)
          ⟨h.val * 128 + d.val, by omega⟩ := fun o ho s h d => by rw [band_at o ho, prod_proj]
  unfold out entry
  rw [stack_at]
  by_cases h0 : j.val = 0
  · rw [if_pos h0, if_pos h0]
    refine congrArg (· * scale) (turn_spin _ t _ _ _ (hb 832 (by norm_num) _) n)
  by_cases h1 : j.val = 1
  · rw [if_neg h0, if_pos h1, if_neg h0, if_pos h1]
    exact turn_spin _ t _ _ _ (hb 1856 (by norm_num) _) n
  · rw [if_neg h0, if_neg h1, if_neg h0, if_neg h1, hb 2880 (by norm_num)]
    dsimp only
    congr 1
    apply Fin.ext
    dsimp only
    omega

end Cert.ProjRefIdeal.Open

end
-- ==== Proof.ProjClaim.lean ====
/-
  The query, key and value projection's claims: the kernel's array holds at each slab, row and column what the reference
  states.
-/
module

public import proofs.«01_k».proof.Proof.ProjOpen
public import proofs.«01_k».proof.Proof.ProjRef
public import proofs.«01_k».proof.Defs
public import Idealize.ShloMosaic.Lib.Quiescent
public import Idealize.ShloMosaic.Lib.StableHlo.ReadAt
public import Idealize.ShloMosaic.Lib.Routing.OpsSearch

@[expose] public section

set_option maxRecDepth 16384

noncomputable section

namespace Cert.ProjIdeal.Open

open Cert.ProjIdeal Cert.ProjIdeal.Gen Idealize.ShloMosaic Idealize.ShloMosaic.TcCoe Idealize.SL.Sem
open Cert.PostRow (rms scale)
open Cert.ProjRow (freq spin proj entry spin_lanes)

variable (m : (ℓ : Loc nD τ sig) → Buf (Elt Ideal) ℓ)

theorem N_0 : cfg0.N = 48 := by decide +kernel

/-- Point `t` works on rows `512 (t / 3)` onward, and on slab `t % 3`. -/
theorem idx0 : ∀ t : Fin cfg0.N, win0_0.index t 0 = t.val / 3 ∧ win0_0.index t 1 = 0 := (by decide +kernel : ∀ t : Fin grid0.N, _)
theorem idx1 : ∀ t : Fin cfg0.N, win0_1.index t 0 = t.val / 3 ∧ win0_1.index t 1 = 0 := (by decide +kernel : ∀ t : Fin grid0.N, _)
theorem idx2 : ∀ t : Fin cfg0.N, win0_2.index t 0 = 0 ∧ win0_2.index t 1 = 0 := (by decide +kernel : ∀ t : Fin grid0.N, _)
theorem idx3 : ∀ t : Fin cfg0.N, win0_3.index t 0 = 0 ∧ win0_3.index t 1 = t.val % 3 := (by decide +kernel : ∀ t : Fin grid0.N, _)
theorem idx4 : ∀ t : Fin cfg0.N, win0_4.index t 0 = 0 ∧ win0_4.index t 1 = 0 := (by decide +kernel : ∀ t : Fin grid0.N, _)
theorem slab_word : ∀ t : Fin cfg0.N, (grid0.coords t 1).val = t.val % 3 := (by decide +kernel : ∀ t : Fin grid0.N, _)

/-- Row `r` of point `t`'s row block, its batch and its place in the batch. -/
abbrev row (t : Fin cfg0.N) (r : Fin 512) : Fin 8192 := ⟨512 * (t.val / 3) + r.val, by have := lt_of_lt_of_eq t.isLt N_0; omega⟩
abbrev bt (i : Fin 8192) : Fin 2 := ⟨i.val / 4096, by omega⟩
abbrev sq (i : Fin 8192) : Fin 4096 := ⟨i.val % 4096, by omega⟩

/-- The call's arguments. -/
abbrev XA (c : Dev nD) : FVec Ideal S2x4096x2048 .f32 := m ((c : Thread nD τ).loc main_arg0)
abbrev TA (c : Dev nD) : IVec S2x4096 32 := m ((c : Thread nD τ).loc main_arg1)
abbrev GA (c : Dev nD) : FVec Ideal S1x2048 .f32 := m ((c : Thread nD τ).loc main_arg2)
abbrev WA (c : Dev nD) : FVec Ideal S1x2048x5008 .f32 := m ((c : Thread nD τ).loc main_arg3)

variable (c : Dev nD) (t : Fin cfg0.N)

/-! ## The blocks of a point, in the call's arguments -/

theorem blk0 (r : Fin 512) (k : Fin 2048) : (iblk m c 0 t : Vec Ideal S512x2048 .f32) (ix2 r k) = XA m c (ix3 (bt (row t r)) (sq (row t r)) k) := by
  unfold iblk
  rw [View.read_apply]
  show V m c main_v0 _ = _
  have e : ((cfg0.win 0).blk t).view.emb (ix2 r k) = (ix2 (row t r) k : S8192x2048.Idx) := by
    funext d
    apply Fin.ext
    match d with
    | ⟨0, _⟩ => show win0_0.index t 0 * 512 + 1 * r.val = 512 * (t.val / 3) + r.val; rw [(idx0 t).1]; omega
    | ⟨1, _⟩ => show win0_0.index t 1 * 2048 + 1 * k.val = k.val; rw [(idx0 t).2]; omega
  rw [e]
  generalize row t r = i
  unfold V
  after_reads_at

theorem blk1 (r : Fin 512) : (iblk m c 1 t : Vec Ideal S512x1 .i32) (ix2 r 0) = TA m c (ix2 (bt (row t r)) (sq (row t r))) := by
  unfold iblk
  rw [View.read_apply]
  show V m c main_v1 _ = _
  have e : ((cfg0.win 1).blk t).view.emb (ix2 r 0) = (ix2 (row t r) 0 : S8192x1.Idx) := by
    funext d
    apply Fin.ext
    match d with
    | ⟨0, _⟩ => show win0_1.index t 0 * 512 + 1 * r.val = 512 * (t.val / 3) + r.val; rw [(idx1 t).1]; omega
    | ⟨1, _⟩ => show win0_1.index t 1 * 1 + 1 * 0 = 0; rw [(idx1 t).2]
  rw [e]
  generalize row t r = i
  unfold V
  after_reads_at

theorem blk2 (k : Fin 2048) : (iblk m c 2 t : Vec Ideal S1x2048 .f32) (ix2 0 k) = GA m c (ix2 0 k) := by
  unfold iblk
  rw [View.read_apply]
  show V m c main_arg2 _ = _
  rw [V_main_arg2]
  congr 1
  funext d
  apply Fin.ext
  match d with
  | ⟨0, _⟩ => show win0_2.index t 0 * 1 + 1 * 0 = 0; rw [(idx2 t).1]
  | ⟨1, _⟩ => show win0_2.index t 1 * 2048 + 1 * k.val = k.val; rw [(idx2 t).2]; omega

theorem weights_at (k : Fin 2048) (n : Fin 3072) : (V m c main_v4 : S2048x3072.Idx → EReal) (ix2 k n) = WA m c (ix3 0 k ⟨832 + n.val, by omega⟩) := by
  unfold V
  after_reads_at

theorem blk3 (k : Fin 2048) (n : Fin 1024) : (iblk m c 3 t : Vec Ideal S2048x1024 .bf16) (ix2 k n) = WA m c (ix3 0 k ⟨832 + (1024 * (t.val % 3) + n.val), by omega⟩) := by
  unfold iblk
  rw [View.read_apply]
  show V m c main_v4 _ = _
  have e : ((cfg0.win 3).blk t).view.emb (ix2 k n) = (ix2 k ⟨1024 * (t.val % 3) + n.val, by omega⟩ : S2048x3072.Idx) := by
    funext d
    apply Fin.ext
    match d with
    | ⟨0, _⟩ => show win0_3.index t 0 * 2048 + 1 * k.val = k.val; rw [(idx3 t).1]; omega
    | ⟨1, _⟩ => show win0_3.index t 1 * 1024 + 1 * n.val = 1024 * (t.val % 3) + n.val; rw [(idx3 t).2]; omega
  rw [e]
  exact weights_at m c k _

/-- The table of frequencies repeats every 16 lanes. -/
theorem table_at (l : Fin 128) : (V m c main_v21 : S1x128.Idx → EReal) (ix2 0 l) = freq (l.val % 16) := by
  unfold V
  after_reads_at
  refine (Routing.take_ap gather_S16_S128x1_S128_n_0_n_n_0_1_1 rfl rfl rfl rfl _ _ l (k := l.val % 16) (by omega) (by omega) ?_).trans ?_
  · revert l
    decide +kernel
  · pointwise [freq]

theorem blk4 (l : Fin 128) : (iblk m c 4 t : Vec Ideal S1x128 .f32) (ix2 0 l) = freq (l.val % 16) := by
  unfold iblk
  rw [View.read_apply]
  show V m c main_v21 _ = _
  have e : ((cfg0.win 4).blk t).view.emb (ix2 0 l) = (ix2 0 l : S1x128.Idx) := by
    funext d
    apply Fin.ext
    match d with
    | ⟨0, _⟩ => show win0_4.index t 0 * 1 + 1 * 0 = 0; rw [(idx4 t).1]
    | ⟨1, _⟩ => show win0_4.index t 1 * 128 + 1 * l.val = l.val; rw [(idx4 t).2]; omega
  rw [e]
  exact table_at m c l

/-! ## The scratch -/

/-- The normalized row `i`. -/
def normed (i : Fin 8192) (k : Fin 2048) : EReal := rms (fun k => XA m c (ix3 (bt i) (sq i) k)) (GA m c (ix2 0 k)) k

theorem fresh (r : Fin 512) (k : Fin 2048) : k0_pay1 (iblk m c 0 t) (iblk m c 2 t) (ix2 r k) = normed m c (row t r) k := by
  rw [pay1_at]
  simp only [blk0, blk2]
  rfl

/-- After every point the scratch holds the normalized rows of the point's row block. -/
theorem scratch_after : ∀ (n : ℕ) (hn : n < cfg0.N) (r : Fin 512) (k : Fin 2048), (outsAt0 m c n hn).2 (ix2 r k) = normed m c (row ⟨n, hn⟩ r) k := by
  intro n
  induction n with
  | zero =>
    intro hn r k
    rw [outsAt0_A m c ⟨0, hn⟩ rfl (by dsimp only; omega) (by dsimp only; omega)]
    dsimp only
    rw [scratch_A]
    exact fresh m c ⟨0, hn⟩ r k
  | succ n ih =>
    intro hn r k
    by_cases h0 : (n + 1) % 3 = 0
    · rw [outsAt0_A m c ⟨n + 1, hn⟩ h0 (by dsimp only; omega) (by dsimp only; omega)]
      dsimp only
      rw [scratch_A]
      exact fresh m c ⟨n + 1, hn⟩ r k
    · have hr : row ⟨n, Nat.lt_of_succ_lt hn⟩ r = row ⟨n + 1, hn⟩ r := by
        apply Fin.ext; dsimp only; omega
      have hp := ih (Nat.lt_of_succ_lt hn) r k
      rw [hr] at hp
      by_cases h1 : (n + 1) % 3 = 2
      · rw [outsAt0_C m c ⟨n + 1, hn⟩ h0 h1 (by dsimp only; omega)]
        exact hp
      · rw [outsAt0_B m c ⟨n + 1, hn⟩ h0 h1 (by dsimp only; omega)]
        exact hp

/-! ## The output block -/

/-- Row `i`'s product with the weights' column `n`. -/
def prodRow (i : Fin 8192) : Fin 5008 → EReal :=
  proj (fun k => XA m c (ix3 (bt i) (sq i) k)) (fun k => GA m c (ix2 0 k)) fun k n => WA m c (ix3 0 k n)

/-- The product of a point, from scratch rows that are the normalized ones. -/
theorem product {u : Vec Ideal S512x2048 .bf16} (hu : ∀ (r : Fin 512) (k : Fin 2048), u (ix2 r k) = normed m c (row t r) k) (r : Fin 512) (n : Fin 1024) :
    ∑ k : Fin 2048, u (ix2 r k) * (iblk m c 3 t : Vec Ideal S2048x1024 .bf16) (ix2 k n) = prodRow m c (row t r) ⟨832 + (1024 * (t.val % 3) + n.val), by omega⟩ := by
  unfold prodRow proj
  refine Finset.sum_congr rfl fun k _ => ?_
  rw [hu, blk3]
  rfl

/-- A turned point's block at a row and column. -/
theorem made_at {u : Vec Ideal S512x2048 .bf16} (hu : ∀ (r : Fin 512) (k : Fin 2048), u (ix2 r k) = normed m c (row t r) k) (r : Fin 512) (n : Fin 1024) :
    made (grid0.coords t) (iblk m c 1 t) (iblk m c 3 t) (iblk m c 4 t) u (ix3 0 r n)
      = spin (fun n => prodRow m c (row t r) ⟨832 + (1024 * (t.val % 3) + n.val), by omega⟩) (Cert.ProjRow.angle (TA m c (ix2 (bt (row t r)) (sq (row t r))))) n
        * k0_pay14 (F := Ideal) (BitVec.ofNat 32 (t.val % 3)) := by
  unfold made
  rw [slab_word, block_at, turned_at, cos_at, lo_at, hi_at]
  have ea : angle (iblk m c 1 t) (iblk m c 4 t) r ⟨n.val % 128, Nat.mod_lt _ (by norm_num)⟩
      = Cert.ProjRow.angle (TA m c (ix2 (bt (row t r)) (sq (row t r)))) (n.val % 128 % 16) := by
    unfold angle
    rw [blk1, blk4]
    rfl
  rw [ea]
  have eh : ∀ (h : ℕ) (hh : h < 8) (l : Fin 128), headOf (k0_pay2 u (iblk m c 3 t)) h hh (ix2 r l)
      = prodRow m c (row t r) ⟨832 + (1024 * (t.val % 3) + (128 * h + l.val)), by omega⟩ := fun h hh l => by
    show k0_pay2 u (iblk m c 3 t) (ix2 r ⟨128 * h + l.val, by omega⟩) = _
    rw [pay2_at]
    exact product m c t hu r _
  rw [eh, eh, eh, ← spin_lanes]
  have en : (⟨832 + (1024 * (t.val % 3) + (128 * (n.val / 128) + n.val % 128)), by omega⟩ : Fin 5008) = ⟨832 + (1024 * (t.val % 3) + n.val), by omega⟩ := Fin.ext (by dsimp only; omega)
  dsimp only
  rw [en]

/-- What a point leaves in the output block. -/
theorem out_after (r : Fin 512) (n : Fin 1024) :
    (outsAt0 m c t.val t.isLt).1 (ix3 0 r n) = entry (prodRow m c (row t r)) (Cert.ProjRow.angle (TA m c (ix2 (bt (row t r)) (sq (row t r))))) (t.val % 3) n := by
  by_cases h0 : t.val % 3 = 0
  · rw [outsAt0_A m c t h0 (by omega) (by omega)]
    dsimp only
    rw [out_A, made_at m c t (fresh m c t)]
    unfold entry
    simp only [h0, if_true, Nat.mul_zero, Nat.zero_add, scale_zero]
  · have hN := lt_of_lt_of_eq t.isLt N_0
    have hlt : t.val - 1 < cfg0.N := Nat.lt_of_le_of_lt (Nat.sub_le _ _) t.isLt
    have hu : ∀ (r : Fin 512) (k : Fin 2048), (outsAt0 m c (t.val - 1) hlt).2 (ix2 r k) = normed m c (row t r) k := fun r k => by
      rw [scratch_after]
      congr 1
      apply Fin.ext
      dsimp only
      omega
    by_cases h1 : t.val % 3 = 2
    · rw [outsAt0_C m c t h0 h1 (by omega)]
      dsimp only
      rw [out_C, pay3_at, product m c t hu]
      unfold entry
      rw [if_neg h0, if_neg (by omega)]
      congr 1
      apply Fin.ext
      dsimp only
      omega
    · have h2 : t.val % 3 = 1 := by omega
      rw [outsAt0_B m c t h0 h1 (by omega)]
      dsimp only
      rw [out_B, made_at m c t hu]
      unfold entry
      rw [if_neg h0, if_pos h2]
      simp only [h2, scale_one, mul_one, ← Nat.add_assoc]

/-- The kernel's result array, at each index. -/
theorem result_at (j : Fin 3) (i : Fin 8192) (n : Fin 1024) :
    Value.G5 m c (ix3 j i n) = entry (prodRow m c i) (Cert.ProjRow.angle (TA m c (ix2 (bt i) (sq i)))) j.val n := by
  have hi := i.isLt
  have hj := j.isLt
  have hp : Value.pt5Of (ix3 j i n) = j.val + 3 * (i.val / 512) := by
    show 1 * (j.val / 1 - 0) + 3 * (i.val / 512 - 0) + 48 * (n.val / 1024 - 0) = _
    have : n.val / 1024 = 0 := Nat.div_eq_of_lt n.isLt
    omega
  have hlt : Value.pt5Of (ix3 j i n) < cfg0.N := by rw [hp, N_0]; omega
  have hl : Value.loc5Of (ix3 j i n) = ix3 0 ⟨i.val % 512, Nat.mod_lt _ (by decide)⟩ n := by
    funext d
    apply Fin.ext
    match d with
    | ⟨0, _⟩ => exact Nat.mod_one _
    | ⟨1, _⟩ => rfl
    | ⟨2, _⟩ => exact Nat.mod_eq_of_lt n.isLt
  have hr : row ⟨Value.pt5Of (ix3 j i n), hlt⟩ ⟨i.val % 512, Nat.mod_lt _ (by decide)⟩ = i := by
    apply Fin.ext
    show 512 * (Value.pt5Of (ix3 j i n) / 3) + i.val % 512 = i.val
    rw [hp]; omega
  have hm : Value.pt5Of (ix3 j i n) % 3 = j.val := by rw [hp]; omega
  unfold Value.G5
  rw [dif_pos hlt, ← Value.outsAt0_sweep m c _ hlt, hl, out_after m c ⟨Value.pt5Of (ix3 j i n), hlt⟩, hr]
  dsimp only
  rw [hm]

end Cert.ProjIdeal.Open

namespace Cert.Proof.Proj

open Idealize.ShloMosaic Idealize.ShloMosaic.TcCoe Idealize.SL.Sem

/-- The reference's frame: its arguments unchanged, no counter moved. -/
theorem frame_ref : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run m ρ)

/-- Kernel and reference end at one array, from arguments that agree. -/
theorem algebraic : Cert.algebraic_ProjIdeal_ProjRefIdeal := by
  intro m ρ m' ρ' _ hagree
  refine ⟨fun c => Cert.ProjIdeal.Value.G5 m c, Cert.ProjIdeal.Value.run m ρ, ?_⟩
  refine (θ_run _ _ _).mono (fun r h c => ⟨?_, (h c).2⟩) (Cert.ProjRefIdeal.Value.run m' ρ')
  obtain ⟨e0, e1, e2, e3⟩ := hagree c
  refine funext fun (y : (⟨3, ![3, 8192, 1024]⟩ : Shape).Idx) => ?_
  obtain ⟨j, i, n, rfl⟩ : ∃ j i n, y = ix3 j i n := ⟨y 0, y 1, y 2, eq_ix3 y⟩
  refine (congrFun ((h c).1.trans (Cert.ProjRefIdeal.Open.res_eq m' c)) _).trans ?_
  rw [e0, e1, e2, e3]
  exact (Cert.ProjRefIdeal.Open.out_at _ _ _ _ j i n).trans (Cert.ProjIdeal.Open.result_at m c j i n).symm

end Cert.Proof.Proj

end
-- ==== Proof.IdxOpen.lean ====
/-
  What one grid point of the indexer's projection leaves behind: sixteen stores of 128 lanes, two heads turned together and
  then each kept in its own half, the key turned, and the weights.
-/
module

public import proofs.«01_k».proof.Proof.Gen.IdxIdeal.Value
public import proofs.«01_k».proof.Proof.PostRow
public import Idealize.ShloMosaic.Lib.Pointwise

@[expose] public section

set_option maxRecDepth 16384

noncomputable section

namespace Cert.IdxIdeal.Open

open Cert.IdxIdeal Cert.IdxIdeal.Gen Idealize.ShloMosaic Idealize.ShloMosaic.TcCoe Idealize.SL.Sem
open Cert.PostRow (rms)

theorem hz : (![0, 0] : Fin 2 → Nat) = fun _ => 0 := funext fun a => by fin_cases a <;> rfl

section General

variable {F : FTy → Type} [FloatOps F]

/-- 128 lanes turned: the lanes times `C`, the lanes 8 further times `L`, the lanes 8 back times `H`. -/
def turned (p C L H : FVec F S512x128 .f32) : FVec F S512x128 .f32 :=
  addf (addf (mulf p C) (mulf (dynamicRotate 1 120#32 none p rotates_S512x128_d1) L)) (mulf (dynamicRotate 1 8#32 none p rotates_S512x128_d1) H)

/-- The lanes of the first half, and those of the second. -/
def first : IVec S1x128 1 := cmpi .slt (iota .tc S1x128 32 [1] iota_S1x128_d1_w32) (broadcast S1x128 64#32)
def second : IVec S1x128 1 := cmpi .sge (iota .tc S1x128 32 [1] iota_S1x128_d1_w32) (broadcast S1x128 64#32)

/-- The turned lanes, scaled and kept where the mask says so. -/
def kept (p C L H : FVec F S512x128 .f32) (mask : IVec S1x128 1) : FVec F S512x128 .bf16 :=
  truncf .bf16 (select (broadcastTo S512x128 (shapeCast S1x128 mask shapeCasts_S1x128_S1x128) broadcasts_S1x128_S512x128)
    (mulf (turned p C L H) (broadcast S512x128 (Scalar.ofBits .f32 0x3E000000#32))) (broadcast S512x128 (Scalar.ofBits .f32 0x00000000#32))) bitsLt_bf16_f32

/-- The `h`-th 128 columns of the product. -/
def pairOf (p : FVec F S512x1280 .f32) (h : ℕ) (hh : h < 8) : FVec F S512x128 .f32 := fun z =>
  p (ix2 (z 0) ⟨128 * h + (z 1).val, by have : (z 1).val < 128 := (z 1).isLt; omega⟩)

/-- The sixteen heads side by side. -/
def block (p : FVec F S512x1280 .f32) (C L H : FVec F S512x128 .f32) : FVec F S512x2048 .bf16 := fun y =>
  kept (pairOf p ((y 1).val / 256) (by have : (y 1).val < 2048 := (y 1).isLt; omega)) C L H (if (y 1).val / 128 % 2 = 0 then first else second)
    (ix2 (y 0) ⟨(y 1).val % 128, Nat.mod_lt _ (by norm_num)⟩)

theorem block_at (p : FVec F S512x1280 .f32) (C L H : FVec F S512x128 .f32) (r : Fin 512) (n : Fin 2048) :
    block p C L H (ix2 r n) = kept (pairOf p (n.val / 256) (by omega)) C L H (if n.val / 128 % 2 = 0 then first else second) (ix2 r ⟨n.val % 128, by omega⟩) := rfl

/-- A slice of 128 columns is the pair of heads it starts at. -/
theorem slice_pair (p : FVec F S512x1280 .f32) (h : ℕ) (hh : h < 8) (w : S512x1280.Slices ![0, 128 * h] S512x128) :
    extractStridedSlice S512x128 ![0, 128 * h] p w = pairOf p h hh := by
  funext z
  refine congrArg p (funext fun a => Fin.ext ?_)
  match a with
  | ⟨0, _⟩ => show 0 + (z 0).val = (z 0).val; omega
  | ⟨1, _⟩ => rfl

/-- A head kept in its half is the block at the columns it is stored to: head `j` of pair `h`. -/
theorem kept_block (p : FVec F S512x1280 .f32) (C L H : FVec F S512x128 .f32) (h : ℕ) (hh : h < 8) (j : ℕ) (hj : j < 2) (mask : IVec S1x128 1)
    (hm : mask = if j = 0 then first else second) (w : S512x1280.Slices ![0, 128 * h] S512x128)
    (inb : ∀ a, (![0, 128 * (2 * h + j)] : Fin 2 → ℕ) a + S512x128.size a ≤ S512x2048.size a)
    (x : (Rect.unit (s := S512x2048) ![0, 128 * (2 * h + j)] S512x128.size inb).shape.Idx) :
    kept (extractStridedSlice S512x128 ![0, 128 * h] p w) C L H mask x = block p C L H ((Rect.unit (s := S512x2048) ![0, 128 * (2 * h + j)] S512x128.size inb).emb x) := by
  have h1 : (x 1).val < 128 := (x 1).isLt
  have e1 : ((Rect.unit (s := S512x2048) ![0, 128 * (2 * h + j)] S512x128.size inb).emb x 1).val = 128 * (2 * h + j) + (x 1).val := by
    show 128 * (2 * h + j) + 1 * (x 1).val = _; omega
  rw [slice_pair p h hh, hm]
  unfold block
  have eh : ((Rect.unit (s := S512x2048) ![0, 128 * (2 * h + j)] S512x128.size inb).emb x 1).val / 256 = h := by rw [e1]; omega
  have ej : ((Rect.unit (s := S512x2048) ![0, 128 * (2 * h + j)] S512x128.size inb).emb x 1).val / 128 % 2 = j := by rw [e1]; omega
  have ep : ∀ (k : ℕ) (hk : k < 8), k = h → pairOf p k hk = pairOf p h hh := fun k hk e => by subst e; rfl
  rw [ep _ _ eh, ej]
  refine congrArg (kept (pairOf p h hh) C L H _) (funext fun a => ?_)
  apply Fin.ext
  match a with
  | ⟨0, _⟩ => show (x 0).val = 0 + 1 * (x 0).val; omega
  | ⟨1, _⟩ => show (x 1).val = _ % 128; rw [e1]; omega

variable (x0 : Vec F S512x2048 .f32) (x1 : Vec F S512x1 .i32) (x2 : Vec F S1x2048 .f32) (x3 : Vec F S2048x1280 .bf16) (x4 : Vec F S1x128 .f32)

/-- The product of a point and its three lane patterns. -/
abbrev P : FVec F S512x1280 .f32 := k0_pay45 x0 x1 x2 x3 x4
abbrev C : FVec F S512x128 .f32 := k0_pay52 x0 x1 x2 x3 x4
abbrev L : FVec F S512x128 .f32 := k0_pay53 x0 x1 x2 x3 x4
abbrev H : FVec F S512x128 .f32 := k0_pay54 x0 x1 x2 x3 x4

/-- The sixteen stores of the queries fill their block. -/
theorem out_q : out0_5 x0 x1 x2 x3 x4 = block (P x0 x1 x2 x3 x4) (C x0 x1 x2 x3 x4) (L x0 x1 x2 x3 x4) (H x0 x1 x2 x3 x4) := by
  unfold out0_5
  funext y
  refine View.canon_apply_of_pieces (Val := Elt F) (S := S512x2048) (e := .bf16) (block (P x0 x1 x2 x3 x4) (C x0 x1 x2 x3 x4) (L x0 x1 x2 x3 x4) (H x0 x1 x2 x3 x4)) _ ?_ y (cover0_5 _ _ _ _ _ _ _ _ _ _ _ _ _ _ _ _ y)
  simp only [List.forall_mem_cons, List.not_mem_nil, false_imp_iff, implies_true, and_true]
  have K := fun h hh j hj mask hm w inb x => kept_block (P x0 x1 x2 x3 x4) (C x0 x1 x2 x3 x4) (L x0 x1 x2 x3 x4) (H x0 x1 x2 x3 x4) h hh j hj mask hm w inb x
  exact ⟨K 7 (by norm_num) 1 (by norm_num) _ rfl slices_S512x1280_o0_896_S512x128 _, K 7 (by norm_num) 0 (by norm_num) _ rfl slices_S512x1280_o0_896_S512x128 _,
    K 6 (by norm_num) 1 (by norm_num) _ rfl slices_S512x1280_o0_768_S512x128 _, K 6 (by norm_num) 0 (by norm_num) _ rfl slices_S512x1280_o0_768_S512x128 _,
    K 5 (by norm_num) 1 (by norm_num) _ rfl slices_S512x1280_o0_640_S512x128 _, K 5 (by norm_num) 0 (by norm_num) _ rfl slices_S512x1280_o0_640_S512x128 _,
    K 4 (by norm_num) 1 (by norm_num) _ rfl slices_S512x1280_o0_512_S512x128 _, K 4 (by norm_num) 0 (by norm_num) _ rfl slices_S512x1280_o0_512_S512x128 _,
    K 3 (by norm_num) 1 (by norm_num) _ rfl slices_S512x1280_o0_384_S512x128 _, K 3 (by norm_num) 0 (by norm_num) _ rfl slices_S512x1280_o0_384_S512x128 _,
    K 2 (by norm_num) 1 (by norm_num) _ rfl slices_S512x1280_o0_256_S512x128 _, K 2 (by norm_num) 0 (by norm_num) _ rfl slices_S512x1280_o0_256_S512x128 _,
    K 1 (by norm_num) 1 (by norm_num) _ rfl slices_S512x1280_o0_128_S512x128 _, K 1 (by norm_num) 0 (by norm_num) _ rfl slices_S512x1280_o0_128_S512x128 _,
    K 0 (by norm_num) 1 (by norm_num) _ rfl slices_S512x1280_o0_0_S512x128 _, K 0 (by norm_num) 0 (by norm_num) _ rfl slices_S512x1280_o0_0_S512x128 _⟩

/-- The key's block, and the weights'. -/
theorem out_k : out0_6 x0 x1 x2 x3 x4 = k0_pay4 (P x0 x1 x2 x3 x4) (C x0 x1 x2 x3 x4) (L x0 x1 x2 x3 x4) (H x0 x1 x2 x3 x4) := by
  unfold out0_6
  exact View.canon_cons_unit_zero (S := S512x128) hz ..

theorem out_w : out0_7 x0 x1 x2 x3 x4 = k0_pay5 (P x0 x1 x2 x3 x4) := by
  unfold out0_7
  exact View.canon_cons_unit_zero (S := S512x128) hz ..

/-- The product and the patterns, without the reads of whole buffers. -/
theorem P_eq : P x0 x1 x2 x3 x4 = k0_pay6 x0 x2 x3 := by
  unfold P k0_pay45
  rw [View.ld_unit_zero (S := S512x2048) hz, View.ld_unit_zero (S := S1x2048) hz, View.ld_unit_zero (S := S2048x1280) hz]

theorem cos_eq : k0_pay46 x0 x1 x2 x3 x4 = k0_pay8 x1 x4 := by
  unfold k0_pay46
  rw [View.ld_unit_zero (S := S512x1) hz, View.ld_unit_zero (S := S1x128) hz]

theorem sin_eq : k0_pay47 x0 x1 x2 x3 x4 = k0_pay9 x1 x4 := by
  unfold k0_pay47
  rw [View.ld_unit_zero (S := S512x1) hz, View.ld_unit_zero (S := S1x128) hz]

end General

/-! ## The values at an index -/

theorem mask_lo : ∀ l : Fin 128, k0_pay11 (ix2 0 l) = if l.val % 64 < 8 then 1#1 else 0#1 := by decide +kernel
theorem mask_hi : ∀ l : Fin 128, k0_pay12 (ix2 0 l) = if 8 ≤ l.val % 64 ∧ l.val % 64 < 16 then 1#1 else 0#1 := by decide +kernel
theorem mask_any : ∀ l : Fin 128, k0_pay13 (ix2 0 l) = if l.val % 64 < 16 then 1#1 else 0#1 := by decide +kernel
theorem mask_first : ∀ l : Fin 128, first (ix2 0 l) = if l.val / 64 = 0 then 1#1 else 0#1 := by decide +kernel
theorem mask_second : ∀ l : Fin 128, second (ix2 0 l) = if l.val / 64 = 1 then 1#1 else 0#1 := by decide +kernel

theorem mask_half (j : ℕ) (l : Fin 128) : (if j % 2 = 0 then first else second) (ix2 0 l) = if j % 2 = l.val / 64 then 1#1 else 0#1 := by
  by_cases h : j % 2 = 0
  · rw [if_pos h, mask_first, h]; simp only [eq_comm]
  · have h1 : j % 2 = 1 := by omega
    rw [if_neg h, mask_second, h1]; simp only [eq_comm]

/-- The angle of a lane. -/
abbrev angle (x1 : Vec Ideal S512x1 .i32) (x4 : Vec Ideal S1x128 .f32) (r : Fin 512) (l : Fin 128) : EReal :=
  (FloatOps.sitofp (F := Ideal) .f32 (x1 (ix2 r 0)) : EReal) * x4 (ix2 0 l)

theorem select_if (b : Prop) [Decidable b] (x y : EReal) : Scalar.select (if b then 1#1 else 0#1) x y = if b then x else y := by
  by_cases h : b
  · rw [if_pos h, if_pos h]; rfl
  · rw [if_neg h, if_neg h]; rfl

variable (x0 : Vec Ideal S512x2048 .f32) (x1 : Vec Ideal S512x1 .i32) (x2 : Vec Ideal S1x2048 .f32) (x3 : Vec Ideal S2048x1280 .bf16) (x4 : Vec Ideal S1x128 .f32)

/-- The three patterns: in each half, cosines in the first 16 lanes, negated sines in the first 8, sines in the next 8. -/
theorem C_at (r : Fin 512) (l : Fin 128) : C x0 x1 x2 x3 x4 (ix2 r l) = if l.val % 64 < 16 then Ideal.cos (angle x1 x4 r l) else 1 := by
  have e : k0_pay14 (F := Ideal) (k0_pay8 x1 x4) k0_pay13 (Scalar.ofBits .f32 0x3F800000#32) (ix2 r l) = Scalar.select (k0_pay13 (ix2 0 l)) (Ideal.cos (angle x1 x4 r l)) 1 := by
    pointwise [k0_pay14, k0_pay8, k0_pay7]
  unfold C k0_pay52 k0_pay50
  rw [cos_eq, e, mask_any, select_if]

theorem L_at (r : Fin 512) (l : Fin 128) : L x0 x1 x2 x3 x4 (ix2 r l) = if l.val % 64 < 8 then 0 - Ideal.sin (angle x1 x4 r l) else 0 := by
  have e : k0_pay15 (F := Ideal) (k0_pay9 x1 x4) k0_pay11 (ix2 r l) = Scalar.select (k0_pay11 (ix2 0 l)) (0 - Ideal.sin (angle x1 x4 r l)) 0 := by
    pointwise [k0_pay15, k0_pay9, k0_pay7]
  unfold L k0_pay53 k0_pay48
  rw [sin_eq, e, mask_lo, select_if]

theorem H_at (r : Fin 512) (l : Fin 128) : H x0 x1 x2 x3 x4 (ix2 r l) = if 8 ≤ l.val % 64 ∧ l.val % 64 < 16 then Ideal.sin (angle x1 x4 r l) else 0 := by
  have e : k0_pay16 (F := Ideal) (k0_pay9 x1 x4) k0_pay12 (ix2 r l) = Scalar.select (k0_pay12 (ix2 0 l)) (Ideal.sin (angle x1 x4 r l)) 0 := by
    pointwise [k0_pay16, k0_pay9, k0_pay7]
  unfold H k0_pay54 k0_pay49
  rw [sin_eq, e, mask_hi, select_if]

theorem turned_at (p C L H : FVec Ideal S512x128 .f32) (r : Fin 512) (l : Fin 128) :
    turned (F := Ideal) p C L H (ix2 r l) = p (ix2 r l) * C (ix2 r l) + p (ix2 r ⟨(l.val + 128 - 120) % 128, by omega⟩) * L (ix2 r l)
      + p (ix2 r ⟨(l.val + 128 - 8) % 128, by omega⟩) * H (ix2 r l) := by
  pointwise [turned]

theorem kept_at (p C L H : FVec Ideal S512x128 .f32) (mask : IVec S1x128 1) (r : Fin 512) (l : Fin 128) :
    kept (F := Ideal) p C L H mask (ix2 r l) = Scalar.select (mask (ix2 0 l)) (turned (F := Ideal) p C L H (ix2 r l) * Ideal.ofBits .f32 0x3E000000#32) 0 := by
  pointwise [kept]

/-- The key is the ninth group of 128 columns, turned. -/
theorem key_at (p : FVec Ideal S512x1280 .f32) (C L H : FVec Ideal S512x128 .f32) (r : Fin 512) (l : Fin 128) :
    k0_pay4 (F := Ideal) p C L H (ix2 r l) = turned (F := Ideal) (fun z => p (ix2 (z 0) ⟨1024 + (z 1).val, by have : (z 1).val < 128 := (z 1).isLt; omega⟩)) C L H (ix2 r l) := by
  pointwise [k0_pay4, turned]

theorem weight_at (p : FVec Ideal S512x1280 .f32) (r : Fin 512) (l : Fin 128) :
    k0_pay5 (F := Ideal) p (ix2 r l) = p (ix2 r ⟨1152 + l.val, by omega⟩) * Ideal.ofBits .f32 0x3E800000#32 := by
  pointwise [k0_pay5]

/-- The product of the normalized rows. -/
theorem product_at (r : Fin 512) (n : Fin 1280) :
    k0_pay6 (F := Ideal) x0 x2 x3 (ix2 r n) = ∑ k : Fin 2048, rms (fun k => x0 (ix2 r k)) (x2 (ix2 0 k)) k * x3 (ix2 k n) := by
  pointwise [k0_pay6, rms, Cert.PostRow.len, Cert.PostRow.eps]

end Cert.IdxIdeal.Open

end
-- ==== Proof.IdxRow.lean ====
/-
  The mathematics of one row of the indexer's projection, apart from any program: the rotation of the first 16 components
  of a head of 64, its writing as a product with three lane patterns over two heads side by side, and the layout of the
  three results.
-/
module

public import proofs.«01_k».proof.Proof.PostRow

@[expose] public section

set_option maxRecDepth 16384

noncomputable section

namespace Cert.IdxRow

open Idealize.ShloMosaic
open Cert.PostRow (rms)

/-- The `k`-th of 8 frequencies: the base to the power `-k / 8`. -/
def freq (k : ℕ) : EReal :=
  Ideal.pow (Ideal.ofBits .f32 0x48F42400#32) (Ideal.div (-(FloatOps.sitofp (F := Ideal) .f32 (BitVec.ofNat 32 k) : EReal)) (Ideal.ofBits .f32 0x41000000#32))

/-- The angle of frequency `k` at a position. -/
def angle (p : BitVec 32) (k : ℕ) : EReal := (FloatOps.sitofp (F := Ideal) .f32 p : EReal) * freq k

/-- Component `d` of a head of 64, the first 8 components rotated against the next 8. -/
def spin (r : Fin 64 → EReal) (a : ℕ → EReal) (d : Fin 64) : EReal :=
  if h : d.val < 8 then r d * Ideal.cos (a d.val) - r ⟨d.val + 8, by omega⟩ * Ideal.sin (a d.val)
  else if h : d.val < 16 then r d * Ideal.cos (a (d.val - 8)) + r ⟨d.val - 8, by omega⟩ * Ideal.sin (a (d.val - 8))
  else r d

/-- The scale of a query component, and that of a head's weight. -/
def eighth : EReal := Ideal.ofBits .f32 0x3E000000#32
def quarter : EReal := Ideal.ofBits .f32 0x3E800000#32

/-- The queries: head `n / 128` lies in its own half of 128 lanes, the other half is zero. -/
def query (p : Fin 5008 → EReal) (a : ℕ → EReal) (n : Fin 2048) : EReal :=
  if n.val / 128 % 2 = n.val % 128 / 64 then spin (fun d => p ⟨3904 + (n.val / 128 * 64 + d.val), by omega⟩) a ⟨n.val % 128 % 64, by omega⟩ * eighth else 0

/-- The key, in both halves of 128 lanes. -/
def key (p : Fin 5008 → EReal) (a : ℕ → EReal) (l : Fin 128) : EReal :=
  spin (fun d => p ⟨4928 + d.val, by omega⟩) a ⟨l.val % 64, by omega⟩

/-- The heads' weights, in the first 16 lanes. -/
def weight (p : Fin 5008 → EReal) (l : Fin 128) : EReal :=
  if h : l.val < 16 then p ⟨4992 + l.val, by omega⟩ * quarter else 0

/-- The columns side by side: the queries', the key's twice, the weights', zeros. -/
def wide (z : Fin 5008 → EReal) (n : Fin 1280) : EReal :=
  if h : n.val < 1024 then z ⟨3904 + n.val, by omega⟩
  else if h : n.val < 1152 then z ⟨4928 + (n.val - 1024) % 64, by omega⟩
  else if h : n.val < 1168 then z ⟨4992 + (n.val - 1152), by omega⟩
  else 0

/-- The product with the columns side by side has the product's columns side by side. -/
theorem wide_sum (x : Fin 2048 → EReal) (w : Fin 2048 → Fin 5008 → EReal) (n : Fin 1280) :
    ∑ k : Fin 2048, x k * wide (w k) n = wide (fun n => ∑ k : Fin 2048, x k * w k n) n := by
  unfold wide
  by_cases h1 : n.val < 1024
  · simp only [dif_pos h1]
  by_cases h2 : n.val < 1152
  · simp only [dif_neg h1, dif_pos h2]
  by_cases h3 : n.val < 1168
  · simp only [dif_neg h1, dif_neg h2, dif_pos h3]
  · simp only [dif_neg h1, dif_neg h2, dif_neg h3, mul_zero, Finset.sum_const_zero]

/-- The rotation by lane patterns, of two heads side by side: each lane, the lane 8 further and the lane 8 back, each times
    a pattern that is zero where the rotation does not use it. -/
theorem spin_lanes (y : Fin 128 → EReal) (a : ℕ → EReal) (l : Fin 128) :
    y l * (if l.val % 64 < 16 then Ideal.cos (a (l.val % 8)) else 1)
      + y ⟨(l.val + 128 - 120) % 128, by omega⟩ * (if l.val % 64 < 8 then 0 - Ideal.sin (a (l.val % 8)) else 0)
      + y ⟨(l.val + 128 - 8) % 128, by omega⟩ * (if 8 ≤ l.val % 64 ∧ l.val % 64 < 16 then Ideal.sin (a (l.val % 8)) else 0)
      = spin (fun d => y ⟨64 * (l.val / 64) + d.val, by omega⟩) a ⟨l.val % 64, by omega⟩ := by
  have e0 : (⟨64 * (l.val / 64) + l.val % 64, by omega⟩ : Fin 128) = l := Fin.ext (by dsimp only; omega)
  unfold spin
  dsimp only
  rw [e0]
  by_cases h1 : l.val % 64 < 8
  · have e : (⟨(l.val + 128 - 120) % 128, by omega⟩ : Fin 128) = ⟨64 * (l.val / 64) + (l.val % 64 + 8), by omega⟩ := Fin.ext (by dsimp only; omega)
    have e' : l.val % 8 = l.val % 64 := by omega
    rw [if_pos (by omega), if_pos h1, if_neg (by omega), dif_pos h1, e, e', mul_zero, add_zero, zero_sub, mul_neg, sub_eq_add_neg]
  by_cases h2 : l.val % 64 < 16
  · have e : (⟨(l.val + 128 - 8) % 128, by omega⟩ : Fin 128) = ⟨64 * (l.val / 64) + (l.val % 64 - 8), by omega⟩ := Fin.ext (by dsimp only; omega)
    have e' : l.val % 8 = l.val % 64 - 8 := by omega
    rw [if_pos h2, if_neg h1, if_pos ⟨by omega, h2⟩, dif_neg h1, dif_pos h2, e, e', mul_zero, add_zero]
  · rw [if_neg h2, if_neg h1, if_neg (by omega), dif_neg h1, dif_neg h2, mul_zero, mul_zero, add_zero, add_zero, mul_one]

end Cert.IdxRow

end
-- ==== Proof.IdxRef.lean ====
/-
  The reference of the indexer's projection at an index: normalization and product as in the query, key and value
  projection, then rotation, scales and the layout of the three results.
-/
module

public import proofs.«01_k».proof.Proof.IdxRow
public import proofs.«01_k».proof.Proof.ProjRef
public import proofs.«01_k».proof.Proof.Gen.IdxRefIdeal.Run
public import Idealize.ShloMosaic.Lib.Pointwise

@[expose] public section

set_option maxRecDepth 16384

noncomputable section

namespace Cert.IdxRefIdeal.Open

open Cert.IdxRefIdeal Cert.IdxRefIdeal.Gen Idealize.ShloMosaic Idealize.ShloMosaic.TcCoe Idealize.SL.Sem
open Cert.ProjRow (proj)
open Cert.ProjRefIdeal.Open (prod prod_proj)
open Cert.IdxRow (freq angle spin query key weight eighth quarter)

/-- The angles of the positions. -/
def angles (t : IVec S2x4096 32) : FVec Ideal S2x4096x1x8 .f32 :=
  broadcastInDim S2x4096x1x8 ![0, 1, 3] bcast_S2x4096x8_S2x4096x1x8_0_1_3 (mulf (broadcastInDim S2x4096x8 ![0, 1, 2] bcast_S2x4096x1_S2x4096x8_0_1_2 (broadcastInDim S2x4096x1 ![0, 1] bcast_S2x4096_S2x4096x1_0_1 (sitofp .f32 t))) (broadcastInDim S2x4096x8 ![0, 1, 2] bcast_S1x1x8_S2x4096x8_0_1_2 (broadcastInDim S1x1x8 ![2] bcast_S8_S1x1x8_2 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32)))))))

/-- The queries' columns as 16 heads of 64, and the key's. -/
def bandQ (p : FVec Ideal S2x4096x5008 .f32) : FVec Ideal S2x4096x16x64 .f32 :=
  shapeCast _ (extractStridedSlice S2x4096x1024 ![0, 0, 3904] p slices_S2x4096x5008_S2x4096x1024_0_0_3904) shapeCasts_S2x4096x1024_S2x4096x16x64
def bandK (p : FVec Ideal S2x4096x5008 .f32) : FVec Ideal S2x4096x1x64 .f32 :=
  shapeCast _ (extractStridedSlice S2x4096x64 ![0, 0, 4928] p slices_S2x4096x5008_S2x4096x64_0_0_4928) shapeCasts_S2x4096x64_S2x4096x1x64

/-- The first 16 components of every head rotated. -/
def turnQ (z : FVec Ideal S2x4096x16x64 .f32) (a : FVec Ideal S2x4096x1x8 .f32) : FVec Ideal S2x4096x16x64 .f32 :=
  concatenate S2x4096x16x64 3 [⟨S2x4096x16x8, subf (mulf (extractStridedSlice S2x4096x16x8 ![0, 0, 0, 0] z slices_S2x4096x16x64_S2x4096x16x8_0_0_0_0) (broadcastInDim S2x4096x16x8 ![0, 1, 2, 3] bcast_S2x4096x1x8_S2x4096x16x8_0_1_2_3 (Host.cos a))) (mulf (extractStridedSlice S2x4096x16x8 ![0, 0, 0, 8] z slices_S2x4096x16x64_S2x4096x16x8_0_0_0_8) (broadcastInDim S2x4096x16x8 ![0, 1, 2, 3] bcast_S2x4096x1x8_S2x4096x16x8_0_1_2_3 (Host.sin a)))⟩,
    ⟨S2x4096x16x8, addf (mulf (extractStridedSlice S2x4096x16x8 ![0, 0, 0, 8] z slices_S2x4096x16x64_S2x4096x16x8_0_0_0_8) (broadcastInDim S2x4096x16x8 ![0, 1, 2, 3] bcast_S2x4096x1x8_S2x4096x16x8_0_1_2_3 (Host.cos a))) (mulf (extractStridedSlice S2x4096x16x8 ![0, 0, 0, 0] z slices_S2x4096x16x64_S2x4096x16x8_0_0_0_0) (broadcastInDim S2x4096x16x8 ![0, 1, 2, 3] bcast_S2x4096x1x8_S2x4096x16x8_0_1_2_3 (Host.sin a)))⟩,
    ⟨S2x4096x16x48, extractStridedSlice S2x4096x16x48 ![0, 0, 0, 16] z slices_S2x4096x16x64_S2x4096x16x48_0_0_0_16⟩] concatenates_S2x4096x16x8_S2x4096x16x8_S2x4096x16x48_S2x4096x16x64_d3

/-- The same for the key's one head. -/
def turnK (z : FVec Ideal S2x4096x1x64 .f32) (a : FVec Ideal S2x4096x1x8 .f32) : FVec Ideal S2x4096x1x64 .f32 :=
  concatenate S2x4096x1x64 3 [⟨S2x4096x1x8, subf (mulf (extractStridedSlice S2x4096x1x8 ![0, 0, 0, 0] z slices_S2x4096x1x64_S2x4096x1x8_0_0_0_0) (Host.cos a)) (mulf (extractStridedSlice S2x4096x1x8 ![0, 0, 0, 8] z slices_S2x4096x1x64_S2x4096x1x8_0_0_0_8) (Host.sin a))⟩,
    ⟨S2x4096x1x8, addf (mulf (extractStridedSlice S2x4096x1x8 ![0, 0, 0, 8] z slices_S2x4096x1x64_S2x4096x1x8_0_0_0_8) (Host.cos a)) (mulf (extractStridedSlice S2x4096x1x8 ![0, 0, 0, 0] z slices_S2x4096x1x64_S2x4096x1x8_0_0_0_0) (Host.sin a))⟩,
    ⟨S2x4096x1x48, extractStridedSlice S2x4096x1x48 ![0, 0, 0, 16] z slices_S2x4096x1x64_S2x4096x1x48_0_0_0_16⟩] concatenates_S2x4096x1x8_S2x4096x1x8_S2x4096x1x48_S2x4096x1x64_d3

/-- The parity of a head, and the half a lane lies in. -/
def two : IVec S_ 32 := select (cmpi .eq (id (constantI S_ 32 2#32)) (constantI S_ 32 0#32)) (constantI S_ 32 1#32) (id (constantI S_ 32 2#32))
def rem : IVec S16x1 32 := Host.remsi (broadcastInDim S16x1 ![0] bcast_S16_S16x1_0 (iotaInDim S16 32 0)) (broadcastInDim S16x1 ![] bcast_S_S16x1 two)
def zero : IVec S16x1 32 := broadcastInDim S16x1 ![] bcast_S_S16x1 (constantI S_ 32 0#32)
def parity : IVec S16x1 32 :=
  select (andi (cmpi .ne (cmpi .slt rem zero) (broadcastInDim S16x1 ![] bcast_S_S16x1 (cmpi .slt two (constantI S_ 32 0#32)))) (cmpi .ne rem zero)) (addi rem (broadcastInDim S16x1 ![] bcast_S_S16x1 two)) rem
def lane : IVec S1x128 32 := broadcastInDim S1x128 ![1] bcast_S128_S1x128_1 (iotaInDim S128 32 0)
def width : IVec S1x128 32 := broadcastInDim S1x128 ![] bcast_S_S1x128 (id (constantI S_ 32 64#32))
def half : IVec S1x128 32 :=
  select (andi (cmpi .ne (signi lane) (broadcastInDim S1x128 ![] bcast_S_S1x128 (signi (id (constantI S_ 32 64#32))))) (cmpi .ne (Host.remsi lane width) (broadcastInDim S1x128 ![] bcast_S_S1x128 (constantI S_ 32 0#32)))) (subi (Host.divsi lane width) (broadcastInDim S1x128 ![] bcast_S_S1x128 (constantI S_ 32 1#32))) (Host.divsi lane width)

/-- The half of 128 lanes that is a head's own. -/
def own : IVec S16x128 1 :=
  cmpi .eq (broadcastInDim S16x128 ![0, 1] bcast_S16x1_S16x128_0_1 parity) (broadcastInDim S16x128 ![0, 1] bcast_S1x128_S16x128_0_1 half)

/-- Every head scaled and put into its own half of 128 lanes. -/
def spread (q : FVec Ideal S2x4096x16x64 .f32) (mask : IVec S16x128 1) : FVec Ideal S8192x2048 .bf16 :=
  truncf .bf16 (shapeCast _ (select (broadcastInDim S8192x16x128 ![0, 1, 2] bcast_S1x16x128_S8192x16x128_0_1_2 (broadcastInDim S1x16x128 ![1, 2] bcast_S16x128_S1x16x128_1_2 mask))
    (concatenate S8192x16x128 2 [⟨S8192x16x64, shapeCast _ (mulf q (broadcastInDim S2x4096x16x64 ![] bcast_S_S2x4096x16x64 (constant S_ .f32 0x3E000000#32))) shapeCasts_S2x4096x16x64_S8192x16x64⟩,
      ⟨S8192x16x64, shapeCast _ (mulf q (broadcastInDim S2x4096x16x64 ![] bcast_S_S2x4096x16x64 (constant S_ .f32 0x3E000000#32))) shapeCasts_S2x4096x16x64_S8192x16x64⟩] concatenates_S8192x16x64_S8192x16x64_S8192x16x128_d2)
    (broadcastInDim S8192x16x128 ![] bcast_S_S8192x16x128 (id (constant S_ .f32 0x00000000#32)))) shapeCasts_S8192x16x128_S8192x2048) bitsLt_bf16_f32

/-- The key in both halves. -/
def twice (k : FVec Ideal S2x4096x1x64 .f32) : FVec Ideal S8192x128 .bf16 :=
  truncf .bf16 (concatenate S8192x128 1 [⟨S8192x64, shapeCast _ k shapeCasts_S2x4096x1x64_S8192x64⟩, ⟨S8192x64, shapeCast _ k shapeCasts_S2x4096x1x64_S8192x64⟩] concatenates_S8192x64_S8192x64_S8192x128_d1) bitsLt_bf16_f32

/-- The weights' columns, scaled, and zeros. -/
def padded (p : FVec Ideal S2x4096x5008 .f32) : FVec Ideal S8192x128 .f32 :=
  concatenate S8192x128 1 [⟨S8192x16, shapeCast _ (mulf (extractStridedSlice S2x4096x16 ![0, 0, 4992] p slices_S2x4096x5008_S2x4096x16_0_0_4992) (broadcastInDim S2x4096x16 ![] bcast_S_S2x4096x16 (constant S_ .f32 0x3E800000#32))) shapeCasts_S2x4096x16_S8192x16⟩,
    ⟨S8192x112, broadcastInDim S8192x112 ![] bcast_S_S8192x112 (constant S_ .f32 0x00000000#32)⟩] concatenates_S8192x16_S8192x112_S8192x128_d1

/-- The reference's results from its arguments. -/
def outQ (x : FVec Ideal S2x4096x2048 .f32) (t : IVec S2x4096 32) (g : FVec Ideal S1x2048 .f32) (w : FVec Ideal S1x2048x5008 .f32) : FVec Ideal S8192x2048 .bf16 :=
  spread (turnQ (bandQ (prod (Cert.ProjRefIdeal.Open.norm x g) w)) (angles t)) own
def outK (x : FVec Ideal S2x4096x2048 .f32) (t : IVec S2x4096 32) (g : FVec Ideal S1x2048 .f32) (w : FVec Ideal S1x2048x5008 .f32) : FVec Ideal S8192x128 .bf16 :=
  twice (turnK (bandK (prod (Cert.ProjRefIdeal.Open.norm x g) w)) (angles t))
def outW (x : FVec Ideal S2x4096x2048 .f32) (g : FVec Ideal S1x2048 .f32) (w : FVec Ideal S1x2048x5008 .f32) : FVec Ideal S8192x128 .f32 :=
  padded (prod (Cert.ProjRefIdeal.Open.norm x g) w)

theorem resQ_eq (m : (ℓ : Loc nD τ sig) → Buf (Elt Ideal) ℓ) (c : Dev nD) : Value.res_main_v98 m c
    = outQ (m ((c.tc : Thread nD τ).loc main_arg0)) (m ((c.tc : Thread nD τ).loc main_arg1)) (m ((c.tc : Thread nD τ).loc main_arg2)) (m ((c.tc : Thread nD τ).loc main_arg3)) := by
  unfold Value.res_main_v98 outQ spread own half width lane parity zero rem two turnQ angles bandQ prod Cert.ProjRefIdeal.Open.norm
  rfl

theorem resK_eq (m : (ℓ : Loc nD τ sig) → Buf (Elt Ideal) ℓ) (c : Dev nD) : Value.res_main_v99 m c
    = outK (m ((c.tc : Thread nD τ).loc main_arg0)) (m ((c.tc : Thread nD τ).loc main_arg1)) (m ((c.tc : Thread nD τ).loc main_arg2)) (m ((c.tc : Thread nD τ).loc main_arg3)) := by
  unfold Value.res_main_v99 outK twice turnK angles bandK prod Cert.ProjRefIdeal.Open.norm
  rfl

/-! ## The stages at an index -/

theorem own_at : ∀ (h : Fin 16) (l : Fin 128), own (ix2 h l) = if h.val % 2 = l.val / 64 then 1#1 else 0#1 := by decide +kernel

theorem angles_at (t : IVec S2x4096 32) (b : Fin 2) (s : Fin 4096) (k : Fin 8) :
    angles t (ix4 b s 0 k) = angle (t (ix2 b s)) k.val := by
  pointwise [angles, angle, freq]

/-- The rotation of a head, with cosine and sine of given angles. -/
def wheel (z : Fin 64 → EReal) (a : Fin 8 → EReal) (d : Fin 64) : EReal :=
  if hd : d.val < 8 then z ⟨0 + d.val, by omega⟩ * Ideal.cos (a ⟨d.val, hd⟩) - z ⟨8 + d.val, by omega⟩ * Ideal.sin (a ⟨d.val, hd⟩)
  else if hd : d.val - 8 < 8 then z ⟨8 + (d.val - 8), by omega⟩ * Ideal.cos (a ⟨d.val - 8, hd⟩) + z ⟨0 + (d.val - 8), by omega⟩ * Ideal.sin (a ⟨d.val - 8, hd⟩)
  else z ⟨16 + (d.val - 8 - 8), by omega⟩

theorem wheel_spin (z : Fin 64 → EReal) (a : ℕ → EReal) (d : Fin 64) : wheel z (fun k => a k.val) d = spin z a d := by
  unfold wheel spin
  by_cases h1 : d.val < 8
  · rw [dif_pos h1, dif_pos h1]
    simp only [Nat.zero_add, Nat.add_comm 8]
  by_cases h2 : d.val < 16
  · have e : (⟨8 + (d.val - 8), by omega⟩ : Fin 64) = d := Fin.ext (by dsimp only; omega)
    rw [dif_neg h1, dif_neg h1, dif_pos (by omega), dif_pos h2, e]
    simp only [Nat.zero_add]
  · have e : (⟨16 + (d.val - 8 - 8), by omega⟩ : Fin 64) = d := Fin.ext (by dsimp only; omega)
    rw [dif_neg h1, dif_neg h1, dif_neg (by omega), dif_neg h2, e]

theorem turnQ_at (z : FVec Ideal S2x4096x16x64 .f32) (a : FVec Ideal S2x4096x1x8 .f32) (b : Fin 2) (s : Fin 4096) (h : Fin 16) (d : Fin 64) :
    turnQ z a (ix4 b s h d) = wheel (fun d => z (ix4 b s h d)) (fun k => a (ix4 b s 0 k)) d := by
  pointwise [turnQ, wheel]

theorem turnK_at (z : FVec Ideal S2x4096x1x64 .f32) (a : FVec Ideal S2x4096x1x8 .f32) (b : Fin 2) (s : Fin 4096) (d : Fin 64) :
    turnK z a (ix4 b s 0 d) = wheel (fun d => z (ix4 b s 0 d)) (fun k => a (ix4 b s 0 k)) d := by
  pointwise [turnK, wheel]

theorem bandQ_at (p : FVec Ideal S2x4096x5008 .f32) (b : Fin 2) (s : Fin 4096) (h : Fin 16) (d : Fin 64) :
    bandQ p (ix4 b s h d) = p (ix3 b s ⟨3904 + (h.val * 64 + d.val), by omega⟩) := by
  pointwise [bandQ]

theorem bandK_at (p : FVec Ideal S2x4096x5008 .f32) (b : Fin 2) (s : Fin 4096) (d : Fin 64) :
    bandK p (ix4 b s 0 d) = p (ix3 b s ⟨4928 + d.val, by omega⟩) := by
  pointwise [bandK]

theorem spread_at (q : FVec Ideal S2x4096x16x64 .f32) (mask : IVec S16x128 1) (i : Fin 8192) (n : Fin 2048) :
    spread q mask (ix2 i n) = Scalar.select (mask (ix2 ⟨n.val / 128, by omega⟩ ⟨n.val % 128, by omega⟩))
      (q (ix4 ⟨i.val / 4096, by omega⟩ ⟨i.val % 4096, by omega⟩ ⟨n.val / 128, by omega⟩ ⟨n.val % 128 % 64, by omega⟩) * eighth) 0 := by
  have e0 : id (constant (F := Ideal) S_ .f32 0x00000000#32) ix0 = (0 : EReal) := by
    unfold id
    pointwise []
  pointwise [spread, eighth]
  rw [e0]
  by_cases h : n.val % 128 < 64
  · have e : (⟨n.val % 128, by omega⟩ : Fin 64) = ⟨n.val % 128 % 64, by omega⟩ := Fin.ext (by dsimp only; omega)
    rw [dif_pos h, e]
  · have e : (⟨n.val % 128 - 64, by omega⟩ : Fin 64) = ⟨n.val % 128 % 64, by omega⟩ := Fin.ext (by dsimp only; omega)
    rw [dif_neg h, e]

theorem twice_at (k : FVec Ideal S2x4096x1x64 .f32) (i : Fin 8192) (l : Fin 128) :
    twice k (ix2 i l) = k (ix4 ⟨i.val / 4096, by omega⟩ ⟨i.val % 4096, by omega⟩ 0 ⟨l.val % 64, by omega⟩) := by
  pointwise [twice]
  by_cases h : l.val < 64
  · have e : (⟨l.val, h⟩ : Fin 64) = ⟨l.val % 64, by omega⟩ := Fin.ext (by dsimp only; omega)
    rw [dif_pos h, e]
  · have e : (⟨l.val - 64, by omega⟩ : Fin 64) = ⟨l.val % 64, by omega⟩ := Fin.ext (by dsimp only; omega)
    rw [dif_neg h, e]

theorem padded_at (p : FVec Ideal S2x4096x5008 .f32) (i : Fin 8192) (l : Fin 128) :
    padded p (ix2 i l) = weight (fun n => p (ix3 ⟨i.val / 4096, by omega⟩ ⟨i.val % 4096, by omega⟩ n)) l := by
  pointwise [padded, weight, quarter]

/-! ## The results at an index -/

variable (x : FVec Ideal S2x4096x2048 .f32) (t : IVec S2x4096 32) (g : FVec Ideal S1x2048 .f32) (w : FVec Ideal S1x2048x5008 .f32)

/-- Row `i`'s product with the weights' columns. -/
abbrev made (i : Fin 8192) : Fin 5008 → EReal :=
  proj (fun k => x (ix3 ⟨i.val / 4096, by omega⟩ ⟨i.val % 4096, by omega⟩ k)) (fun k => g (ix2 0 k)) fun k n => w (ix3 0 k n)

/-- The angles of row `i`'s position. -/
abbrev angleRow (i : Fin 8192) : ℕ → EReal := angle (t (ix2 ⟨i.val / 4096, by omega⟩ ⟨i.val % 4096, by omega⟩))

theorem outQ_at (i : Fin 8192) (n : Fin 2048) : outQ x t g w (ix2 i n) = query (made x g w i) (angleRow t i) n := by
  unfold outQ query
  rw [spread_at, own_at, turnQ_at]
  simp only [angles_at, bandQ_at, prod_proj]
  rw [wheel_spin _ (angleRow t i)]
  by_cases h : n.val / 128 % 2 = n.val % 128 / 64
  · rw [if_pos h, if_pos h]; rfl
  · rw [if_neg h, if_neg h]; rfl

theorem outK_at (i : Fin 8192) (l : Fin 128) : outK x t g w (ix2 i l) = key (made x g w i) (angleRow t i) l := by
  unfold outK key
  rw [twice_at, turnK_at]
  simp only [angles_at, bandK_at, prod_proj]
  rw [wheel_spin _ (angleRow t i)]

theorem outW_at (i : Fin 8192) (l : Fin 128) : outW x g w (ix2 i l) = weight (made x g w i) l := by
  unfold outW
  rw [padded_at]
  exact congrArg (weight · l) (funext fun n => prod_proj x g w _ _ n)

end Cert.IdxRefIdeal.Open

end
-- ==== Proof.IdxClaim.lean ====
/-
  The indexer's projection's claims: the kernel's three arrays hold at each row and column what the reference states.
-/
module

public import proofs.«01_k».proof.Proof.IdxOpen
public import proofs.«01_k».proof.Proof.IdxRef
public import proofs.«01_k».proof.Defs
public import Idealize.ShloMosaic.Lib.Quiescent
public import Idealize.ShloMosaic.Lib.StableHlo.ReadAt
public import Idealize.ShloMosaic.Lib.Routing.OpsSearch

@[expose] public section

set_option maxRecDepth 16384

noncomputable section

namespace Cert.IdxIdeal.Open

open Cert.IdxIdeal Cert.IdxIdeal.Gen Idealize.ShloMosaic Idealize.ShloMosaic.TcCoe Idealize.SL.Sem
open Cert.PostRow (rms)
open Cert.ProjRow (proj)
open Cert.IdxRow (freq spin query key weight wide wide_sum spin_lanes eighth quarter)

variable (m : (ℓ : Loc nD τ sig) → Buf (Elt Ideal) ℓ)

theorem N_0 : cfg0.N = 16 := by decide +kernel

/-- Point `t` works on rows `512 t` onward. -/
theorem idx0 : ∀ t : Fin cfg0.N, win0_0.index t 0 = t.val ∧ win0_0.index t 1 = 0 := (by decide +kernel : ∀ t : Fin grid0.N, _)
theorem idx1 : ∀ t : Fin cfg0.N, win0_1.index t 0 = t.val ∧ win0_1.index t 1 = 0 := (by decide +kernel : ∀ t : Fin grid0.N, _)
theorem idx2 : ∀ t : Fin cfg0.N, win0_2.index t 0 = 0 ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = t.val ∧ win0_5.index t 1 = 0 := (by decide +kernel : ∀ t : Fin grid0.N, _)
theorem idx6 : ∀ t : Fin cfg0.N, win0_6.index t 0 = t.val ∧ win0_6.index t 1 = 0 := (by decide +kernel : ∀ t : Fin grid0.N, _)
theorem idx7 : ∀ t : Fin cfg0.N, win0_7.index t 0 = t.val ∧ win0_7.index t 1 = 0 := (by decide +kernel : ∀ t : Fin grid0.N, _)

/-- Row `r` of point `t`'s row block, its batch and its place in the batch. -/
abbrev row (t : Fin cfg0.N) (r : Fin 512) : Fin 8192 := ⟨512 * t.val + r.val, by have := lt_of_lt_of_eq t.isLt N_0; omega⟩
abbrev bt (i : Fin 8192) : Fin 2 := ⟨i.val / 4096, by omega⟩
abbrev sq (i : Fin 8192) : Fin 4096 := ⟨i.val % 4096, by omega⟩

/-- The call's arguments. -/
abbrev XA (c : Dev nD) : FVec Ideal S2x4096x2048 .f32 := m ((c : Thread nD τ).loc main_arg0)
abbrev TA (c : Dev nD) : IVec S2x4096 32 := m ((c : Thread nD τ).loc main_arg1)
abbrev GA (c : Dev nD) : FVec Ideal S1x2048 .f32 := m ((c : Thread nD τ).loc main_arg2)
abbrev WA (c : Dev nD) : FVec Ideal S1x2048x5008 .f32 := m ((c : Thread nD τ).loc main_arg3)

variable (c : Dev nD) (t : Fin cfg0.N)

/-! ## The blocks of a point, in the call's arguments -/

theorem blk0 (r : Fin 512) (k : Fin 2048) : (iblk m c 0 t : Vec Ideal S512x2048 .f32) (ix2 r k) = XA m c (ix3 (bt (row t r)) (sq (row t r)) k) := by
  unfold iblk
  rw [View.read_apply]
  show V m c main_v0 _ = _
  have e : ((cfg0.win 0).blk t).view.emb (ix2 r k) = (ix2 (row t r) k : S8192x2048.Idx) := by
    funext d
    apply Fin.ext
    match d with
    | ⟨0, _⟩ => show win0_0.index t 0 * 512 + 1 * r.val = 512 * t.val + r.val; rw [(idx0 t).1]; omega
    | ⟨1, _⟩ => show win0_0.index t 1 * 2048 + 1 * k.val = k.val; rw [(idx0 t).2]; omega
  rw [e]
  generalize row t r = i
  unfold V
  after_reads_at

theorem blk1 (r : Fin 512) : (iblk m c 1 t : Vec Ideal S512x1 .i32) (ix2 r 0) = TA m c (ix2 (bt (row t r)) (sq (row t r))) := by
  unfold iblk
  rw [View.read_apply]
  show V m c main_v1 _ = _
  have e : ((cfg0.win 1).blk t).view.emb (ix2 r 0) = (ix2 (row t r) 0 : S8192x1.Idx) := by
    funext d
    apply Fin.ext
    match d with
    | ⟨0, _⟩ => show win0_1.index t 0 * 512 + 1 * r.val = 512 * t.val + r.val; rw [(idx1 t).1]; omega
    | ⟨1, _⟩ => show win0_1.index t 1 * 1 + 1 * 0 = 0; rw [(idx1 t).2]
  rw [e]
  generalize row t r = i
  unfold V
  after_reads_at

theorem blk2 (k : Fin 2048) : (iblk m c 2 t : Vec Ideal S1x2048 .f32) (ix2 0 k) = GA m c (ix2 0 k) := by
  unfold iblk
  rw [View.read_apply]
  show V m c main_arg2 _ = _
  rw [V_main_arg2]
  congr 1
  funext d
  apply Fin.ext
  match d with
  | ⟨0, _⟩ => show win0_2.index t 0 * 1 + 1 * 0 = 0; rw [(idx2 t).1]
  | ⟨1, _⟩ => show win0_2.index t 1 * 2048 + 1 * k.val = k.val; rw [(idx2 t).2]; omega

/-- The weights' columns side by side: the queries', the key's twice, the heads' weights', zeros. -/
theorem weights_at (k : Fin 2048) (n : Fin 1280) : (V m c main_v9 : S2048x1280.Idx → EReal) (ix2 k n) = wide (fun n => WA m c (ix3 0 k n)) n := by
  unfold V wide
  after_reads_at
  by_cases h1 : n.val < 1024
  · rw [dif_pos h1, dif_pos h1]
    after_reads_at
  rw [dif_neg h1, dif_neg h1]
  by_cases h2 : n.val - 1024 < 64
  · rw [dif_pos h2, dif_pos (show n.val < 1152 by omega)]
    after_reads_at
    exact congrArg (fun n => WA m c (ix3 0 k n)) (Fin.ext (by dsimp only; omega))
  rw [dif_neg h2]
  by_cases h3 : n.val - 1024 - 64 < 64
  · rw [dif_pos h3, dif_pos (show n.val < 1152 by omega)]
    after_reads_at
    exact congrArg (fun n => WA m c (ix3 0 k n)) (Fin.ext (by dsimp only; omega))
  rw [dif_neg h3, dif_neg (show ¬ n.val < 1152 by omega)]
  by_cases h4 : n.val - 1024 - 64 - 64 < 16
  · rw [dif_pos h4, dif_pos (show n.val < 1168 by omega)]
    after_reads_at
    exact congrArg (fun n => WA m c (ix3 0 k n)) (Fin.ext (by dsimp only; omega))
  · rw [dif_neg h4, dif_neg (show ¬ n.val < 1168 by omega)]
    after_reads_at

theorem blk3 (k : Fin 2048) (n : Fin 1280) : (iblk m c 3 t : Vec Ideal S2048x1280 .bf16) (ix2 k n) = wide (fun n => WA m c (ix3 0 k n)) n := by
  unfold iblk
  rw [View.read_apply]
  show V m c main_v9 _ = _
  have e : ((cfg0.win 3).blk t).view.emb (ix2 k n) = (ix2 k n : S2048x1280.Idx) := by
    funext d
    apply Fin.ext
    match d with
    | ⟨0, _⟩ => show win0_3.index t 0 * 2048 + 1 * k.val = k.val; rw [(idx3 t).1]; omega
    | ⟨1, _⟩ => show win0_3.index t 1 * 1280 + 1 * n.val = n.val; rw [(idx3 t).2]; omega
  rw [e]
  exact weights_at m c k n

/-- The table of frequencies repeats every 8 lanes. -/
theorem table_at (l : Fin 128) : (V m c main_v26 : S1x128.Idx → EReal) (ix2 0 l) = freq (l.val % 8) := by
  unfold V
  after_reads_at
  refine (Routing.take_ap gather_S8_S128x1_S128_n_0_n_n_0_1_1 rfl rfl rfl rfl _ _ l (k := l.val % 8) (by omega) (by omega) ?_).trans ?_
  · revert l
    decide +kernel
  · pointwise [freq]

theorem blk4 (l : Fin 128) : (iblk m c 4 t : Vec Ideal S1x128 .f32) (ix2 0 l) = freq (l.val % 8) := by
  unfold iblk
  rw [View.read_apply]
  show V m c main_v26 _ = _
  have e : ((cfg0.win 4).blk t).view.emb (ix2 0 l) = (ix2 0 l : S1x128.Idx) := by
    funext d
    apply Fin.ext
    match d with
    | ⟨0, _⟩ => show win0_4.index t 0 * 1 + 1 * 0 = 0; rw [(idx4 t).1]
    | ⟨1, _⟩ => show win0_4.index t 1 * 128 + 1 * l.val = l.val; rw [(idx4 t).2]; omega
  rw [e]
  exact table_at m c l

/-! ## The values of a point -/

/-- Row `i`'s product with the weights' columns, and the angles of its position. -/
def prodRow (i : Fin 8192) : Fin 5008 → EReal :=
  proj (fun k => XA m c (ix3 (bt i) (sq i) k)) (fun k => GA m c (ix2 0 k)) fun k n => WA m c (ix3 0 k n)
def angleRow (i : Fin 8192) : ℕ → EReal := Cert.IdxRow.angle (TA m c (ix2 (bt i) (sq i)))

/-- The product of a point has the columns of its rows' products side by side. -/
theorem product (r : Fin 512) (n : Fin 1280) :
    P (iblk m c 0 t) (iblk m c 1 t) (iblk m c 2 t) (iblk m c 3 t) (iblk m c 4 t) (ix2 r n) = wide (prodRow m c (row t r)) n := by
  rw [P_eq, product_at]
  simp only [blk0, blk2, blk3]
  exact wide_sum _ (fun k n => WA m c (ix3 0 k n)) n

/-- 128 lanes of the product, turned by the point's patterns. -/
theorem turned_spin (p : FVec Ideal S512x128 .f32) (r : Fin 512) (l : Fin 128) :
    turned (F := Ideal) p (C (iblk m c 0 t) (iblk m c 1 t) (iblk m c 2 t) (iblk m c 3 t) (iblk m c 4 t)) (L (iblk m c 0 t) (iblk m c 1 t) (iblk m c 2 t) (iblk m c 3 t) (iblk m c 4 t))
        (H (iblk m c 0 t) (iblk m c 1 t) (iblk m c 2 t) (iblk m c 3 t) (iblk m c 4 t)) (ix2 r l)
      = spin (fun d => p (ix2 r ⟨64 * (l.val / 64) + d.val, by omega⟩)) (angleRow m c (row t r)) ⟨l.val % 64, by omega⟩ := by
  have ea : angle (iblk m c 1 t) (iblk m c 4 t) r l = angleRow m c (row t r) (l.val % 8) := by
    unfold angle
    rw [blk1, blk4]
    rfl
  rw [turned_at, C_at, L_at, H_at, ea]
  exact spin_lanes (fun l => p (ix2 r l)) (angleRow m c (row t r)) l

/-- The queries a point leaves. -/
theorem query_row (r : Fin 512) (n : Fin 2048) :
    out0_5 (iblk m c 0 t) (iblk m c 1 t) (iblk m c 2 t) (iblk m c 3 t) (iblk m c 4 t) (ix2 r n) = query (prodRow m c (row t r)) (angleRow m c (row t r)) n := by
  rw [out_q, block_at, kept_at, mask_half, select_if, turned_spin]
  unfold query
  by_cases h : n.val / 128 % 2 = n.val % 128 / 64
  · rw [if_pos h, if_pos h]
    refine congrArg (· * eighth) (congrArg (fun f => spin f _ _) (funext fun d => ?_))
    refine (product m c t r ⟨128 * (n.val / 256) + (64 * (n.val % 128 / 64) + d.val), by omega⟩).trans ?_
    have hd := d.isLt
    unfold wide
    rw [dif_pos (show 128 * (n.val / 256) + (64 * (n.val % 128 / 64) + d.val) < 1024 by omega)]
    congr 1
    apply Fin.ext
    show 3904 + (128 * (n.val / 256) + (64 * (n.val % 128 / 64) + d.val)) = 3904 + (n.val / 128 * 64 + d.val)
    omega
  · rw [if_neg h, if_neg h]

/-- The key a point leaves. -/
theorem key_row (r : Fin 512) (l : Fin 128) :
    out0_6 (iblk m c 0 t) (iblk m c 1 t) (iblk m c 2 t) (iblk m c 3 t) (iblk m c 4 t) (ix2 r l) = key (prodRow m c (row t r)) (angleRow m c (row t r)) l := by
  rw [out_k, key_at, turned_spin]
  unfold key
  refine congrArg (fun f => spin f _ _) (funext fun d => ?_)
  refine (product m c t r ⟨1024 + (64 * (l.val / 64) + d.val), by omega⟩).trans ?_
  have hd := d.isLt
  unfold wide
  rw [dif_neg (show ¬ 1024 + (64 * (l.val / 64) + d.val) < 1024 by omega), dif_pos (show 1024 + (64 * (l.val / 64) + d.val) < 1152 by omega)]
  congr 1
  apply Fin.ext
  show 4928 + (1024 + (64 * (l.val / 64) + d.val) - 1024) % 64 = 4928 + d.val
  omega

/-- The weights a point leaves. -/
theorem weight_row (r : Fin 512) (l : Fin 128) :
    out0_7 (iblk m c 0 t) (iblk m c 1 t) (iblk m c 2 t) (iblk m c 3 t) (iblk m c 4 t) (ix2 r l) = weight (prodRow m c (row t r)) l := by
  rw [out_w, weight_at, product]
  unfold wide weight
  rw [dif_neg (show ¬ 1152 + l.val < 1024 by omega), dif_neg (show ¬ 1152 + l.val < 1152 by omega)]
  by_cases h : l.val < 16
  · rw [dif_pos (show 1152 + l.val < 1168 by omega), dif_pos h]
    refine congrArg (· * quarter) (congrArg (prodRow m c (row t r)) (Fin.ext ?_))
    show 4992 + (1152 + l.val - 1152) = 4992 + l.val
    omega
  · rw [dif_neg (show ¬ 1152 + l.val < 1168 by omega), dif_neg h, zero_mul]

/-! ## The arrays -/

theorem flush5 : ∀ t : Fin cfg0.N, (cfg0.win 5).flush t = true := (by decide +kernel : ∀ t : Fin grid0.N, win0_5.flush t = true)
theorem flush6 : ∀ t : Fin cfg0.N, (cfg0.win 6).flush t = true := (by decide +kernel : ∀ t : Fin grid0.N, win0_6.flush t = true)
theorem flush7 : ∀ t : Fin cfg0.N, (cfg0.win 7).flush t = true := (by decide +kernel : ∀ t : Fin grid0.N, win0_7.flush t = true)

theorem array5 (r : Fin 512) (n : Fin 2048) :
    ((dats m 0 c).arrAt 5 cfg0.N : FVec Ideal S8192x2048 .bf16) (ix2 (row t r) n) = query (prodRow m c (row t r)) (angleRow m c (row t r)) n := by
  have e : ((cfg0.win 5).blk t).view.emb (ix2 r n) = (ix2 (row t r) n : S8192x2048.Idx) := by
    funext a
    apply Fin.ext
    match a with
    | ⟨0, _⟩ => show win0_5.index t 0 * 512 + 1 * r.val = 512 * t.val + r.val; rw [(idx5 t).1]; omega
    | ⟨1, _⟩ => show win0_5.index t 1 * 2048 + 1 * n.val = n.val; rw [(idx5 t).2]; omega
  have hb := congrFun (Value.blocks5 m c t (flush5 t)) (ix2 r n)
  rw [View.read_apply, e] at hb
  refine hb.trans ?_
  rw [Value.flushed5 m c t]
  exact query_row m c t r n

theorem array6 (r : Fin 512) (l : Fin 128) :
    ((dats m 0 c).arrAt 6 cfg0.N : FVec Ideal S8192x128 .bf16) (ix2 (row t r) l) = key (prodRow m c (row t r)) (angleRow m c (row t r)) l := by
  have e : ((cfg0.win 6).blk t).view.emb (ix2 r l) = (ix2 (row t r) l : S8192x128.Idx) := by
    funext a
    apply Fin.ext
    match a with
    | ⟨0, _⟩ => show win0_6.index t 0 * 512 + 1 * r.val = 512 * t.val + r.val; rw [(idx6 t).1]; omega
    | ⟨1, _⟩ => show win0_6.index t 1 * 128 + 1 * l.val = l.val; rw [(idx6 t).2]; omega
  have hb := congrFun (Value.blocks6 m c t (flush6 t)) (ix2 r l)
  rw [View.read_apply, e] at hb
  refine hb.trans ?_
  rw [Value.flushed6 m c t]
  exact key_row m c t r l

theorem array7 (r : Fin 512) (l : Fin 128) :
    ((dats m 0 c).arrAt 7 cfg0.N : FVec Ideal S8192x128 .f32) (ix2 (row t r) l) = weight (prodRow m c (row t r)) l := by
  have e : ((cfg0.win 7).blk t).view.emb (ix2 r l) = (ix2 (row t r) l : S8192x128.Idx) := by
    funext a
    apply Fin.ext
    match a with
    | ⟨0, _⟩ => show win0_7.index t 0 * 512 + 1 * r.val = 512 * t.val + r.val; rw [(idx7 t).1]; omega
    | ⟨1, _⟩ => show win0_7.index t 1 * 128 + 1 * l.val = l.val; rw [(idx7 t).2]; omega
  have hb := congrFun (Value.blocks7 m c t (flush7 t)) (ix2 r l)
  rw [View.read_apply, e] at hb
  refine hb.trans ?_
  rw [Value.flushed7 m c t]
  exact weight_row m c t r l

/-- Every row is a row of some point's block. -/
theorem row_exists (i : Fin 8192) : ∃ (t : Fin cfg0.N) (r : Fin 512), row t r = i := by
  have hN := N_0
  refine ⟨⟨i.val / 512, by omega⟩, ⟨i.val % 512, by omega⟩, Fin.ext ?_⟩
  show 512 * (i.val / 512) + i.val % 512 = i.val
  omega

end Cert.IdxIdeal.Open

namespace Cert.Proof.Idx

open Idealize.ShloMosaic Idealize.ShloMosaic.TcCoe Idealize.SL.Sem

/-- The reference's frame: its arguments unchanged, no counter moved. -/
theorem frame_ref : Cert.quiescent_IdxRefIdeal := fun m ρ _ =>
  (θ_run Cert.IdxRefIdeal.defs _ _).mono (fun r h => ⟨fun c => (h c).2.2.2, sem_eq_zero_of_no_sems (by decide) r.2⟩)
    (Cert.IdxRefIdeal.Value.run (F := Ideal) m ρ)

/-- Kernel and reference end at the same three arrays, from arguments that agree. -/
theorem algebraic : Cert.algebraic_IdxIdeal_IdxRefIdeal := by
  intro m ρ m' ρ' _ hagree
  refine ⟨fun c => (Cert.IdxIdeal.Gen.dats m 0 c).arrAt 5 Cert.IdxIdeal.cfg0.N, fun c => (Cert.IdxIdeal.Gen.dats m 0 c).arrAt 6 Cert.IdxIdeal.cfg0.N,
    fun c => (Cert.IdxIdeal.Gen.dats m 0 c).arrAt 7 Cert.IdxIdeal.cfg0.N, Cert.IdxIdeal.Value.run_blocks m ρ, ?_⟩
  refine (θ_run _ _ _).mono (fun r h c => ⟨?_, ?_, ?_, (h c).2.2.2⟩) (Cert.IdxRefIdeal.Value.run m' ρ')
  all_goals obtain ⟨e0, e1, e2, e3⟩ := hagree c
  · refine ((h c).1.trans (Cert.IdxRefIdeal.Open.resQ_eq m' c)).trans ?_
    rw [e0, e1, e2, e3]
    refine funext fun (j : (⟨2, ![8192, 2048]⟩ : Shape).Idx) => ?_
    obtain ⟨i, n, rfl⟩ : ∃ i n, j = ix2 i n := ⟨j 0, j 1, eq_ix2 j⟩
    obtain ⟨t, q, rfl⟩ := Cert.IdxIdeal.Open.row_exists i
    exact (Cert.IdxRefIdeal.Open.outQ_at _ _ _ _ _ n).trans (Cert.IdxIdeal.Open.array5 m c t q n).symm
  · refine ((h c).2.1.trans (Cert.IdxRefIdeal.Open.resK_eq m' c)).trans ?_
    rw [e0, e1, e2, e3]
    refine funext fun (j : (⟨2, ![8192, 128]⟩ : Shape).Idx) => ?_
    obtain ⟨i, n, rfl⟩ : ∃ i n, j = ix2 i n := ⟨j 0, j 1, eq_ix2 j⟩
    obtain ⟨t, q, rfl⟩ := Cert.IdxIdeal.Open.row_exists i
    exact (Cert.IdxRefIdeal.Open.outK_at _ _ _ _ _ n).trans (Cert.IdxIdeal.Open.array6 m c t q n).symm
  · refine ((h c).2.2.1.trans (show _ = Cert.IdxRefIdeal.Open.outW _ _ _ from rfl)).trans ?_
    rw [e0, e2, e3]
    refine funext fun (j : (⟨2, ![8192, 128]⟩ : Shape).Idx) => ?_
    obtain ⟨i, n, rfl⟩ : ∃ i n, j = ix2 i n := ⟨j 0, j 1, eq_ix2 j⟩
    obtain ⟨t, q, rfl⟩ := Cert.IdxIdeal.Open.row_exists i
    exact (Cert.IdxRefIdeal.Open.outW_at _ _ _ _ n).trans (Cert.IdxIdeal.Open.array7 m c t q n).symm

end Cert.Proof.Idx

end
-- ==== Proof.MlaRow.lean ====
/-
  The mathematics of one row of the latent projections, apart from any program: normalization of a row of any length, the
  rotation of 64 components, its writing as a product with three lane patterns over 128 lanes, and the layout of the
  results.
-/
module

public import proofs.«01_k».proof.Proof.PostRow

@[expose] public section

set_option maxRecDepth 16384

noncomputable section

namespace Cert.MlaRow

open Idealize.ShloMosaic
open Cert.PostRow (eps)

/-- A row of any length divided by the root of its mean square, times a gain. -/
def rmsOf (len : EReal) {n : ℕ} (x : Fin n → EReal) (g : EReal) (b : Fin n) : EReal :=
  x b * Ideal.rsqrt (Ideal.div (∑ k : Fin n, x k * x k) len + eps) * g

/-- The lengths of the latent rows, as the programs write them. -/
abbrev lenQ : EReal := Ideal.ofBits .f32 0x44000000#32
abbrev lenK : EReal := Ideal.ofBits .f32 0x43800000#32

/-- The normalized latent row's product with a column of weights. -/
def second (len : EReal) {n m : ℕ} (c g : Fin n → EReal) (w : Fin n → Fin m → EReal) (j : Fin m) : EReal :=
  ∑ k : Fin n, rmsOf len c (g k) k * w k j

/-- The `k`-th of 32 frequencies: the base to the power `-k / 32`. -/
def freq (k : ℕ) : EReal :=
  Ideal.pow (Ideal.ofBits .f32 0x48F42400#32) (Ideal.div (-(FloatOps.sitofp (F := Ideal) .f32 (BitVec.ofNat 32 k) : EReal)) (Ideal.ofBits .f32 0x42000000#32))

/-- The angle of frequency `k` at a position. -/
def angle (p : BitVec 32) (k : ℕ) : EReal := (FloatOps.sitofp (F := Ideal) .f32 p : EReal) * freq k

/-- Component `d` of 64, the first 32 components rotated against the last 32. -/
def spin (r : Fin 64 → EReal) (a : ℕ → EReal) (d : Fin 64) : EReal :=
  if h : d.val < 32 then r d * Ideal.cos (a d.val) - r ⟨d.val + 32, by omega⟩ * Ideal.sin (a d.val)
  else r d * Ideal.cos (a (d.val - 32)) + r ⟨d.val - 32, by omega⟩ * Ideal.sin (a (d.val - 32))

/-- The scale of a query component. -/
def scale : EReal := Ideal.ofBits .f32 0x3D93CD3A#32

/-- The queries: each head of 192 components, the last 64 rotated, scaled and filled with zeros to 256. -/
def query (q : Fin 1536 → EReal) (a : ℕ → EReal) (n : Fin 2048) : EReal :=
  if h : n.val % 256 < 128 then q ⟨n.val / 256 * 192 + n.val % 256, by omega⟩ * scale
  else if h : n.val % 256 < 192 then spin (fun d => q ⟨n.val / 256 * 192 + (128 + d.val), by omega⟩) a ⟨n.val % 256 - 128, by omega⟩ * scale
  else 0

/-- The columns of the heads, each filled with zeros to 256. -/
def filled (z : Fin 1536 → EReal) (n : Fin 2048) : EReal :=
  if h : n.val % 256 < 192 then z ⟨n.val / 256 * 192 + n.val % 256, by omega⟩ else 0

/-- The product with the filled columns has the product's columns, filled. -/
theorem filled_sum {K : ℕ} (x : Fin K → EReal) (w : Fin K → Fin 1536 → EReal) (n : Fin 2048) :
    ∑ k : Fin K, x k * filled (w k) n = filled (fun n => ∑ k : Fin K, x k * w k n) n := by
  unfold filled
  by_cases h : n.val % 256 < 192
  · simp only [dif_pos h]
  · simp only [dif_neg h, mul_zero, Finset.sum_const_zero]

/-- The rotation by lane patterns: each lane, the lane 32 further and the lane 32 back, each times a pattern that is zero
    where the rotation does not use it. Lanes from 64 on are zero and stay so. -/
theorem spin_lanes (y : Fin 128 → EReal) (hy : ∀ l : Fin 128, ¬ l.val < 64 → y l = 0) (a : ℕ → EReal) (l : Fin 128) :
    y l * (if l.val < 64 then Ideal.cos (a (l.val % 32)) else 1)
      + y ⟨(l.val + 128 - 96) % 128, by omega⟩ * (if l.val < 32 then 0 - Ideal.sin (a (l.val % 32)) else 0)
      + y ⟨(l.val + 128 - 32) % 128, by omega⟩ * (if 32 ≤ l.val ∧ l.val < 64 then Ideal.sin (a (l.val % 32)) else 0)
      = if h : l.val < 64 then spin (fun d => y ⟨d.val, by omega⟩) a ⟨l.val, h⟩ else 0 := by
  by_cases h2 : l.val < 64
  · rw [dif_pos h2, if_pos h2]
    unfold spin
    dsimp only
    by_cases h1 : l.val < 32
    · have e : (⟨(l.val + 128 - 96) % 128, by omega⟩ : Fin 128) = ⟨l.val + 32, by omega⟩ := Fin.ext (by dsimp only; omega)
      have e' : l.val % 32 = l.val := by omega
      rw [if_pos h1, if_neg (by omega), dif_pos h1, e, e', mul_zero, add_zero, zero_sub, mul_neg, sub_eq_add_neg]
    · have e : (⟨(l.val + 128 - 32) % 128, by omega⟩ : Fin 128) = ⟨l.val - 32, by omega⟩ := Fin.ext (by dsimp only; omega)
      have e' : l.val % 32 = l.val - 32 := by omega
      rw [if_neg h1, if_pos ⟨by omega, h2⟩, dif_neg h1, e, e', mul_zero, add_zero]
  · rw [dif_neg h2, if_neg h2, if_neg (by omega), if_neg (by omega), hy l h2, mul_zero, mul_zero, zero_mul, add_zero, add_zero]

/-- The rotation of 64 components, with cosine and sine of given angles. -/
def wheel (z : Fin 64 → EReal) (a : Fin 32 → EReal) (d : Fin 64) : EReal :=
  if hd : d.val < 32 then z ⟨0 + d.val, by omega⟩ * Ideal.cos (a ⟨d.val, hd⟩) - z ⟨32 + d.val, by omega⟩ * Ideal.sin (a ⟨d.val, hd⟩)
  else z ⟨32 + (d.val - 32), by omega⟩ * Ideal.cos (a ⟨d.val - 32, by omega⟩) + z ⟨0 + (d.val - 32), by omega⟩ * Ideal.sin (a ⟨d.val - 32, by omega⟩)

theorem wheel_spin (z : Fin 64 → EReal) (a : ℕ → EReal) (d : Fin 64) : wheel z (fun k => a k.val) d = spin z a d := by
  unfold wheel spin
  by_cases h1 : d.val < 32
  · rw [dif_pos h1, dif_pos h1]
    simp only [Nat.zero_add, Nat.add_comm 32]
  · have e : (⟨32 + (d.val - 32), by omega⟩ : Fin 64) = d := Fin.ext (by dsimp only; omega)
    rw [dif_neg h1, dif_neg h1, e]
    simp only [Nat.zero_add]

end Cert.MlaRow

end
-- ==== Proof.QueryOpen.lean ====
/-
  What one grid point of the query projection leaves behind: sixteen stores of 128 lanes, the plain part and the turned
  part of each of eight heads.
-/
module

public import proofs.«01_k».proof.Proof.Gen.QueryIdeal.Value
public import proofs.«01_k».proof.Proof.MlaRow
public import Idealize.ShloMosaic.Lib.Pointwise

@[expose] public section

set_option maxRecDepth 16384

noncomputable section

namespace Cert.QueryIdeal.Open

open Cert.QueryIdeal Cert.QueryIdeal.Gen Idealize.ShloMosaic Idealize.ShloMosaic.TcCoe Idealize.SL.Sem
open Cert.PostRow (rms)
open Cert.MlaRow (second lenQ rmsOf)

theorem hz : (![0, 0] : Fin 2 → Nat) = fun _ => 0 := funext fun a => by fin_cases a <;> rfl

section General

variable {F : FTy → Type} [FloatOps F]

/-- 128 lanes turned: the lanes times `C`, the lanes 32 further times `L`, the lanes 32 back times `H`. -/
def turned (p C L H : FVec F S512x128 .f32) : FVec F S512x128 .f32 :=
  addf (addf (mulf p C) (mulf (dynamicRotate 1 96#32 none p rotates_S512x128_d1) L)) (mulf (dynamicRotate 1 32#32 none p rotates_S512x128_d1) H)

/-- 128 lanes, scaled. -/
def scaled (p : FVec F S512x128 .f32) : FVec F S512x128 .bf16 :=
  truncf .bf16 (mulf p (broadcast S512x128 (Scalar.ofBits .f32 0x3D93CD3A#32))) bitsLt_bf16_f32

/-- The plain part of a head, or its turned part. -/
def part (p C L H : FVec F S512x128 .f32) (j : ℕ) : FVec F S512x128 .bf16 := if j = 0 then scaled p else scaled (turned p C L H)

/-- The `h`-th 128 columns of the product. -/
def laneOf (p : FVec F S512x2048 .f32) (h : ℕ) (hh : h < 16) : FVec F S512x128 .f32 := fun z =>
  p (ix2 (z 0) ⟨128 * h + (z 1).val, by have : (z 1).val < 128 := (z 1).isLt; omega⟩)

/-- The eight heads side by side. -/
def block (p : FVec F S512x2048 .f32) (C L H : FVec F S512x128 .f32) : FVec F S512x2048 .bf16 := fun y =>
  part (laneOf p ((y 1).val / 128) (by have : (y 1).val < 2048 := (y 1).isLt; omega)) C L H ((y 1).val / 128 % 2) (ix2 (y 0) ⟨(y 1).val % 128, Nat.mod_lt _ (by norm_num)⟩)

theorem block_at (p : FVec F S512x2048 .f32) (C L H : FVec F S512x128 .f32) (r : Fin 512) (n : Fin 2048) :
    block p C L H (ix2 r n) = part (laneOf p (n.val / 128) (by omega)) C L H (n.val / 128 % 2) (ix2 r ⟨n.val % 128, by omega⟩) := rfl

/-- A slice of 128 columns is the part it starts at. -/
theorem slice_lane (p : FVec F S512x2048 .f32) (h : ℕ) (hh : h < 16) (w : S512x2048.Slices ![0, 128 * h] S512x128) :
    extractStridedSlice S512x128 ![0, 128 * h] p w = laneOf p h hh := by
  funext z
  refine congrArg p (funext fun a => Fin.ext ?_)
  match a with
  | ⟨0, _⟩ => show 0 + (z 0).val = (z 0).val; omega
  | ⟨1, _⟩ => rfl

/-- A part is the block at the columns it is stored to. -/
theorem part_block (p : FVec F S512x2048 .f32) (C L H : FVec F S512x128 .f32) (h : ℕ) (hh : h < 16) (w : S512x2048.Slices ![0, 128 * h] S512x128)
    (inb : ∀ a, (![0, 128 * h] : Fin 2 → ℕ) a + S512x128.size a ≤ S512x2048.size a)
    (x : (Rect.unit (s := S512x2048) ![0, 128 * h] S512x128.size inb).shape.Idx) :
    part (extractStridedSlice S512x128 ![0, 128 * h] p w) C L H (h % 2) x = block p C L H ((Rect.unit (s := S512x2048) ![0, 128 * h] S512x128.size inb).emb x) := by
  have h1 : (x 1).val < 128 := (x 1).isLt
  have e1 : ((Rect.unit (s := S512x2048) ![0, 128 * h] S512x128.size inb).emb x 1).val = 128 * h + (x 1).val := by
    show 128 * h + 1 * (x 1).val = _; omega
  rw [slice_lane p h hh]
  unfold block
  have eh : ((Rect.unit (s := S512x2048) ![0, 128 * h] S512x128.size inb).emb x 1).val / 128 = h := by rw [e1]; omega
  have ep : ∀ (k : ℕ) (hk : k < 16), k = h → part (laneOf p k hk) C L H (k % 2) = part (laneOf p h hh) C L H (h % 2) := fun k hk e => by subst e; rfl
  rw [ep _ _ eh]
  refine congrArg (part (laneOf p h hh) C L H (h % 2)) (funext fun a => ?_)
  apply Fin.ext
  match a with
  | ⟨0, _⟩ => show (x 0).val = 0 + 1 * (x 0).val; omega
  | ⟨1, _⟩ => show (x 1).val = _ % 128; rw [e1]; omega

variable (x0 : Vec F S512x2048 .f32) (x1 : Vec F S512x1 .i32) (x2 : Vec F S1x2048 .f32) (x3 : Vec F S2048x512 .bf16) (x4 : Vec F S1x512 .f32) (x5 : Vec F S512x2048 .bf16) (x6 : Vec F S1x128 .f32)

/-- The product of a point and its three lane patterns. -/
abbrev P : FVec F S512x2048 .f32 := k0_pay32 x0 x1 x2 x3 x4 x5 x6
abbrev C : FVec F S512x128 .f32 := k0_pay34 x0 x1 x2 x3 x4 x5 x6
abbrev L : FVec F S512x128 .f32 := k0_pay35 x0 x1 x2 x3 x4 x5 x6
abbrev H : FVec F S512x128 .f32 := k0_pay36 x0 x1 x2 x3 x4 x5 x6

/-- The sixteen stores fill the block. -/
theorem out_q : out0_7 x0 x1 x2 x3 x4 x5 x6 = block (P x0 x1 x2 x3 x4 x5 x6) (C x0 x1 x2 x3 x4 x5 x6) (L x0 x1 x2 x3 x4 x5 x6) (H x0 x1 x2 x3 x4 x5 x6) := by
  unfold out0_7
  funext y
  refine View.canon_apply_of_pieces (Val := Elt F) (S := S512x2048) (e := .bf16) (block (P x0 x1 x2 x3 x4 x5 x6) (C x0 x1 x2 x3 x4 x5 x6) (L x0 x1 x2 x3 x4 x5 x6) (H x0 x1 x2 x3 x4 x5 x6)) _ ?_ y (cover0_7 _ _ _ _ _ _ _ _ _ _ _ _ _ _ _ _ y)
  simp only [List.forall_mem_cons, List.not_mem_nil, false_imp_iff, implies_true, and_true]
  have K := fun h hh w inb x => part_block (P x0 x1 x2 x3 x4 x5 x6) (C x0 x1 x2 x3 x4 x5 x6) (L x0 x1 x2 x3 x4 x5 x6) (H x0 x1 x2 x3 x4 x5 x6) h hh w inb x
  exact ⟨K 15 (by norm_num) slices_S512x2048_o0_1920_S512x128 _, K 14 (by norm_num) slices_S512x2048_o0_1792_S512x128 _,
    K 13 (by norm_num) slices_S512x2048_o0_1664_S512x128 _, K 12 (by norm_num) slices_S512x2048_o0_1536_S512x128 _,
    K 11 (by norm_num) slices_S512x2048_o0_1408_S512x128 _, K 10 (by norm_num) slices_S512x2048_o0_1280_S512x128 _,
    K 9 (by norm_num) slices_S512x2048_o0_1152_S512x128 _, K 8 (by norm_num) slices_S512x2048_o0_1024_S512x128 _,
    K 7 (by norm_num) slices_S512x2048_o0_896_S512x128 _, K 6 (by norm_num) slices_S512x2048_o0_768_S512x128 _,
    K 5 (by norm_num) slices_S512x2048_o0_640_S512x128 _, K 4 (by norm_num) slices_S512x2048_o0_512_S512x128 _,
    K 3 (by norm_num) slices_S512x2048_o0_384_S512x128 _, K 2 (by norm_num) slices_S512x2048_o0_256_S512x128 _,
    K 1 (by norm_num) slices_S512x2048_o0_128_S512x128 _, K 0 (by norm_num) slices_S512x2048_o0_0_S512x128 _⟩

/-- The product and the patterns, without the reads of whole buffers. -/
theorem P_eq : P x0 x1 x2 x3 x4 x5 x6 = k0_pay2 x0 x2 x3 x4 x5 := by
  unfold P k0_pay32
  rw [View.ld_unit_zero (S := S512x2048) hz, View.ld_unit_zero (S := S1x2048) hz, View.ld_unit_zero (S := S2048x512) hz, View.ld_unit_zero (S := S1x512) hz, View.ld_unit_zero (S := S512x2048) hz]

theorem pos_eq : k0_pay33 x0 x1 x2 x3 x4 x5 x6 = k0_pay3 x1 := by
  unfold k0_pay33
  rw [View.ld_unit_zero (S := S512x1) hz]

theorem C_eq : C x0 x1 x2 x3 x4 x5 x6 = k0_pay9 (k0_pay3 x1) x6 := by
  unfold C k0_pay34
  rw [pos_eq, View.ld_unit_zero (S := S1x128) hz]

theorem L_eq : L x0 x1 x2 x3 x4 x5 x6 = k0_pay10 (k0_pay3 x1) x6 := by
  unfold L k0_pay35
  rw [pos_eq, View.ld_unit_zero (S := S1x128) hz]

theorem H_eq : H x0 x1 x2 x3 x4 x5 x6 = k0_pay11 (k0_pay3 x1) x6 := by
  unfold H k0_pay36
  rw [pos_eq, View.ld_unit_zero (S := S1x128) hz]

end General

/-! ## The values at an index -/

theorem mask_lo : ∀ l : Fin 128, k0_pay7 (ix2 0 l) = if l.val < 32 then 1#1 else 0#1 := by decide +kernel
theorem mask_hi : ∀ l : Fin 128, k0_pay8 (ix2 0 l) = if 32 ≤ l.val ∧ l.val < 64 then 1#1 else 0#1 := by decide +kernel
theorem mask_any : ∀ l : Fin 128, (ori k0_pay7 k0_pay8 : IVec S1x128 1) (ix2 0 l) = if l.val < 64 then 1#1 else 0#1 := by decide +kernel

/-- The angle of a lane. -/
abbrev angle (x1 : Vec Ideal S512x1 .i32) (x6 : Vec Ideal S1x128 .f32) (r : Fin 512) (l : Fin 128) : EReal :=
  (FloatOps.sitofp (F := Ideal) .f32 (x1 (ix2 r 0)) : EReal) * x6 (ix2 0 l)

theorem select_if (b : Prop) [Decidable b] (x y : EReal) : Scalar.select (if b then 1#1 else 0#1) x y = if b then x else y := by
  by_cases h : b
  · rw [if_pos h, if_pos h]; rfl
  · rw [if_neg h, if_neg h]; rfl

variable (x0 : Vec Ideal S512x2048 .f32) (x1 : Vec Ideal S512x1 .i32) (x2 : Vec Ideal S1x2048 .f32) (x3 : Vec Ideal S2048x512 .bf16) (x4 : Vec Ideal S1x512 .f32) (x5 : Vec Ideal S512x2048 .bf16) (x6 : Vec Ideal S1x128 .f32)

/-- The three patterns: cosines in the first 64 lanes, negated sines in the first 32, sines in the next 32. -/
theorem cos_lane (r : Fin 512) (l : Fin 128) : k0_pay9 (F := Ideal) (k0_pay3 (F := Ideal) x1) x6 (ix2 r l) = if l.val < 64 then Ideal.cos (angle x1 x6 r l) else 1 := by
  have e : k0_pay9 (F := Ideal) (k0_pay3 (F := Ideal) x1) x6 (ix2 r l) = Scalar.select ((ori k0_pay7 k0_pay8 : IVec S1x128 1) (ix2 0 l)) (Ideal.cos (angle x1 x6 r l)) 1 := by
    generalize hm : (ori k0_pay7 k0_pay8 : IVec S1x128 1) = mask
    unfold k0_pay9
    rw [hm]
    pointwise [k0_pay4, k0_pay3]
  rw [e, mask_any, select_if]

theorem lo_lane (r : Fin 512) (l : Fin 128) : k0_pay10 (F := Ideal) (k0_pay3 (F := Ideal) x1) x6 (ix2 r l) = if l.val < 32 then 0 - Ideal.sin (angle x1 x6 r l) else 0 := by
  have e : k0_pay10 (F := Ideal) (k0_pay3 (F := Ideal) x1) x6 (ix2 r l) = Scalar.select (k0_pay7 (ix2 0 l)) (0 - Ideal.sin (angle x1 x6 r l)) 0 := by
    pointwise [k0_pay10, k0_pay5, k0_pay4, k0_pay3]
  rw [e, mask_lo, select_if]

theorem hi_lane (r : Fin 512) (l : Fin 128) : k0_pay11 (F := Ideal) (k0_pay3 (F := Ideal) x1) x6 (ix2 r l) = if 32 ≤ l.val ∧ l.val < 64 then Ideal.sin (angle x1 x6 r l) else 0 := by
  have e : k0_pay11 (F := Ideal) (k0_pay3 (F := Ideal) x1) x6 (ix2 r l) = Scalar.select (k0_pay8 (ix2 0 l)) (Ideal.sin (angle x1 x6 r l)) 0 := by
    pointwise [k0_pay11, k0_pay5, k0_pay4, k0_pay3]
  rw [e, mask_hi, select_if]

theorem turned_at (p C L H : FVec Ideal S512x128 .f32) (r : Fin 512) (l : Fin 128) :
    turned (F := Ideal) p C L H (ix2 r l) = p (ix2 r l) * C (ix2 r l) + p (ix2 r ⟨(l.val + 128 - 96) % 128, by omega⟩) * L (ix2 r l)
      + p (ix2 r ⟨(l.val + 128 - 32) % 128, by omega⟩) * H (ix2 r l) := by
  pointwise [turned]

/-- Lanes that are zero from lane 64 on, turned by the patterns of angles that repeat every 32 lanes. -/
theorem turned_patterns (p : FVec Ideal S512x128 .f32) (r : Fin 512) (hp : ∀ l : Fin 128, ¬ l.val < 64 → p (ix2 r l) = (0 : EReal)) (a : ℕ → EReal)
    (ha : ∀ l : Fin 128, angle x1 x6 r l = a (l.val % 32)) (l : Fin 128) :
    turned (F := Ideal) p (k0_pay9 (F := Ideal) (k0_pay3 (F := Ideal) x1) x6) (k0_pay10 (F := Ideal) (k0_pay3 (F := Ideal) x1) x6) (k0_pay11 (F := Ideal) (k0_pay3 (F := Ideal) x1) x6) (ix2 r l)
      = if h : l.val < 64 then Cert.MlaRow.spin (fun d => p (ix2 r ⟨d.val, by omega⟩)) a ⟨l.val, h⟩ else 0 := by
  rw [turned_at, cos_lane, lo_lane, hi_lane, ha]
  exact Cert.MlaRow.spin_lanes (fun l => p (ix2 r l)) hp a l

theorem scaled_at (p : FVec Ideal S512x128 .f32) (r : Fin 512) (l : Fin 128) : scaled (F := Ideal) p (ix2 r l) = p (ix2 r l) * Cert.MlaRow.scale := by
  pointwise [scaled, Cert.MlaRow.scale]

/-- The two products, each of normalized rows. -/
theorem product_at (r : Fin 512) (n : Fin 2048) :
    k0_pay2 (F := Ideal) x0 x2 x3 x4 x5 (ix2 r n)
      = second lenQ (fun j => ∑ k : Fin 2048, rms (fun k => x0 (ix2 r k)) (x2 (ix2 0 k)) k * x3 (ix2 k j)) (fun j => x4 (ix2 0 j)) (fun j n => x5 (ix2 j n)) n := by
  pointwise [k0_pay2, second, rmsOf, rms, Cert.PostRow.len, Cert.PostRow.eps, Cert.MlaRow.lenQ]

end Cert.QueryIdeal.Open

end
-- ==== Proof.QueryRef.lean ====
/-
  The reference of the query projection at an index: normalization and product as in the query, key and value projection,
  the latent row normalized again and multiplied, the last 64 components of a head rotated, scale and zeros.
-/
module

public import proofs.«01_k».proof.Proof.MlaRow
public import proofs.«01_k».proof.Proof.ProjRef
public import proofs.«01_k».proof.Proof.Gen.QueryRefIdeal.Run
public import Idealize.ShloMosaic.Lib.Pointwise

@[expose] public section

set_option maxRecDepth 16384

noncomputable section

namespace Cert.QueryRefIdeal.Open

open Cert.QueryRefIdeal Cert.QueryRefIdeal.Gen Idealize.ShloMosaic Idealize.ShloMosaic.TcCoe Idealize.SL.Sem
open Cert.ProjRow (proj)
open Cert.ProjRefIdeal.Open (prod prod_proj)
open Cert.MlaRow (freq angle spin query scale second rmsOf lenQ wheel wheel_spin)

/-- The angles of the positions. -/
def angles (t : IVec S2x4096 32) : FVec Ideal S2x4096x1x32 .f32 :=
  broadcastInDim S2x4096x1x32 ![0, 1, 3] bcast_S2x4096x32_S2x4096x1x32_0_1_3 (mulf (broadcastInDim S2x4096x32 ![0, 1, 2] bcast_S2x4096x1_S2x4096x32_0_1_2 (broadcastInDim S2x4096x1 ![0, 1] bcast_S2x4096_S2x4096x1_0_1 (sitofp .f32 t))) (broadcastInDim S2x4096x32 ![0, 1, 2] bcast_S1x1x32_S2x4096x32_0_1_2 (broadcastInDim S1x1x32 ![2] bcast_S32_S1x1x32_2 (Host.powf (broadcastInDim S32 ![] bcast_S_S32 (constant S_ .f32 0x48F42400#32)) (Host.divf (Host.negf (sitofp .f32 (iotaInDim S32 32 0))) (broadcastInDim S32 ![] bcast_S_S32 (constant S_ .f32 0x42000000#32)))))))

/-- The latent rows, the first 512 columns of the product. -/
def latent (p : FVec Ideal S2x4096x5008 .f32) : FVec Ideal S2x4096x512 .f32 := extractStridedSlice S2x4096x512 ![0, 0, 0] p slices_S2x4096x5008_S2x4096x512_0_0_0

/-- Each latent row divided by the root of its mean square, times a gain. -/
def normed (z : FVec Ideal S2x4096x512 .f32) (g : FVec Ideal S1x512 .f32) : FVec Ideal S2x4096x512 .f32 :=
  mulf (mulf z (broadcastInDim S2x4096x512 ![0, 1, 2] bcast_S2x4096x1_S2x4096x512_0_1_2 (Host.rsqrt (addf (Host.divf (broadcastInDim S2x4096x1 ![0, 1] bcast_S2x4096_S2x4096x1_0_1 (Host.reduceAdd (mulf z z) (constant S_ .f32 0x00000000#32) reducesTo_S2x4096x512_S2x4096_d2 h_S_)) (broadcastInDim S2x4096x1 ![] bcast_S_S2x4096x1 (constant S_ .f32 0x44000000#32))) (broadcastInDim S2x4096x1 ![] bcast_S_S2x4096x1 (constant S_ .f32 0x358637BD#32))))))
    (broadcastInDim S2x4096x512 ![0, 1, 2] bcast_S1x1x512_S2x4096x512_0_1_2 (broadcastInDim S1x1x512 ![2] bcast_S512_S1x1x512_2 (shapeCast _ g shapeCasts_S1x512_S512)))

/-- The latent product as eight heads of 192. -/
def heads (z : FVec Ideal S2x4096x512 .f32) (w : FVec Ideal S1x512x1536 .f32) : FVec Ideal S2x4096x8x192 .f32 :=
  shapeCast _ (Host.dotGeneral dot_S2x4096x512_S512x1536_S2x4096x1536_2_0_01_1_n_n none z (shapeCast _ w shapeCasts_S1x512x1536_S512x1536)) shapeCasts_S2x4096x1536_S2x4096x8x192

/-- The last 64 components of every head. -/
def tails (q : FVec Ideal S2x4096x8x192 .f32) : FVec Ideal S2x4096x8x64 .f32 := extractStridedSlice S2x4096x8x64 ![0, 0, 0, 128] q slices_S2x4096x8x192_S2x4096x8x64_0_0_0_128

/-- 64 components rotated. -/
def turn (z : FVec Ideal S2x4096x8x64 .f32) (a : FVec Ideal S2x4096x1x32 .f32) : FVec Ideal S2x4096x8x64 .f32 :=
  concatenate S2x4096x8x64 3 [⟨S2x4096x8x32, subf (mulf (extractStridedSlice S2x4096x8x32 ![0, 0, 0, 0] z slices_S2x4096x8x64_S2x4096x8x32_0_0_0_0) (broadcastInDim S2x4096x8x32 ![0, 1, 2, 3] bcast_S2x4096x1x32_S2x4096x8x32_0_1_2_3 (Host.cos a))) (mulf (extractStridedSlice S2x4096x8x32 ![0, 0, 0, 32] z slices_S2x4096x8x64_S2x4096x8x32_0_0_0_32) (broadcastInDim S2x4096x8x32 ![0, 1, 2, 3] bcast_S2x4096x1x32_S2x4096x8x32_0_1_2_3 (Host.sin a)))⟩,
    ⟨S2x4096x8x32, addf (mulf (extractStridedSlice S2x4096x8x32 ![0, 0, 0, 32] z slices_S2x4096x8x64_S2x4096x8x32_0_0_0_32) (broadcastInDim S2x4096x8x32 ![0, 1, 2, 3] bcast_S2x4096x1x32_S2x4096x8x32_0_1_2_3 (Host.cos a))) (mulf (extractStridedSlice S2x4096x8x32 ![0, 0, 0, 0] z slices_S2x4096x8x64_S2x4096x8x32_0_0_0_0) (broadcastInDim S2x4096x8x32 ![0, 1, 2, 3] bcast_S2x4096x1x32_S2x4096x8x32_0_1_2_3 (Host.sin a)))⟩] concatenates_S2x4096x8x32_S2x4096x8x32_S2x4096x8x64_d3

/-- Heads with turned tails, scaled and filled with zeros to 256. -/
def layout (q : FVec Ideal S2x4096x8x192 .f32) (r : FVec Ideal S2x4096x8x64 .f32) : FVec Ideal S8192x2048 .bf16 :=
  truncf .bf16 (shapeCast _ (concatenate S2x4096x8x256 3 [⟨S2x4096x8x192, mulf (concatenate S2x4096x8x192 3 [⟨S2x4096x8x128, extractStridedSlice S2x4096x8x128 ![0, 0, 0, 0] q slices_S2x4096x8x192_S2x4096x8x128_0_0_0_0⟩, ⟨S2x4096x8x64, r⟩] concatenates_S2x4096x8x128_S2x4096x8x64_S2x4096x8x192_d3) (broadcastInDim S2x4096x8x192 ![] bcast_S_S2x4096x8x192 (constant S_ .f32 0x3D93CD3A#32))⟩,
    ⟨S2x4096x8x64, broadcastInDim S2x4096x8x64 ![] bcast_S_S2x4096x8x64 (constant S_ .f32 0x00000000#32)⟩] concatenates_S2x4096x8x192_S2x4096x8x64_S2x4096x8x256_d3) shapeCasts_S2x4096x8x256_S8192x2048) bitsLt_bf16_f32

/-- The latent product from the arguments. -/
def latentHeads (x : FVec Ideal S2x4096x2048 .f32) (g : FVec Ideal S1x2048 .f32) (w : FVec Ideal S1x2048x5008 .f32) (g' : FVec Ideal S1x512 .f32) (w' : FVec Ideal S1x512x1536 .f32) : FVec Ideal S2x4096x8x192 .f32 :=
  heads (normed (latent (prod (Cert.ProjRefIdeal.Open.norm x g) w)) g') w'

/-- The reference's result from its arguments. -/
def out (x : FVec Ideal S2x4096x2048 .f32) (t : IVec S2x4096 32) (g : FVec Ideal S1x2048 .f32) (w : FVec Ideal S1x2048x5008 .f32) (g' : FVec Ideal S1x512 .f32) (w' : FVec Ideal S1x512x1536 .f32) : FVec Ideal S8192x2048 .bf16 :=
  layout (latentHeads x g w g' w') (turn (tails (latentHeads x g w g' w')) (angles t))

theorem res_eq (m : (ℓ : Loc nD τ sig) → Buf (Elt Ideal) ℓ) (c : Dev nD) : Value.res_main_v70 m c
    = out (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) := by
  unfold Value.res_main_v70 out layout turn tails latentHeads heads normed latent angles prod Cert.ProjRefIdeal.Open.norm
  rfl

/-! ## The stages at an index -/

theorem angles_at (t : IVec S2x4096 32) (b : Fin 2) (s : Fin 4096) (k : Fin 32) :
    angles t (ix4 b s 0 k) = angle (t (ix2 b s)) k.val := by
  pointwise [angles, angle, freq]

theorem latent_at (p : FVec Ideal S2x4096x5008 .f32) (b : Fin 2) (s : Fin 4096) (k : Fin 512) :
    latent p (ix3 b s k) = p (ix3 b s ⟨0 + k.val, by omega⟩) := by
  pointwise [latent]

theorem normed_at (z : FVec Ideal S2x4096x512 .f32) (g : FVec Ideal S1x512 .f32) (b : Fin 2) (s : Fin 4096) (k : Fin 512) :
    normed z g (ix3 b s k) = rmsOf lenQ (fun k => z (ix3 b s k)) (g (ix2 0 k)) k := by
  pointwise [normed, rmsOf, Cert.MlaRow.lenQ, Cert.PostRow.eps]

theorem heads_at (z : FVec Ideal S2x4096x512 .f32) (w : FVec Ideal S1x512x1536 .f32) (b : Fin 2) (s : Fin 4096) (h : Fin 8) (d : Fin 192) :
    heads z w (ix4 b s h d) = ∑ k : Fin 512, z (ix3 b s k) * w (ix3 0 k ⟨h.val * 192 + d.val, by omega⟩) := by
  pointwise [heads]

theorem turn_at (z : FVec Ideal S2x4096x8x64 .f32) (a : FVec Ideal S2x4096x1x32 .f32) (b : Fin 2) (s : Fin 4096) (h : Fin 8) (d : Fin 64) :
    turn z a (ix4 b s h d) = wheel (fun d => z (ix4 b s h d)) (fun k => a (ix4 b s 0 k)) d := by
  pointwise [turn, wheel]

theorem tails_at (q : FVec Ideal S2x4096x8x192 .f32) (b : Fin 2) (s : Fin 4096) (h : Fin 8) (d : Fin 64) :
    tails q (ix4 b s h d) = q (ix4 b s h ⟨128 + d.val, by omega⟩) := by
  pointwise [tails]

theorem layout_at (q : FVec Ideal S2x4096x8x192 .f32) (r : FVec Ideal S2x4096x8x64 .f32) (i : Fin 8192) (n : Fin 2048) :
    layout q r (ix2 i n) = if h : n.val % 256 < 128 then q (ix4 ⟨i.val / 4096, by omega⟩ ⟨i.val % 4096, by omega⟩ ⟨n.val / 256, by omega⟩ ⟨n.val % 256, by omega⟩) * scale
      else if h : n.val % 256 < 192 then r (ix4 ⟨i.val / 4096, by omega⟩ ⟨i.val % 4096, by omega⟩ ⟨n.val / 256, by omega⟩ ⟨n.val % 256 - 128, by omega⟩) * scale
      else 0 := by
  pointwise [layout, scale]
  by_cases h2 : n.val % 256 < 192
  · rw [dif_pos h2]
    by_cases h1 : n.val % 256 < 128
    · simp only [dif_pos h1, Nat.zero_add]
    · simp only [dif_neg h1, dif_pos h2]
  · rw [dif_neg h2, dif_neg (show ¬ n.val % 256 < 128 by omega), dif_neg h2]

/-! ## The result at an index -/

variable (x : FVec Ideal S2x4096x2048 .f32) (t : IVec S2x4096 32) (g : FVec Ideal S1x2048 .f32) (w : FVec Ideal S1x2048x5008 .f32)
variable (g' : FVec Ideal S1x512 .f32) (w' : FVec Ideal S1x512x1536 .f32)

/-- Row `i`'s latent product with the weights' columns. -/
abbrev made (i : Fin 8192) : Fin 1536 → EReal :=
  second lenQ (fun j : Fin 512 => proj (fun k => x (ix3 ⟨i.val / 4096, by omega⟩ ⟨i.val % 4096, by omega⟩ k)) (fun k => g (ix2 0 k)) (fun k n => w (ix3 0 k n)) ⟨j.val, by omega⟩)
    (fun j => g' (ix2 0 j)) fun j n => w' (ix3 0 j n)

theorem latentHeads_at (i : Fin 8192) (h : Fin 8) (d : Fin 192) :
    latentHeads x g w g' w' (ix4 ⟨i.val / 4096, by omega⟩ ⟨i.val % 4096, by omega⟩ h d) = made x g w g' w' i ⟨h.val * 192 + d.val, by omega⟩ := by
  unfold latentHeads
  rw [heads_at]
  simp only [normed_at, latent_at, prod_proj, Nat.zero_add]
  rfl

theorem out_at (i : Fin 8192) (n : Fin 2048) :
    out x t g w g' w' (ix2 i n) = query (made x g w g' w' i) (angle (t (ix2 ⟨i.val / 4096, by omega⟩ ⟨i.val % 4096, by omega⟩))) n := by
  unfold out query
  rw [layout_at]
  by_cases h1 : n.val % 256 < 128
  · rw [dif_pos h1, dif_pos h1, latentHeads_at]
  rw [dif_neg h1, dif_neg h1]
  by_cases h2 : n.val % 256 < 192
  · rw [dif_pos h2, dif_pos h2, turn_at]
    simp only [angles_at, tails_at, latentHeads_at]
    rw [wheel_spin _ (angle (t (ix2 ⟨i.val / 4096, by omega⟩ ⟨i.val % 4096, by omega⟩)))]
  · rw [dif_neg h2, dif_neg h2]

end Cert.QueryRefIdeal.Open

end
-- ==== Proof.QueryClaim.lean ====
/-
  The query projection's claims: the kernel's array holds at each row and column what the reference states.
-/
module

public import proofs.«01_k».proof.Proof.QueryOpen
public import proofs.«01_k».proof.Proof.QueryRef
public import proofs.«01_k».proof.Defs
public import Idealize.ShloMosaic.Lib.Quiescent
public import Idealize.ShloMosaic.Lib.StableHlo.ReadAt
public import Idealize.ShloMosaic.Lib.Routing.OpsSearch

@[expose] public section

set_option maxRecDepth 16384

noncomputable section

namespace Cert.QueryIdeal.Open

open Cert.QueryIdeal Cert.QueryIdeal.Gen Idealize.ShloMosaic Idealize.ShloMosaic.TcCoe Idealize.SL.Sem
open Cert.PostRow (rms)
open Cert.ProjRow (proj)
open Cert.MlaRow (freq spin query filled filled_sum spin_lanes second lenQ rmsOf scale)

variable (m : (ℓ : Loc nD τ sig) → Buf (Elt Ideal) ℓ)

theorem N_0 : cfg0.N = 16 := by decide +kernel

/-- Point `t` works on rows `512 t` onward. -/
theorem idx0 : ∀ t : Fin cfg0.N, win0_0.index t 0 = t.val ∧ win0_0.index t 1 = 0 := (by decide +kernel : ∀ t : Fin grid0.N, _)
theorem idx1 : ∀ t : Fin cfg0.N, win0_1.index t 0 = t.val ∧ win0_1.index t 1 = 0 := (by decide +kernel : ∀ t : Fin grid0.N, _)
theorem idx2 : ∀ t : Fin cfg0.N, win0_2.index t 0 = 0 ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)
theorem idx6 : ∀ t : Fin cfg0.N, win0_6.index t 0 = 0 ∧ win0_6.index t 1 = 0 := (by decide +kernel : ∀ t : Fin grid0.N, _)
theorem idx7 : ∀ t : Fin cfg0.N, win0_7.index t 0 = t.val ∧ win0_7.index t 1 = 0 := (by decide +kernel : ∀ t : Fin grid0.N, _)

/-- Row `r` of point `t`'s row block, its batch and its place in the batch. -/
abbrev row (t : Fin cfg0.N) (r : Fin 512) : Fin 8192 := ⟨512 * t.val + r.val, by have := lt_of_lt_of_eq t.isLt N_0; omega⟩
abbrev bt (i : Fin 8192) : Fin 2 := ⟨i.val / 4096, by omega⟩
abbrev sq (i : Fin 8192) : Fin 4096 := ⟨i.val % 4096, by omega⟩

/-- The call's arguments. -/
abbrev XA (c : Dev nD) : FVec Ideal S2x4096x2048 .f32 := m ((c : Thread nD τ).loc main_arg0)
abbrev TA (c : Dev nD) : IVec S2x4096 32 := m ((c : Thread nD τ).loc main_arg1)
abbrev GA (c : Dev nD) : FVec Ideal S1x2048 .f32 := m ((c : Thread nD τ).loc main_arg2)
abbrev WA (c : Dev nD) : FVec Ideal S1x2048x5008 .f32 := m ((c : Thread nD τ).loc main_arg3)
abbrev GB (c : Dev nD) : FVec Ideal S1x512 .f32 := m ((c : Thread nD τ).loc main_arg4)
abbrev WB (c : Dev nD) : FVec Ideal S1x512x1536 .f32 := m ((c : Thread nD τ).loc main_arg5)

variable (c : Dev nD) (t : Fin cfg0.N)

/-! ## The blocks of a point, in the call's arguments -/

theorem blk0 (r : Fin 512) (k : Fin 2048) : (iblk m c 0 t : Vec Ideal S512x2048 .f32) (ix2 r k) = XA m c (ix3 (bt (row t r)) (sq (row t r)) k) := by
  unfold iblk
  rw [View.read_apply]
  show V m c main_v0 _ = _
  have e : ((cfg0.win 0).blk t).view.emb (ix2 r k) = (ix2 (row t r) k : S8192x2048.Idx) := by
    funext d
    apply Fin.ext
    match d with
    | ⟨0, _⟩ => show win0_0.index t 0 * 512 + 1 * r.val = 512 * t.val + r.val; rw [(idx0 t).1]; omega
    | ⟨1, _⟩ => show win0_0.index t 1 * 2048 + 1 * k.val = k.val; rw [(idx0 t).2]; omega
  rw [e]
  generalize row t r = i
  unfold V
  after_reads_at

theorem blk1 (r : Fin 512) : (iblk m c 1 t : Vec Ideal S512x1 .i32) (ix2 r 0) = TA m c (ix2 (bt (row t r)) (sq (row t r))) := by
  unfold iblk
  rw [View.read_apply]
  show V m c main_v1 _ = _
  have e : ((cfg0.win 1).blk t).view.emb (ix2 r 0) = (ix2 (row t r) 0 : S8192x1.Idx) := by
    funext d
    apply Fin.ext
    match d with
    | ⟨0, _⟩ => show win0_1.index t 0 * 512 + 1 * r.val = 512 * t.val + r.val; rw [(idx1 t).1]; omega
    | ⟨1, _⟩ => show win0_1.index t 1 * 1 + 1 * 0 = 0; rw [(idx1 t).2]
  rw [e]
  generalize row t r = i
  unfold V
  after_reads_at

theorem blk2 (k : Fin 2048) : (iblk m c 2 t : Vec Ideal S1x2048 .f32) (ix2 0 k) = GA m c (ix2 0 k) := by
  unfold iblk
  rw [View.read_apply]
  show V m c main_arg2 _ = _
  rw [V_main_arg2]
  congr 1
  funext d
  apply Fin.ext
  match d with
  | ⟨0, _⟩ => show win0_2.index t 0 * 1 + 1 * 0 = 0; rw [(idx2 t).1]
  | ⟨1, _⟩ => show win0_2.index t 1 * 2048 + 1 * k.val = k.val; rw [(idx2 t).2]; omega

theorem blk3 (k : Fin 2048) (n : Fin 512) : (iblk m c 3 t : Vec Ideal S2048x512 .bf16) (ix2 k n) = WA m c (ix3 0 k ⟨n.val, by omega⟩) := by
  unfold iblk
  rw [View.read_apply]
  show V m c main_v4 _ = _
  have e : ((cfg0.win 3).blk t).view.emb (ix2 k n) = (ix2 k n : S2048x512.Idx) := by
    funext d
    apply Fin.ext
    match d with
    | ⟨0, _⟩ => show win0_3.index t 0 * 2048 + 1 * k.val = k.val; rw [(idx3 t).1]; omega
    | ⟨1, _⟩ => show win0_3.index t 1 * 512 + 1 * n.val = n.val; rw [(idx3 t).2]; omega
  rw [e]
  unfold V
  after_reads_at

theorem blk4 (k : Fin 512) : (iblk m c 4 t : Vec Ideal S1x512 .f32) (ix2 0 k) = GB m c (ix2 0 k) := by
  unfold iblk
  rw [View.read_apply]
  show V m c main_arg4 _ = _
  rw [V_main_arg4]
  congr 1
  funext d
  apply Fin.ext
  match d with
  | ⟨0, _⟩ => show win0_4.index t 0 * 1 + 1 * 0 = 0; rw [(idx4 t).1]
  | ⟨1, _⟩ => show win0_4.index t 1 * 512 + 1 * k.val = k.val; rw [(idx4 t).2]; omega

/-- The columns of the heads, each filled with zeros to 256. -/
theorem weights_at (k : Fin 512) (n : Fin 2048) : (V m c main_v9 : S512x2048.Idx → EReal) (ix2 k n) = filled (fun n => WB m c (ix3 0 k n)) n := by
  by_cases h : n.val % 256 < 192
  · refine Eq.trans ?_ (dif_pos h).symm
    unfold V
    after_reads_at
    exact dif_pos (show n.val / 256 < 8 ∧ n.val % 256 < 192 by omega)
  · refine Eq.trans ?_ (dif_neg h).symm
    unfold V
    after_reads_at
    refine (dif_neg (show ¬ (n.val / 256 < 8 ∧ n.val % 256 < 192) by omega)).trans ?_
    show (((0#32 : BitVec 32).toInt : ℝ) : EReal) = 0
    simp

theorem blk5 (k : Fin 512) (n : Fin 2048) : (iblk m c 5 t : Vec Ideal S512x2048 .bf16) (ix2 k n) = filled (fun n => WB m c (ix3 0 k n)) n := by
  unfold iblk
  rw [View.read_apply]
  show V m c main_v9 _ = _
  have e : ((cfg0.win 5).blk t).view.emb (ix2 k n) = (ix2 k n : S512x2048.Idx) := by
    funext d
    apply Fin.ext
    match d with
    | ⟨0, _⟩ => show win0_5.index t 0 * 512 + 1 * k.val = k.val; rw [(idx5 t).1]; omega
    | ⟨1, _⟩ => show win0_5.index t 1 * 2048 + 1 * n.val = n.val; rw [(idx5 t).2]; omega
  rw [e]
  exact weights_at m c k n

/-- The table of frequencies repeats every 32 lanes. -/
theorem table_at (l : Fin 128) : (V m c main_v26 : S1x128.Idx → EReal) (ix2 0 l) = freq (l.val % 32) := by
  unfold V
  after_reads_at
  refine (Routing.take_ap gather_S32_S128x1_S128_n_0_n_n_0_1_1 rfl rfl rfl rfl _ _ l (k := l.val % 32) (by omega) (by omega) ?_).trans ?_
  · revert l
    decide +kernel
  · pointwise [freq]

theorem blk6 (l : Fin 128) : (iblk m c 6 t : Vec Ideal S1x128 .f32) (ix2 0 l) = freq (l.val % 32) := by
  unfold iblk
  rw [View.read_apply]
  show V m c main_v26 _ = _
  have e : ((cfg0.win 6).blk t).view.emb (ix2 0 l) = (ix2 0 l : S1x128.Idx) := by
    funext d
    apply Fin.ext
    match d with
    | ⟨0, _⟩ => show win0_6.index t 0 * 1 + 1 * 0 = 0; rw [(idx6 t).1]
    | ⟨1, _⟩ => show win0_6.index t 1 * 128 + 1 * l.val = l.val; rw [(idx6 t).2]; omega
  rw [e]
  exact table_at m c l

/-! ## The values of a point -/

/-- Row `i`'s latent product with the weights' columns, and the angles of its position. -/
def made (i : Fin 8192) : Fin 1536 → EReal :=
  second lenQ (fun j : Fin 512 => proj (fun k => XA m c (ix3 (bt i) (sq i) k)) (fun k => GA m c (ix2 0 k)) (fun k n => WA m c (ix3 0 k n)) ⟨j.val, by omega⟩)
    (fun j => GB m c (ix2 0 j)) fun j n => WB m c (ix3 0 j n)
def angleRow (i : Fin 8192) : ℕ → EReal := Cert.MlaRow.angle (TA m c (ix2 (bt i) (sq i)))

/-- The product of a point has the columns of its rows' products, each head filled with zeros. -/
theorem product (r : Fin 512) (n : Fin 2048) :
    P (iblk m c 0 t) (iblk m c 1 t) (iblk m c 2 t) (iblk m c 3 t) (iblk m c 4 t) (iblk m c 5 t) (iblk m c 6 t) (ix2 r n) = filled (made m c (row t r)) n := by
  rw [P_eq, product_at]
  simp only [blk0, blk2, blk3, blk4, blk5]
  exact filled_sum _ (fun k n => WB m c (ix3 0 k n)) n

/-- 128 lanes that are zero from lane 64 on, turned by the point's patterns. -/
theorem turned_spin (p : FVec Ideal S512x128 .f32) (r : Fin 512) (hp : ∀ l : Fin 128, ¬ l.val < 64 → p (ix2 r l) = (0 : EReal)) (l : Fin 128) :
    turned (F := Ideal) p (C (iblk m c 0 t) (iblk m c 1 t) (iblk m c 2 t) (iblk m c 3 t) (iblk m c 4 t) (iblk m c 5 t) (iblk m c 6 t))
        (L (iblk m c 0 t) (iblk m c 1 t) (iblk m c 2 t) (iblk m c 3 t) (iblk m c 4 t) (iblk m c 5 t) (iblk m c 6 t))
        (H (iblk m c 0 t) (iblk m c 1 t) (iblk m c 2 t) (iblk m c 3 t) (iblk m c 4 t) (iblk m c 5 t) (iblk m c 6 t)) (ix2 r l)
      = if h : l.val < 64 then spin (fun d => p (ix2 r ⟨d.val, by omega⟩)) (angleRow m c (row t r)) ⟨l.val, h⟩ else 0 := by
  have ea : ∀ l : Fin 128, angle (iblk m c 1 t) (iblk m c 6 t) r l = angleRow m c (row t r) (l.val % 32) := by
    intro l
    unfold angle
    rw [blk1, blk6]
    rfl
  rw [C_eq, L_eq, H_eq]
  exact turned_patterns _ _ p r hp (angleRow m c (row t r)) ea l

/-- The queries a point leaves. -/
theorem query_row (r : Fin 512) (n : Fin 2048) :
    out0_7 (iblk m c 0 t) (iblk m c 1 t) (iblk m c 2 t) (iblk m c 3 t) (iblk m c 4 t) (iblk m c 5 t) (iblk m c 6 t) (ix2 r n) = query (made m c (row t r)) (angleRow m c (row t r)) n := by
  rw [out_q, block_at]
  unfold part query
  by_cases h1 : n.val % 256 < 128
  · rw [if_pos (show n.val / 128 % 2 = 0 by omega), dif_pos h1, scaled_at]
    refine congrArg (· * scale) ((product m c t r ⟨128 * (n.val / 128) + n.val % 128, by omega⟩).trans ?_)
    unfold filled
    dsimp only
    rw [dif_pos (show (128 * (n.val / 128) + n.val % 128) % 256 < 192 by omega)]
    exact congrArg (made m c (row t r)) (Fin.ext (by dsimp only; omega))
  · rw [if_neg (show ¬ n.val / 128 % 2 = 0 by omega), dif_neg h1, scaled_at, turned_spin]
    · by_cases h2 : n.val % 256 < 192
      · rw [dif_pos (show n.val % 128 < 64 by omega), dif_pos h2]
        have e : (⟨n.val % 128, by omega⟩ : Fin 64) = ⟨n.val % 256 - 128, by omega⟩ := Fin.ext (by dsimp only; omega)
        rw [e]
        refine congrArg (· * scale) (congrArg (fun f => spin f _ _) (funext fun d => ?_))
        have hd := d.isLt
        refine (product m c t r ⟨128 * (n.val / 128) + d.val, by omega⟩).trans ?_
        unfold filled
        dsimp only
        rw [dif_pos (show (128 * (n.val / 128) + d.val) % 256 < 192 by omega)]
        exact congrArg (made m c (row t r)) (Fin.ext (by dsimp only; omega))
      · rw [dif_neg (show ¬ n.val % 128 < 64 by omega), dif_neg h2, zero_mul]
    · intro l hl
      refine (product m c t r ⟨128 * (n.val / 128) + l.val, by omega⟩).trans ?_
      unfold filled
      exact dif_neg (show ¬ (128 * (n.val / 128) + l.val) % 256 < 192 by omega)

/-! ## The array -/

theorem flush7 : ∀ t : Fin cfg0.N, (cfg0.win 7).flush t = true := (by decide +kernel : ∀ t : Fin grid0.N, win0_7.flush t = true)

theorem array7 (r : Fin 512) (n : Fin 2048) :
    ((dats m 0 c).arrAt 7 cfg0.N : FVec Ideal S8192x2048 .bf16) (ix2 (row t r) n) = query (made m c (row t r)) (angleRow m c (row t r)) n := by
  have e : ((cfg0.win 7).blk t).view.emb (ix2 r n) = (ix2 (row t r) n : S8192x2048.Idx) := by
    funext a
    apply Fin.ext
    match a with
    | ⟨0, _⟩ => show win0_7.index t 0 * 512 + 1 * r.val = 512 * t.val + r.val; rw [(idx7 t).1]; omega
    | ⟨1, _⟩ => show win0_7.index t 1 * 2048 + 1 * n.val = n.val; rw [(idx7 t).2]; omega
  have hb := congrFun (Value.blocks7 m c t (flush7 t)) (ix2 r n)
  rw [View.read_apply, e] at hb
  refine hb.trans ?_
  rw [Value.flushed7 m c t]
  exact query_row m c t r n

/-- Every row is a row of some point's block. -/
theorem row_exists (i : Fin 8192) : ∃ (t : Fin cfg0.N) (r : Fin 512), row t r = i := by
  have hN := N_0
  refine ⟨⟨i.val / 512, by omega⟩, ⟨i.val % 512, by omega⟩, Fin.ext ?_⟩
  show 512 * (i.val / 512) + i.val % 512 = i.val
  omega

end Cert.QueryIdeal.Open

namespace Cert.Proof.Query

open Idealize.ShloMosaic Idealize.ShloMosaic.TcCoe Idealize.SL.Sem

/-- The reference's frame: its arguments unchanged, no counter moved. -/
theorem frame_ref : Cert.quiescent_QueryRefIdeal := fun m ρ _ =>
  (θ_run Cert.QueryRefIdeal.defs _ _).mono (fun r h => ⟨fun c => (h c).2, sem_eq_zero_of_no_sems (by decide) r.2⟩)
    (Cert.QueryRefIdeal.Value.run (F := Ideal) m ρ)

/-- Kernel and reference end at the same array, from arguments that agree. -/
theorem algebraic : Cert.algebraic_QueryIdeal_QueryRefIdeal := by
  intro m ρ m' ρ' _ hagree
  refine ⟨fun c => (Cert.QueryIdeal.Gen.dats m 0 c).arrAt 7 Cert.QueryIdeal.cfg0.N, Cert.QueryIdeal.Value.run_blocks m ρ, ?_⟩
  refine (θ_run _ _ _).mono (fun r h c => ⟨?_, (h c).2⟩) (Cert.QueryRefIdeal.Value.run m' ρ')
  obtain ⟨e0, e1, e2, e3, e4, e5⟩ := hagree c
  refine ((h c).1.trans (Cert.QueryRefIdeal.Open.res_eq m' c)).trans ?_
  rw [e0, e1, e2, e3, e4, e5]
  refine funext fun (j : (⟨2, ![8192, 2048]⟩ : Shape).Idx) => ?_
  obtain ⟨i, n, rfl⟩ : ∃ i n, j = ix2 i n := ⟨j 0, j 1, eq_ix2 j⟩
  obtain ⟨t, q, rfl⟩ := Cert.QueryIdeal.Open.row_exists i
  exact (Cert.QueryRefIdeal.Open.out_at _ _ _ _ _ _ _ n).trans (Cert.QueryIdeal.Open.array7 m c t q n).symm

end Cert.Proof.Query

end
-- ==== Proof.KeyValueRow.lean ====
/-
  The layout of one row of the key and value projection, apart from any program.
-/
module

public import proofs.«01_k».proof.Proof.MlaRow

@[expose] public section

set_option maxRecDepth 16384

noncomputable section

namespace Cert.KeyValueRow

open Cert.MlaRow (spin)

/-- The keys: each head's 128 components, the row's rotated 64, and zeros up to 256. -/
def key (kv : Fin 2048 → EReal) (p : Fin 5008 → EReal) (a : ℕ → EReal) (n : Fin 2048) : EReal :=
  if n.val % 256 < 128 then kv ⟨n.val / 256 * 256 + n.val % 256, by omega⟩
  else if h : n.val % 256 < 192 then spin (fun d => p ⟨768 + d.val, by omega⟩) a ⟨n.val % 256 - 128, by omega⟩
  else 0

/-- The values: the last 128 components of each head of 256. -/
def value (kv : Fin 2048 → EReal) (n : Fin 1024) : EReal := kv ⟨n.val / 128 * 256 + (128 + n.val % 128), by omega⟩

/-- The latent columns and the rotated ones, filled with zeros to 384. -/
def latent (z : Fin 5008 → EReal) (n : Fin 384) : EReal := if h : n.val < 320 then z ⟨512 + n.val, by omega⟩ else 0

theorem latent_sum {K : ℕ} (x : Fin K → EReal) (w : Fin K → Fin 5008 → EReal) (n : Fin 384) :
    ∑ k : Fin K, x k * latent (w k) n = latent (fun n => ∑ k : Fin K, x k * w k n) n := by
  unfold latent
  by_cases h : n.val < 320
  · simp only [dif_pos h]
  · simp only [dif_neg h, mul_zero, Finset.sum_const_zero]

/-- The heads' key columns side by side, then their value columns. -/
def packed (z : Fin 2048 → EReal) (n : Fin 2048) : EReal :=
  if n.val < 1024 then z ⟨n.val / 128 % 8 * 256 + n.val % 128, by omega⟩ else z ⟨n.val / 128 % 8 * 256 + (128 + n.val % 128), by omega⟩

theorem packed_sum {K : ℕ} (x : Fin K → EReal) (w : Fin K → Fin 2048 → EReal) (n : Fin 2048) :
    ∑ k : Fin K, x k * packed (w k) n = packed (fun n => ∑ k : Fin K, x k * w k n) n := by
  unfold packed
  by_cases h : n.val < 1024
  · simp only [if_pos h]
  · simp only [if_neg h]

end Cert.KeyValueRow

end
-- ==== Proof.KeyValueOpen.lean ====
/-
  What one grid point of the key and value projection leaves behind: sixteen stores of 128 lanes, the key columns of each
  head beside the row's turned lanes, and the values.
-/
module

public import proofs.«01_k».proof.Proof.Gen.KeyValueIdeal.Value
public import proofs.«01_k».proof.Proof.KeyValueRow
public import proofs.«01_k».proof.Proof.QueryOpen
public import Idealize.ShloMosaic.Lib.Pointwise

@[expose] public section

set_option maxRecDepth 16384

noncomputable section

namespace Cert.KeyValueIdeal.Open

open Cert.KeyValueIdeal Cert.KeyValueIdeal.Gen Idealize.ShloMosaic Idealize.ShloMosaic.TcCoe Idealize.SL.Sem
open Cert.PostRow (rms)
open Cert.MlaRow (second lenK rmsOf)
open Cert.QueryIdeal.Open (laneOf turned hz)

section General

variable {F : FTy → Type} [FloatOps F]

/-- The key columns of a head. -/
def plain (p : FVec F S512x2048 .f32) (h : ℕ) (hh : h < 16) : FVec F S512x128 .bf16 := truncf .bf16 (laneOf p h hh) bitsLt_bf16_f32

/-- The eight heads side by side, each beside the turned lanes. -/
def block (p : FVec F S512x2048 .f32) (k : FVec F S512x128 .bf16) : FVec F S512x2048 .bf16 := fun y =>
  (if (y 1).val / 128 % 2 = 0 then plain p ((y 1).val / 256) (by have : (y 1).val < 2048 := (y 1).isLt; omega) else k) (ix2 (y 0) ⟨(y 1).val % 128, Nat.mod_lt _ (by norm_num)⟩)

theorem block_at (p : FVec F S512x2048 .f32) (k : FVec F S512x128 .bf16) (r : Fin 512) (n : Fin 2048) :
    block p k (ix2 r n) = (if n.val / 128 % 2 = 0 then plain p (n.val / 256) (by omega) else k) (ix2 r ⟨n.val % 128, by omega⟩) := rfl

/-- The key columns of head `h` are the block at the columns they are stored to. -/
theorem plain_block (p : FVec F S512x2048 .f32) (k : FVec F S512x128 .bf16) (h : ℕ) (hh : h < 8) (w : S512x2048.Slices ![0, 128 * h] S512x128)
    (inb : ∀ a, (![0, 128 * (2 * h)] : Fin 2 → ℕ) a + S512x128.size a ≤ S512x2048.size a)
    (x : (Rect.unit (s := S512x2048) ![0, 128 * (2 * h)] S512x128.size inb).shape.Idx) :
    (truncf .bf16 (extractStridedSlice S512x128 ![0, 128 * h] p w) bitsLt_bf16_f32 : FVec F S512x128 .bf16) x = block p k ((Rect.unit (s := S512x2048) ![0, 128 * (2 * h)] S512x128.size inb).emb x) := by
  have h1 : (x 1).val < 128 := (x 1).isLt
  have e1 : ((Rect.unit (s := S512x2048) ![0, 128 * (2 * h)] S512x128.size inb).emb x 1).val = 128 * (2 * h) + (x 1).val := by
    show 128 * (2 * h) + 1 * (x 1).val = _; omega
  rw [Cert.QueryIdeal.Open.slice_lane p h (by omega)]
  unfold block
  have eh : ((Rect.unit (s := S512x2048) ![0, 128 * (2 * h)] S512x128.size inb).emb x 1).val / 256 = h := by rw [e1]; omega
  have ej : ((Rect.unit (s := S512x2048) ![0, 128 * (2 * h)] S512x128.size inb).emb x 1).val / 128 % 2 = 0 := by rw [e1]; omega
  have ep : ∀ (i : ℕ) (hi : i < 16), i = h → plain p i hi = plain p h (by omega) := fun i hi e => by subst e; rfl
  rw [if_pos ej, ep _ _ eh]
  refine congrArg (plain p h (by omega)) (funext fun a => ?_)
  apply Fin.ext
  match a with
  | ⟨0, _⟩ => show (x 0).val = 0 + 1 * (x 0).val; omega
  | ⟨1, _⟩ => show (x 1).val = _ % 128; rw [e1]; omega

/-- The turned lanes are the block at the columns they are stored to, beside each head. -/
theorem turned_block (p : FVec F S512x2048 .f32) (k : FVec F S512x128 .bf16) (h : ℕ)
    (inb : ∀ a, (![0, 128 * (2 * h + 1)] : Fin 2 → ℕ) a + S512x128.size a ≤ S512x2048.size a)
    (x : (Rect.unit (s := S512x2048) ![0, 128 * (2 * h + 1)] S512x128.size inb).shape.Idx) :
    k x = block p k ((Rect.unit (s := S512x2048) ![0, 128 * (2 * h + 1)] S512x128.size inb).emb x) := by
  have h1 : (x 1).val < 128 := (x 1).isLt
  have e1 : ((Rect.unit (s := S512x2048) ![0, 128 * (2 * h + 1)] S512x128.size inb).emb x 1).val = 128 * (2 * h + 1) + (x 1).val := by
    show 128 * (2 * h + 1) + 1 * (x 1).val = _; omega
  unfold block
  rw [if_neg (by rw [e1]; omega)]
  refine congrArg k (funext fun a => ?_)
  apply Fin.ext
  match a with
  | ⟨0, _⟩ => show (x 0).val = 0 + 1 * (x 0).val; omega
  | ⟨1, _⟩ => show (x 1).val = _ % 128; rw [e1]; omega

variable (x0 : Vec F S512x2048 .f32) (x1 : Vec F S512x1 .i32) (x2 : Vec F S1x2048 .f32) (x3 : Vec F S2048x384 .bf16) (x4 : Vec F S1x256 .f32) (x5 : Vec F S256x2048 .bf16) (x6 : Vec F S1x128 .f32)

/-- The latent product of a point and its turned lanes. -/
abbrev P : FVec F S512x2048 .f32 := k0_pay14 x0 x1 x2 x3 x4 x5 x6
abbrev K : FVec F S512x128 .bf16 := k0_pay15 x0 x1 x2 x3 x4 x5 x6

/-- The sixteen stores fill the block. -/
theorem out_k : out0_7 x0 x1 x2 x3 x4 x5 x6 = block (P x0 x1 x2 x3 x4 x5 x6) (K x0 x1 x2 x3 x4 x5 x6) := by
  unfold out0_7
  funext y
  refine View.canon_apply_of_pieces (Val := Elt F) (S := S512x2048) (e := .bf16) (block (P x0 x1 x2 x3 x4 x5 x6) (K x0 x1 x2 x3 x4 x5 x6)) _ ?_ y (cover0_7 _ _ _ _ _ _ _ _ _ _ _ _ _ _ _ _ y)
  simp only [List.forall_mem_cons, List.not_mem_nil, false_imp_iff, implies_true, and_true]
  have A := fun h hh w inb x => plain_block (P x0 x1 x2 x3 x4 x5 x6) (K x0 x1 x2 x3 x4 x5 x6) h hh w inb x
  have B := fun h inb x => turned_block (P x0 x1 x2 x3 x4 x5 x6) (K x0 x1 x2 x3 x4 x5 x6) h inb x
  exact ⟨B 7 _, A 7 (by norm_num) slices_S512x2048_o0_896_S512x128 _, B 6 _, A 6 (by norm_num) slices_S512x2048_o0_768_S512x128 _,
    B 5 _, A 5 (by norm_num) slices_S512x2048_o0_640_S512x128 _, B 4 _, A 4 (by norm_num) slices_S512x2048_o0_512_S512x128 _,
    B 3 _, A 3 (by norm_num) slices_S512x2048_o0_384_S512x128 _, B 2 _, A 2 (by norm_num) slices_S512x2048_o0_256_S512x128 _,
    B 1 _, A 1 (by norm_num) slices_S512x2048_o0_128_S512x128 _, B 0 _, A 0 (by norm_num) slices_S512x2048_o0_0_S512x128 _⟩

/-- The values' block. -/
theorem out_v : out0_8 x0 x1 x2 x3 x4 x5 x6 = k0_pay2 (P x0 x1 x2 x3 x4 x5 x6) := by
  unfold out0_8
  exact View.canon_cons_unit_zero (S := S512x1024) hz ..

/-- The latent product and the turned lanes, without the reads of whole buffers. -/
theorem P_eq : P x0 x1 x2 x3 x4 x5 x6 = k0_pay4 x0 x2 x3 x4 x5 := by
  unfold P k0_pay14
  rw [View.ld_unit_zero (S := S512x2048) hz, View.ld_unit_zero (S := S1x2048) hz, View.ld_unit_zero (S := S2048x384) hz, View.ld_unit_zero (S := S1x256) hz, View.ld_unit_zero (S := S256x2048) hz]

/-- The last 128 columns of the first product. -/
def tail (p : FVec F S512x384 .f32) : FVec F S512x128 .f32 := extractStridedSlice S512x128 ![0, 256] p slices_S512x384_o0_256_S512x128

/-- The turned lanes are turned by the patterns of the query projection. -/
theorem K_eq : K x0 x1 x2 x3 x4 x5 x6 = truncf .bf16 (turned (tail (k0_pay3 x0 x2 x3)) (Cert.QueryIdeal.Gen.k0_pay9 (Cert.QueryIdeal.Gen.k0_pay3 x1) x6)
    (Cert.QueryIdeal.Gen.k0_pay10 (Cert.QueryIdeal.Gen.k0_pay3 x1) x6) (Cert.QueryIdeal.Gen.k0_pay11 (Cert.QueryIdeal.Gen.k0_pay3 x1) x6)) bitsLt_bf16_f32 := by
  unfold K k0_pay15
  rw [View.ld_unit_zero (S := S512x2048) hz, View.ld_unit_zero (S := S1x2048) hz, View.ld_unit_zero (S := S2048x384) hz, View.ld_unit_zero (S := S512x1) hz, View.ld_unit_zero (S := S1x128) hz]
  rfl

end General

/-! ## The values at an index -/

variable (x0 : Vec Ideal S512x2048 .f32) (x1 : Vec Ideal S512x1 .i32) (x2 : Vec Ideal S1x2048 .f32) (x3 : Vec Ideal S2048x384 .bf16) (x4 : Vec Ideal S1x256 .f32) (x5 : Vec Ideal S256x2048 .bf16) (x6 : Vec Ideal S1x128 .f32)

/-- The product of the normalized rows. -/
theorem first_at (r : Fin 512) (n : Fin 384) :
    k0_pay3 (F := Ideal) x0 x2 x3 (ix2 r n) = ∑ k : Fin 2048, rms (fun k => x0 (ix2 r k)) (x2 (ix2 0 k)) k * x3 (ix2 k n) := by
  pointwise [k0_pay3, rms, Cert.PostRow.len, Cert.PostRow.eps]

/-- The product of the normalized latent rows. -/
theorem product_at (r : Fin 512) (n : Fin 2048) :
    k0_pay4 (F := Ideal) x0 x2 x3 x4 x5 (ix2 r n)
      = second lenK (fun j : Fin 256 => k0_pay3 (F := Ideal) x0 x2 x3 (ix2 r ⟨0 + j.val, by omega⟩)) (fun j => x4 (ix2 0 j)) (fun j n => x5 (ix2 j n)) n := by
  unfold k0_pay4
  generalize k0_pay3 (F := Ideal) x0 x2 x3 = p
  pointwise [second, rmsOf, Cert.PostRow.eps, Cert.MlaRow.lenK]

theorem tail_at (p : FVec Ideal S512x384 .f32) (r : Fin 512) (l : Fin 128) : tail (F := Ideal) p (ix2 r l) = p (ix2 r ⟨256 + l.val, by omega⟩) := by
  pointwise [tail]

theorem value_at (p : FVec Ideal S512x2048 .f32) (r : Fin 512) (n : Fin 1024) : k0_pay2 (F := Ideal) p (ix2 r n) = p (ix2 r ⟨1024 + n.val, by omega⟩) := by
  pointwise [k0_pay2]

end Cert.KeyValueIdeal.Open

end
-- ==== Proof.KeyValueRef.lean ====
/-
  The reference of the key and value projection at an index: normalization and product as in the query, key and value
  projection, the latent row normalized again and multiplied, the row's 64 rotated components put beside every head.
-/
module

public import proofs.«01_k».proof.Proof.KeyValueRow
public import proofs.«01_k».proof.Proof.ProjRef
public import proofs.«01_k».proof.Proof.Gen.KeyValueRefIdeal.Run
public import Idealize.ShloMosaic.Lib.Pointwise

@[expose] public section

set_option maxRecDepth 16384

noncomputable section

namespace Cert.KeyValueRefIdeal.Open

open Cert.KeyValueRefIdeal Cert.KeyValueRefIdeal.Gen Idealize.ShloMosaic Idealize.ShloMosaic.TcCoe Idealize.SL.Sem
open Cert.ProjRow (proj)
open Cert.ProjRefIdeal.Open (prod prod_proj)
open Cert.MlaRow (freq angle spin second rmsOf lenK wheel wheel_spin)
open Cert.KeyValueRow (key value)

/-- The angles of the positions. -/
def angles (t : IVec S2x4096 32) : FVec Ideal S2x4096x1x32 .f32 :=
  broadcastInDim S2x4096x1x32 ![0, 1, 3] bcast_S2x4096x32_S2x4096x1x32_0_1_3 (mulf (broadcastInDim S2x4096x32 ![0, 1, 2] bcast_S2x4096x1_S2x4096x32_0_1_2 (broadcastInDim S2x4096x1 ![0, 1] bcast_S2x4096_S2x4096x1_0_1 (sitofp .f32 t))) (broadcastInDim S2x4096x32 ![0, 1, 2] bcast_S1x1x32_S2x4096x32_0_1_2 (broadcastInDim S1x1x32 ![2] bcast_S32_S1x1x32_2 (Host.powf (broadcastInDim S32 ![] bcast_S_S32 (constant S_ .f32 0x48F42400#32)) (Host.divf (Host.negf (sitofp .f32 (iotaInDim S32 32 0))) (broadcastInDim S32 ![] bcast_S_S32 (constant S_ .f32 0x42000000#32)))))))

/-- The latent rows, 256 columns of the product, and the 64 columns to rotate. -/
def latent (p : FVec Ideal S2x4096x5008 .f32) : FVec Ideal S2x4096x256 .f32 := extractStridedSlice S2x4096x256 ![0, 0, 512] p slices_S2x4096x5008_S2x4096x256_0_0_512
def band (p : FVec Ideal S2x4096x5008 .f32) : FVec Ideal S2x4096x1x64 .f32 :=
  shapeCast _ (extractStridedSlice S2x4096x64 ![0, 0, 768] p slices_S2x4096x5008_S2x4096x64_0_0_768) shapeCasts_S2x4096x64_S2x4096x1x64

/-- Each latent row divided by the root of its mean square, times a gain. -/
def normed (z : FVec Ideal S2x4096x256 .f32) (g : FVec Ideal S1x256 .f32) : FVec Ideal S2x4096x256 .f32 :=
  mulf (mulf z (broadcastInDim S2x4096x256 ![0, 1, 2] bcast_S2x4096x1_S2x4096x256_0_1_2 (Host.rsqrt (addf (Host.divf (broadcastInDim S2x4096x1 ![0, 1] bcast_S2x4096_S2x4096x1_0_1 (Host.reduceAdd (mulf z z) (constant S_ .f32 0x00000000#32) reducesTo_S2x4096x256_S2x4096_d2 h_S_)) (broadcastInDim S2x4096x1 ![] bcast_S_S2x4096x1 (constant S_ .f32 0x43800000#32))) (broadcastInDim S2x4096x1 ![] bcast_S_S2x4096x1 (constant S_ .f32 0x358637BD#32))))))
    (broadcastInDim S2x4096x256 ![0, 1, 2] bcast_S1x1x256_S2x4096x256_0_1_2 (broadcastInDim S1x1x256 ![2] bcast_S256_S1x1x256_2 (shapeCast _ g shapeCasts_S1x256_S256)))

/-- The latent product as eight heads of 256. -/
def heads (z : FVec Ideal S2x4096x256 .f32) (w : FVec Ideal S1x256x2048 .f32) : FVec Ideal S2x4096x8x256 .f32 :=
  shapeCast _ (Host.dotGeneral dot_S2x4096x256_S256x2048_S2x4096x2048_2_0_01_1_n_n none z (shapeCast _ w shapeCasts_S1x256x2048_S256x2048)) shapeCasts_S2x4096x2048_S2x4096x8x256

/-- 64 components rotated. -/
def turn (z : FVec Ideal S2x4096x1x64 .f32) (a : FVec Ideal S2x4096x1x32 .f32) : FVec Ideal S2x4096x1x64 .f32 :=
  concatenate S2x4096x1x64 3 [⟨S2x4096x1x32, subf (mulf (extractStridedSlice S2x4096x1x32 ![0, 0, 0, 0] z slices_S2x4096x1x64_S2x4096x1x32_0_0_0_0) (Host.cos a)) (mulf (extractStridedSlice S2x4096x1x32 ![0, 0, 0, 32] z slices_S2x4096x1x64_S2x4096x1x32_0_0_0_32) (Host.sin a))⟩,
    ⟨S2x4096x1x32, addf (mulf (extractStridedSlice S2x4096x1x32 ![0, 0, 0, 32] z slices_S2x4096x1x64_S2x4096x1x32_0_0_0_32) (Host.cos a)) (mulf (extractStridedSlice S2x4096x1x32 ![0, 0, 0, 0] z slices_S2x4096x1x64_S2x4096x1x32_0_0_0_0) (Host.sin a))⟩] concatenates_S2x4096x1x32_S2x4096x1x32_S2x4096x1x64_d3

/-- The keys of every head beside the rotated components, filled with zeros to 256. -/
def layout (kv : FVec Ideal S2x4096x8x256 .f32) (r : FVec Ideal S2x4096x1x64 .f32) : FVec Ideal S8192x2048 .bf16 :=
  truncf .bf16 (shapeCast _ (concatenate S2x4096x8x256 3 [⟨S2x4096x8x128, extractStridedSlice S2x4096x8x128 ![0, 0, 0, 0] kv slices_S2x4096x8x256_S2x4096x8x128_0_0_0_0⟩,
    ⟨S2x4096x8x64, broadcastInDim S2x4096x8x64 ![0, 1, 2, 3] bcast_S2x4096x1x64_S2x4096x8x64_0_1_2_3 r⟩,
    ⟨S2x4096x8x64, broadcastInDim S2x4096x8x64 ![] bcast_S_S2x4096x8x64 (constant S_ .f32 0x00000000#32)⟩] concatenates_S2x4096x8x128_S2x4096x8x64_S2x4096x8x64_S2x4096x8x256_d3) shapeCasts_S2x4096x8x256_S8192x2048) bitsLt_bf16_f32

/-- The values of every head. -/
def values (kv : FVec Ideal S2x4096x8x256 .f32) : FVec Ideal S8192x1024 .bf16 :=
  truncf .bf16 (shapeCast _ (extractStridedSlice S2x4096x8x128 ![0, 0, 0, 128] kv slices_S2x4096x8x256_S2x4096x8x128_0_0_0_128) shapeCasts_S2x4096x8x128_S8192x1024) bitsLt_bf16_f32

/-- The latent product from the arguments. -/
def latentHeads (x : FVec Ideal S2x4096x2048 .f32) (g : FVec Ideal S1x2048 .f32) (w : FVec Ideal S1x2048x5008 .f32) (g' : FVec Ideal S1x256 .f32) (w' : FVec Ideal S1x256x2048 .f32) : FVec Ideal S2x4096x8x256 .f32 :=
  heads (normed (latent (prod (Cert.ProjRefIdeal.Open.norm x g) w)) g') w'

/-- The reference's results from its arguments. -/
def outK (x : FVec Ideal S2x4096x2048 .f32) (t : IVec S2x4096 32) (g : FVec Ideal S1x2048 .f32) (w : FVec Ideal S1x2048x5008 .f32) (g' : FVec Ideal S1x256 .f32) (w' : FVec Ideal S1x256x2048 .f32) : FVec Ideal S8192x2048 .bf16 :=
  layout (latentHeads x g w g' w') (turn (band (prod (Cert.ProjRefIdeal.Open.norm x g) w)) (angles t))
def outV (x : FVec Ideal S2x4096x2048 .f32) (g : FVec Ideal S1x2048 .f32) (w : FVec Ideal S1x2048x5008 .f32) (g' : FVec Ideal S1x256 .f32) (w' : FVec Ideal S1x256x2048 .f32) : FVec Ideal S8192x1024 .bf16 :=
  values (latentHeads x g w g' w')

theorem resK_eq (m : (ℓ : Loc nD τ sig) → Buf (Elt Ideal) ℓ) (c : Dev nD) : Value.res_main_v65 m c
    = outK (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) := by
  unfold Value.res_main_v65 outK layout turn band latentHeads heads normed latent angles prod Cert.ProjRefIdeal.Open.norm
  rfl

theorem resV_eq (m : (ℓ : Loc nD τ sig) → Buf (Elt Ideal) ℓ) (c : Dev nD) : Value.res_main_v68 m c
    = outV (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) := by
  unfold Value.res_main_v68 outV values latentHeads heads normed latent prod Cert.ProjRefIdeal.Open.norm
  rfl

/-! ## The stages at an index -/

theorem angles_at (t : IVec S2x4096 32) (b : Fin 2) (s : Fin 4096) (k : Fin 32) :
    angles t (ix4 b s 0 k) = angle (t (ix2 b s)) k.val := by
  pointwise [angles, angle, freq]

theorem latent_at (p : FVec Ideal S2x4096x5008 .f32) (b : Fin 2) (s : Fin 4096) (k : Fin 256) :
    latent p (ix3 b s k) = p (ix3 b s ⟨512 + k.val, by omega⟩) := by
  pointwise [latent]

theorem band_at (p : FVec Ideal S2x4096x5008 .f32) (b : Fin 2) (s : Fin 4096) (d : Fin 64) :
    band p (ix4 b s 0 d) = p (ix3 b s ⟨768 + d.val, by omega⟩) := by
  pointwise [band]

theorem normed_at (z : FVec Ideal S2x4096x256 .f32) (g : FVec Ideal S1x256 .f32) (b : Fin 2) (s : Fin 4096) (k : Fin 256) :
    normed z g (ix3 b s k) = rmsOf lenK (fun k => z (ix3 b s k)) (g (ix2 0 k)) k := by
  pointwise [normed, rmsOf, Cert.MlaRow.lenK, Cert.PostRow.eps]

theorem heads_at (z : FVec Ideal S2x4096x256 .f32) (w : FVec Ideal S1x256x2048 .f32) (b : Fin 2) (s : Fin 4096) (h : Fin 8) (d : Fin 256) :
    heads z w (ix4 b s h d) = ∑ k : Fin 256, z (ix3 b s k) * w (ix3 0 k ⟨h.val * 256 + d.val, by omega⟩) := by
  pointwise [heads]

theorem turn_at (z : FVec Ideal S2x4096x1x64 .f32) (a : FVec Ideal S2x4096x1x32 .f32) (b : Fin 2) (s : Fin 4096) (d : Fin 64) :
    turn z a (ix4 b s 0 d) = wheel (fun d => z (ix4 b s 0 d)) (fun k => a (ix4 b s 0 k)) d := by
  pointwise [turn, wheel]

theorem layout_at (kv : FVec Ideal S2x4096x8x256 .f32) (r : FVec Ideal S2x4096x1x64 .f32) (i : Fin 8192) (n : Fin 2048) :
    layout kv r (ix2 i n) = if n.val % 256 < 128 then kv (ix4 ⟨i.val / 4096, by omega⟩ ⟨i.val % 4096, by omega⟩ ⟨n.val / 256, by omega⟩ ⟨n.val % 256, by omega⟩)
      else if h : n.val % 256 < 192 then r (ix4 ⟨i.val / 4096, by omega⟩ ⟨i.val % 4096, by omega⟩ 0 ⟨n.val % 256 - 128, by omega⟩)
      else 0 := by
  pointwise [layout]
  by_cases h1 : n.val % 256 < 128
  · simp only [dif_pos h1, if_pos h1, Nat.zero_add]
  rw [dif_neg h1, if_neg h1]
  by_cases h2 : n.val % 256 < 192
  · rw [dif_pos (show n.val % 256 - 128 < 64 by omega), dif_pos h2]
  · rw [dif_neg (show ¬ n.val % 256 - 128 < 64 by omega), dif_neg h2]

theorem values_at (kv : FVec Ideal S2x4096x8x256 .f32) (i : Fin 8192) (n : Fin 1024) :
    values kv (ix2 i n) = kv (ix4 ⟨i.val / 4096, by omega⟩ ⟨i.val % 4096, by omega⟩ ⟨n.val / 128, by omega⟩ ⟨128 + n.val % 128, by omega⟩) := by
  pointwise [values]

/-! ## The results at an index -/

variable (x : FVec Ideal S2x4096x2048 .f32) (t : IVec S2x4096 32) (g : FVec Ideal S1x2048 .f32) (w : FVec Ideal S1x2048x5008 .f32)
variable (g' : FVec Ideal S1x256 .f32) (w' : FVec Ideal S1x256x2048 .f32)

/-- Row `i`'s product with the weights' columns, and its latent product. -/
abbrev firstRow (i : Fin 8192) : Fin 5008 → EReal :=
  proj (fun k => x (ix3 ⟨i.val / 4096, by omega⟩ ⟨i.val % 4096, by omega⟩ k)) (fun k => g (ix2 0 k)) fun k n => w (ix3 0 k n)
abbrev made (i : Fin 8192) : Fin 2048 → EReal :=
  second lenK (fun j : Fin 256 => firstRow x g w i ⟨512 + j.val, by omega⟩) (fun j => g' (ix2 0 j)) fun j n => w' (ix3 0 j n)

theorem latentHeads_at (i : Fin 8192) (h : Fin 8) (d : Fin 256) :
    latentHeads x g w g' w' (ix4 ⟨i.val / 4096, by omega⟩ ⟨i.val % 4096, by omega⟩ h d) = made x g w g' w' i ⟨h.val * 256 + d.val, by omega⟩ := by
  unfold latentHeads
  rw [heads_at]
  simp only [normed_at, latent_at, prod_proj]
  rfl

theorem outK_at (i : Fin 8192) (n : Fin 2048) :
    outK x t g w g' w' (ix2 i n) = key (made x g w g' w' i) (firstRow x g w i) (angle (t (ix2 ⟨i.val / 4096, by omega⟩ ⟨i.val % 4096, by omega⟩))) n := by
  unfold outK key
  rw [layout_at]
  by_cases h1 : n.val % 256 < 128
  · rw [if_pos h1, if_pos h1, latentHeads_at]
  rw [if_neg h1, if_neg h1]
  by_cases h2 : n.val % 256 < 192
  · rw [dif_pos h2, dif_pos h2, turn_at]
    simp only [angles_at, band_at, prod_proj]
    rw [wheel_spin _ (angle (t (ix2 ⟨i.val / 4096, by omega⟩ ⟨i.val % 4096, by omega⟩)))]
  · rw [dif_neg h2, dif_neg h2]

theorem outV_at (i : Fin 8192) (n : Fin 1024) : outV x g w g' w' (ix2 i n) = value (made x g w g' w' i) n := by
  unfold outV
  rw [values_at, latentHeads_at]
  rfl

end Cert.KeyValueRefIdeal.Open

end
-- ==== Proof.KeyValueClaim.lean ====
/-
  The key and value projection's claims: the kernel's two arrays hold at each row and column what the reference states.
-/
module

public import proofs.«01_k».proof.Proof.KeyValueOpen
public import proofs.«01_k».proof.Proof.KeyValueRef
public import proofs.«01_k».proof.Defs
public import Idealize.ShloMosaic.Lib.Quiescent
public import Idealize.ShloMosaic.Lib.StableHlo.ReadAt
public import Idealize.ShloMosaic.Lib.Routing.OpsSearch

@[expose] public section

set_option maxRecDepth 16384

noncomputable section

namespace Cert.KeyValueIdeal.Open

open Cert.KeyValueIdeal Cert.KeyValueIdeal.Gen Idealize.ShloMosaic Idealize.ShloMosaic.TcCoe Idealize.SL.Sem
open Cert.PostRow (rms)
open Cert.ProjRow (proj)
open Cert.MlaRow (freq spin second lenK rmsOf)
open Cert.KeyValueRow (key value latent latent_sum packed packed_sum)
open Cert.QueryIdeal.Open (turned turned_patterns)

variable (m : (ℓ : Loc nD τ sig) → Buf (Elt Ideal) ℓ)

theorem N_0 : cfg0.N = 16 := by decide +kernel

/-- Point `t` works on rows `512 t` onward. -/
theorem idx0 : ∀ t : Fin cfg0.N, win0_0.index t 0 = t.val ∧ win0_0.index t 1 = 0 := (by decide +kernel : ∀ t : Fin grid0.N, _)
theorem idx1 : ∀ t : Fin cfg0.N, win0_1.index t 0 = t.val ∧ win0_1.index t 1 = 0 := (by decide +kernel : ∀ t : Fin grid0.N, _)
theorem idx2 : ∀ t : Fin cfg0.N, win0_2.index t 0 = 0 ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)
theorem idx6 : ∀ t : Fin cfg0.N, win0_6.index t 0 = 0 ∧ win0_6.index t 1 = 0 := (by decide +kernel : ∀ t : Fin grid0.N, _)
theorem idx7 : ∀ t : Fin cfg0.N, win0_7.index t 0 = t.val ∧ win0_7.index t 1 = 0 := (by decide +kernel : ∀ t : Fin grid0.N, _)
theorem idx8 : ∀ t : Fin cfg0.N, win0_8.index t 0 = t.val ∧ win0_8.index t 1 = 0 := (by decide +kernel : ∀ t : Fin grid0.N, _)

/-- Row `r` of point `t`'s row block, its batch and its place in the batch. -/
abbrev row (t : Fin cfg0.N) (r : Fin 512) : Fin 8192 := ⟨512 * t.val + r.val, by have := lt_of_lt_of_eq t.isLt N_0; omega⟩
abbrev bt (i : Fin 8192) : Fin 2 := ⟨i.val / 4096, by omega⟩
abbrev sq (i : Fin 8192) : Fin 4096 := ⟨i.val % 4096, by omega⟩

/-- The call's arguments. -/
abbrev XA (c : Dev nD) : FVec Ideal S2x4096x2048 .f32 := m ((c : Thread nD τ).loc main_arg0)
abbrev TA (c : Dev nD) : IVec S2x4096 32 := m ((c : Thread nD τ).loc main_arg1)
abbrev GA (c : Dev nD) : FVec Ideal S1x2048 .f32 := m ((c : Thread nD τ).loc main_arg2)
abbrev WA (c : Dev nD) : FVec Ideal S1x2048x5008 .f32 := m ((c : Thread nD τ).loc main_arg3)
abbrev GB (c : Dev nD) : FVec Ideal S1x256 .f32 := m ((c : Thread nD τ).loc main_arg4)
abbrev WB (c : Dev nD) : FVec Ideal S1x256x2048 .f32 := m ((c : Thread nD τ).loc main_arg5)

variable (c : Dev nD) (t : Fin cfg0.N)

/-! ## The blocks of a point, in the call's arguments -/

theorem blk0 (r : Fin 512) (k : Fin 2048) : (iblk m c 0 t : Vec Ideal S512x2048 .f32) (ix2 r k) = XA m c (ix3 (bt (row t r)) (sq (row t r)) k) := by
  unfold iblk
  rw [View.read_apply]
  show V m c main_v0 _ = _
  have e : ((cfg0.win 0).blk t).view.emb (ix2 r k) = (ix2 (row t r) k : S8192x2048.Idx) := by
    funext d
    apply Fin.ext
    match d with
    | ⟨0, _⟩ => show win0_0.index t 0 * 512 + 1 * r.val = 512 * t.val + r.val; rw [(idx0 t).1]; omega
    | ⟨1, _⟩ => show win0_0.index t 1 * 2048 + 1 * k.val = k.val; rw [(idx0 t).2]; omega
  rw [e]
  generalize row t r = i
  unfold V
  after_reads_at

theorem blk1 (r : Fin 512) : (iblk m c 1 t : Vec Ideal S512x1 .i32) (ix2 r 0) = TA m c (ix2 (bt (row t r)) (sq (row t r))) := by
  unfold iblk
  rw [View.read_apply]
  show V m c main_v1 _ = _
  have e : ((cfg0.win 1).blk t).view.emb (ix2 r 0) = (ix2 (row t r) 0 : S8192x1.Idx) := by
    funext d
    apply Fin.ext
    match d with
    | ⟨0, _⟩ => show win0_1.index t 0 * 512 + 1 * r.val = 512 * t.val + r.val; rw [(idx1 t).1]; omega
    | ⟨1, _⟩ => show win0_1.index t 1 * 1 + 1 * 0 = 0; rw [(idx1 t).2]
  rw [e]
  generalize row t r = i
  unfold V
  after_reads_at

theorem blk2 (k : Fin 2048) : (iblk m c 2 t : Vec Ideal S1x2048 .f32) (ix2 0 k) = GA m c (ix2 0 k) := by
  unfold iblk
  rw [View.read_apply]
  show V m c main_arg2 _ = _
  rw [V_main_arg2]
  congr 1
  funext d
  apply Fin.ext
  match d with
  | ⟨0, _⟩ => show win0_2.index t 0 * 1 + 1 * 0 = 0; rw [(idx2 t).1]
  | ⟨1, _⟩ => show win0_2.index t 1 * 2048 + 1 * k.val = k.val; rw [(idx2 t).2]; omega

/-- The latent columns and the rotated ones, and zeros. -/
theorem first_weights_at (k : Fin 2048) (n : Fin 384) : (V m c main_v6 : S2048x384.Idx → EReal) (ix2 k n) = latent (fun n => WA m c (ix3 0 k n)) n := by
  unfold V latent
  after_reads_at
  by_cases h : n.val < 320
  · rw [dif_pos h, dif_pos h]
    after_reads_at
  · rw [dif_neg h, dif_neg h]
    after_reads_at

theorem blk3 (k : Fin 2048) (n : Fin 384) : (iblk m c 3 t : Vec Ideal S2048x384 .bf16) (ix2 k n) = latent (fun n => WA m c (ix3 0 k n)) n := by
  unfold iblk
  rw [View.read_apply]
  show V m c main_v6 _ = _
  have e : ((cfg0.win 3).blk t).view.emb (ix2 k n) = (ix2 k n : S2048x384.Idx) := by
    funext d
    apply Fin.ext
    match d with
    | ⟨0, _⟩ => show win0_3.index t 0 * 2048 + 1 * k.val = k.val; rw [(idx3 t).1]; omega
    | ⟨1, _⟩ => show win0_3.index t 1 * 384 + 1 * n.val = n.val; rw [(idx3 t).2]; omega
  rw [e]
  exact first_weights_at m c k n

theorem blk4 (k : Fin 256) : (iblk m c 4 t : Vec Ideal S1x256 .f32) (ix2 0 k) = GB m c (ix2 0 k) := by
  unfold iblk
  rw [View.read_apply]
  show V m c main_arg4 _ = _
  rw [V_main_arg4]
  congr 1
  funext d
  apply Fin.ext
  match d with
  | ⟨0, _⟩ => show win0_4.index t 0 * 1 + 1 * 0 = 0; rw [(idx4 t).1]
  | ⟨1, _⟩ => show win0_4.index t 1 * 256 + 1 * k.val = k.val; rw [(idx4 t).2]; omega

/-- The heads' key columns side by side, then their value columns. -/
theorem weights_at (k : Fin 256) (n : Fin 2048) : (V m c main_v14 : S256x2048.Idx → EReal) (ix2 k n) = packed (fun n => WB m c (ix3 0 k n)) n := by
  unfold V packed
  after_reads_at
  by_cases h : n.val < 1024
  · rw [dif_pos h, if_pos h]
    after_reads_at
    exact congrArg (fun n => WB m c (ix3 0 k n)) (Fin.ext (by dsimp only; omega))
  · rw [dif_neg h, if_neg h]
    after_reads_at
    exact congrArg (fun n => WB m c (ix3 0 k n)) (Fin.ext (by dsimp only; omega))

theorem blk5 (k : Fin 256) (n : Fin 2048) : (iblk m c 5 t : Vec Ideal S256x2048 .bf16) (ix2 k n) = packed (fun n => WB m c (ix3 0 k n)) n := by
  unfold iblk
  rw [View.read_apply]
  show V m c main_v14 _ = _
  have e : ((cfg0.win 5).blk t).view.emb (ix2 k n) = (ix2 k n : S256x2048.Idx) := by
    funext d
    apply Fin.ext
    match d with
    | ⟨0, _⟩ => show win0_5.index t 0 * 256 + 1 * k.val = k.val; rw [(idx5 t).1]; omega
    | ⟨1, _⟩ => show win0_5.index t 1 * 2048 + 1 * n.val = n.val; rw [(idx5 t).2]; omega
  rw [e]
  exact weights_at m c k n

/-- The table of frequencies repeats every 32 lanes. -/
theorem table_at (l : Fin 128) : (V m c main_v31 : S1x128.Idx → EReal) (ix2 0 l) = freq (l.val % 32) := by
  unfold V
  after_reads_at
  refine (Routing.take_ap gather_S32_S128x1_S128_n_0_n_n_0_1_1 rfl rfl rfl rfl _ _ l (k := l.val % 32) (by omega) (by omega) ?_).trans ?_
  · revert l
    decide +kernel
  · pointwise [freq]

theorem blk6 (l : Fin 128) : (iblk m c 6 t : Vec Ideal S1x128 .f32) (ix2 0 l) = freq (l.val % 32) := by
  unfold iblk
  rw [View.read_apply]
  show V m c main_v31 _ = _
  have e : ((cfg0.win 6).blk t).view.emb (ix2 0 l) = (ix2 0 l : S1x128.Idx) := by
    funext d
    apply Fin.ext
    match d with
    | ⟨0, _⟩ => show win0_6.index t 0 * 1 + 1 * 0 = 0; rw [(idx6 t).1]
    | ⟨1, _⟩ => show win0_6.index t 1 * 128 + 1 * l.val = l.val; rw [(idx6 t).2]; omega
  rw [e]
  exact table_at m c l

/-! ## The values of a point -/

/-- Row `i`'s product with the weights' columns, its latent product, and the angles of its position. -/
def firstRow (i : Fin 8192) : Fin 5008 → EReal :=
  proj (fun k => XA m c (ix3 (bt i) (sq i) k)) (fun k => GA m c (ix2 0 k)) fun k n => WA m c (ix3 0 k n)
def made (i : Fin 8192) : Fin 2048 → EReal :=
  second lenK (fun j : Fin 256 => firstRow m c i ⟨512 + j.val, by omega⟩) (fun j => GB m c (ix2 0 j)) fun j n => WB m c (ix3 0 j n)
def angleRow (i : Fin 8192) : ℕ → EReal := Cert.MlaRow.angle (TA m c (ix2 (bt i) (sq i)))

/-- The first product of a point has the latent columns, the rotated ones and zeros. -/
theorem first_product (r : Fin 512) (n : Fin 384) : k0_pay3 (F := Ideal) (iblk m c 0 t) (iblk m c 2 t) (iblk m c 3 t) (ix2 r n) = latent (firstRow m c (row t r)) n := by
  rw [first_at]
  simp only [blk0, blk2, blk3]
  exact latent_sum _ (fun k n => WA m c (ix3 0 k n)) n

/-- The latent product of a point has the key columns of its rows' products, then the value columns. -/
theorem product (r : Fin 512) (n : Fin 2048) :
    P (iblk m c 0 t) (iblk m c 1 t) (iblk m c 2 t) (iblk m c 3 t) (iblk m c 4 t) (iblk m c 5 t) (iblk m c 6 t) (ix2 r n) = packed (made m c (row t r)) n := by
  have e : ∀ j : Fin 256, latent (firstRow m c (row t r)) ⟨0 + j.val, by omega⟩ = firstRow m c (row t r) ⟨512 + j.val, by omega⟩ := by
    intro j
    unfold latent
    rw [dif_pos (show 0 + j.val < 320 by omega)]
    exact congrArg (firstRow m c (row t r)) (Fin.ext (by dsimp only; omega))
  rw [P_eq, product_at]
  simp only [first_product, e, blk4, blk5]
  exact packed_sum _ (fun k n => WB m c (ix3 0 k n)) n

/-- The turned lanes of a point. -/
theorem turned_lane (r : Fin 512) (l : Fin 128) :
    K (iblk m c 0 t) (iblk m c 1 t) (iblk m c 2 t) (iblk m c 3 t) (iblk m c 4 t) (iblk m c 5 t) (iblk m c 6 t) (ix2 r l)
      = if h : l.val < 64 then spin (fun d => firstRow m c (row t r) ⟨768 + d.val, by omega⟩) (angleRow m c (row t r)) ⟨l.val, h⟩ else (0 : EReal) := by
  have hlane : ∀ l : Fin 128, tail (F := Ideal) (k0_pay3 (F := Ideal) (iblk m c 0 t) (iblk m c 2 t) (iblk m c 3 t)) (ix2 r l) = latent (firstRow m c (row t r)) ⟨256 + l.val, by omega⟩ := by
    intro l
    rw [tail_at, first_product]
  have hzero : ∀ l : Fin 128, ¬ l.val < 64 → tail (F := Ideal) (k0_pay3 (F := Ideal) (iblk m c 0 t) (iblk m c 2 t) (iblk m c 3 t)) (ix2 r l) = (0 : EReal) := by
    intro l hl
    rw [hlane]
    unfold latent
    exact dif_neg (show ¬ 256 + l.val < 320 by omega)
  have ea : ∀ l : Fin 128, Cert.QueryIdeal.Open.angle (iblk m c 1 t) (iblk m c 6 t) r l = angleRow m c (row t r) (l.val % 32) := by
    intro l
    unfold Cert.QueryIdeal.Open.angle
    rw [blk1, blk6]
    rfl
  rw [K_eq]
  refine (turned_patterns _ _ _ r hzero (angleRow m c (row t r)) ea l).trans ?_
  by_cases h : l.val < 64
  · rw [dif_pos h, dif_pos h]
    refine congrArg (fun f => spin f _ _) (funext fun d => ?_)
    have hd := d.isLt
    rw [hlane]
    unfold latent
    rw [dif_pos (show 256 + d.val < 320 by omega)]
    exact congrArg (firstRow m c (row t r)) (Fin.ext (by dsimp only; omega))
  · rw [dif_neg h, dif_neg h]

/-- The keys a point leaves. -/
theorem key_row (r : Fin 512) (n : Fin 2048) :
    out0_7 (iblk m c 0 t) (iblk m c 1 t) (iblk m c 2 t) (iblk m c 3 t) (iblk m c 4 t) (iblk m c 5 t) (iblk m c 6 t) (ix2 r n) = key (made m c (row t r)) (firstRow m c (row t r)) (angleRow m c (row t r)) n := by
  rw [out_k, block_at]
  unfold key
  by_cases h1 : n.val % 256 < 128
  · rw [if_pos (show n.val / 128 % 2 = 0 by omega), if_pos h1]
    refine (product m c t r ⟨128 * (n.val / 256) + n.val % 128, by omega⟩).trans ?_
    unfold packed
    dsimp only
    rw [if_pos (show 128 * (n.val / 256) + n.val % 128 < 1024 by omega)]
    exact congrArg (made m c (row t r)) (Fin.ext (by dsimp only; omega))
  · rw [if_neg (show ¬ n.val / 128 % 2 = 0 by omega), if_neg h1, turned_lane]
    by_cases h2 : n.val % 256 < 192
    · rw [dif_pos (show n.val % 128 < 64 by omega), dif_pos h2]
      exact congrArg (spin _ _) (Fin.ext (by dsimp only; omega))
    · rw [dif_neg (show ¬ n.val % 128 < 64 by omega), dif_neg h2]

/-- The values a point leaves. -/
theorem value_row (r : Fin 512) (n : Fin 1024) :
    out0_8 (iblk m c 0 t) (iblk m c 1 t) (iblk m c 2 t) (iblk m c 3 t) (iblk m c 4 t) (iblk m c 5 t) (iblk m c 6 t) (ix2 r n) = value (made m c (row t r)) n := by
  rw [out_v, value_at, product]
  unfold packed value
  dsimp only
  rw [if_neg (show ¬ 1024 + n.val < 1024 by omega)]
  exact congrArg (made m c (row t r)) (Fin.ext (by dsimp only; omega))

/-! ## The arrays -/

theorem flush7 : ∀ t : Fin cfg0.N, (cfg0.win 7).flush t = true := (by decide +kernel : ∀ t : Fin grid0.N, win0_7.flush t = true)
theorem flush8 : ∀ t : Fin cfg0.N, (cfg0.win 8).flush t = true := (by decide +kernel : ∀ t : Fin grid0.N, win0_8.flush t = true)

theorem array7 (r : Fin 512) (n : Fin 2048) :
    ((dats m 0 c).arrAt 7 cfg0.N : FVec Ideal S8192x2048 .bf16) (ix2 (row t r) n) = key (made m c (row t r)) (firstRow m c (row t r)) (angleRow m c (row t r)) n := by
  have e : ((cfg0.win 7).blk t).view.emb (ix2 r n) = (ix2 (row t r) n : S8192x2048.Idx) := by
    funext a
    apply Fin.ext
    match a with
    | ⟨0, _⟩ => show win0_7.index t 0 * 512 + 1 * r.val = 512 * t.val + r.val; rw [(idx7 t).1]; omega
    | ⟨1, _⟩ => show win0_7.index t 1 * 2048 + 1 * n.val = n.val; rw [(idx7 t).2]; omega
  have hb := congrFun (Value.blocks7 m c t (flush7 t)) (ix2 r n)
  rw [View.read_apply, e] at hb
  refine hb.trans ?_
  rw [Value.flushed7 m c t]
  exact key_row m c t r n

theorem array8 (r : Fin 512) (n : Fin 1024) :
    ((dats m 0 c).arrAt 8 cfg0.N : FVec Ideal S8192x1024 .bf16) (ix2 (row t r) n) = value (made m c (row t r)) n := by
  have e : ((cfg0.win 8).blk t).view.emb (ix2 r n) = (ix2 (row t r) n : S8192x1024.Idx) := by
    funext a
    apply Fin.ext
    match a with
    | ⟨0, _⟩ => show win0_8.index t 0 * 512 + 1 * r.val = 512 * t.val + r.val; rw [(idx8 t).1]; omega
    | ⟨1, _⟩ => show win0_8.index t 1 * 1024 + 1 * n.val = n.val; rw [(idx8 t).2]; omega
  have hb := congrFun (Value.blocks8 m c t (flush8 t)) (ix2 r n)
  rw [View.read_apply, e] at hb
  refine hb.trans ?_
  rw [Value.flushed8 m c t]
  exact value_row m c t r n

/-- Every row is a row of some point's block. -/
theorem row_exists (i : Fin 8192) : ∃ (t : Fin cfg0.N) (r : Fin 512), row t r = i := by
  have hN := N_0
  refine ⟨⟨i.val / 512, by omega⟩, ⟨i.val % 512, by omega⟩, Fin.ext ?_⟩
  show 512 * (i.val / 512) + i.val % 512 = i.val
  omega

end Cert.KeyValueIdeal.Open

namespace Cert.Proof.KeyValue

open Idealize.ShloMosaic Idealize.ShloMosaic.TcCoe Idealize.SL.Sem

/-- The reference's frame: its arguments unchanged, no counter moved. -/
theorem frame_ref : Cert.quiescent_KeyValueRefIdeal := fun m ρ _ =>
  (θ_run Cert.KeyValueRefIdeal.defs _ _).mono (fun r h => ⟨fun c => (h c).2.2, sem_eq_zero_of_no_sems (by decide) r.2⟩)
    (Cert.KeyValueRefIdeal.Value.run (F := Ideal) m ρ)

/-- Kernel and reference end at the same two arrays, from arguments that agree. -/
theorem algebraic : Cert.algebraic_KeyValueIdeal_KeyValueRefIdeal := by
  intro m ρ m' ρ' _ hagree
  refine ⟨fun c => (Cert.KeyValueIdeal.Gen.dats m 0 c).arrAt 7 Cert.KeyValueIdeal.cfg0.N, fun c => (Cert.KeyValueIdeal.Gen.dats m 0 c).arrAt 8 Cert.KeyValueIdeal.cfg0.N,
    Cert.KeyValueIdeal.Value.run_blocks m ρ, ?_⟩
  refine (θ_run _ _ _).mono (fun r h c => ⟨?_, ?_, (h c).2.2⟩) (Cert.KeyValueRefIdeal.Value.run m' ρ')
  all_goals obtain ⟨e0, e1, e2, e3, e4, e5⟩ := hagree c
  · refine ((h c).1.trans (Cert.KeyValueRefIdeal.Open.resK_eq m' c)).trans ?_
    rw [e0, e1, e2, e3, e4, e5]
    refine funext fun (j : (⟨2, ![8192, 2048]⟩ : Shape).Idx) => ?_
    obtain ⟨i, n, rfl⟩ : ∃ i n, j = ix2 i n := ⟨j 0, j 1, eq_ix2 j⟩
    obtain ⟨t, q, rfl⟩ := Cert.KeyValueIdeal.Open.row_exists i
    exact (Cert.KeyValueRefIdeal.Open.outK_at _ _ _ _ _ _ _ n).trans (Cert.KeyValueIdeal.Open.array7 m c t q n).symm
  · refine ((h c).2.1.trans (Cert.KeyValueRefIdeal.Open.resV_eq m' c)).trans ?_
    rw [e0, e2, e3, e4, e5]
    refine funext fun (j : (⟨2, ![8192, 1024]⟩ : Shape).Idx) => ?_
    obtain ⟨i, n, rfl⟩ : ∃ i n, j = ix2 i n := ⟨j 0, j 1, eq_ix2 j⟩
    obtain ⟨t, q, rfl⟩ := Cert.KeyValueIdeal.Open.row_exists i
    exact (Cert.KeyValueRefIdeal.Open.outV_at _ _ _ _ _ _ n).trans (Cert.KeyValueIdeal.Open.array8 m c t q n).symm

end Cert.Proof.KeyValue

end
-- ==== Proof.MemoryClaim.lean ====
/-
  The memory's keys and values: the kernel's two arrays hold at each index what the reference states, the normalized row
  times the weights.
-/
module

public import proofs.«01_k».proof.Proof.Gen.MemoryIdeal.Value
public import proofs.«01_k».proof.Proof.Gen.MemoryRefIdeal.Run
public import proofs.«01_k».proof.Proof.PostRow
public import proofs.«01_k».proof.Defs
public import Idealize.ShloMosaic.Lib.Pointwise
public import Idealize.ShloMosaic.Lib.Quiescent
public import Idealize.ShloMosaic.Lib.StableHlo.ReadAt

@[expose] public section

set_option maxRecDepth 16384

noncomputable section

namespace Cert.MemoryIdeal.Open

open Cert.MemoryIdeal Cert.MemoryIdeal.Gen Idealize.ShloMosaic Idealize.ShloMosaic.TcCoe Idealize.SL.Sem
open Cert.PostRow (rms)

/-- The product of a normalized row of the memory with a column of the weights. -/
def entry (x : FVec Ideal S2x256x2048 .f32) (g : FVec Ideal S1x2048 .f32) (w : FVec Ideal S1x2048x512 .f32) (b : Fin 2) (r : Fin 256) (n : Fin 512) : EReal :=
  ∑ k : Fin 2048, rms (fun k => x (ix3 b r k)) (g (ix2 0 k)) k * w (ix3 0 k n)

theorem hz : (![0, 0] : Fin 2 → Nat) = fun _ => 0 := funext fun a => by fin_cases a <;> rfl
theorem hz3 : (![0, 0, 0] : Fin 3 → Nat) = fun _ => 0 := funext fun a => by fin_cases a <;> rfl

section Blocks

variable (x0 : Vec Ideal S1x256x2048 .f32) (x1 : Vec Ideal S1x2048 .f32) (x2 x3 : Vec Ideal S2048x512 .bf16)

/-- The two blocks a point leaves. -/
theorem keys_at (r : Fin 256) (n : Fin 512) :
    out0_4 x0 x1 x2 x3 (ix3 0 r n) = ∑ k : Fin 2048, rms (fun k => x0 (ix3 0 r k)) (x1 (ix2 0 k)) k * x2 (ix2 k n) := by
  unfold out0_4
  rw [View.ld_unit_zero (S := S1x256x2048) hz3, View.ld_unit_zero (S := S1x2048) hz, View.ld_unit_zero (S := S2048x512) hz]
  refine (congrFun (View.canon_cons_unit_zero (S := S1x256x512) hz3 ..) (ix3 0 r n)).trans ?_
  pointwise [k0_pay2, k0_pay1, rms, Cert.PostRow.len, Cert.PostRow.eps]

theorem values_at (r : Fin 256) (n : Fin 512) :
    out0_5 x0 x1 x2 x3 (ix3 0 r n) = ∑ k : Fin 2048, rms (fun k => x0 (ix3 0 r k)) (x1 (ix2 0 k)) k * x3 (ix2 k n) := by
  unfold out0_5
  rw [View.ld_unit_zero (S := S1x256x2048) hz3, View.ld_unit_zero (S := S1x2048) hz, View.ld_unit_zero (S := S2048x512) hz]
  refine (congrFun (View.canon_cons_unit_zero (S := S1x256x512) hz3 ..) (ix3 0 r n)).trans ?_
  pointwise [k0_pay3, k0_pay1, rms, Cert.PostRow.len, Cert.PostRow.eps]

end Blocks

variable (m : (ℓ : Loc nD τ sig) → Buf (Elt Ideal) ℓ)

theorem N_0 : cfg0.N = 2 := by decide +kernel

/-- Point `t` works on the memory of batch `t`. -/
theorem idx0 : ∀ t : Fin cfg0.N, win0_0.index t 0 = t.val ∧ win0_0.index t 1 = 0 ∧ win0_0.index t 2 = 0 := (by decide +kernel : ∀ t : Fin grid0.N, _)
theorem idx1 : ∀ t : Fin cfg0.N, win0_1.index t 0 = 0 ∧ win0_1.index t 1 = 0 := (by decide +kernel : ∀ t : Fin grid0.N, _)
theorem idx2 : ∀ t : Fin cfg0.N, win0_2.index t 0 = 0 ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = t.val ∧ win0_4.index t 1 = 0 ∧ win0_4.index t 2 = 0 := (by decide +kernel : ∀ t : Fin grid0.N, _)
theorem idx5 : ∀ t : Fin cfg0.N, win0_5.index t 0 = t.val ∧ win0_5.index t 1 = 0 ∧ win0_5.index t 2 = 0 := (by decide +kernel : ∀ t : Fin grid0.N, _)

/-- The batch of a point. -/
abbrev bt (t : Fin cfg0.N) : Fin 2 := ⟨t.val, lt_of_lt_of_eq t.isLt N_0⟩

/-- The call's arguments. -/
abbrev XA (c : Dev nD) : FVec Ideal S2x256x2048 .f32 := m ((c : Thread nD τ).loc main_arg0)
abbrev GA (c : Dev nD) : FVec Ideal S1x2048 .f32 := m ((c : Thread nD τ).loc main_arg1)
abbrev KA (c : Dev nD) : FVec Ideal S1x2048x512 .f32 := m ((c : Thread nD τ).loc main_arg2)
abbrev VA (c : Dev nD) : FVec Ideal S1x2048x512 .f32 := m ((c : Thread nD τ).loc main_arg3)

variable (c : Dev nD) (t : Fin cfg0.N)

/-! ## The blocks of a point, in the call's arguments -/

theorem blk0 (r : Fin 256) (k : Fin 2048) : (iblk m c 0 t : Vec Ideal S1x256x2048 .f32) (ix3 0 r k) = XA m c (ix3 (bt t) r k) := by
  unfold iblk
  rw [View.read_apply]
  show V m c main_arg0 _ = _
  rw [V_main_arg0]
  congr 1
  funext d
  apply Fin.ext
  match d with
  | ⟨0, _⟩ => show win0_0.index t 0 * 1 + 1 * 0 = t.val; rw [(idx0 t).1]; omega
  | ⟨1, _⟩ => show win0_0.index t 1 * 256 + 1 * r.val = r.val; rw [(idx0 t).2.1]; omega
  | ⟨2, _⟩ => show win0_0.index t 2 * 2048 + 1 * k.val = k.val; rw [(idx0 t).2.2]; omega

theorem blk1 (k : Fin 2048) : (iblk m c 1 t : Vec Ideal S1x2048 .f32) (ix2 0 k) = GA m c (ix2 0 k) := by
  unfold iblk
  rw [View.read_apply]
  show V m c main_arg1 _ = _
  rw [V_main_arg1]
  congr 1
  funext d
  apply Fin.ext
  match d with
  | ⟨0, _⟩ => show win0_1.index t 0 * 1 + 1 * 0 = 0; rw [(idx1 t).1]
  | ⟨1, _⟩ => show win0_1.index t 1 * 2048 + 1 * k.val = k.val; rw [(idx1 t).2]; omega

theorem blk2 (k : Fin 2048) (n : Fin 512) : (iblk m c 2 t : Vec Ideal S2048x512 .bf16) (ix2 k n) = KA m c (ix3 0 k n) := by
  unfold iblk
  rw [View.read_apply]
  show V m c main_v1 _ = _
  have e : ((cfg0.win 2).blk t).view.emb (ix2 k n) = (ix2 k n : S2048x512.Idx) := by
    funext d
    apply Fin.ext
    match d with
    | ⟨0, _⟩ => show win0_2.index t 0 * 2048 + 1 * k.val = k.val; rw [(idx2 t).1]; omega
    | ⟨1, _⟩ => show win0_2.index t 1 * 512 + 1 * n.val = n.val; rw [(idx2 t).2]; omega
  rw [e]
  unfold V
  after_reads_at

theorem blk3 (k : Fin 2048) (n : Fin 512) : (iblk m c 3 t : Vec Ideal S2048x512 .bf16) (ix2 k n) = VA m c (ix3 0 k n) := by
  unfold iblk
  rw [View.read_apply]
  show V m c main_v3 _ = _
  have e : ((cfg0.win 3).blk t).view.emb (ix2 k n) = (ix2 k n : S2048x512.Idx) := by
    funext d
    apply Fin.ext
    match d with
    | ⟨0, _⟩ => show win0_3.index t 0 * 2048 + 1 * k.val = k.val; rw [(idx3 t).1]; omega
    | ⟨1, _⟩ => show win0_3.index t 1 * 512 + 1 * n.val = n.val; rw [(idx3 t).2]; omega
  rw [e]
  unfold V
  after_reads_at

/-! ## The arrays -/

theorem flush4 : ∀ t : Fin cfg0.N, (cfg0.win 4).flush t = true := (by decide +kernel : ∀ t : Fin grid0.N, win0_4.flush t = true)
theorem flush5 : ∀ t : Fin cfg0.N, (cfg0.win 5).flush t = true := (by decide +kernel : ∀ t : Fin grid0.N, win0_5.flush t = true)

theorem array4 (r : Fin 256) (n : Fin 512) :
    ((dats m 0 c).arrAt 4 cfg0.N : FVec Ideal S2x256x512 .bf16) (ix3 (bt t) r n) = entry (XA m c) (GA m c) (KA m c) (bt t) r n := by
  have e : ((cfg0.win 4).blk t).view.emb (ix3 0 r n) = (ix3 (bt t) r n : S2x256x512.Idx) := by
    funext a
    apply Fin.ext
    match a with
    | ⟨0, _⟩ => show win0_4.index t 0 * 1 + 1 * 0 = t.val; rw [(idx4 t).1]; omega
    | ⟨1, _⟩ => show win0_4.index t 1 * 256 + 1 * r.val = r.val; rw [(idx4 t).2.1]; omega
    | ⟨2, _⟩ => show win0_4.index t 2 * 512 + 1 * n.val = n.val; rw [(idx4 t).2.2]; omega
  have hb := congrFun (Value.blocks4 m c t (flush4 t)) (ix3 0 r n)
  rw [View.read_apply, e] at hb
  refine hb.trans ?_
  rw [Value.flushed4 m c t]
  refine (keys_at _ _ _ _ r n).trans ?_
  simp only [blk0, blk1, blk2]
  rfl

theorem array5 (r : Fin 256) (n : Fin 512) :
    ((dats m 0 c).arrAt 5 cfg0.N : FVec Ideal S2x256x512 .bf16) (ix3 (bt t) r n) = entry (XA m c) (GA m c) (VA m c) (bt t) r n := by
  have e : ((cfg0.win 5).blk t).view.emb (ix3 0 r n) = (ix3 (bt t) r n : S2x256x512.Idx) := by
    funext a
    apply Fin.ext
    match a with
    | ⟨0, _⟩ => show win0_5.index t 0 * 1 + 1 * 0 = t.val; rw [(idx5 t).1]; omega
    | ⟨1, _⟩ => show win0_5.index t 1 * 256 + 1 * r.val = r.val; rw [(idx5 t).2.1]; omega
    | ⟨2, _⟩ => show win0_5.index t 2 * 512 + 1 * n.val = n.val; rw [(idx5 t).2.2]; omega
  have hb := congrFun (Value.blocks5 m c t (flush5 t)) (ix3 0 r n)
  rw [View.read_apply, e] at hb
  refine hb.trans ?_
  rw [Value.flushed5 m c t]
  refine (values_at _ _ _ _ r n).trans ?_
  simp only [blk0, blk1, blk3]
  rfl

/-- Every batch is some point's. -/
theorem batch_exists (b : Fin 2) : ∃ t : Fin cfg0.N, bt t = b := ⟨⟨b.val, lt_of_lt_of_eq b.isLt N_0.symm⟩, rfl⟩

end Cert.MemoryIdeal.Open

namespace Cert.MemoryRefIdeal.Open

open Cert.MemoryRefIdeal Cert.MemoryRefIdeal.Gen Idealize.ShloMosaic Idealize.ShloMosaic.TcCoe Idealize.SL.Sem
open Cert.PostRow (rms)

/-- The reference's result from its arguments: each row divided by the root of its mean square, times a gain, times the
    weights. -/
def out (x : FVec Ideal S2x256x2048 .f32) (g : FVec Ideal S1x2048 .f32) (w : FVec Ideal S1x2048x512 .f32) : FVec Ideal S2x256x512 .bf16 :=
  truncf .bf16 (Host.dotGeneral dot_S2x256x2048_S2048x512_S2x256x512_2_0_01_1_n_n none
    (mulf (mulf x (broadcastInDim S2x256x2048 ![0, 1, 2] bcast_S2x256x1_S2x256x2048_0_1_2 (Host.rsqrt (addf (Host.divf (broadcastInDim S2x256x1 ![0, 1] bcast_S2x256_S2x256x1_0_1 (Host.reduceAdd (mulf x x) (constant S_ .f32 0x00000000#32) reducesTo_S2x256x2048_S2x256_d2 h_S_)) (broadcastInDim S2x256x1 ![] bcast_S_S2x256x1 (constant S_ .f32 0x45000000#32))) (broadcastInDim S2x256x1 ![] bcast_S_S2x256x1 (constant S_ .f32 0x358637BD#32))))))
      (broadcastInDim S2x256x2048 ![0, 1, 2] bcast_S1x1x2048_S2x256x2048_0_1_2 (broadcastInDim S1x1x2048 ![2] bcast_S2048_S1x1x2048_2 (shapeCast _ g shapeCasts_S1x2048_S2048))))
    (shapeCast _ w shapeCasts_S1x2048x512_S2048x512)) bitsLt_bf16_f32

theorem out_at (x : FVec Ideal S2x256x2048 .f32) (g : FVec Ideal S1x2048 .f32) (w : FVec Ideal S1x2048x512 .f32) (b : Fin 2) (r : Fin 256) (n : Fin 512) :
    out x g w (ix3 b r n) = Cert.MemoryIdeal.Open.entry x g w b r n := by
  pointwise [out, Cert.MemoryIdeal.Open.entry, rms, Cert.PostRow.len, Cert.PostRow.eps]

end Cert.MemoryRefIdeal.Open

namespace Cert.Proof.Memory

open Idealize.ShloMosaic Idealize.ShloMosaic.TcCoe Idealize.SL.Sem

/-- The reference's frame: its arguments unchanged, no counter moved. -/
theorem frame_ref : Cert.quiescent_MemoryRefIdeal := fun m ρ _ =>
  (θ_run Cert.MemoryRefIdeal.defs _ _).mono (fun r h => ⟨fun c => (h c).2.2, sem_eq_zero_of_no_sems (by decide) r.2⟩)
    (Cert.MemoryRefIdeal.Value.run (F := Ideal) m ρ)

/-- Kernel and reference end at the same two arrays, from arguments that agree. -/
theorem algebraic : Cert.algebraic_MemoryIdeal_MemoryRefIdeal := by
  intro m ρ m' ρ' _ hagree
  refine ⟨fun c => (Cert.MemoryIdeal.Gen.dats m 0 c).arrAt 4 Cert.MemoryIdeal.cfg0.N, fun c => (Cert.MemoryIdeal.Gen.dats m 0 c).arrAt 5 Cert.MemoryIdeal.cfg0.N,
    Cert.MemoryIdeal.Value.run_blocks m ρ, ?_⟩
  refine (θ_run _ _ _).mono (fun r h c => ⟨?_, ?_, (h c).2.2⟩) (Cert.MemoryRefIdeal.Value.run m' ρ')
  all_goals obtain ⟨e0, e1, e2, e3⟩ := hagree c
  · refine ((h c).1.trans (show _ = Cert.MemoryRefIdeal.Open.out _ _ _ from rfl)).trans ?_
    rw [e0, e1, e2]
    refine funext fun (j : (⟨3, ![2, 256, 512]⟩ : Shape).Idx) => ?_
    obtain ⟨b, r, n, rfl⟩ : ∃ b r n, j = ix3 b r n := ⟨j 0, j 1, j 2, eq_ix3 j⟩
    obtain ⟨t, rfl⟩ := Cert.MemoryIdeal.Open.batch_exists b
    exact (Cert.MemoryRefIdeal.Open.out_at _ _ _ _ _ n).trans (Cert.MemoryIdeal.Open.array4 m c t r n).symm
  · refine ((h c).2.1.trans (show _ = Cert.MemoryRefIdeal.Open.out _ _ _ from rfl)).trans ?_
    rw [e0, e1, e3]
    refine funext fun (j : (⟨3, ![2, 256, 512]⟩ : Shape).Idx) => ?_
    obtain ⟨b, r, n, rfl⟩ : ∃ b r n, j = ix3 b r n := ⟨j 0, j 1, j 2, eq_ix3 j⟩
    obtain ⟨t, rfl⟩ := Cert.MemoryIdeal.Open.batch_exists b
    exact (Cert.MemoryRefIdeal.Open.out_at _ _ _ _ _ n).trans (Cert.MemoryIdeal.Open.array5 m c t r n).symm

end Cert.Proof.Memory

end
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.Pre_finite_qk
public import proofs.«01_k».proof.Proof.Gen.Pre_finite_post
public import proofs.«01_k».proof.Proof.Gen.AttnIdeal.Value
public import proofs.«01_k».proof.Proof.Gen.AttnRefIdeal.Run
public import proofs.«01_k».proof.Proof.Gen.MlpIdeal.Value
public import proofs.«01_k».proof.Proof.Gen.MlpRefIdeal.Run
public import proofs.«01_k».proof.Proof.Gen.PostIdeal.Value
public import proofs.«01_k».proof.Proof.Gen.PostRefIdeal.Run
public import proofs.«01_k».proof.Proof.AttnClaim
public import proofs.«01_k».proof.Proof.MlpClaim
public import proofs.«01_k».proof.Proof.PostClaim
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjIdeal.Value
public import proofs.«01_k».proof.Proof.Gen.ProjRefIdeal.Run
public import proofs.«01_k».proof.Proof.ProjClaim
public import proofs.«01_k».proof.Proof.Gen.Idx
public import proofs.«01_k».proof.Proof.Gen.Idx.Skeleton
public import proofs.«01_k».proof.Proof.Gen.Idx.Launch
public import proofs.«01_k».proof.Proof.Gen.Idx.Points
public import proofs.«01_k».proof.Proof.Gen.Idx.Frame
public import proofs.«01_k».proof.Proof.Gen.IdxIdeal
public import proofs.«01_k».proof.Proof.Gen.IdxIdeal.Skeleton
public import proofs.«01_k».proof.Proof.Gen.IdxIdeal.Launch
public import proofs.«01_k».proof.Proof.Gen.IdxIdeal.Points
public import proofs.«01_k».proof.Proof.Gen.IdxIdeal.Frame
public import proofs.«01_k».proof.Proof.Gen.IdxRefIdeal
public import proofs.«01_k».proof.Proof.Gen.IdxIdeal.Value
public import proofs.«01_k».proof.Proof.Gen.IdxRefIdeal.Run
public import proofs.«01_k».proof.Proof.IdxClaim
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryRefIdeal
public import proofs.«01_k».proof.Proof.Gen.QueryIdeal.Value
public import proofs.«01_k».proof.Proof.Gen.QueryRefIdeal.Run
public import proofs.«01_k».proof.Proof.QueryClaim
public import proofs.«01_k».proof.Proof.Gen.KeyValue
public import proofs.«01_k».proof.Proof.Gen.KeyValue.Skeleton
public import proofs.«01_k».proof.Proof.Gen.KeyValue.Launch
public import proofs.«01_k».proof.Proof.Gen.KeyValue.Points
public import proofs.«01_k».proof.Proof.Gen.KeyValue.Frame
public import proofs.«01_k».proof.Proof.Gen.KeyValueIdeal
public import proofs.«01_k».proof.Proof.Gen.KeyValueIdeal.Skeleton
public import proofs.«01_k».proof.Proof.Gen.KeyValueIdeal.Launch
public import proofs.«01_k».proof.Proof.Gen.KeyValueIdeal.Points
public import proofs.«01_k».proof.Proof.Gen.KeyValueIdeal.Frame
public import proofs.«01_k».proof.Proof.Gen.KeyValueRefIdeal
public import proofs.«01_k».proof.Proof.Gen.KeyValueIdeal.Value
public import proofs.«01_k».proof.Proof.Gen.KeyValueRefIdeal.Run
public import proofs.«01_k».proof.Proof.KeyValueClaim
public import proofs.«01_k».proof.Proof.Gen.Memory
public import proofs.«01_k».proof.Proof.Gen.Memory.Skeleton
public import proofs.«01_k».proof.Proof.Gen.Memory.Launch
public import proofs.«01_k».proof.Proof.Gen.Memory.Points
public import proofs.«01_k».proof.Proof.Gen.Memory.Frame
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.MemoryIdeal.Frame
public import proofs.«01_k».proof.Proof.Gen.MemoryRefIdeal
public import proofs.«01_k».proof.Proof.Gen.MemoryIdeal.Value
public import proofs.«01_k».proof.Proof.Gen.MemoryRefIdeal.Run
public import proofs.«01_k».proof.Proof.MemoryClaim
public import Idealize.ShloMosaic.Adequacy
public import Idealize.ShloMosaic.Init
public import Idealize.ShloMosaic.Lib.Quiescent

@[expose] public section

noncomputable section

namespace Cert.Proof

open Idealize.ShloMosaic Idealize.SL.Sem Cert.Attn

/-- Everything the certificate claims. -/
theorem claim : Cert.Claim := ⟨Cert.Attn.Gen.facts, Cert.AttnIdeal.Gen.facts, Cert.AttnRefIdeal.Gen.facts, Cert.Mlp.Gen.facts, Cert.MlpIdeal.Gen.facts, Cert.MlpRefIdeal.Gen.facts,
  Cert.Post.Gen.facts, Cert.PostIdeal.Gen.facts, Cert.PostRefIdeal.Gen.facts,
  Cert.Proj.Gen.facts, Cert.ProjIdeal.Gen.facts, Cert.ProjRefIdeal.Gen.facts,
  Cert.Idx.Gen.facts, Cert.IdxIdeal.Gen.facts, Cert.IdxRefIdeal.Gen.facts,
  Cert.Query.Gen.facts, Cert.QueryIdeal.Gen.facts, Cert.QueryRefIdeal.Gen.facts,
  Cert.KeyValue.Gen.facts, Cert.KeyValueIdeal.Gen.facts, Cert.KeyValueRefIdeal.Gen.facts,
  Cert.Memory.Gen.facts, Cert.MemoryIdeal.Gen.facts, Cert.MemoryRefIdeal.Gen.facts,
  Attn.pre_facts, Cert.Pre_finite_post.Gen.facts,
  fun m ρ _ => Cert.Attn.Gen.frame m ρ, fun m ρ _ => Cert.AttnIdeal.Gen.frame m ρ, fun m ρ _ => Cert.AttnIdeal.Gen.frame m ρ,
  Attn.frame_ref, fun m ρ _ => Attn.frame_ref m ρ trivial,
  fun m ρ _ => Cert.Mlp.Gen.frame m ρ, fun m ρ _ => Cert.MlpIdeal.Gen.frame m ρ, Mlp.frame_ref,
  fun m ρ _ => Cert.Post.Gen.frame m ρ, fun m ρ _ => Cert.PostIdeal.Gen.frame m ρ, fun m ρ _ => Cert.PostIdeal.Gen.frame m ρ,
  Post.frame_ref, fun m ρ _ => Post.frame_ref m ρ trivial,
  fun m ρ _ => Cert.Proj.Gen.frame m ρ, fun m ρ _ => Cert.ProjIdeal.Gen.frame m ρ, Proj.frame_ref,
  fun m ρ _ => Cert.Idx.Gen.frame m ρ, fun m ρ _ => Cert.IdxIdeal.Gen.frame m ρ, Idx.frame_ref,
  fun m ρ _ => Cert.Query.Gen.frame m ρ, fun m ρ _ => Cert.QueryIdeal.Gen.frame m ρ, Query.frame_ref,
  fun m ρ _ => Cert.KeyValue.Gen.frame m ρ, fun m ρ _ => Cert.KeyValueIdeal.Gen.frame m ρ, KeyValue.frame_ref,
  fun m ρ _ => Cert.Memory.Gen.frame m ρ, fun m ρ _ => Cert.MemoryIdeal.Gen.frame m ρ, Memory.frame_ref,
  IdealRules.named_const.statement Cert.AttnIdeal.κ "mask" .f32 0xF149F2CA#32 ⊥ rfl,
  @Attn.algebraic Attn.pre_facts, trivial, Mlp.algebraic, trivial, @Post.algebraic Cert.Pre_finite_post.Gen.facts,
  trivial, Proj.algebraic, trivial, Idx.algebraic,
  trivial, Query.algebraic, trivial, KeyValue.algebraic, trivial, Memory.algebraic⟩

end Cert.Proof

end
